-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v180_0)) (v1 : (c : Dev Cert.Kernel3Ideal.nD) → Buf (Elt Ideal) ((c.tc : Thread Cert.Kernel3Ideal.nD Cert.Kernel3Ideal.τ).loc Cert.Kernel3Ideal.main_v180_1)) (v2 : (c : Dev Cert.Kernel3Ideal.nD) → Buf (Elt Ideal) ((c.tc : Thread Cert.Kernel3Ideal.nD Cert.Kernel3Ideal.τ).loc Cert.Kernel3Ideal.main_v180_2)) (v3 : (c : Dev Cert.Kernel3Ideal.nD) → Buf (Elt Ideal) ((c.tc : Thread Cert.Kernel3Ideal.nD Cert.Kernel3Ideal.τ).loc Cert.Kernel3Ideal.main_v180_3)) (v4 : (c : Dev Cert.Kernel3Ideal.nD) → Buf (Elt Ideal) ((c.tc : Thread Cert.Kernel3Ideal.nD Cert.Kernel3Ideal.τ).loc Cert.Kernel3Ideal.main_v180_4)) (v5 : (c : Dev Cert.Kernel3Ideal.nD) → Buf (Elt Ideal) ((c.tc : Thread Cert.Kernel3Ideal.nD Cert.Kernel3Ideal.τ).loc Cert.Kernel3Ideal.main_v180_5)) (v6 : (c : Dev Cert.Kernel3Ideal.nD) → Buf (Elt Ideal) ((c.tc : Thread Cert.Kernel3Ideal.nD Cert.Kernel3Ideal.τ).loc Cert.Kernel3Ideal.main_v180_6)) (v7 : (c : Dev Cert.Kernel3Ideal.nD) → Buf (Elt Ideal) ((c.tc : Thread Cert.Kernel3Ideal.nD Cert.Kernel3Ideal.τ).loc Cert.Kernel3Ideal.main_v180_7)) (v8 : (c : Dev Cert.Kernel3Ideal.nD) → Buf (Elt Ideal) ((c.tc : Thread Cert.Kernel3Ideal.nD Cert.Kernel3Ideal.τ).loc Cert.Kernel3Ideal.main_v180_8)) (v9 : (c : Dev Cert.Kernel3Ideal.nD) → Buf (Elt Ideal) ((c.tc : Thread Cert.Kernel3Ideal.nD Cert.Kernel3Ideal.τ).loc Cert.Kernel3Ideal.main_v180_9)) (v10 : (c : Dev Cert.Kernel3Ideal.nD) → Buf (Elt Ideal) ((c.tc : Thread Cert.Kernel3Ideal.nD Cert.Kernel3Ideal.τ).loc Cert.Kernel3Ideal.main_v180_10)) (v11 : (c : Dev Cert.Kernel3Ideal.nD) → Buf (Elt Ideal) ((c.tc : Thread Cert.Kernel3Ideal.nD Cert.Kernel3Ideal.τ).loc Cert.Kernel3Ideal.main_v180_11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v180_0) = v0 c
          ∧ r.2.mem ((c.tc : Thread Cert.Kernel3Ideal.nD Cert.Kernel3Ideal.τ).loc Cert.Kernel3Ideal.main_v180_1) = v1 c
          ∧ r.2.mem ((c.tc : Thread Cert.Kernel3Ideal.nD Cert.Kernel3Ideal.τ).loc Cert.Kernel3Ideal.main_v180_2) = v2 c
          ∧ r.2.mem ((c.tc : Thread Cert.Kernel3Ideal.nD Cert.Kernel3Ideal.τ).loc Cert.Kernel3Ideal.main_v180_3) = v3 c
          ∧ r.2.mem ((c.tc : Thread Cert.Kernel3Ideal.nD Cert.Kernel3Ideal.τ).loc Cert.Kernel3Ideal.main_v180_4) = v4 c
          ∧ r.2.mem ((c.tc : Thread Cert.Kernel3Ideal.nD Cert.Kernel3Ideal.τ).loc Cert.Kernel3Ideal.main_v180_5) = v5 c
          ∧ r.2.mem ((c.tc : Thread Cert.Kernel3Ideal.nD Cert.Kernel3Ideal.τ).loc Cert.Kernel3Ideal.main_v180_6) = v6 c
          ∧ r.2.mem ((c.tc : Thread Cert.Kernel3Ideal.nD Cert.Kernel3Ideal.τ).loc Cert.Kernel3Ideal.main_v180_7) = v7 c
          ∧ r.2.mem ((c.tc : Thread Cert.Kernel3Ideal.nD Cert.Kernel3Ideal.τ).loc Cert.Kernel3Ideal.main_v180_8) = v8 c
          ∧ r.2.mem ((c.tc : Thread Cert.Kernel3Ideal.nD Cert.Kernel3Ideal.τ).loc Cert.Kernel3Ideal.main_v180_9) = v9 c
          ∧ r.2.mem ((c.tc : Thread Cert.Kernel3Ideal.nD Cert.Kernel3Ideal.τ).loc Cert.Kernel3Ideal.main_v180_10) = v10 c
          ∧ r.2.mem ((c.tc : Thread Cert.Kernel3Ideal.nD Cert.Kernel3Ideal.τ).loc Cert.Kernel3Ideal.main_v180_11) = v11 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v139) = v0 c
          ∧ r.2.mem ((c.tc : Thread Cert.Reference3Ideal.nD Cert.Reference3Ideal.τ).loc Cert.Reference3Ideal.main_v140) = v1 c
          ∧ r.2.mem ((c.tc : Thread Cert.Reference3Ideal.nD Cert.Reference3Ideal.τ).loc Cert.Reference3Ideal.main_v141) = v2 c
          ∧ r.2.mem ((c.tc : Thread Cert.Reference3Ideal.nD Cert.Reference3Ideal.τ).loc Cert.Reference3Ideal.main_v144) = v3 c
          ∧ r.2.mem ((c.tc : Thread Cert.Reference3Ideal.nD Cert.Reference3Ideal.τ).loc Cert.Reference3Ideal.main_v148) = v4 c
          ∧ r.2.mem ((c.tc : Thread Cert.Reference3Ideal.nD Cert.Reference3Ideal.τ).loc Cert.Reference3Ideal.main_v149) = v5 c
          ∧ r.2.mem ((c.tc : Thread Cert.Reference3Ideal.nD Cert.Reference3Ideal.τ).loc Cert.Reference3Ideal.main_v151) = v6 c
          ∧ r.2.mem ((c.tc : Thread Cert.Reference3Ideal.nD Cert.Reference3Ideal.τ).loc Cert.Reference3Ideal.main_v152) = v7 c
          ∧ r.2.mem ((c.tc : Thread Cert.Reference3Ideal.nD Cert.Reference3Ideal.τ).loc Cert.Reference3Ideal.main_v153) = v8 c
          ∧ r.2.mem ((c.tc : Thread Cert.Reference3Ideal.nD Cert.Reference3Ideal.τ).loc Cert.Reference3Ideal.main_v156) = v9 c
          ∧ r.2.mem ((c.tc : Thread Cert.Reference3Ideal.nD Cert.Reference3Ideal.τ).loc Cert.Reference3Ideal.main_v161) = v10 c
          ∧ r.2.mem ((c.tc : Thread Cert.Reference3Ideal.nD Cert.Reference3Ideal.τ).loc Cert.Reference3Ideal.main_v162) = v11 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v59) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v16)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v176_1)) (v1 : (c : Dev Cert.Kernel6Ideal.nD) → Buf (Elt Ideal) ((c.tc : Thread Cert.Kernel6Ideal.nD Cert.Kernel6Ideal.τ).loc Cert.Kernel6Ideal.main_v176_2)) (v2 : (c : Dev Cert.Kernel6Ideal.nD) → Buf (Elt Ideal) ((c.tc : Thread Cert.Kernel6Ideal.nD Cert.Kernel6Ideal.τ).loc Cert.Kernel6Ideal.main_v176_5)) (v3 : (c : Dev Cert.Kernel6Ideal.nD) → Buf (Elt Ideal) ((c.tc : Thread Cert.Kernel6Ideal.nD Cert.Kernel6Ideal.τ).loc Cert.Kernel6Ideal.main_v176_7)) (v4 : (c : Dev Cert.Kernel6Ideal.nD) → Buf (Elt Ideal) ((c.tc : Thread Cert.Kernel6Ideal.nD Cert.Kernel6Ideal.τ).loc Cert.Kernel6Ideal.main_v176_8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v176_1) = v0 c
          ∧ r.2.mem ((c.tc : Thread Cert.Kernel6Ideal.nD Cert.Kernel6Ideal.τ).loc Cert.Kernel6Ideal.main_v176_2) = v1 c
          ∧ r.2.mem ((c.tc : Thread Cert.Kernel6Ideal.nD Cert.Kernel6Ideal.τ).loc Cert.Kernel6Ideal.main_v176_5) = v2 c
          ∧ r.2.mem ((c.tc : Thread Cert.Kernel6Ideal.nD Cert.Kernel6Ideal.τ).loc Cert.Kernel6Ideal.main_v176_7) = v3 c
          ∧ r.2.mem ((c.tc : Thread Cert.Kernel6Ideal.nD Cert.Kernel6Ideal.τ).loc Cert.Kernel6Ideal.main_v176_8) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v67) = v0 c
          ∧ r.2.mem ((c.tc : Thread Cert.Reference6Ideal.nD Cert.Reference6Ideal.τ).loc Cert.Reference6Ideal.main_v68) = v1 c
          ∧ r.2.mem ((c.tc : Thread Cert.Reference6Ideal.nD Cert.Reference6Ideal.τ).loc Cert.Reference6Ideal.main_v72) = v2 c
          ∧ r.2.mem ((c.tc : Thread Cert.Reference6Ideal.nD Cert.Reference6Ideal.τ).loc Cert.Reference6Ideal.main_v73) = v3 c
          ∧ r.2.mem ((c.tc : Thread Cert.Reference6Ideal.nD Cert.Reference6Ideal.τ).loc Cert.Reference6Ideal.main_v76) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel2 : Cert.Kernel2.Facts) (hKernel2Ideal : Cert.Kernel2Ideal.Facts) (hReference2Ideal : Cert.Reference2Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite3 : Cert.Pre_finite3.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel2_Kernel2Ideal
    ∧ algebraic_Kernel2Ideal_Reference2Ideal (hKernel2Ideal := hKernel2Ideal) (hReference2Ideal := hReference2Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite.lean ====
abbrev S2x8192x1024 : Shape := ⟨3, ![2, 8192, 1024]⟩
abbrev S2x8192x256 : Shape := ⟨3, ![2, 8192, 256]⟩
abbrev S128x4x64 : Shape := ⟨3, ![128, 4, 64]⟩
abbrev S_ : Shape := ⟨0, ![]⟩

class Facts : Prop where
  bitsLt_bf16_f32 : FTy.bits .bf16 < FTy.bits .f32
  bcast_S_S2x8192x1024 : S_.BroadcastsInDim S2x8192x1024 (![] : Fin 0 → Fin S2x8192x1024.rank)
  bcast_S_S2x8192x256 : S_.BroadcastsInDim S2x8192x256 (![] : Fin 0 → Fin S2x8192x256.rank)

variable [Facts]

def fn {F : FTy → Type} [FloatOps F] (main_arg0 : FVec F S2x8192x1024 .bf16) (main_arg1 : FVec F S2x8192x256 .bf16) (main_arg2 : FVec F S128x4x64 .f32) : IVec S2x8192x1024 1 × IVec S2x8192x256 1 :=
  let main_v0 : FVec F S2x8192x1024 .f32 := (extf .f32 · bitsLt_bf16_f32) main_arg0
  let main_v1 : FVec F S2x8192x1024 .f32 := Host.absf main_v0
  let main_cst : FVec F S_ .f32 := constant S_ .f32 0x7F800000#32
  let main_v2 : FVec F S2x8192x1024 .f32 := broadcastInDim S2x8192x1024 ![] bcast_S_S2x8192x1024 main_cst
  let main_v3 : IVec S2x8192x1024 1 := cmpf .olt main_v1 main_v2
  let main_v4 : FVec F S2x8192x256 .f32 := (extf .f32 · bitsLt_bf16_f32) main_arg1
  let main_v5 : FVec F S2x8192x256 .f32 := Host.absf main_v4
  let main_cst_0 : FVec F S_ .f32 := constant S_ .f32 0x7F800000#32
  let main_v6 : FVec F S2x8192x256 .f32 := broadcastInDim S2x8192x256 ![] bcast_S_S2x8192x256 main_cst_0
  let main_v7 : IVec S2x8192x256 1 := cmpf .olt main_v5 main_v6
  (main_v3, main_v7)
-- ==== Pre_finite3.lean ====
abbrev S2x8192x1024 : Shape := ⟨3, ![2, 8192, 1024]⟩
abbrev S2x1x1024 : Shape := ⟨3, ![2, 1, 1024]⟩
abbrev S1024x1604 : Shape := ⟨2, ![1024, 1604]⟩
abbrev S256 : Shape := ⟨1, ![256]⟩
abbrev S128 : Shape := ⟨1, ![128]⟩
abbrev S256x4x96 : Shape := ⟨3, ![256, 4, 96]⟩
abbrev S128x4x64 : Shape := ⟨3, ![128, 4, 64]⟩
abbrev S_ : Shape := ⟨0, ![]⟩

class Facts : Prop where
  bcast_S_S2x8192x1024 : S_.BroadcastsInDim S2x8192x1024 (![] : Fin 0 → Fin S2x8192x1024.rank)
  bcast_S_S2x1x1024 : S_.BroadcastsInDim S2x1x1024 (![] : Fin 0 → Fin S2x1x1024.rank)
  bcast_S_S1024x1604 : S_.BroadcastsInDim S1024x1604 (![] : Fin 0 → Fin S1024x1604.rank)
  bcast_S_S256 : S_.BroadcastsInDim S256 (![] : Fin 0 → Fin S256.rank)
  bcast_S_S256x4x96 : S_.BroadcastsInDim S256x4x96 (![] : Fin 0 → Fin S256x4x96.rank)

variable [Facts]

def fn {F : FTy → Type} [FloatOps F] (main_arg0 : FVec F S2x8192x1024 .f32) (main_arg1 : FVec F S2x1x1024 .f32) (main_arg2 : FVec F S2x1x1024 .f32) (main_arg3 : FVec F S1024x1604 .f32) (main_arg4 : FVec F S256 .f32) (main_arg5 : FVec F S128 .f32) (main_arg6 : FVec F S256x4x96 .f32) (main_arg7 : FVec F S128x4x64 .f32) : IVec S2x8192x1024 1 × IVec S2x1x1024 1 × IVec S2x1x1024 1 × IVec S1024x1604 1 × IVec S256 1 × IVec S256x4x96 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_v3 : FVec F S2x1x1024 .f32 := Host.absf main_arg1
  let main_cst_0 : FVec F S_ .f32 := constant S_ .f32 0x7F800000#32
  let main_v4 : FVec F S2x1x1024 .f32 := broadcastInDim S2x1x1024 ![] bcast_S_S2x1x1024 main_cst_0
  let main_v5 : IVec S2x1x1024 1 := cmpf .olt main_v3 main_v4
  let main_v6 : FVec F S2x1x1024 .f32 := Host.absf main_arg2
  let main_cst_1 : FVec F S_ .f32 := constant S_ .f32 0x7F800000#32
  let main_v7 : FVec F S2x1x1024 .f32 := broadcastInDim S2x1x1024 ![] bcast_S_S2x1x1024 main_cst_1
  let main_v8 : IVec S2x1x1024 1 := cmpf .olt main_v6 main_v7
  let main_v9 : FVec F S1024x1604 .f32 := Host.absf main_arg3
  let main_cst_2 : FVec F S_ .f32 := constant S_ .f32 0x7F800000#32
  let main_v10 : FVec F S1024x1604 .f32 := broadcastInDim S1024x1604 ![] bcast_S_S1024x1604 main_cst_2
  let main_v11 : IVec S1024x1604 1 := cmpf .olt main_v9 main_v10
  let main_v12 : FVec F S256 .f32 := Host.absf main_arg4
  let main_cst_3 : FVec F S_ .f32 := constant S_ .f32 0x7F800000#32
  let main_v13 : FVec F S256 .f32 := broadcastInDim S256 ![] bcast_S_S256 main_cst_3
  let main_v14 : IVec S256 1 := cmpf .olt main_v12 main_v13
  let main_v15 : FVec F S256x4x96 .f32 := Host.absf main_arg6
  let main_cst_4 : FVec F S_ .f32 := constant S_ .f32 0x7F800000#32
  let main_v16 : FVec F S256x4x96 .f32 := broadcastInDim S256x4x96 ![] bcast_S_S256x4x96 main_cst_4
  let main_v17 : IVec S256x4x96 1 := cmpf .olt main_v15 main_v16
  (main_v2, main_v5, main_v8, main_v11, main_v14, main_v17)
-- ==== Pre_finite6.lean ====
abbrev S128x1x1024 : Shape := ⟨3, ![128, 1, 1024]⟩
abbrev S1024x1604 : Shape := ⟨2, ![1024, 1604]⟩
abbrev S256 : Shape := ⟨1, ![256]⟩
abbrev S128 : Shape := ⟨1, ![128]⟩
abbrev S256x4x96 : Shape := ⟨3, ![256, 4, 96]⟩
abbrev S128x4x64 : Shape := ⟨3, ![128, 4, 64]⟩
abbrev S_ : Shape := ⟨0, ![]⟩

class Facts : Prop where
  bcast_S_S128x1x1024 : S_.BroadcastsInDim S128x1x1024 (![] : Fin 0 → Fin S128x1x1024.rank)
  bcast_S_S1024x1604 : S_.BroadcastsInDim S1024x1604 (![] : Fin 0 → Fin S1024x1604.rank)

variable [Facts]

def fn {F : FTy → Type} [FloatOps F] (main_arg0 : FVec F S128x1x1024 .f32) (main_arg1 : FVec F S128x1x1024 .f32) (main_arg2 : FVec F S128x1x1024 .f32) (main_arg3 : FVec F S1024x1604 .f32) (main_arg4 : FVec F S256 .f32) (main_arg5 : FVec F S128 .f32) (main_arg6 : FVec F S256x4x96 .f32) (main_arg7 : FVec F S128x4x64 .f32) : IVec S128x1x1024 1 × IVec S128x1x1024 1 × IVec S128x1x1024 1 × IVec S1024x1604 1 :=
  let main_v0 : FVec F S128x1x1024 .f32 := Host.absf main_arg0
  let main_cst : FVec F S_ .f32 := constant S_ .f32 0x7F800000#32
  let main_v1 : FVec F S128x1x1024 .f32 := broadcastInDim S128x1x1024 ![] bcast_S_S128x1x1024 main_cst
  let main_v2 : IVec S128x1x1024 1 := cmpf .olt main_v0 main_v1
  let main_v3 : FVec F S128x1x1024 .f32 := Host.absf main_arg1
  let main_cst_0 : FVec F S_ .f32 := constant S_ .f32 0x7F800000#32
  let main_v4 : FVec F S128x1x1024 .f32 := broadcastInDim S128x1x1024 ![] bcast_S_S128x1x1024 main_cst_0
  let main_v5 : IVec S128x1x1024 1 := cmpf .olt main_v3 main_v4
  let main_v6 : FVec F S128x1x1024 .f32 := Host.absf main_arg2
  let main_cst_1 : FVec F S_ .f32 := constant S_ .f32 0x7F800000#32
  let main_v7 : FVec F S128x1x1024 .f32 := broadcastInDim S128x1x1024 ![] bcast_S_S128x1x1024 main_cst_1
  let main_v8 : IVec S128x1x1024 1 := cmpf .olt main_v6 main_v7
  let main_v9 : FVec F S1024x1604 .f32 := Host.absf main_arg3
  let main_cst_2 : FVec F S_ .f32 := constant S_ .f32 0x7F800000#32
  let main_v10 : FVec F S1024x1604 .f32 := broadcastInDim S1024x1604 ![] bcast_S_S1024x1604 main_cst_2
  let main_v11 : IVec S1024x1604 1 := cmpf .olt main_v9 main_v10
  (main_v2, main_v5, main_v8, main_v11)
-- ==== Kernel.lean ====
abbrev S2x8192x1024 : Shape := ⟨3, ![2, 8192, 1024]⟩
abbrev S2x8192x256 : Shape := ⟨3, ![2, 8192, 256]⟩
abbrev S128x4x64 : Shape := ⟨3, ![128, 4, 64]⟩
abbrev S_ : Shape := ⟨0, ![]⟩
abbrev S4x128x256 : Shape := ⟨3, ![4, 128, 256]⟩
abbrev S128x1x64 : Shape := ⟨3, ![128, 1, 64]⟩
abbrev S128x64 : Shape := ⟨2, ![128, 64]⟩
abbrev S1 : Shape := ⟨1, ![1]⟩
abbrev S2 : Shape := ⟨1, ![2]⟩
abbrev S1x256x1024 : Shape := ⟨3, ![1, 256, 1024]⟩
abbrev S1x8192x256 : Shape := ⟨3, ![1, 8192, 256]⟩
abbrev S1x256x256 : Shape := ⟨3, ![1, 256, 256]⟩
abbrev S256x256 : Shape := ⟨2, ![256, 256]⟩
abbrev S1024x256 : Shape := ⟨2, ![1024, 256]⟩
abbrev S256x1 : Shape := ⟨2, ![256, 1]⟩
abbrev S4x256x1 : Shape := ⟨3, ![4, 256, 1]⟩
abbrev S4x256x128 : Shape := ⟨3, ![4, 256, 128]⟩
abbrev S1x1024x256 : Shape := ⟨3, ![1, 1024, 256]⟩
abbrev S1024x1024 : Shape := ⟨2, ![1024, 1024]⟩
abbrev S4x256x1024 : Shape := ⟨3, ![4, 256, 1024]⟩
abbrev S256x1024 : Shape := ⟨2, ![256, 1024]⟩
abbrev S4x256 : Shape := ⟨2, ![4, 256]⟩
abbrev S1024x128 : Shape := ⟨2, ![1024, 128]⟩
abbrev S1x256x128 : Shape := ⟨3, ![1, 256, 128]⟩
abbrev S256x128 : Shape := ⟨2, ![256, 128]⟩
abbrev S1x128x256 : Shape := ⟨3, ![1, 128, 256]⟩
abbrev S128x256 : Shape := ⟨2, ![128, 256]⟩

abbrev nBuf : Space → Nat
  | .hbm => 39
  | .vmem => 7
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x256, .bf16⟩
  | .hbm, ⟨2, _⟩ => ⟨S128x4x64, .f32⟩
  | .hbm, ⟨3, _⟩ => ⟨S_, .f32⟩
  | .hbm, ⟨4, _⟩ => ⟨S4x128x256, .f32⟩
  | .hbm, ⟨5, _⟩ => ⟨S128x1x64, .f32⟩
  | .hbm, ⟨6, _⟩ => ⟨S128x64, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S4x128x256, .f32⟩
  | .hbm, ⟨13, _⟩ => ⟨S128x1x64, .f32⟩
  | .hbm, ⟨14, _⟩ => ⟨S128x64, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S4x128x256, .f32⟩
  | .hbm, ⟨21, _⟩ => ⟨S128x1x64, .f32⟩
  | .hbm, ⟨22, _⟩ => ⟨S128x64, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S4x128x256, .f32⟩
  | .hbm, ⟨29, _⟩ => ⟨S128x1x64, .f32⟩
  | .hbm, ⟨30, _⟩ => ⟨S128x64, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S4x128x256, .f32⟩
  | .hbm, ⟨37, _⟩ => ⟨S4x128x256, .bf16⟩
  | .hbm, ⟨38, _⟩ => ⟨S2x8192x256, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x8192x256, .bf16⟩
  | .local _ .vmem, ⟨3, _⟩ => ⟨S1x8192x256, .bf16⟩
  | .local _ .vmem, ⟨4, _⟩ => ⟨S4x128x256, .bf16⟩
  | .local _ .vmem, ⟨5, _⟩ => ⟨S1x256x256, .bf16⟩
  | .local _ .vmem, ⟨6, _⟩ => ⟨S1x256x256, .bf16⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_c_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

@[reducible] def k0_t1_loop (i : grid0.Coords) : Scf.Loop 32 :=
  let c0_i32_17 : BitVec 32 := 0#32
  let arg1 : BitVec 32 := BitVec.ofNat 32 (i 1).val
  let c256_i32 : BitVec 32 := 256#32
  let v0 : BitVec 32 := Scalar.muli arg1 c256_i32
  let c256_i32_10 : BitVec 32 := 256#32
  let v16 : BitVec 32 := Scalar.addi v0 c256_i32_10
  let c1024_i32 : BitVec 32 := 1024#32
  let v17 : BitVec 32 := Scalar.addi v16 c1024_i32
  let c1_i32 : BitVec 32 := 1#32
  let v18 : BitVec 32 := Scalar.subi v17 c1_i32
  let c0_i32 : BitVec 32 := 0#32
  let v20 : BitVec 1 := Scalar.cmpi .sgt v18 c0_i32
  let v21 : BitVec 32 := Scalar.extui v20
  let c0_i32_12 : BitVec 32 := 0#32
  let v22 : BitVec 1 := Scalar.cmpi .slt v18 c0_i32_12
  let v23 : BitVec 32 := Scalar.extui v22
  let v24 : BitVec 32 := Scalar.subi v21 v23
  let c1024_i32_11 : BitVec 32 := 1024#32
  let c0_i32_13 : BitVec 32 := 0#32
  let v25 : BitVec 1 := Scalar.cmpi .sgt c1024_i32_11 c0_i32_13
  let v26 : BitVec 32 := Scalar.extui v25
  let c0_i32_14 : BitVec 32 := 0#32
  let v27 : BitVec 1 := Scalar.cmpi .slt c1024_i32_11 c0_i32_14
  let v28 : BitVec 32 := Scalar.extui v27
  let v29 : BitVec 32 := Scalar.subi v26 v28
  let v30 : BitVec 1 := Scalar.cmpi .ne v24 v29
  let v31 : BitVec 32 := Scalar.remsi v18 c1024_i32_11
  let c0_i32_15 : BitVec 32 := 0#32
  let v32 : BitVec 1 := Scalar.cmpi .ne v31 c0_i32_15
  let v33 : BitVec 1 := Scalar.andi v30 v32
  let v19 : BitVec 32 := Scalar.divsi v18 c1024_i32_11
  let c1_i32_16 : BitVec 32 := 1#32
  let v34 : BitVec 32 := Scalar.subi v19 c1_i32_16
  let v35 : BitVec 32 := Scalar.select v33 v34 v19
  let v36 : BitVec 32 := Scalar.subi v35 c0_i32_17
  let c1_i32_18 : BitVec 32 := 1#32
  let v38 : BitVec 32 := Scalar.divsi v36 c1_i32_18
  let v39 : BitVec 32 := Scalar.muli v38 c1_i32_18
  let v40 : BitVec 32 := Scalar.addi c0_i32_17 v39
  let c1_i32_19 : BitVec 32 := 1#32
  ⟨c0_i32_17, v40, c1_i32_19⟩
def k0_mult1 (i : grid0.Coords) (k0_t1 : Fin (k0_t1_loop i).trips) : BitVec 32 :=
  let c0_i32_17 : BitVec 32 := 0#32
  let c1_i32_19 : BitVec 32 := 1#32
  let arg6 : BitVec 32 := Scf.iv c0_i32_17 c1_i32_19 k0_t1
  let c1024_i32_38 : BitVec 32 := 1024#32
  let v75 : BitVec 32 := Scalar.muli arg6 c1024_i32_38
  v75
def k0_off1 (i : grid0.Coords) (k0_t1 : Fin (k0_t1_loop i).trips) : Fin 3 → Nat :=
  let c0_39 : Index := 0#32
  let c0_i32_17 : BitVec 32 := 0#32
  let c1_i32_19 : BitVec 32 := 1#32
  let arg6 : BitVec 32 := Scf.iv c0_i32_17 c1_i32_19 k0_t1
  let c1024_i32_38 : BitVec 32 := 1024#32
  let v75 : BitVec 32 := Scalar.muli arg6 c1024_i32_38
  let v76 : BitVec 32 := v75
  let v77 : Index := Scalar.indexCast v76
  let c0_40 : Index := 0#32
  ![0, v77.toNat, 0]
@[reducible] def k0_t2_loop (i : grid0.Coords) : Scf.Loop 32 :=
  let c0_i32_17 : BitVec 32 := 0#32
  let arg1 : BitVec 32 := BitVec.ofNat 32 (i 1).val
  let c256_i32 : BitVec 32 := 256#32
  let v0 : BitVec 32 := Scalar.muli arg1 c256_i32
  let c256_i32_10 : BitVec 32 := 256#32
  let v16 : BitVec 32 := Scalar.addi v0 c256_i32_10
  let c1024_i32 : BitVec 32 := 1024#32
  let v17 : BitVec 32 := Scalar.addi v16 c1024_i32
  let c1_i32 : BitVec 32 := 1#32
  let v18 : BitVec 32 := Scalar.subi v17 c1_i32
  let c0_i32 : BitVec 32 := 0#32
  let v20 : BitVec 1 := Scalar.cmpi .sgt v18 c0_i32
  let v21 : BitVec 32 := Scalar.extui v20
  let c0_i32_12 : BitVec 32 := 0#32
  let v22 : BitVec 1 := Scalar.cmpi .slt v18 c0_i32_12
  let v23 : BitVec 32 := Scalar.extui v22
  let v24 : BitVec 32 := Scalar.subi v21 v23
  let c1024_i32_11 : BitVec 32 := 1024#32
  let c0_i32_13 : BitVec 32 := 0#32
  let v25 : BitVec 1 := Scalar.cmpi .sgt c1024_i32_11 c0_i32_13
  let v26 : BitVec 32 := Scalar.extui v25
  let c0_i32_14 : BitVec 32 := 0#32
  let v27 : BitVec 1 := Scalar.cmpi .slt c1024_i32_11 c0_i32_14
  let v28 : BitVec 32 := Scalar.extui v27
  let v29 : BitVec 32 := Scalar.subi v26 v28
  let v30 : BitVec 1 := Scalar.cmpi .ne v24 v29
  let v31 : BitVec 32 := Scalar.remsi v18 c1024_i32_11
  let c0_i32_15 : BitVec 32 := 0#32
  let v32 : BitVec 1 := Scalar.cmpi .ne v31 c0_i32_15
  let v33 : BitVec 1 := Scalar.andi v30 v32
  let v19 : BitVec 32 := Scalar.divsi v18 c1024_i32_11
  let c1_i32_16 : BitVec 32 := 1#32
  let v34 : BitVec 32 := Scalar.subi v19 c1_i32_16
  let v35 : BitVec 32 := Scalar.select v33 v34 v19
  let v36 : BitVec 32 := Scalar.subi v35 c0_i32_17
  let c1_i32_18 : BitVec 32 := 1#32
  let v38 : BitVec 32 := Scalar.divsi v36 c1_i32_18
  let v39 : BitVec 32 := Scalar.muli v38 c1_i32_18
  let v40 : BitVec 32 := Scalar.addi c0_i32_17 v39
  let v37 : BitVec 32 := Scalar.addi c0_i32_17 v36
  let c1_i32_20 : BitVec 32 := 1#32
  ⟨v40, v37, c1_i32_20⟩
def k0_mult2 (i : grid0.Coords) (k0_t2 : Fin (k0_t2_loop i).trips) : BitVec 32 :=
  let c0_i32_17 : BitVec 32 := 0#32
  let arg1 : BitVec 32 := BitVec.ofNat 32 (i 1).val
  let c256_i32 : BitVec 32 := 256#32
  let v0 : BitVec 32 := Scalar.muli arg1 c256_i32
  let c256_i32_10 : BitVec 32 := 256#32
  let v16 : BitVec 32 := Scalar.addi v0 c256_i32_10
  let c1024_i32 : BitVec 32 := 1024#32
  let v17 : BitVec 32 := Scalar.addi v16 c1024_i32
  let c1_i32 : BitVec 32 := 1#32
  let v18 : BitVec 32 := Scalar.subi v17 c1_i32
  let c0_i32 : BitVec 32 := 0#32
  let v20 : BitVec 1 := Scalar.cmpi .sgt v18 c0_i32
  let v21 : BitVec 32 := Scalar.extui v20
  let c0_i32_12 : BitVec 32 := 0#32
  let v22 : BitVec 1 := Scalar.cmpi .slt v18 c0_i32_12
  let v23 : BitVec 32 := Scalar.extui v22
  let v24 : BitVec 32 := Scalar.subi v21 v23
  let c1024_i32_11 : BitVec 32 := 1024#32
  let c0_i32_13 : BitVec 32 := 0#32
  let v25 : BitVec 1 := Scalar.cmpi .sgt c1024_i32_11 c0_i32_13
  let v26 : BitVec 32 := Scalar.extui v25
  let c0_i32_14 : BitVec 32 := 0#32
  let v27 : BitVec 1 := Scalar.cmpi .slt c1024_i32_11 c0_i32_14
  let v28 : BitVec 32 := Scalar.extui v27
  let v29 : BitVec 32 := Scalar.subi v26 v28
  let v30 : BitVec 1 := Scalar.cmpi .ne v24 v29
  let v31 : BitVec 32 := Scalar.remsi v18 c1024_i32_11
  let c0_i32_15 : BitVec 32 := 0#32
  let v32 : BitVec 1 := Scalar.cmpi .ne v31 c0_i32_15
  let v33 : BitVec 1 := Scalar.andi v30 v32
  let v19 : BitVec 32 := Scalar.divsi v18 c1024_i32_11
  let c1_i32_16 : BitVec 32 := 1#32
  let v34 : BitVec 32 := Scalar.subi v19 c1_i32_16
  let v35 : BitVec 32 := Scalar.select v33 v34 v19
  let v36 : BitVec 32 := Scalar.subi v35 c0_i32_17
  let c1_i32_18 : BitVec 32 := 1#32
  let v38 : BitVec 32 := Scalar.divsi v36 c1_i32_18
  let v39 : BitVec 32 := Scalar.muli v38 c1_i32_18
  let v40 : BitVec 32 := Scalar.addi c0_i32_17 v39
  let c1_i32_20 : BitVec 32 := 1#32
  let arg6 : BitVec 32 := Scf.iv v40 c1_i32_20 k0_t2
  let c1024_i32_38 : BitVec 32 := 1024#32
  let v75 : BitVec 32 := Scalar.muli arg6 c1024_i32_38
  v75
def k0_off2 (i : grid0.Coords) (k0_t2 : Fin (k0_t2_loop i).trips) : Fin 3 → Nat :=
  let c0_39 : Index := 0#32
  let c0_i32_17 : BitVec 32 := 0#32
  let arg1 : BitVec 32 := BitVec.ofNat 32 (i 1).val
  let c256_i32 : BitVec 32 := 256#32
  let v0 : BitVec 32 := Scalar.muli arg1 c256_i32
  let c256_i32_10 : BitVec 32 := 256#32
  let v16 : BitVec 32 := Scalar.addi v0 c256_i32_10
  let c1024_i32 : BitVec 32 := 1024#32
  let v17 : BitVec 32 := Scalar.addi v16 c1024_i32
  let c1_i32 : BitVec 32 := 1#32
  let v18 : BitVec 32 := Scalar.subi v17 c1_i32
  let c0_i32 : BitVec 32 := 0#32
  let v20 : BitVec 1 := Scalar.cmpi .sgt v18 c0_i32
  let v21 : BitVec 32 := Scalar.extui v20
  let c0_i32_12 : BitVec 32 := 0#32
  let v22 : BitVec 1 := Scalar.cmpi .slt v18 c0_i32_12
  let v23 : BitVec 32 := Scalar.extui v22
  let v24 : BitVec 32 := Scalar.subi v21 v23
  let c1024_i32_11 : BitVec 32 := 1024#32
  let c0_i32_13 : BitVec 32 := 0#32
  let v25 : BitVec 1 := Scalar.cmpi .sgt c1024_i32_11 c0_i32_13
  let v26 : BitVec 32 := Scalar.extui v25
  let c0_i32_14 : BitVec 32 := 0#32
  let v27 : BitVec 1 := Scalar.cmpi .slt c1024_i32_11 c0_i32_14
  let v28 : BitVec 32 := Scalar.extui v27
  let v29 : BitVec 32 := Scalar.subi v26 v28
  let v30 : BitVec 1 := Scalar.cmpi .ne v24 v29
  let v31 : BitVec 32 := Scalar.remsi v18 c1024_i32_11
  let c0_i32_15 : BitVec 32 := 0#32
  let v32 : BitVec 1 := Scalar.cmpi .ne v31 c0_i32_15
  let v33 : BitVec 1 := Scalar.andi v30 v32
  let v19 : BitVec 32 := Scalar.divsi v18 c1024_i32_11
  let c1_i32_16 : BitVec 32 := 1#32
  let v34 : BitVec 32 := Scalar.subi v19 c1_i32_16
  let v35 : BitVec 32 := Scalar.select v33 v34 v19
  let v36 : BitVec 32 := Scalar.subi v35 c0_i32_17
  let c1_i32_18 : BitVec 32 := 1#32
  let v38 : BitVec 32 := Scalar.divsi v36 c1_i32_18
  let v39 : BitVec 32 := Scalar.muli v38 c1_i32_18
  let v40 : BitVec 32 := Scalar.addi c0_i32_17 v39
  let c1_i32_20 : BitVec 32 := 1#32
  let arg6 : BitVec 32 := Scf.iv v40 c1_i32_20 k0_t2
  let c1024_i32_38 : BitVec 32 := 1024#32
  let v75 : BitVec 32 := Scalar.muli arg6 c1024_i32_38
  let v76 : BitVec 32 := v75
  let v77 : Index := Scalar.indexCast v76
  let c0_40 : Index := 0#32
  ![0, v77.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x8192x1024 : Shape := ⟨3, ![2, 8192, 1024]⟩
abbrev S2x8192x256 : Shape := ⟨3, ![2, 8192, 256]⟩
abbrev S128x4x64 : Shape := ⟨3, ![128, 4, 64]⟩
abbrev S2x8192x4x256 : Shape := ⟨4, ![2, 8192, 4, 256]⟩
abbrev S2x8192x4x128 : Shape := ⟨4, ![2, 8192, 4, 128]⟩
abbrev S2x8192x128 : Shape := ⟨3, ![2, 8192, 128]⟩
abbrev S8192 : Shape := ⟨1, ![8192]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S1x1x1x8192 : Shape := ⟨4, ![1, 1, 1, 8192]⟩
abbrev S1x1x8192x1 : Shape := ⟨4, ![1, 1, 8192, 1]⟩
abbrev S1x1x8192x8192 : Shape := ⟨4, ![1, 1, 8192, 8192]⟩
abbrev S2x4x8192 : Shape := ⟨3, ![2, 4, 8192]⟩
abbrev S2x4x8192x1 : Shape := ⟨4, ![2, 4, 8192, 1]⟩
abbrev S2x128x4x8192 : Shape := ⟨4, ![2, 128, 4, 8192]⟩
abbrev S4x64x2x8192 : Shape := ⟨4, ![4, 64, 2, 8192]⟩
abbrev S2x8192x4x64 : Shape := ⟨4, ![2, 8192, 4, 64]⟩

abbrev nBuf : Space → Nat
  | .hbm => 49
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x256, .bf16⟩
  | .hbm, ⟨2, _⟩ => ⟨S128x4x64, .f32⟩
  | .hbm, ⟨3, _⟩ => ⟨S2x8192x1024, .f32⟩
  | .hbm, ⟨4, _⟩ => ⟨S2x8192x4x256, .f32⟩
  | .hbm, ⟨5, _⟩ => ⟨S2x8192x256, .f32⟩
  | .hbm, ⟨6, _⟩ => ⟨S2x8192x4x128, .f32⟩
  | .hbm, ⟨7, _⟩ => ⟨S2x8192x4x128, .f32⟩
  | .hbm, ⟨8, _⟩ => ⟨S2x8192x128, .f32⟩
  | .hbm, ⟨9, _⟩ => ⟨S2x8192x128, .f32⟩
  | .hbm, ⟨10, _⟩ => ⟨S8192, .i32⟩
  | .hbm, ⟨11, _⟩ => ⟨S2x8192x8192x4, .f32⟩
  | .hbm, ⟨12, _⟩ => ⟨S2x4x8192x8192, .f32⟩
  | .hbm, ⟨13, _⟩ => ⟨S2x8192x8192x4, .f32⟩
  | .hbm, ⟨14, _⟩ => ⟨S2x4x8192x8192, .f32⟩
  | .hbm, ⟨15, _⟩ => ⟨S2x4x8192x8192, .f32⟩
  | .hbm, ⟨16, _⟩ => ⟨S_, .f32⟩
  | .hbm, ⟨17, _⟩ => ⟨S2x4x8192x8192, .f32⟩
  | .hbm, ⟨18, _⟩ => ⟨S2x4x8192x8192, .f32⟩
  | .hbm, ⟨19, _⟩ => ⟨S1x1x1x8192, .i32⟩
  | .hbm, ⟨20, _⟩ => ⟨S1x1x8192x1, .i32⟩
  | .hbm, ⟨21, _⟩ => ⟨S1x1x8192x8192, .i32⟩
  | .hbm, ⟨22, _⟩ => ⟨S1x1x8192x8192, .i32⟩
  | .hbm, ⟨23, _⟩ => ⟨S1x1x8192x8192, .i1⟩
  | .hbm, ⟨24, _⟩ => ⟨S_, .f32⟩
  | .hbm, ⟨25, _⟩ => ⟨S_, .f32⟩
  | .hbm, ⟨26, _⟩ => ⟨S2x4x8192x8192, .i1⟩
  | .hbm, ⟨27, _⟩ => ⟨S2x4x8192x8192, .f32⟩
  | .hbm, ⟨28, _⟩ => ⟨S2x4x8192x8192, .f32⟩
  | .hbm, ⟨29, _⟩ => ⟨S_, .f32⟩
  | .hbm, ⟨30, _⟩ => ⟨S2x4x8192, .f32⟩
  | .hbm, ⟨31, _⟩ => ⟨S_, .f32⟩
  | .hbm, ⟨32, _⟩ => ⟨S2x4x8192, .f32⟩
  | .hbm, ⟨33, _⟩ => ⟨S2x4x8192, .f32⟩
  | .hbm, ⟨34, _⟩ => ⟨S2x4x8192x1, .f32⟩
  | .hbm, ⟨35, _⟩ => ⟨S2x4x8192x8192, .f32⟩
  | .hbm, ⟨36, _⟩ => ⟨S2x4x8192x8192, .f32⟩
  | .hbm, ⟨37, _⟩ => ⟨S2x4x8192x8192, .f32⟩
  | .hbm, ⟨38, _⟩ => ⟨S_, .f32⟩
  | .hbm, ⟨39, _⟩ => ⟨S2x4x8192, .f32⟩
  | .hbm, ⟨40, _⟩ => ⟨S2x4x8192x1, .f32⟩
  | .hbm, ⟨41, _⟩ => ⟨S2x4x8192x8192, .f32⟩
  | .hbm, ⟨42, _⟩ => ⟨S2x4x8192x8192, .f32⟩
  | .hbm, ⟨43, _⟩ => ⟨S2x128x4x8192, .f32⟩
  | .hbm, ⟨44, _⟩ => ⟨S2x8192x4x128, .f32⟩
  | .hbm, ⟨45, _⟩ => ⟨S4x64x2x8192, .f32⟩
  | .hbm, ⟨46, _⟩ => ⟨S2x8192x4x64, .f32⟩
  | .hbm, ⟨47, _⟩ => ⟨S2x8192x256, .f32⟩
  | .hbm, ⟨48, _⟩ => ⟨S2x8192x256, .bf16⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x1x1024 : Shape := ⟨3, ![2, 1, 1024]⟩
abbrev S1024x1604 : Shape := ⟨2, ![1024, 1604]⟩
abbrev S256 : Shape := ⟨1, ![256]⟩
abbrev S128 : Shape := ⟨1, ![128]⟩
abbrev S256x4x96 : Shape := ⟨3, ![256, 4, 96]⟩
abbrev S128x4x64 : Shape := ⟨3, ![128, 4, 64]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x96 : Shape := ⟨2, ![8192, 96]⟩
abbrev S8192x128 : Shape := ⟨2, ![8192, 128]⟩
abbrev S1x8192x1x128 : Shape := ⟨4, ![1, 8192, 1, 128]⟩
abbrev S2x8192x1x128 : Shape := ⟨4, ![2, 8192, 1, 128]⟩
abbrev S16384x128 : Shape := ⟨2, ![16384, 128]⟩
abbrev S1024x256 : Shape := ⟨2, ![1024, 256]⟩
abbrev S1024x128 : Shape := ⟨2, ![1024, 128]⟩
abbrev S1024x4 : Shape := ⟨2, ![1024, 4]⟩
abbrev S1024x32 : Shape := ⟨2, ![1024, 32]⟩
abbrev S1024x512 : Shape := ⟨2, ![1024, 512]⟩
abbrev S1024x2560 : Shape := ⟨2, ![1024, 2560]⟩
abbrev S1024x64 : Shape := ⟨2, ![1024, 64]⟩
abbrev S1 : Shape := ⟨1, ![1]⟩
abbrev S1024x16 : Shape := ⟨2, ![1024, 16]⟩
abbrev S256x1280 : Shape := ⟨2, ![256, 1280]⟩
abbrev S256x512 : Shape := ⟨2, ![256, 512]⟩
abbrev S256x1x64 : Shape := ⟨3, ![256, 1, 64]⟩
abbrev S256x64 : Shape := ⟨2, ![256, 64]⟩
abbrev S256x1x32 : Shape := ⟨3, ![256, 1, 32]⟩
abbrev S256x32 : Shape := ⟨2, ![256, 32]⟩
abbrev S256x16 : Shape := ⟨2, ![256, 16]⟩
abbrev S128x1x64 : Shape := ⟨3, ![128, 1, 64]⟩
abbrev S128x64 : Shape := ⟨2, ![128, 64]⟩
abbrev S64x128 : Shape := ⟨2, ![64, 128]⟩
abbrev S2 : Shape := ⟨1, ![2]⟩
abbrev S16384x1024 : Shape := ⟨2, ![16384, 1024]⟩
abbrev S1x256 : Shape := ⟨2, ![1, 256]⟩
abbrev S1x128 : Shape := ⟨2, ![1, 128]⟩
abbrev S16384x512 : Shape := ⟨2, ![16384, 512]⟩
abbrev S16384x256 : Shape := ⟨2, ![16384, 256]⟩
abbrev S512x1024 : Shape := ⟨2, ![512, 1024]⟩
abbrev S1x1x1024 : Shape := ⟨3, ![1, 1, 1024]⟩
abbrev S512x128 : Shape := ⟨2, ![512, 128]⟩
abbrev S512x512 : Shape := ⟨2, ![512, 512]⟩
abbrev S512x256 : Shape := ⟨2, ![512, 256]⟩
abbrev S1x1024 : Shape := ⟨2, ![1, 1024]⟩
abbrev S512x2560 : Shape := ⟨2, ![512, 2560]⟩
abbrev S512 : Shape := ⟨1, ![512]⟩
abbrev S512x1 : Shape := ⟨2, ![512, 1]⟩
abbrev S512x1280 : Shape := ⟨2, ![512, 1280]⟩

abbrev nBuf : Space → Nat
  | .hbm => 248
  | .vmem => 39
  | .smem => 0
  | _ => 0

abbrev hbmTy0_0 (i : Nat) : BufTy := match i % 128 with
  | 0 => ⟨S2x8192x1024, .f32⟩
  | 1 => ⟨S2x1x1024, .f32⟩
  | 2 => ⟨S2x1x1024, .f32⟩
  | 3 => ⟨S1024x1604, .f32⟩
  | 4 => ⟨S256, .f32⟩
  | 5 => ⟨S128, .f32⟩
  | 6 => ⟨S256x4x96, .f32⟩
  | 7 => ⟨S128x4x64, .f32⟩
  | 8 => ⟨S8192, .i32⟩
  | 9 => ⟨S16, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S8192, .f32⟩
  | 18 => ⟨S8192x1, .f32⟩
  | 19 => ⟨S1x16, .f32⟩
  | 20 => ⟨S8192x16, .f32⟩
  | 21 => ⟨S8192x16, .f32⟩
  | 22 => ⟨S8192x16, .f32⟩
  | 23 => ⟨S_, .f32⟩
  | 24 => ⟨S8192x96, .f32⟩
  | 25 => ⟨S8192x16, .f32⟩
  | 26 => ⟨S8192x16, .f32⟩
  | 27 => ⟨S8192x128, .f32⟩
  | 28 => ⟨S8192x16, .f32⟩
  | 29 => ⟨S8192x16, .f32⟩
  | 30 => ⟨S8192x128, .f32⟩
  | 31 => ⟨S1x8192x1x128, .f32⟩
  | 32 => ⟨S2x8192x1x128, .f32⟩
  | 33 => ⟨S16384x128, .f32⟩
  | 34 => ⟨S1x8192x1x128, .f32⟩
  | 35 => ⟨S2x8192x1x128, .f32⟩
  | 36 => ⟨S16384x128, .f32⟩
  | 37 => ⟨S1024x256, .f32⟩
  | 38 => ⟨S1024x128, .f32⟩
  | 39 => ⟨S1024x128, .f32⟩
  | 40 => ⟨S1024x128, .f32⟩
  | 41 => ⟨S1024x4, .f32⟩
  | 42 => ⟨S1024x32, .f32⟩
  | 43 => ⟨S1024x256, .f32⟩
  | 44 => ⟨S1024x128, .f32⟩
  | 45 => ⟨S1024x32, .f32⟩
  | 46 => ⟨S1024x512, .f32⟩
  | 47 => ⟨S_, .f32⟩
  | 48 => ⟨S1024x2560, .f32⟩
  | 49 => ⟨S1024x64, .f32⟩
  | 50 => ⟨S_, .i32⟩
  | 51 => ⟨S1, .i32⟩
  | 52 => ⟨S1024x2560, .f32⟩
  | 53 => ⟨S1024x64, .f32⟩
  | 54 => ⟨S_, .i32⟩
  | 55 => ⟨S1, .i32⟩
  | 56 => ⟨S1024x2560, .f32⟩
  | 57 => ⟨S1024x64, .f32⟩
  | 58 => ⟨S_, .i32⟩
  | 59 => ⟨S1, .i32⟩
  | 60 => ⟨S1024x2560, .f32⟩
  | 61 => ⟨S1024x64, .f32⟩
  | 62 => ⟨S_, .i32⟩
  | 63 => ⟨S1, .i32⟩
  | 64 => ⟨S1024x2560, .f32⟩
  | 65 => ⟨S_, .i32⟩
  | 66 => ⟨S1, .i32⟩
  | 67 => ⟨S1024x2560, .f32⟩
  | 68 => ⟨S_, .i32⟩
  | 69 => ⟨S1, .i32⟩
  | 70 => ⟨S1024x2560, .f32⟩
  | 71 => ⟨S1024x32, .f32⟩
  | 72 => ⟨S_, .i32⟩
  | 73 => ⟨S1, .i32⟩
  | 74 => ⟨S1024x2560, .f32⟩
  | 75 => ⟨S1024x32, .f32⟩
  | 76 => ⟨S_, .i32⟩
  | 77 => ⟨S1, .i32⟩
  | 78 => ⟨S1024x2560, .f32⟩
  | 79 => ⟨S1024x32, .f32⟩
  | 80 => ⟨S_, .i32⟩
  | 81 => ⟨S1, .i32⟩
  | 82 => ⟨S1024x2560, .f32⟩
  | 83 => ⟨S1024x32, .f32⟩
  | 84 => ⟨S_, .i32⟩
  | 85 => ⟨S1, .i32⟩
  | 86 => ⟨S1024x2560, .f32⟩
  | 87 => ⟨S_, .i32⟩
  | 88 => ⟨S1, .i32⟩
  | 89 => ⟨S1024x2560, .f32⟩
  | 90 => ⟨S_, .i32⟩
  | 91 => ⟨S1, .i32⟩
  | 92 => ⟨S1024x2560, .f32⟩
  | 93 => ⟨S_, .i32⟩
  | 94 => ⟨S1, .i32⟩
  | 95 => ⟨S1024x2560, .f32⟩
  | 96 => ⟨S_, .i32⟩
  | 97 => ⟨S1, .i32⟩
  | 98 => ⟨S1024x2560, .f32⟩
  | 99 => ⟨S1024x16, .f32⟩
  | 100 => ⟨S1024x16, .f32⟩
  | 101 => ⟨S_, .i32⟩
  | 102 => ⟨S1, .i32⟩
  | 103 => ⟨S1024x2560, .f32⟩
  | 104 => ⟨S1024x16, .f32⟩
  | 105 => ⟨S_, .i32⟩
  | 106 => ⟨S1, .i32⟩
  | 107 => ⟨S1024x2560, .f32⟩
  | 108 => ⟨S_, .i32⟩
  | 109 => ⟨S1, .i32⟩
  | 110 => ⟨S1024x2560, .f32⟩
  | 111 => ⟨S_, .i32⟩
  | 112 => ⟨S1, .i32⟩
  | 113 => ⟨S1024x2560, .f32⟩
  | 114 => ⟨S_, .f32⟩
  | 115 => ⟨S256x1280, .f32⟩
  | 116 => ⟨S_, .f32⟩
  | 117 => ⟨S256x512, .f32⟩
  | 118 => ⟨S256x1x64, .f32⟩
  | 119 => ⟨S256x64, .f32⟩
  | 120 => ⟨S_, .i32⟩
  | 121 => ⟨S1, .i32⟩
  | 122 => ⟨S256x1280, .f32⟩
  | 123 => ⟨S256x1x32, .f32⟩
  | 124 => ⟨S256x32, .f32⟩
  | 125 => ⟨S_, .i32⟩
  | 126 => ⟨S1, .i32⟩
  | 127 => ⟨S256x1280, .f32⟩
  | _ => ⟨S2x8192x1024, .f32⟩

abbrev hbmTy0_1 (i : Nat) : BufTy := match i % 128 with
  | 0 => ⟨S256x16, .f32⟩
  | 1 => ⟨S256x16, .f32⟩
  | 2 => ⟨S_, .i32⟩
  | 3 => ⟨S1, .i32⟩
  | 4 => ⟨S256x1280, .f32⟩
  | 5 => ⟨S256x16, .f32⟩
  | 6 => ⟨S_, .i32⟩
  | 7 => ⟨S1, .i32⟩
  | 8 => ⟨S256x1280, .f32⟩
  | 9 => ⟨S128x1x64, .f32⟩
  | 10 => ⟨S128x64, .f32⟩
  | 11 => ⟨S64x128, .f32⟩
  | 12 => ⟨S_, .i32⟩
  | 13 => ⟨S1, .i32⟩
  | 14 => ⟨S_, .i32⟩
  | 15 => ⟨S1, .i32⟩
  | 16 => ⟨S2, .i32⟩
  | 17 => ⟨S256x512, .f32⟩
  | 18 => ⟨S256x1x64, .f32⟩
  | 19 => ⟨S256x64, .f32⟩
  | 20 => ⟨S_, .i32⟩
  | 21 => ⟨S1, .i32⟩
  | 22 => ⟨S256x1280, .f32⟩
  | 23 => ⟨S256x1x32, .f32⟩
  | 24 => ⟨S256x32, .f32⟩
  | 25 => ⟨S_, .i32⟩
  | 26 => ⟨S1, .i32⟩
  | 27 => ⟨S256x1280, .f32⟩
  | 28 => ⟨S256x16, .f32⟩
  | 29 => ⟨S256x16, .f32⟩
  | 30 => ⟨S_, .i32⟩
  | 31 => ⟨S1, .i32⟩
  | 32 => ⟨S256x1280, .f32⟩
  | 33 => ⟨S256x16, .f32⟩
  | 34 => ⟨S_, .i32⟩
  | 35 => ⟨S1, .i32⟩
  | 36 => ⟨S256x1280, .f32⟩
  | 37 => ⟨S128x1x64, .f32⟩
  | 38 => ⟨S128x64, .f32⟩
  | 39 => ⟨S64x128, .f32⟩
  | 40 => ⟨S_, .i32⟩
  | 41 => ⟨S1, .i32⟩
  | 42 => ⟨S_, .i32⟩
  | 43 => ⟨S1, .i32⟩
  | 44 => ⟨S2, .i32⟩
  | 45 => ⟨S256x512, .f32⟩
  | 46 => ⟨S256x1x64, .f32⟩
  | 47 => ⟨S256x64, .f32⟩
  | 48 => ⟨S_, .i32⟩
  | 49 => ⟨S1, .i32⟩
  | 50 => ⟨S256x1280, .f32⟩
  | 51 => ⟨S256x1x32, .f32⟩
  | 52 => ⟨S256x32, .f32⟩
  | 53 => ⟨S_, .i32⟩
  | 54 => ⟨S1, .i32⟩
  | 55 => ⟨S256x1280, .f32⟩
  | 56 => ⟨S256x16, .f32⟩
  | 57 => ⟨S256x16, .f32⟩
  | 58 => ⟨S_, .i32⟩
  | 59 => ⟨S1, .i32⟩
  | 60 => ⟨S256x1280, .f32⟩
  | 61 => ⟨S256x16, .f32⟩
  | 62 => ⟨S_, .i32⟩
  | 63 => ⟨S1, .i32⟩
  | 64 => ⟨S256x1280, .f32⟩
  | 65 => ⟨S128x1x64, .f32⟩
  | 66 => ⟨S128x64, .f32⟩
  | 67 => ⟨S64x128, .f32⟩
  | 68 => ⟨S_, .i32⟩
  | 69 => ⟨S1, .i32⟩
  | 70 => ⟨S_, .i32⟩
  | 71 => ⟨S1, .i32⟩
  | 72 => ⟨S2, .i32⟩
  | 73 => ⟨S256x512, .f32⟩
  | 74 => ⟨S256x1x64, .f32⟩
  | 75 => ⟨S256x64, .f32⟩
  | 76 => ⟨S_, .i32⟩
  | 77 => ⟨S1, .i32⟩
  | 78 => ⟨S256x1280, .f32⟩
  | 79 => ⟨S256x1x32, .f32⟩
  | 80 => ⟨S256x32, .f32⟩
  | 81 => ⟨S_, .i32⟩
  | 82 => ⟨S1, .i32⟩
  | 83 => ⟨S256x1280, .f32⟩
  | 84 => ⟨S256x16, .f32⟩
  | 85 => ⟨S256x16, .f32⟩
  | 86 => ⟨S_, .i32⟩
  | 87 => ⟨S1, .i32⟩
  | 88 => ⟨S256x1280, .f32⟩
  | 89 => ⟨S256x16, .f32⟩
  | 90 => ⟨S_, .i32⟩
  | 91 => ⟨S1, .i32⟩
  | 92 => ⟨S256x1280, .f32⟩
  | 93 => ⟨S128x1x64, .f32⟩
  | 94 => ⟨S128x64, .f32⟩
  | 95 => ⟨S64x128, .f32⟩
  | 96 => ⟨S_, .i32⟩
  | 97 => ⟨S1, .i32⟩
  | 98 => ⟨S_, .i32⟩
  | 99 => ⟨S1, .i32⟩
  | 100 => ⟨S2, .i32⟩
  | 101 => ⟨S256x512, .f32⟩
  | 102 => ⟨S1024x2560, .bf16⟩
  | 103 => ⟨S256x1280, .bf16⟩
  | 104 => ⟨S256x512, .bf16⟩
  | 105 => ⟨S16384x1024, .f32⟩
  | 106 => ⟨S1x256, .f32⟩
  | 107 => ⟨S1x128, .f32⟩
  | 108 => ⟨S16384x512, .bf16⟩
  | 109 => ⟨S16384x128, .f32⟩
  | 110 => ⟨S16384x128, .f32⟩
  | 111 => ⟨S16384x256, .bf16⟩
  | 112 => ⟨S16384x512, .bf16⟩
  | 113 => ⟨S16384x128, .f32⟩
  | 114 => ⟨S16384x128, .bf16⟩
  | 115 => ⟨S16384x128, .f32⟩
  | 116 => ⟨S16384x128, .f32⟩
  | 117 => ⟨S16384x256, .bf16⟩
  | 118 => ⟨S16384x1024, .bf16⟩
  | 119 => ⟨S16384x512, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2560, .bf16⟩
  | .local _ .vmem, ⟨7, _⟩ => ⟨S1x256, .f32⟩
  | .local _ .vmem, ⟨8, _⟩ => ⟨S1x128, .f32⟩
  | .local _ .vmem, ⟨9, _⟩ => ⟨S256x1280, .bf16⟩
  | .local _ .vmem, ⟨10, _⟩ => ⟨S256x512, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x512, .bf16⟩
  | .local _ .vmem, ⟨16, _⟩ => ⟨S512x512, .bf16⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x256, .bf16⟩
  | .local _ .vmem, ⟨22, _⟩ => ⟨S512x256, .bf16⟩
  | .local _ .vmem, ⟨23, _⟩ => ⟨S512x512, .bf16⟩
  | .local _ .vmem, ⟨24, _⟩ => ⟨S512x512, .bf16⟩
  | .local _ .vmem, ⟨25, _⟩ => ⟨S512x128, .f32⟩
  | .local _ .vmem, ⟨26, _⟩ => ⟨S512x128, .f32⟩
  | .local _ .vmem, ⟨27, _⟩ => ⟨S512x128, .bf16⟩
  | .local _ .vmem, ⟨28, _⟩ => ⟨S512x128, .bf16⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S512x128, .f32⟩
  | .local _ .vmem, ⟨33, _⟩ => ⟨S512x256, .bf16⟩
  | .local _ .vmem, ⟨34, _⟩ => ⟨S512x256, .bf16⟩
  | .local _ .vmem, ⟨35, _⟩ => ⟨S512x1024, .bf16⟩
  | .local _ .vmem, ⟨36, _⟩ => ⟨S512x1024, .bf16⟩
  | .local _ .vmem, ⟨37, _⟩ => ⟨S512x512, .f32⟩
  | .local _ .vmem, ⟨38, _⟩ => ⟨S512x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_v37 : Ref sig .tc := ⟨.hbm, 49, rfl⟩
abbrev main_c : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_3 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_4 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_5 : Ref sig .tc := ⟨.hbm, 62, rfl⟩
abbrev main_v47 : Ref sig .tc := ⟨.hbm, 63, rfl⟩
abbrev main_v48 : Ref sig .tc := ⟨.hbm, 64, rfl⟩
abbrev main_c_6 : Ref sig .tc := ⟨.hbm, 65, rfl⟩
abbrev main_v49 : Ref sig .tc := ⟨.hbm, 66, rfl⟩
abbrev main_v50 : Ref sig .tc := ⟨.hbm, 67, rfl⟩
abbrev main_c_7 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_9 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_11 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_c_13 : Ref sig .tc := ⟨.hbm, 90, rfl⟩
abbrev main_v67 : Ref sig .tc := ⟨.hbm, 91, rfl⟩
abbrev main_v68 : Ref sig .tc := ⟨.hbm, 92, rfl⟩
abbrev main_c_14 : Ref sig .tc := ⟨.hbm, 93, rfl⟩
abbrev main_v69 : Ref sig .tc := ⟨.hbm, 94, rfl⟩
abbrev main_v70 : Ref sig .tc := ⟨.hbm, 95, rfl⟩
abbrev main_c_15 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_c_17 : Ref sig .tc := ⟨.hbm, 105, rfl⟩
abbrev main_v78 : Ref sig .tc := ⟨.hbm, 106, rfl⟩
abbrev main_v79 : Ref sig .tc := ⟨.hbm, 107, rfl⟩
abbrev main_c_18 : Ref sig .tc := ⟨.hbm, 108, rfl⟩
abbrev main_v80 : Ref sig .tc := ⟨.hbm, 109, rfl⟩
abbrev main_v81 : Ref sig .tc := ⟨.hbm, 110, rfl⟩
abbrev main_c_19 : Ref sig .tc := ⟨.hbm, 111, rfl⟩
abbrev main_v82 : Ref sig .tc := ⟨.hbm, 112, rfl⟩
abbrev main_v83 : Ref sig .tc := ⟨.hbm, 113, rfl⟩
abbrev main_cst_20 : Ref sig .tc := ⟨.hbm, 114, rfl⟩
abbrev main_v84 : Ref sig .tc := ⟨.hbm, 115, rfl⟩
abbrev main_cst_21 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_c_22 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_c_23 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_c_24 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_c_25 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_26 : Ref sig .tc := ⟨.hbm, 140, rfl⟩
abbrev main_v104 : Ref sig .tc := ⟨.hbm, 141, rfl⟩
abbrev main_c_27 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_c_28 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_c_29 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_c_30 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_c_31 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_c_32 : Ref sig .tc := ⟨.hbm, 168, rfl⟩
abbrev main_v126 : Ref sig .tc := ⟨.hbm, 169, rfl⟩
abbrev main_c_33 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_c_34 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_c_35 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_c_36 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_c_37 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_c_38 : Ref sig .tc := ⟨.hbm, 196, rfl⟩
abbrev main_v148 : Ref sig .tc := ⟨.hbm, 197, rfl⟩
abbrev main_c_39 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_c_40 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_c_41 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_c_42 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_c_43 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_c_44 : Ref sig .tc := ⟨.hbm, 224, rfl⟩
abbrev main_v170 : Ref sig .tc := ⟨.hbm, 225, rfl⟩
abbrev main_c_45 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180_0 : Ref sig .tc := ⟨.hbm, 236, rfl⟩
abbrev main_v180_1 : Ref sig .tc := ⟨.hbm, 237, rfl⟩
abbrev main_v180_2 : Ref sig .tc := ⟨.hbm, 238, rfl⟩
abbrev main_v180_3 : Ref sig .tc := ⟨.hbm, 239, rfl⟩
abbrev main_v180_4 : Ref sig .tc := ⟨.hbm, 240, rfl⟩
abbrev main_v180_5 : Ref sig .tc := ⟨.hbm, 241, rfl⟩
abbrev main_v180_6 : Ref sig .tc := ⟨.hbm, 242, rfl⟩
abbrev main_v180_7 : Ref sig .tc := ⟨.hbm, 243, rfl⟩
abbrev main_v180_8 : Ref sig .tc := ⟨.hbm, 244, rfl⟩
abbrev main_v180_9 : Ref sig .tc := ⟨.hbm, 245, rfl⟩
abbrev main_v180_10 : Ref sig .tc := ⟨.hbm, 246, rfl⟩
abbrev main_v180_11 : Ref sig .tc := ⟨.hbm, 247, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1280 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference3Ideal.lean ====
abbrev S2x8192x1024 : Shape := ⟨3, ![2, 8192, 1024]⟩
abbrev S2x1x1024 : Shape := ⟨3, ![2, 1, 1024]⟩
abbrev S1024x1604 : Shape := ⟨2, ![1024, 1604]⟩
abbrev S256 : Shape := ⟨1, ![256]⟩
abbrev S128 : Shape := ⟨1, ![128]⟩
abbrev S256x4x96 : Shape := ⟨3, ![256, 4, 96]⟩
abbrev S128x4x64 : Shape := ⟨3, ![128, 4, 64]⟩
abbrev S8192 : Shape := ⟨1, ![8192]⟩
abbrev S_ : Shape := ⟨0, ![]⟩
abbrev S2x8192x1604 : Shape := ⟨3, ![2, 8192, 1604]⟩
abbrev S2x8192x256 : Shape := ⟨3, ![2, 8192, 256]⟩
abbrev S2x8192x128 : Shape := ⟨3, ![2, 8192, 128]⟩
abbrev S2x8192x4 : Shape := ⟨3, ![2, 8192, 4]⟩
abbrev S2x8192x32 : Shape := ⟨3, ![2, 8192, 32]⟩
abbrev S2x8192x512 : Shape := ⟨3, ![2, 8192, 512]⟩
abbrev S2x8192x2x2x64 : Shape := ⟨5, ![2, 8192, 2, 2, 64]⟩
abbrev S2x8192x4x32 : Shape := ⟨4, ![2, 8192, 4, 32]⟩
abbrev S2x8192 : Shape := ⟨2, ![2, 8192]⟩
abbrev S2x8192x1 : Shape := ⟨3, ![2, 8192, 1]⟩
abbrev S1x1x256 : Shape := ⟨3, ![1, 1, 256]⟩
abbrev S2x8192x4x96 : Shape := ⟨4, ![2, 8192, 4, 96]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S2x8192x4x16 : Shape := ⟨4, ![2, 8192, 4, 16]⟩
abbrev S1x8192x1x16 : Shape := ⟨4, ![1, 8192, 1, 16]⟩
abbrev S2x8192x4x64 : Shape := ⟨4, ![2, 8192, 4, 64]⟩
abbrev S4x128x2x8192 : Shape := ⟨4, ![4, 128, 2, 8192]⟩
abbrev S2x8192x4x128 : Shape := ⟨4, ![2, 8192, 4, 128]⟩
abbrev S1x1x128 : Shape := ⟨3, ![1, 1, 128]⟩
abbrev S2x8192x1x32 : Shape := ⟨4, ![2, 8192, 1, 32]⟩
abbrev S2x8192x1x16 : Shape := ⟨4, ![2, 8192, 1, 16]⟩
abbrev S2x8192x2x64 : Shape := ⟨4, ![2, 8192, 2, 64]⟩
abbrev S2x8192x1x2x64 : Shape := ⟨5, ![2, 8192, 1, 2, 64]⟩
abbrev S2x8192x2x128 : Shape := ⟨4, ![2, 8192, 2, 128]⟩
abbrev S2x8192x36 : Shape := ⟨3, ![2, 8192, 36]⟩
abbrev S2x8192x92 : Shape := ⟨3, ![2, 8192, 92]⟩
abbrev S2x8192x96 : Shape := ⟨3, ![2, 8192, 96]⟩
abbrev S16384x512 : Shape := ⟨2, ![16384, 512]⟩
abbrev S16384x128 : Shape := ⟨2, ![16384, 128]⟩
abbrev S16384x256 : Shape := ⟨2, ![16384, 256]⟩
abbrev S2x8192x4x256 : Shape := ⟨4, ![2, 8192, 4, 256]⟩
abbrev S16384x1024 : Shape := ⟨2, ![16384, 1024]⟩

abbrev nBuf : Space → Nat
  | .hbm => 190
  | .vmem => 0
  | .smem => 0
  | _ => 0

abbrev hbmTy0_0 (i : Nat) : BufTy := match i % 128 with
  | 0 => ⟨S2x8192x1024, .f32⟩
  | 1 => ⟨S2x1x1024, .f32⟩
  | 2 => ⟨S2x1x1024, .f32⟩
  | 3 => ⟨S1024x1604, .f32⟩
  | 4 => ⟨S256, .f32⟩
  | 5 => ⟨S128, .f32⟩
  | 6 => ⟨S256x4x96, .f32⟩
  | 7 => ⟨S128x4x64, .f32⟩
  | 8 => ⟨S8192, .i32⟩
  | 9 => ⟨S_, .f32⟩
  | 10 => ⟨S2x1x1024, .f32⟩
  | 11 => ⟨S2x1x1024, .f32⟩
  | 12 => ⟨S2x8192x1024, .f32⟩
  | 13 => ⟨S2x8192x1024, .f32⟩
  | 14 => ⟨S2x8192x1024, .f32⟩
  | 15 => ⟨S2x8192x1024, .f32⟩
  | 16 => ⟨S2x8192x1604, .f32⟩
  | 17 => ⟨S2x8192x256, .f32⟩
  | 18 => ⟨S2x8192x128, .f32⟩
  | 19 => ⟨S2x8192x128, .f32⟩
  | 20 => ⟨S2x8192x128, .f32⟩
  | 21 => ⟨S2x8192x4, .f32⟩
  | 22 => ⟨S2x8192x32, .f32⟩
  | 23 => ⟨S2x8192x256, .f32⟩
  | 24 => ⟨S2x8192x128, .f32⟩
  | 25 => ⟨S2x8192x32, .f32⟩
  | 26 => ⟨S2x8192x512, .f32⟩
  | 27 => ⟨S2x8192x2x2x64, .f32⟩
  | 28 => ⟨S_, .f32⟩
  | 29 => ⟨S2x8192x2x2x64, .f32⟩
  | 30 => ⟨S2x8192x2x2x64, .f32⟩
  | 31 => ⟨S2x8192x4x32, .f32⟩
  | 32 => ⟨S_, .f32⟩
  | 33 => ⟨S2x8192x4x32, .f32⟩
  | 34 => ⟨S2x8192x4x32, .f32⟩
  | 35 => ⟨S_, .f32⟩
  | 36 => ⟨S2x8192x4, .f32⟩
  | 37 => ⟨S2x8192x4, .f32⟩
  | 38 => ⟨S2x8192x256, .f32⟩
  | 39 => ⟨S_, .f32⟩
  | 40 => ⟨S2x8192, .f32⟩
  | 41 => ⟨S2x8192x1, .f32⟩
  | 42 => ⟨S_, .f32⟩
  | 43 => ⟨S2x8192x1, .f32⟩
  | 44 => ⟨S2x8192x1, .f32⟩
  | 45 => ⟨S_, .f32⟩
  | 46 => ⟨S2x8192x1, .f32⟩
  | 47 => ⟨S2x8192x1, .f32⟩
  | 48 => ⟨S2x8192x1, .f32⟩
  | 49 => ⟨S2x8192x256, .f32⟩
  | 50 => ⟨S2x8192x256, .f32⟩
  | 51 => ⟨S1x1x256, .f32⟩
  | 52 => ⟨S2x8192x256, .f32⟩
  | 53 => ⟨S2x8192x256, .f32⟩
  | 54 => ⟨S2x8192x4x96, .f32⟩
  | 55 => ⟨S2x8192x4x32, .f32⟩
  | 56 => ⟨S16, .f32⟩
  | 57 => ⟨S16, .f32⟩
  | 58 => ⟨S_, .f32⟩
  | 59 => ⟨S16, .f32⟩
  | 60 => ⟨S16, .f32⟩
  | 61 => ⟨S_, .f32⟩
  | 62 => ⟨S16, .f32⟩
  | 63 => ⟨S16, .f32⟩
  | 64 => ⟨S8192, .f32⟩
  | 65 => ⟨S8192x1, .f32⟩
  | 66 => ⟨S1x16, .f32⟩
  | 67 => ⟨S8192x16, .f32⟩
  | 68 => ⟨S8192x16, .f32⟩
  | 69 => ⟨S8192x16, .f32⟩
  | 70 => ⟨S8192x16, .f32⟩
  | 71 => ⟨S8192x1x16, .f32⟩
  | 72 => ⟨S8192x16, .f32⟩
  | 73 => ⟨S8192x1x16, .f32⟩
  | 74 => ⟨S2x8192x4x16, .f32⟩
  | 75 => ⟨S2x8192x4x16, .f32⟩
  | 76 => ⟨S1x8192x1x16, .f32⟩
  | 77 => ⟨S2x8192x4x16, .f32⟩
  | 78 => ⟨S2x8192x4x16, .f32⟩
  | 79 => ⟨S1x8192x1x16, .f32⟩
  | 80 => ⟨S2x8192x4x16, .f32⟩
  | 81 => ⟨S2x8192x4x16, .f32⟩
  | 82 => ⟨S2x8192x4x16, .f32⟩
  | 83 => ⟨S1x8192x1x16, .f32⟩
  | 84 => ⟨S2x8192x4x16, .f32⟩
  | 85 => ⟨S2x8192x4x16, .f32⟩
  | 86 => ⟨S1x8192x1x16, .f32⟩
  | 87 => ⟨S2x8192x4x16, .f32⟩
  | 88 => ⟨S2x8192x4x16, .f32⟩
  | 89 => ⟨S2x8192x4x16, .f32⟩
  | 90 => ⟨S2x8192x4x32, .f32⟩
  | 91 => ⟨S2x8192x4x64, .f32⟩
  | 92 => ⟨S4x128x2x8192, .f32⟩
  | 93 => ⟨S2x8192x4x128, .f32⟩
  | 94 => ⟨S2x8192x128, .f32⟩
  | 95 => ⟨S_, .f32⟩
  | 96 => ⟨S2x8192, .f32⟩
  | 97 => ⟨S2x8192x1, .f32⟩
  | 98 => ⟨S_, .f32⟩
  | 99 => ⟨S2x8192x1, .f32⟩
  | 100 => ⟨S2x8192x1, .f32⟩
  | 101 => ⟨S_, .f32⟩
  | 102 => ⟨S2x8192x1, .f32⟩
  | 103 => ⟨S2x8192x1, .f32⟩
  | 104 => ⟨S2x8192x1, .f32⟩
  | 105 => ⟨S2x8192x128, .f32⟩
  | 106 => ⟨S2x8192x128, .f32⟩
  | 107 => ⟨S1x1x128, .f32⟩
  | 108 => ⟨S2x8192x128, .f32⟩
  | 109 => ⟨S2x8192x128, .f32⟩
  | 110 => ⟨S2x8192x1x32, .f32⟩
  | 111 => ⟨S16, .f32⟩
  | 112 => ⟨S16, .f32⟩
  | 113 => ⟨S_, .f32⟩
  | 114 => ⟨S16, .f32⟩
  | 115 => ⟨S16, .f32⟩
  | 116 => ⟨S_, .f32⟩
  | 117 => ⟨S16, .f32⟩
  | 118 => ⟨S16, .f32⟩
  | 119 => ⟨S8192, .f32⟩
  | 120 => ⟨S8192x1, .f32⟩
  | 121 => ⟨S1x16, .f32⟩
  | 122 => ⟨S8192x16, .f32⟩
  | 123 => ⟨S8192x16, .f32⟩
  | 124 => ⟨S8192x16, .f32⟩
  | 125 => ⟨S8192x16, .f32⟩
  | 126 => ⟨S8192x1x16, .f32⟩
  | 127 => ⟨S8192x16, .f32⟩
  | _ => ⟨S2x8192x1024, .f32⟩

abbrev hbmTy0_1 (i : Nat) : BufTy := match i % 128 with
  | 0 => ⟨S8192x1x16, .f32⟩
  | 1 => ⟨S2x8192x1x16, .f32⟩
  | 2 => ⟨S2x8192x1x16, .f32⟩
  | 3 => ⟨S1x8192x1x16, .f32⟩
  | 4 => ⟨S2x8192x1x16, .f32⟩
  | 5 => ⟨S2x8192x1x16, .f32⟩
  | 6 => ⟨S1x8192x1x16, .f32⟩
  | 7 => ⟨S2x8192x1x16, .f32⟩
  | 8 => ⟨S2x8192x1x16, .f32⟩
  | 9 => ⟨S2x8192x1x16, .f32⟩
  | 10 => ⟨S1x8192x1x16, .f32⟩
  | 11 => ⟨S2x8192x1x16, .f32⟩
  | 12 => ⟨S2x8192x1x16, .f32⟩
  | 13 => ⟨S1x8192x1x16, .f32⟩
  | 14 => ⟨S2x8192x1x16, .f32⟩
  | 15 => ⟨S2x8192x1x16, .f32⟩
  | 16 => ⟨S2x8192x1x16, .f32⟩
  | 17 => ⟨S2x8192x1x32, .f32⟩
  | 18 => ⟨S2x8192x32, .f32⟩
  | 19 => ⟨S_, .f32⟩
  | 20 => ⟨S2x8192x2x64, .f32⟩
  | 21 => ⟨S2x8192x1x2x64, .f32⟩
  | 22 => ⟨S2x8192x2x64, .f32⟩
  | 23 => ⟨S2x8192x2x128, .f32⟩
  | 24 => ⟨S2x8192x1x2x64, .f32⟩
  | 25 => ⟨S2x8192x2x64, .f32⟩
  | 26 => ⟨S2x8192x2x128, .f32⟩
  | 27 => ⟨S2x8192x4x128, .f32⟩
  | 28 => ⟨S2x8192x36, .f32⟩
  | 29 => ⟨S_, .f32⟩
  | 30 => ⟨S2x8192x92, .f32⟩
  | 31 => ⟨S2x8192x128, .f32⟩
  | 32 => ⟨S_, .f32⟩
  | 33 => ⟨S2x8192x96, .f32⟩
  | 34 => ⟨S2x8192x128, .f32⟩
  | 35 => ⟨S16384x512, .f32⟩
  | 36 => ⟨S16384x512, .bf16⟩
  | 37 => ⟨S16384x128, .f32⟩
  | 38 => ⟨S16384x128, .f32⟩
  | 39 => ⟨S2x8192x256, .f32⟩
  | 40 => ⟨S16384x256, .f32⟩
  | 41 => ⟨S16384x256, .bf16⟩
  | 42 => ⟨S_, .f32⟩
  | 43 => ⟨S2x8192x4x96, .f32⟩
  | 44 => ⟨S2x8192x4x128, .f32⟩
  | 45 => ⟨S16384x512, .f32⟩
  | 46 => ⟨S16384x512, .bf16⟩
  | 47 => ⟨S16384x128, .f32⟩
  | 48 => ⟨S16384x128, .f32⟩
  | 49 => ⟨S16384x128, .bf16⟩
  | 50 => ⟨S16384x128, .f32⟩
  | 51 => ⟨S16384x128, .f32⟩
  | 52 => ⟨S2x8192x256, .f32⟩
  | 53 => ⟨S16384x256, .f32⟩
  | 54 => ⟨S16384x256, .bf16⟩
  | 55 => ⟨S_, .f32⟩
  | 56 => ⟨S2x8192x4x96, .f32⟩
  | 57 => ⟨S2x8192x4x128, .f32⟩
  | 58 => ⟨S2x8192x4x256, .f32⟩
  | 59 => ⟨S16384x1024, .f32⟩
  | 60 => ⟨S16384x1024, .bf16⟩
  | 61 => ⟨S16384x512, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_8 : Ref sig .tc := ⟨.hbm, 95, rfl⟩
abbrev main_v78 : Ref sig .tc := ⟨.hbm, 96, rfl⟩
abbrev main_v79 : Ref sig .tc := ⟨.hbm, 97, rfl⟩
abbrev main_cst_9 : Ref sig .tc := ⟨.hbm, 98, rfl⟩
abbrev main_v80 : Ref sig .tc := ⟨.hbm, 99, rfl⟩
abbrev main_v81 : Ref sig .tc := ⟨.hbm, 100, rfl⟩
abbrev main_cst_10 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_11 : Ref sig .tc := ⟨.hbm, 113, rfl⟩
abbrev main_v93 : Ref sig .tc := ⟨.hbm, 114, rfl⟩
abbrev main_v94 : Ref sig .tc := ⟨.hbm, 115, rfl⟩
abbrev main_cst_12 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_cst_13 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_cst_14 : Ref sig .tc := ⟨.hbm, 157, rfl⟩
abbrev main_v134 : Ref sig .tc := ⟨.hbm, 158, rfl⟩
abbrev main_v135 : Ref sig .tc := ⟨.hbm, 159, rfl⟩
abbrev main_cst_15 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_cst_16 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_cst_17 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩

abbrev nD : Nat := 1
abbrev τ : Topo := Topo.v7x

variable {F : FTy → Type} [FloatOps F]
-- ==== Kernel4.lean ====
abbrev S2x8192x1024 : Shape := ⟨3, ![2, 8192, 1024]⟩
abbrev S2x1x1024 : Shape := ⟨3, ![2, 1, 1024]⟩
abbrev S2x8192x256 : Shape := ⟨3, ![2, 8192, 256]⟩
abbrev S2x8192x512 : Shape := ⟨3, ![2, 8192, 512]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S16384x1024 : Shape := ⟨2, ![16384, 1024]⟩
abbrev S16384x256 : Shape := ⟨2, ![16384, 256]⟩
abbrev S16384x512 : Shape := ⟨2, ![16384, 512]⟩
abbrev S256x1024 : Shape := ⟨2, ![256, 1024]⟩
abbrev S512x1024 : Shape := ⟨2, ![512, 1024]⟩
abbrev S1x512 : Shape := ⟨2, ![1, 512]⟩
abbrev S1x1024 : Shape := ⟨2, ![1, 1024]⟩
abbrev S1x1x1024 : Shape := ⟨3, ![1, 1, 1024]⟩
abbrev S512x256 : Shape := ⟨2, ![512, 256]⟩
abbrev S512x1 : Shape := ⟨2, ![512, 1]⟩

abbrev nBuf : Space → Nat
  | .hbm => 25
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x8192x256, .bf16⟩
  | .hbm, ⟨3, _⟩ => ⟨S2x8192x256, .bf16⟩
  | .hbm, ⟨4, _⟩ => ⟨S2x8192x512, .f32⟩
  | .hbm, ⟨5, _⟩ => ⟨S512x512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S16384x1024, .f32⟩
  | .hbm, ⟨11, _⟩ => ⟨S16384x256, .bf16⟩
  | .hbm, ⟨12, _⟩ => ⟨S16384x256, .bf16⟩
  | .hbm, ⟨13, _⟩ => ⟨S16384x512, .f32⟩
  | .hbm, ⟨14, _⟩ => ⟨S256x1024, .f32⟩
  | .hbm, ⟨15, _⟩ => ⟨S256x1024, .bf16⟩
  | .hbm, ⟨16, _⟩ => ⟨S256x1024, .f32⟩
  | .hbm, ⟨17, _⟩ => ⟨S256x1024, .bf16⟩
  | .hbm, ⟨18, _⟩ => ⟨S512x1024, .f32⟩
  | .hbm, ⟨19, _⟩ => ⟨S512x1024, .bf16⟩
  | .hbm, ⟨20, _⟩ => ⟨S512x512, .bf16⟩
  | .hbm, ⟨21, _⟩ => ⟨S1x512, .f32⟩
  | .hbm, ⟨22, _⟩ => ⟨S1x1024, .f32⟩
  | .hbm, ⟨23, _⟩ => ⟨S1x1024, .f32⟩
  | .hbm, ⟨24, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S1x512, .f32⟩
  | .local _ .vmem, ⟨12, _⟩ => ⟨S256x1024, .bf16⟩
  | .local _ .vmem, ⟨13, _⟩ => ⟨S256x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S2x8192x1024 : Shape := ⟨3, ![2, 8192, 1024]⟩
abbrev S2x1x1024 : Shape := ⟨3, ![2, 1, 1024]⟩
abbrev S2x8192x256 : Shape := ⟨3, ![2, 8192, 256]⟩
abbrev S2x8192x512 : Shape := ⟨3, ![2, 8192, 512]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S_ : Shape := ⟨0, ![]⟩
abbrev S1x1x512 : Shape := ⟨3, ![1, 1, 512]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 83
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x8192x256, .bf16⟩
  | .hbm, ⟨3, _⟩ => ⟨S2x8192x256, .bf16⟩
  | .hbm, ⟨4, _⟩ => ⟨S2x8192x512, .f32⟩
  | .hbm, ⟨5, _⟩ => ⟨S512x512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S2x8192x512, .f32⟩
  | .hbm, ⟨11, _⟩ => ⟨S2x8192x512, .f32⟩
  | .hbm, ⟨12, _⟩ => ⟨S_, .f32⟩
  | .hbm, ⟨13, _⟩ => ⟨S2x8192x512, .f32⟩
  | .hbm, ⟨14, _⟩ => ⟨S2x8192x512, .f32⟩
  | .hbm, ⟨15, _⟩ => ⟨S2x8192x512, .f32⟩
  | .hbm, ⟨16, _⟩ => ⟨S_, .f32⟩
  | .hbm, ⟨17, _⟩ => ⟨S2x8192x512, .f32⟩
  | .hbm, ⟨18, _⟩ => ⟨S2x8192x512, .f32⟩
  | .hbm, ⟨19, _⟩ => ⟨S2x8192x512, .f32⟩
  | .hbm, ⟨20, _⟩ => ⟨S_, .f32⟩
  | .hbm, ⟨21, _⟩ => ⟨S2x8192x512, .f32⟩
  | .hbm, ⟨22, _⟩ => ⟨S2x8192x512, .f32⟩
  | .hbm, ⟨23, _⟩ => ⟨S_, .f32⟩
  | .hbm, ⟨24, _⟩ => ⟨S2x8192x512, .f32⟩
  | .hbm, ⟨25, _⟩ => ⟨S2x8192x512, .f32⟩
  | .hbm, ⟨26, _⟩ => ⟨S2x8192x512, .f32⟩
  | .hbm, ⟨27, _⟩ => ⟨S2x8192x512, .f32⟩
  | .hbm, ⟨28, _⟩ => ⟨S1x1x512, .f32⟩
  | .hbm, ⟨29, _⟩ => ⟨S2x8192x512, .f32⟩
  | .hbm, ⟨30, _⟩ => ⟨S2x8192x512, .f32⟩
  | .hbm, ⟨31, _⟩ => ⟨S2x8192x512, .f32⟩
  | .hbm, ⟨32, _⟩ => ⟨S2x8192x512, .f32⟩
  | .hbm, ⟨33, _⟩ => ⟨S_, .f32⟩
  | .hbm, ⟨34, _⟩ => ⟨S2x8192x512, .f32⟩
  | .hbm, ⟨35, _⟩ => ⟨S2x8192x512, .f32⟩
  | .hbm, ⟨36, _⟩ => ⟨S_, .f32⟩
  | .hbm, ⟨37, _⟩ => ⟨S2x8192x512, .f32⟩
  | .hbm, ⟨38, _⟩ => ⟨S2x8192x512, .f32⟩
  | .hbm, ⟨39, _⟩ => ⟨S2x8192x512, .f32⟩
  | .hbm, ⟨40, _⟩ => ⟨S2x8192x256, .f32⟩
  | .hbm, ⟨41, _⟩ => ⟨S2x8192x256, .f32⟩
  | .hbm, ⟨42, _⟩ => ⟨S2x8192x1024, .f32⟩
  | .hbm, ⟨43, _⟩ => ⟨S_, .f32⟩
  | .hbm, ⟨44, _⟩ => ⟨S2x8192x1024, .f32⟩
  | .hbm, ⟨45, _⟩ => ⟨S2x8192x1024, .f32⟩
  | .hbm, ⟨46, _⟩ => ⟨S_, .f32⟩
  | .hbm, ⟨47, _⟩ => ⟨S2x1x1024, .f32⟩
  | .hbm, ⟨48, _⟩ => ⟨S2x1x1024, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S2x8192x1024, .f32⟩
  | .hbm, ⟨53, _⟩ => ⟨S_, .f32⟩
  | .hbm, ⟨54, _⟩ => ⟨S2x8192, .f32⟩
  | .hbm, ⟨55, _⟩ => ⟨S2x8192x1, .f32⟩
  | .hbm, ⟨56, _⟩ => ⟨S_, .f32⟩
  | .hbm, ⟨57, _⟩ => ⟨S2x8192x1, .f32⟩
  | .hbm, ⟨58, _⟩ => ⟨S2x8192x1, .f32⟩
  | .hbm, ⟨59, _⟩ => ⟨S2x8192x1024, .f32⟩
  | .hbm, ⟨60, _⟩ => ⟨S2x8192x1024, .f32⟩
  | .hbm, ⟨61, _⟩ => ⟨S2x8192x1024, .f32⟩
  | .hbm, ⟨62, _⟩ => ⟨S_, .f32⟩
  | .hbm, ⟨63, _⟩ => ⟨S2x8192, .f32⟩
  | .hbm, ⟨64, _⟩ => ⟨S2x8192x1, .f32⟩
  | .hbm, ⟨65, _⟩ => ⟨S_, .f32⟩
  | .hbm, ⟨66, _⟩ => ⟨S2x8192x1, .f32⟩
  | .hbm, ⟨67, _⟩ => ⟨S2x8192x1, .f32⟩
  | .hbm, ⟨68, _⟩ => ⟨S2x8192x1024, .f32⟩
  | .hbm, ⟨69, _⟩ => ⟨S2x8192x1024, .f32⟩
  | .hbm, ⟨70, _⟩ => ⟨S_, .f32⟩
  | .hbm, ⟨71, _⟩ => ⟨S2x8192x1, .f32⟩
  | .hbm, ⟨72, _⟩ => ⟨S2x8192x1, .f32⟩
  | .hbm, ⟨73, _⟩ => ⟨S2x8192x1, .f32⟩
  | .hbm, ⟨74, _⟩ => ⟨S2x8192x1024, .f32⟩
  | .hbm, ⟨75, _⟩ => ⟨S2x8192x1024, .f32⟩
  | .hbm, ⟨76, _⟩ => ⟨S1x1x1024, .f32⟩
  | .hbm, ⟨77, _⟩ => ⟨S2x8192x1024, .f32⟩
  | .hbm, ⟨78, _⟩ => ⟨S2x8192x1024, .f32⟩
  | .hbm, ⟨79, _⟩ => ⟨S1x1x1024, .f32⟩
  | .hbm, ⟨80, _⟩ => ⟨S2x8192x1024, .f32⟩
  | .hbm, ⟨81, _⟩ => ⟨S2x8192x1024, .f32⟩
  | .hbm, ⟨82, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x1x1024 : Shape := ⟨3, ![2, 1, 1024]⟩
abbrev S1024x5632 : Shape := ⟨2, ![1024, 5632]⟩
abbrev S2816x1024 : Shape := ⟨2, ![2816, 1024]⟩
abbrev S1024 : Shape := ⟨1, ![1024]⟩
abbrev S16384x1024 : Shape := ⟨2, ![16384, 1024]⟩
abbrev S1024x2816 : Shape := ⟨2, ![1024, 2816]⟩
abbrev S1024x11x256 : Shape := ⟨3, ![1024, 11, 256]⟩
abbrev S11x1024x256 : Shape := ⟨3, ![11, 1024, 256]⟩
abbrev S11x256x1024 : Shape := ⟨3, ![11, 256, 1024]⟩
abbrev S1x1024 : Shape := ⟨2, ![1, 1024]⟩
abbrev S512x1024 : Shape := ⟨2, ![512, 1024]⟩
abbrev S1x1x1024 : Shape := ⟨3, ![1, 1, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩

abbrev nBuf : Space → Nat
  | .hbm => 22
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S16384x1024, .f32⟩
  | .hbm, ⟨9, _⟩ => ⟨S1024x2816, .f32⟩
  | .hbm, ⟨10, _⟩ => ⟨S1024x11x256, .f32⟩
  | .hbm, ⟨11, _⟩ => ⟨S11x1024x256, .f32⟩
  | .hbm, ⟨12, _⟩ => ⟨S11x1024x256, .bf16⟩
  | .hbm, ⟨13, _⟩ => ⟨S1024x2816, .f32⟩
  | .hbm, ⟨14, _⟩ => ⟨S1024x11x256, .f32⟩
  | .hbm, ⟨15, _⟩ => ⟨S11x1024x256, .f32⟩
  | .hbm, ⟨16, _⟩ => ⟨S11x1024x256, .bf16⟩
  | .hbm, ⟨17, _⟩ => ⟨S11x256x1024, .f32⟩
  | .hbm, ⟨18, _⟩ => ⟨S11x256x1024, .bf16⟩
  | .hbm, ⟨19, _⟩ => ⟨S1x1024, .f32⟩
  | .hbm, ⟨20, _⟩ => ⟨S1x1024, .f32⟩
  | .hbm, ⟨21, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S11x1024x256, .bf16⟩
  | .local _ .vmem, ⟨9, _⟩ => ⟨S11x1024x256, .bf16⟩
  | .local _ .vmem, ⟨10, _⟩ => ⟨S11x256x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c11_i32 : BitVec 32 := 11#32
  let v17 : BitVec 32 := Scalar.addi c0_i32 c11_i32
  let c1_i32 : BitVec 32 := 1#32
  ⟨c0_i32, v17, c1_i32⟩
def k0_off1 (k0_t1 : Fin k0_t1_loop.trips) : Fin 3 → Nat :=
  let c0_i32 : BitVec 32 := 0#32
  let c1_i32 : BitVec 32 := 1#32
  let arg12 : BitVec 32 := Scf.iv c0_i32 c1_i32 k0_t1
  let v55 : Index := Scalar.indexCast arg12
  let c0_30 : Index := 0#32
  let c0_31 : Index := 0#32
  ![v55.toNat, 0, 0]
def k0_off2 (k0_t1 : Fin k0_t1_loop.trips) : Fin 3 → Nat :=
  let c0_i32 : BitVec 32 := 0#32
  let c1_i32 : BitVec 32 := 1#32
  let arg12 : BitVec 32 := Scf.iv c0_i32 c1_i32 k0_t1
  let v68 : Index := Scalar.indexCast arg12
  let c0_38 : Index := 0#32
  let c0_39 : Index := 0#32
  ![v68.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S11x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S11x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S2x8192x1024 : Shape := ⟨3, ![2, 8192, 1024]⟩
abbrev S2x1x1024 : Shape := ⟨3, ![2, 1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S2x8192x5632 : Shape := ⟨3, ![2, 8192, 5632]⟩
abbrev S2x8192x2816 : Shape := ⟨3, ![2, 8192, 2816]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 71
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S2x1x1024, .f32⟩
  | .hbm, ⟨10, _⟩ => ⟨S2x1x1024, .f32⟩
  | .hbm, ⟨11, _⟩ => ⟨S2x8192x1024, .f32⟩
  | .hbm, ⟨12, _⟩ => ⟨S2x8192x1024, .f32⟩
  | .hbm, ⟨13, _⟩ => ⟨S2x8192x1024, .f32⟩
  | .hbm, ⟨14, _⟩ => ⟨S2x8192x1024, .f32⟩
  | .hbm, ⟨15, _⟩ => ⟨S2x8192x5632, .f32⟩
  | .hbm, ⟨16, _⟩ => ⟨S2x8192x2816, .f32⟩
  | .hbm, ⟨17, _⟩ => ⟨S2x8192x2816, .f32⟩
  | .hbm, ⟨18, _⟩ => ⟨S2x8192x2816, .f32⟩
  | .hbm, ⟨19, _⟩ => ⟨S2x8192x2816, .f32⟩
  | .hbm, ⟨20, _⟩ => ⟨S_, .f32⟩
  | .hbm, ⟨21, _⟩ => ⟨S2x8192x2816, .f32⟩
  | .hbm, ⟨22, _⟩ => ⟨S2x8192x2816, .f32⟩
  | .hbm, ⟨23, _⟩ => ⟨S_, .f32⟩
  | .hbm, ⟨24, _⟩ => ⟨S2x8192x2816, .f32⟩
  | .hbm, ⟨25, _⟩ => ⟨S2x8192x2816, .f32⟩
  | .hbm, ⟨26, _⟩ => ⟨S2x8192x2816, .f32⟩
  | .hbm, ⟨27, _⟩ => ⟨S2x8192x2816, .f32⟩
  | .hbm, ⟨28, _⟩ => ⟨S2x8192x1024, .f32⟩
  | .hbm, ⟨29, _⟩ => ⟨S_, .f32⟩
  | .hbm, ⟨30, _⟩ => ⟨S2x8192x1024, .f32⟩
  | .hbm, ⟨31, _⟩ => ⟨S2x8192x1024, .f32⟩
  | .hbm, ⟨32, _⟩ => ⟨S_, .f32⟩
  | .hbm, ⟨33, _⟩ => ⟨S2x1x1024, .f32⟩
  | .hbm, ⟨34, _⟩ => ⟨S2x1x1024, .f32⟩
  | .hbm, ⟨35, _⟩ => ⟨S_, .f32⟩
  | .hbm, ⟨36, _⟩ => ⟨S2x1x1024, .f32⟩
  | .hbm, ⟨37, _⟩ => ⟨S2x1x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S_, .f32⟩
  | .hbm, ⟨42, _⟩ => ⟨S2x8192, .f32⟩
  | .hbm, ⟨43, _⟩ => ⟨S2x8192x1, .f32⟩
  | .hbm, ⟨44, _⟩ => ⟨S_, .f32⟩
  | .hbm, ⟨45, _⟩ => ⟨S2x8192x1, .f32⟩
  | .hbm, ⟨46, _⟩ => ⟨S2x8192x1, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S_, .f32⟩
  | .hbm, ⟨51, _⟩ => ⟨S2x8192, .f32⟩
  | .hbm, ⟨52, _⟩ => ⟨S2x8192x1, .f32⟩
  | .hbm, ⟨53, _⟩ => ⟨S_, .f32⟩
  | .hbm, ⟨54, _⟩ => ⟨S2x8192x1, .f32⟩
  | .hbm, ⟨55, _⟩ => ⟨S2x8192x1, .f32⟩
  | .hbm, ⟨56, _⟩ => ⟨S2x8192x1024, .f32⟩
  | .hbm, ⟨57, _⟩ => ⟨S2x8192x1024, .f32⟩
  | .hbm, ⟨58, _⟩ => ⟨S_, .f32⟩
  | .hbm, ⟨59, _⟩ => ⟨S2x8192x1, .f32⟩
  | .hbm, ⟨60, _⟩ => ⟨S2x8192x1, .f32⟩
  | .hbm, ⟨61, _⟩ => ⟨S2x8192x1, .f32⟩
  | .hbm, ⟨62, _⟩ => ⟨S2x8192x1024, .f32⟩
  | .hbm, ⟨63, _⟩ => ⟨S2x8192x1024, .f32⟩
  | .hbm, ⟨64, _⟩ => ⟨S1x1x1024, .f32⟩
  | .hbm, ⟨65, _⟩ => ⟨S2x8192x1024, .f32⟩
  | .hbm, ⟨66, _⟩ => ⟨S2x8192x1024, .f32⟩
  | .hbm, ⟨67, _⟩ => ⟨S1x1x1024, .f32⟩
  | .hbm, ⟨68, _⟩ => ⟨S2x8192x1024, .f32⟩
  | .hbm, ⟨69, _⟩ => ⟨S2x8192x1024, .f32⟩
  | .hbm, ⟨70, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩

abbrev nD : Nat := 1
abbrev τ : Topo := Topo.v7x

variable {F : FTy → Type} [FloatOps F]
-- ==== Kernel5.lean ====
abbrev S128x1x1024 : Shape := ⟨3, ![128, 1, 1024]⟩
abbrev S1024x5632 : Shape := ⟨2, ![1024, 5632]⟩
abbrev S2816x1024 : Shape := ⟨2, ![2816, 1024]⟩
abbrev S1024 : Shape := ⟨1, ![1024]⟩
abbrev S1x128x1024 : Shape := ⟨3, ![1, 128, 1024]⟩
abbrev S128x1024 : Shape := ⟨2, ![128, 1024]⟩
abbrev S1024x2816 : Shape := ⟨2, ![1024, 2816]⟩
abbrev S1024x11x256 : Shape := ⟨3, ![1024, 11, 256]⟩
abbrev S11x1024x256 : Shape := ⟨3, ![11, 1024, 256]⟩
abbrev S11x256x1024 : Shape := ⟨3, ![11, 256, 1024]⟩
abbrev S1x1024 : Shape := ⟨2, ![1, 1024]⟩
abbrev S1x1024x256 : Shape := ⟨3, ![1, 1024, 256]⟩
abbrev S1024x256 : Shape := ⟨2, ![1024, 256]⟩
abbrev S128x256 : Shape := ⟨2, ![128, 256]⟩
abbrev S1x256x1024 : Shape := ⟨3, ![1, 256, 1024]⟩
abbrev S256x1024 : Shape := ⟨2, ![256, 1024]⟩
abbrev S128 : Shape := ⟨1, ![128]⟩
abbrev S128x1 : Shape := ⟨2, ![128, 1]⟩

abbrev nBuf : Space → Nat
  | .hbm => 25
  | .vmem => 11
  | .smem => 0
  | _ => 0

abbrev bufTy : (tb : Table) → Fin (tcTables nBuf tb) → BufTy
  | .hbm, ⟨0, _⟩ => ⟨S128x1x1024, .f32⟩
  | .hbm, ⟨1, _⟩ => ⟨S128x1x1024, .f32⟩
  | .hbm, ⟨2, _⟩ => ⟨S128x1x1024, .f32⟩
  | .hbm, ⟨3, _⟩ => ⟨S128x1x1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S1x128x1024, .f32⟩
  | .hbm, ⟨9, _⟩ => ⟨S1x128x1024, .f32⟩
  | .hbm, ⟨10, _⟩ => ⟨S1x128x1024, .f32⟩
  | .hbm, ⟨11, _⟩ => ⟨S128x1024, .f32⟩
  | .hbm, ⟨12, _⟩ => ⟨S1024x2816, .f32⟩
  | .hbm, ⟨13, _⟩ => ⟨S1024x11x256, .f32⟩
  | .hbm, ⟨14, _⟩ => ⟨S11x1024x256, .f32⟩
  | .hbm, ⟨15, _⟩ => ⟨S11x1024x256, .bf16⟩
  | .hbm, ⟨16, _⟩ => ⟨S1024x2816, .f32⟩
  | .hbm, ⟨17, _⟩ => ⟨S1024x11x256, .f32⟩
  | .hbm, ⟨18, _⟩ => ⟨S11x1024x256, .f32⟩
  | .hbm, ⟨19, _⟩ => ⟨S11x1024x256, .bf16⟩
  | .hbm, ⟨20, _⟩ => ⟨S11x256x1024, .f32⟩
  | .hbm, ⟨21, _⟩ => ⟨S11x256x1024, .bf16⟩
  | .hbm, ⟨22, _⟩ => ⟨S1x1024, .f32⟩
  | .hbm, ⟨23, _⟩ => ⟨S1x1024, .f32⟩
  | .hbm, ⟨24, _⟩ => ⟨S128x1024, .f32⟩
  | .local _ .vmem, ⟨0, _⟩ => ⟨S128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S11x1024x256, .bf16⟩
  | .local _ .vmem, ⟨5, _⟩ => ⟨S11x1024x256, .bf16⟩
  | .local _ .vmem, ⟨6, _⟩ => ⟨S11x256x1024, .bf16⟩
  | .local _ .vmem, ⟨7, _⟩ => ⟨S1x1024, .f32⟩
  | .local _ .vmem, ⟨8, _⟩ => ⟨S1x1024, .f32⟩
  | .local _ .vmem, ⟨9, _⟩ => ⟨S128x1024, .f32⟩
  | .local _ .vmem, ⟨10, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c11_i32 : BitVec 32 := 11#32
  let v15 : BitVec 32 := Scalar.addi c0_i32 c11_i32
  let c1_i32 : BitVec 32 := 1#32
  ⟨c0_i32, v15, c1_i32⟩
def k0_off1 (k0_t1 : Fin k0_t1_loop.trips) : Fin 3 → Nat :=
  let c0_i32 : BitVec 32 := 0#32
  let c1_i32 : BitVec 32 := 1#32
  let arg12 : BitVec 32 := Scf.iv c0_i32 c1_i32 k0_t1
  let v52 : Index := Scalar.indexCast arg12
  let c0_30 : Index := 0#32
  let c0_31 : Index := 0#32
  ![v52.toNat, 0, 0]
def k0_off2 (k0_t1 : Fin k0_t1_loop.trips) : Fin 3 → Nat :=
  let c0_i32 : BitVec 32 := 0#32
  let c1_i32 : BitVec 32 := 1#32
  let arg12 : BitVec 32 := Scf.iv c0_i32 c1_i32 k0_t1
  let v65 : Index := Scalar.indexCast arg12
  let c0_38 : Index := 0#32
  let c0_39 : Index := 0#32
  ![v65.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S11x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S11x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference5Ideal.lean ====
abbrev S128x1x1024 : Shape := ⟨3, ![128, 1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S128x1x5632 : Shape := ⟨3, ![128, 1, 5632]⟩
abbrev S128x1x2816 : Shape := ⟨3, ![128, 1, 2816]⟩
abbrev S128x1 : Shape := ⟨2, ![128, 1]⟩
abbrev S128x1x1 : Shape := ⟨3, ![128, 1, 1]⟩
abbrev S1x1x1024 : Shape := ⟨3, ![1, 1, 1024]⟩
abbrev S128x1024 : Shape := ⟨2, ![128, 1024]⟩

abbrev nBuf : Space → Nat
  | .hbm => 68
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x1x1024, .f32⟩
  | .hbm, ⟨2, _⟩ => ⟨S128x1x1024, .f32⟩
  | .hbm, ⟨3, _⟩ => ⟨S128x1x1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S128x1x1024, .f32⟩
  | .hbm, ⟨10, _⟩ => ⟨S128x1x1024, .f32⟩
  | .hbm, ⟨11, _⟩ => ⟨S128x1x1024, .f32⟩
  | .hbm, ⟨12, _⟩ => ⟨S128x1x1024, .f32⟩
  | .hbm, ⟨13, _⟩ => ⟨S128x1x5632, .f32⟩
  | .hbm, ⟨14, _⟩ => ⟨S128x1x2816, .f32⟩
  | .hbm, ⟨15, _⟩ => ⟨S128x1x2816, .f32⟩
  | .hbm, ⟨16, _⟩ => ⟨S128x1x2816, .f32⟩
  | .hbm, ⟨17, _⟩ => ⟨S128x1x2816, .f32⟩
  | .hbm, ⟨18, _⟩ => ⟨S_, .f32⟩
  | .hbm, ⟨19, _⟩ => ⟨S128x1x2816, .f32⟩
  | .hbm, ⟨20, _⟩ => ⟨S128x1x2816, .f32⟩
  | .hbm, ⟨21, _⟩ => ⟨S_, .f32⟩
  | .hbm, ⟨22, _⟩ => ⟨S128x1x2816, .f32⟩
  | .hbm, ⟨23, _⟩ => ⟨S128x1x2816, .f32⟩
  | .hbm, ⟨24, _⟩ => ⟨S128x1x2816, .f32⟩
  | .hbm, ⟨25, _⟩ => ⟨S128x1x2816, .f32⟩
  | .hbm, ⟨26, _⟩ => ⟨S128x1x1024, .f32⟩
  | .hbm, ⟨27, _⟩ => ⟨S_, .f32⟩
  | .hbm, ⟨28, _⟩ => ⟨S128x1x1024, .f32⟩
  | .hbm, ⟨29, _⟩ => ⟨S128x1x1024, .f32⟩
  | .hbm, ⟨30, _⟩ => ⟨S_, .f32⟩
  | .hbm, ⟨31, _⟩ => ⟨S128x1x1024, .f32⟩
  | .hbm, ⟨32, _⟩ => ⟨S128x1x1024, .f32⟩
  | .hbm, ⟨33, _⟩ => ⟨S_, .f32⟩
  | .hbm, ⟨34, _⟩ => ⟨S128x1x1024, .f32⟩
  | .hbm, ⟨35, _⟩ => ⟨S128x1x1024, .f32⟩
  | .hbm, ⟨36, _⟩ => ⟨S128x1x1024, .f32⟩
  | .hbm, ⟨37, _⟩ => ⟨S128x1x1024, .f32⟩
  | .hbm, ⟨38, _⟩ => ⟨S_, .f32⟩
  | .hbm, ⟨39, _⟩ => ⟨S128x1, .f32⟩
  | .hbm, ⟨40, _⟩ => ⟨S128x1x1, .f32⟩
  | .hbm, ⟨41, _⟩ => ⟨S_, .f32⟩
  | .hbm, ⟨42, _⟩ => ⟨S128x1x1, .f32⟩
  | .hbm, ⟨43, _⟩ => ⟨S128x1x1, .f32⟩
  | .hbm, ⟨44, _⟩ => ⟨S128x1x1024, .f32⟩
  | .hbm, ⟨45, _⟩ => ⟨S128x1x1024, .f32⟩
  | .hbm, ⟨46, _⟩ => ⟨S128x1x1024, .f32⟩
  | .hbm, ⟨47, _⟩ => ⟨S_, .f32⟩
  | .hbm, ⟨48, _⟩ => ⟨S128x1, .f32⟩
  | .hbm, ⟨49, _⟩ => ⟨S128x1x1, .f32⟩
  | .hbm, ⟨50, _⟩ => ⟨S_, .f32⟩
  | .hbm, ⟨51, _⟩ => ⟨S128x1x1, .f32⟩
  | .hbm, ⟨52, _⟩ => ⟨S128x1x1, .f32⟩
  | .hbm, ⟨53, _⟩ => ⟨S128x1x1024, .f32⟩
  | .hbm, ⟨54, _⟩ => ⟨S128x1x1024, .f32⟩
  | .hbm, ⟨55, _⟩ => ⟨S_, .f32⟩
  | .hbm, ⟨56, _⟩ => ⟨S128x1x1, .f32⟩
  | .hbm, ⟨57, _⟩ => ⟨S128x1x1, .f32⟩
  | .hbm, ⟨58, _⟩ => ⟨S128x1x1, .f32⟩
  | .hbm, ⟨59, _⟩ => ⟨S128x1x1024, .f32⟩
  | .hbm, ⟨60, _⟩ => ⟨S128x1x1024, .f32⟩
  | .hbm, ⟨61, _⟩ => ⟨S1x1x1024, .f32⟩
  | .hbm, ⟨62, _⟩ => ⟨S128x1x1024, .f32⟩
  | .hbm, ⟨63, _⟩ => ⟨S128x1x1024, .f32⟩
  | .hbm, ⟨64, _⟩ => ⟨S1x1x1024, .f32⟩
  | .hbm, ⟨65, _⟩ => ⟨S128x1x1024, .f32⟩
  | .hbm, ⟨66, _⟩ => ⟨S128x1x1024, .f32⟩
  | .hbm, ⟨67, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_5 : Ref sig .tc := ⟨.hbm, 47, rfl⟩
abbrev main_v25 : Ref sig .tc := ⟨.hbm, 48, rfl⟩
abbrev main_v26 : Ref sig .tc := ⟨.hbm, 49, rfl⟩
abbrev main_cst_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_7 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel6.lean ====
abbrev S128x1x1024 : Shape := ⟨3, ![128, 1, 1024]⟩
abbrev S1024x1604 : Shape := ⟨2, ![1024, 1604]⟩
abbrev S256 : Shape := ⟨1, ![256]⟩
abbrev S128 : Shape := ⟨1, ![128]⟩
abbrev S256x4x96 : Shape := ⟨3, ![256, 4, 96]⟩
abbrev S128x4x64 : Shape := ⟨3, ![128, 4, 64]⟩
abbrev S_ : Shape := ⟨0, ![]⟩
abbrev S16 : Shape := ⟨1, ![16]⟩
abbrev S128x1 : Shape := ⟨2, ![128, 1]⟩
abbrev S1x16 : Shape := ⟨2, ![1, 16]⟩
abbrev S128x16 : Shape := ⟨2, ![128, 16]⟩
abbrev S128x96 : Shape := ⟨2, ![128, 96]⟩
abbrev S128x128 : Shape := ⟨2, ![128, 128]⟩
abbrev S1024x256 : Shape := ⟨2, ![1024, 256]⟩
abbrev S1024x128 : Shape := ⟨2, ![1024, 128]⟩
abbrev S1024x4 : Shape := ⟨2, ![1024, 4]⟩
abbrev S1024x32 : Shape := ⟨2, ![1024, 32]⟩
abbrev S1024x512 : Shape := ⟨2, ![1024, 512]⟩
abbrev S1024x2560 : Shape := ⟨2, ![1024, 2560]⟩
abbrev S1024x64 : Shape := ⟨2, ![1024, 64]⟩
abbrev S1 : Shape := ⟨1, ![1]⟩
abbrev S1024x16 : Shape := ⟨2, ![1024, 16]⟩
abbrev S256x1280 : Shape := ⟨2, ![256, 1280]⟩
abbrev S256x512 : Shape := ⟨2, ![256, 512]⟩
abbrev S256x1x64 : Shape := ⟨3, ![256, 1, 64]⟩
abbrev S256x64 : Shape := ⟨2, ![256, 64]⟩
abbrev S256x1x32 : Shape := ⟨3, ![256, 1, 32]⟩
abbrev S256x32 : Shape := ⟨2, ![256, 32]⟩
abbrev S256x16 : Shape := ⟨2, ![256, 16]⟩
abbrev S128x1x64 : Shape := ⟨3, ![128, 1, 64]⟩
abbrev S128x64 : Shape := ⟨2, ![128, 64]⟩
abbrev S64x128 : Shape := ⟨2, ![64, 128]⟩
abbrev S2 : Shape := ⟨1, ![2]⟩
abbrev S128x1024 : Shape := ⟨2, ![128, 1024]⟩
abbrev S1x128x1024 : Shape := ⟨3, ![1, 128, 1024]⟩
abbrev S1x256 : Shape := ⟨2, ![1, 256]⟩
abbrev S1x128 : Shape := ⟨2, ![1, 128]⟩
abbrev S128x512 : Shape := ⟨2, ![128, 512]⟩
abbrev S128x256 : Shape := ⟨2, ![128, 256]⟩
abbrev S128x2560 : Shape := ⟨2, ![128, 2560]⟩
abbrev S128x1280 : Shape := ⟨2, ![128, 1280]⟩

abbrev nBuf : Space → Nat
  | .hbm => 245
  | .vmem => 22
  | .smem => 0
  | _ => 0

abbrev hbmTy0_0 (i : Nat) : BufTy := match i % 128 with
  | 0 => ⟨S128x1x1024, .f32⟩
  | 1 => ⟨S128x1x1024, .f32⟩
  | 2 => ⟨S128x1x1024, .f32⟩
  | 3 => ⟨S1024x1604, .f32⟩
  | 4 => ⟨S256, .f32⟩
  | 5 => ⟨S128, .f32⟩
  | 6 => ⟨S256x4x96, .f32⟩
  | 7 => ⟨S128x4x64, .f32⟩
  | 8 => ⟨S_, .i32⟩
  | 9 => ⟨S128, .i32⟩
  | 10 => ⟨S16, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S128, .f32⟩
  | 19 => ⟨S128x1, .f32⟩
  | 20 => ⟨S1x16, .f32⟩
  | 21 => ⟨S128x16, .f32⟩
  | 22 => ⟨S128x16, .f32⟩
  | 23 => ⟨S128x16, .f32⟩
  | 24 => ⟨S_, .f32⟩
  | 25 => ⟨S128x96, .f32⟩
  | 26 => ⟨S128x16, .f32⟩
  | 27 => ⟨S128x16, .f32⟩
  | 28 => ⟨S128x128, .f32⟩
  | 29 => ⟨S128x16, .f32⟩
  | 30 => ⟨S128x16, .f32⟩
  | 31 => ⟨S128x128, .f32⟩
  | 32 => ⟨S1024x256, .f32⟩
  | 33 => ⟨S1024x128, .f32⟩
  | 34 => ⟨S1024x128, .f32⟩
  | 35 => ⟨S1024x128, .f32⟩
  | 36 => ⟨S1024x4, .f32⟩
  | 37 => ⟨S1024x32, .f32⟩
  | 38 => ⟨S1024x256, .f32⟩
  | 39 => ⟨S1024x128, .f32⟩
  | 40 => ⟨S1024x32, .f32⟩
  | 41 => ⟨S1024x512, .f32⟩
  | 42 => ⟨S_, .f32⟩
  | 43 => ⟨S1024x2560, .f32⟩
  | 44 => ⟨S1024x64, .f32⟩
  | 45 => ⟨S_, .i32⟩
  | 46 => ⟨S1, .i32⟩
  | 47 => ⟨S1024x2560, .f32⟩
  | 48 => ⟨S1024x64, .f32⟩
  | 49 => ⟨S_, .i32⟩
  | 50 => ⟨S1, .i32⟩
  | 51 => ⟨S1024x2560, .f32⟩
  | 52 => ⟨S1024x64, .f32⟩
  | 53 => ⟨S_, .i32⟩
  | 54 => ⟨S1, .i32⟩
  | 55 => ⟨S1024x2560, .f32⟩
  | 56 => ⟨S1024x64, .f32⟩
  | 57 => ⟨S_, .i32⟩
  | 58 => ⟨S1, .i32⟩
  | 59 => ⟨S1024x2560, .f32⟩
  | 60 => ⟨S_, .i32⟩
  | 61 => ⟨S1, .i32⟩
  | 62 => ⟨S1024x2560, .f32⟩
  | 63 => ⟨S_, .i32⟩
  | 64 => ⟨S1, .i32⟩
  | 65 => ⟨S1024x2560, .f32⟩
  | 66 => ⟨S1024x32, .f32⟩
  | 67 => ⟨S_, .i32⟩
  | 68 => ⟨S1, .i32⟩
  | 69 => ⟨S1024x2560, .f32⟩
  | 70 => ⟨S1024x32, .f32⟩
  | 71 => ⟨S_, .i32⟩
  | 72 => ⟨S1, .i32⟩
  | 73 => ⟨S1024x2560, .f32⟩
  | 74 => ⟨S1024x32, .f32⟩
  | 75 => ⟨S_, .i32⟩
  | 76 => ⟨S1, .i32⟩
  | 77 => ⟨S1024x2560, .f32⟩
  | 78 => ⟨S1024x32, .f32⟩
  | 79 => ⟨S_, .i32⟩
  | 80 => ⟨S1, .i32⟩
  | 81 => ⟨S1024x2560, .f32⟩
  | 82 => ⟨S_, .i32⟩
  | 83 => ⟨S1, .i32⟩
  | 84 => ⟨S1024x2560, .f32⟩
  | 85 => ⟨S_, .i32⟩
  | 86 => ⟨S1, .i32⟩
  | 87 => ⟨S1024x2560, .f32⟩
  | 88 => ⟨S_, .i32⟩
  | 89 => ⟨S1, .i32⟩
  | 90 => ⟨S1024x2560, .f32⟩
  | 91 => ⟨S_, .i32⟩
  | 92 => ⟨S1, .i32⟩
  | 93 => ⟨S1024x2560, .f32⟩
  | 94 => ⟨S1024x16, .f32⟩
  | 95 => ⟨S1024x16, .f32⟩
  | 96 => ⟨S_, .i32⟩
  | 97 => ⟨S1, .i32⟩
  | 98 => ⟨S1024x2560, .f32⟩
  | 99 => ⟨S1024x16, .f32⟩
  | 100 => ⟨S_, .i32⟩
  | 101 => ⟨S1, .i32⟩
  | 102 => ⟨S1024x2560, .f32⟩
  | 103 => ⟨S_, .i32⟩
  | 104 => ⟨S1, .i32⟩
  | 105 => ⟨S1024x2560, .f32⟩
  | 106 => ⟨S_, .i32⟩
  | 107 => ⟨S1, .i32⟩
  | 108 => ⟨S1024x2560, .f32⟩
  | 109 => ⟨S_, .f32⟩
  | 110 => ⟨S256x1280, .f32⟩
  | 111 => ⟨S_, .f32⟩
  | 112 => ⟨S256x512, .f32⟩
  | 113 => ⟨S256x1x64, .f32⟩
  | 114 => ⟨S256x64, .f32⟩
  | 115 => ⟨S_, .i32⟩
  | 116 => ⟨S1, .i32⟩
  | 117 => ⟨S256x1280, .f32⟩
  | 118 => ⟨S256x1x32, .f32⟩
  | 119 => ⟨S256x32, .f32⟩
  | 120 => ⟨S_, .i32⟩
  | 121 => ⟨S1, .i32⟩
  | 122 => ⟨S256x1280, .f32⟩
  | 123 => ⟨S256x16, .f32⟩
  | 124 => ⟨S256x16, .f32⟩
  | 125 => ⟨S_, .i32⟩
  | 126 => ⟨S1, .i32⟩
  | 127 => ⟨S256x1280, .f32⟩
  | _ => ⟨S128x1x1024, .f32⟩

abbrev hbmTy0_1 (i : Nat) : BufTy := match i % 128 with
  | 0 => ⟨S256x16, .f32⟩
  | 1 => ⟨S_, .i32⟩
  | 2 => ⟨S1, .i32⟩
  | 3 => ⟨S256x1280, .f32⟩
  | 4 => ⟨S128x1x64, .f32⟩
  | 5 => ⟨S128x64, .f32⟩
  | 6 => ⟨S64x128, .f32⟩
  | 7 => ⟨S_, .i32⟩
  | 8 => ⟨S1, .i32⟩
  | 9 => ⟨S_, .i32⟩
  | 10 => ⟨S1, .i32⟩
  | 11 => ⟨S2, .i32⟩
  | 12 => ⟨S256x512, .f32⟩
  | 13 => ⟨S256x1x64, .f32⟩
  | 14 => ⟨S256x64, .f32⟩
  | 15 => ⟨S_, .i32⟩
  | 16 => ⟨S1, .i32⟩
  | 17 => ⟨S256x1280, .f32⟩
  | 18 => ⟨S256x1x32, .f32⟩
  | 19 => ⟨S256x32, .f32⟩
  | 20 => ⟨S_, .i32⟩
  | 21 => ⟨S1, .i32⟩
  | 22 => ⟨S256x1280, .f32⟩
  | 23 => ⟨S256x16, .f32⟩
  | 24 => ⟨S256x16, .f32⟩
  | 25 => ⟨S_, .i32⟩
  | 26 => ⟨S1, .i32⟩
  | 27 => ⟨S256x1280, .f32⟩
  | 28 => ⟨S256x16, .f32⟩
  | 29 => ⟨S_, .i32⟩
  | 30 => ⟨S1, .i32⟩
  | 31 => ⟨S256x1280, .f32⟩
  | 32 => ⟨S128x1x64, .f32⟩
  | 33 => ⟨S128x64, .f32⟩
  | 34 => ⟨S64x128, .f32⟩
  | 35 => ⟨S_, .i32⟩
  | 36 => ⟨S1, .i32⟩
  | 37 => ⟨S_, .i32⟩
  | 38 => ⟨S1, .i32⟩
  | 39 => ⟨S2, .i32⟩
  | 40 => ⟨S256x512, .f32⟩
  | 41 => ⟨S256x1x64, .f32⟩
  | 42 => ⟨S256x64, .f32⟩
  | 43 => ⟨S_, .i32⟩
  | 44 => ⟨S1, .i32⟩
  | 45 => ⟨S256x1280, .f32⟩
  | 46 => ⟨S256x1x32, .f32⟩
  | 47 => ⟨S256x32, .f32⟩
  | 48 => ⟨S_, .i32⟩
  | 49 => ⟨S1, .i32⟩
  | 50 => ⟨S256x1280, .f32⟩
  | 51 => ⟨S256x16, .f32⟩
  | 52 => ⟨S256x16, .f32⟩
  | 53 => ⟨S_, .i32⟩
  | 54 => ⟨S1, .i32⟩
  | 55 => ⟨S256x1280, .f32⟩
  | 56 => ⟨S256x16, .f32⟩
  | 57 => ⟨S_, .i32⟩
  | 58 => ⟨S1, .i32⟩
  | 59 => ⟨S256x1280, .f32⟩
  | 60 => ⟨S128x1x64, .f32⟩
  | 61 => ⟨S128x64, .f32⟩
  | 62 => ⟨S64x128, .f32⟩
  | 63 => ⟨S_, .i32⟩
  | 64 => ⟨S1, .i32⟩
  | 65 => ⟨S_, .i32⟩
  | 66 => ⟨S1, .i32⟩
  | 67 => ⟨S2, .i32⟩
  | 68 => ⟨S256x512, .f32⟩
  | 69 => ⟨S256x1x64, .f32⟩
  | 70 => ⟨S256x64, .f32⟩
  | 71 => ⟨S_, .i32⟩
  | 72 => ⟨S1, .i32⟩
  | 73 => ⟨S256x1280, .f32⟩
  | 74 => ⟨S256x1x32, .f32⟩
  | 75 => ⟨S256x32, .f32⟩
  | 76 => ⟨S_, .i32⟩
  | 77 => ⟨S1, .i32⟩
  | 78 => ⟨S256x1280, .f32⟩
  | 79 => ⟨S256x16, .f32⟩
  | 80 => ⟨S256x16, .f32⟩
  | 81 => ⟨S_, .i32⟩
  | 82 => ⟨S1, .i32⟩
  | 83 => ⟨S256x1280, .f32⟩
  | 84 => ⟨S256x16, .f32⟩
  | 85 => ⟨S_, .i32⟩
  | 86 => ⟨S1, .i32⟩
  | 87 => ⟨S256x1280, .f32⟩
  | 88 => ⟨S128x1x64, .f32⟩
  | 89 => ⟨S128x64, .f32⟩
  | 90 => ⟨S64x128, .f32⟩
  | 91 => ⟨S_, .i32⟩
  | 92 => ⟨S1, .i32⟩
  | 93 => ⟨S_, .i32⟩
  | 94 => ⟨S1, .i32⟩
  | 95 => ⟨S2, .i32⟩
  | 96 => ⟨S256x512, .f32⟩
  | 97 => ⟨S1024x2560, .bf16⟩
  | 98 => ⟨S256x1280, .bf16⟩
  | 99 => ⟨S256x512, .bf16⟩
  | 100 => ⟨S128x1024, .f32⟩
  | 101 => ⟨S1x128x1024, .f32⟩
  | 102 => ⟨S1x128x1024, .f32⟩
  | 103 => ⟨S1x256, .f32⟩
  | 104 => ⟨S1x128, .f32⟩
  | 105 => ⟨S128x512, .bf16⟩
  | 106 => ⟨S128x128, .f32⟩
  | 107 => ⟨S128x128, .f32⟩
  | 108 => ⟨S128x256, .bf16⟩
  | 109 => ⟨S128x512, .bf16⟩
  | 110 => ⟨S128x128, .f32⟩
  | 111 => ⟨S128x128, .bf16⟩
  | 112 => ⟨S128x128, .f32⟩
  | 113 => ⟨S128x128, .f32⟩
  | 114 => ⟨S128x256, .bf16⟩
  | 115 => ⟨S128x1024, .bf16⟩
  | 116 => ⟨S128x512, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | .local _ .vmem, ⟨0, _⟩ => ⟨S128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1024x2560, .bf16⟩
  | .local _ .vmem, ⟨4, _⟩ => ⟨S1x256, .f32⟩
  | .local _ .vmem, ⟨5, _⟩ => ⟨S1x128, .f32⟩
  | .local _ .vmem, ⟨6, _⟩ => ⟨S256x1280, .bf16⟩
  | .local _ .vmem, ⟨7, _⟩ => ⟨S256x512, .bf16⟩
  | .local _ .vmem, ⟨8, _⟩ => ⟨S128x128, .f32⟩
  | .local _ .vmem, ⟨9, _⟩ => ⟨S128x128, .f32⟩
  | .local _ .vmem, ⟨10, _⟩ => ⟨S128x512, .bf16⟩
  | .local _ .vmem, ⟨11, _⟩ => ⟨S128x128, .f32⟩
  | .local _ .vmem, ⟨12, _⟩ => ⟨S128x128, .f32⟩
  | .local _ .vmem, ⟨13, _⟩ => ⟨S128x256, .bf16⟩
  | .local _ .vmem, ⟨14, _⟩ => ⟨S128x512, .bf16⟩
  | .local _ .vmem, ⟨15, _⟩ => ⟨S128x128, .f32⟩
  | .local _ .vmem, ⟨16, _⟩ => ⟨S128x128, .bf16⟩
  | .local _ .vmem, ⟨17, _⟩ => ⟨S128x128, .f32⟩
  | .local _ .vmem, ⟨18, _⟩ => ⟨S128x128, .f32⟩
  | .local _ .vmem, ⟨19, _⟩ => ⟨S128x256, .bf16⟩
  | .local _ .vmem, ⟨20, _⟩ => ⟨S128x1024, .bf16⟩
  | .local _ .vmem, ⟨21, _⟩ => ⟨S128x512, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_c_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_6 : Ref sig .tc := ⟨.hbm, 57, rfl⟩
abbrev main_v41 : Ref sig .tc := ⟨.hbm, 58, rfl⟩
abbrev main_v42 : Ref sig .tc := ⟨.hbm, 59, rfl⟩
abbrev main_c_7 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_c_14 : Ref sig .tc := ⟨.hbm, 85, rfl⟩
abbrev main_v61 : Ref sig .tc := ⟨.hbm, 86, rfl⟩
abbrev main_v62 : Ref sig .tc := ⟨.hbm, 87, rfl⟩
abbrev main_c_15 : Ref sig .tc := ⟨.hbm, 88, rfl⟩
abbrev main_v63 : Ref sig .tc := ⟨.hbm, 89, rfl⟩
abbrev main_v64 : Ref sig .tc := ⟨.hbm, 90, rfl⟩
abbrev main_c_16 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_17 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_18 : Ref sig .tc := ⟨.hbm, 100, rfl⟩
abbrev main_v72 : Ref sig .tc := ⟨.hbm, 101, rfl⟩
abbrev main_v73 : Ref sig .tc := ⟨.hbm, 102, rfl⟩
abbrev main_c_19 : Ref sig .tc := ⟨.hbm, 103, rfl⟩
abbrev main_v74 : Ref sig .tc := ⟨.hbm, 104, rfl⟩
abbrev main_v75 : Ref sig .tc := ⟨.hbm, 105, rfl⟩
abbrev main_c_20 : Ref sig .tc := ⟨.hbm, 106, rfl⟩
abbrev main_v76 : Ref sig .tc := ⟨.hbm, 107, rfl⟩
abbrev main_v77 : Ref sig .tc := ⟨.hbm, 108, rfl⟩
abbrev main_cst_21 : Ref sig .tc := ⟨.hbm, 109, rfl⟩
abbrev main_v78 : Ref sig .tc := ⟨.hbm, 110, rfl⟩
abbrev main_cst_22 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_c_23 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_24 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_c_25 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_c_26 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_c_27 : Ref sig .tc := ⟨.hbm, 135, rfl⟩
abbrev main_v98 : Ref sig .tc := ⟨.hbm, 136, rfl⟩
abbrev main_c_28 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_c_29 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_c_30 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_c_31 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_c_32 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_c_33 : Ref sig .tc := ⟨.hbm, 163, rfl⟩
abbrev main_v120 : Ref sig .tc := ⟨.hbm, 164, rfl⟩
abbrev main_c_34 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_c_35 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_c_36 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_c_37 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_c_38 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_c_39 : Ref sig .tc := ⟨.hbm, 191, rfl⟩
abbrev main_v142 : Ref sig .tc := ⟨.hbm, 192, rfl⟩
abbrev main_c_40 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_c_41 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_c_42 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_c_43 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_c_44 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_c_45 : Ref sig .tc := ⟨.hbm, 219, rfl⟩
abbrev main_v164 : Ref sig .tc := ⟨.hbm, 220, rfl⟩
abbrev main_c_46 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176_0 : Ref sig .tc := ⟨.hbm, 233, rfl⟩
abbrev main_v176_1 : Ref sig .tc := ⟨.hbm, 234, rfl⟩
abbrev main_v176_2 : Ref sig .tc := ⟨.hbm, 235, rfl⟩
abbrev main_v176_3 : Ref sig .tc := ⟨.hbm, 236, rfl⟩
abbrev main_v176_4 : Ref sig .tc := ⟨.hbm, 237, rfl⟩
abbrev main_v176_5 : Ref sig .tc := ⟨.hbm, 238, rfl⟩
abbrev main_v176_6 : Ref sig .tc := ⟨.hbm, 239, rfl⟩
abbrev main_v176_7 : Ref sig .tc := ⟨.hbm, 240, rfl⟩
abbrev main_v176_8 : Ref sig .tc := ⟨.hbm, 241, rfl⟩
abbrev main_v176_9 : Ref sig .tc := ⟨.hbm, 242, rfl⟩
abbrev main_v176_10 : Ref sig .tc := ⟨.hbm, 243, rfl⟩
abbrev main_v176_11 : Ref sig .tc := ⟨.hbm, 244, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1280 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S128x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S128x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S128x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]
-- ==== Reference6Ideal.lean ====
abbrev S128x1x1024 : Shape := ⟨3, ![128, 1, 1024]⟩
abbrev S1024x1604 : Shape := ⟨2, ![1024, 1604]⟩
abbrev S256 : Shape := ⟨1, ![256]⟩
abbrev S128 : Shape := ⟨1, ![128]⟩
abbrev S256x4x96 : Shape := ⟨3, ![256, 4, 96]⟩
abbrev S128x4x64 : Shape := ⟨3, ![128, 4, 64]⟩
abbrev S1 : Shape := ⟨1, ![1]⟩
abbrev S_ : Shape := ⟨0, ![]⟩
abbrev S128x1x1604 : Shape := ⟨3, ![128, 1, 1604]⟩
abbrev S128x1x256 : Shape := ⟨3, ![128, 1, 256]⟩
abbrev S128x1x128 : Shape := ⟨3, ![128, 1, 128]⟩
abbrev S128x1x4 : Shape := ⟨3, ![128, 1, 4]⟩
abbrev S128x1x32 : Shape := ⟨3, ![128, 1, 32]⟩
abbrev S128x1x512 : Shape := ⟨3, ![128, 1, 512]⟩
abbrev S128x1 : Shape := ⟨2, ![128, 1]⟩
abbrev S128x1x1 : Shape := ⟨3, ![128, 1, 1]⟩
abbrev S1x1x128 : Shape := ⟨3, ![1, 1, 128]⟩
abbrev S128x1x1x32 : Shape := ⟨4, ![128, 1, 1, 32]⟩
abbrev S16 : Shape := ⟨1, ![16]⟩
abbrev S1x1 : Shape := ⟨2, ![1, 1]⟩
abbrev S1x16 : Shape := ⟨2, ![1, 16]⟩
abbrev S1x1x16 : Shape := ⟨3, ![1, 1, 16]⟩
abbrev S128x1x1x16 : Shape := ⟨4, ![128, 1, 1, 16]⟩
abbrev S1x1x1x16 : Shape := ⟨4, ![1, 1, 1, 16]⟩
abbrev S128x128 : Shape := ⟨2, ![128, 128]⟩
abbrev S128x1x36 : Shape := ⟨3, ![128, 1, 36]⟩
abbrev S128x1x92 : Shape := ⟨3, ![128, 1, 92]⟩
abbrev S128x1x96 : Shape := ⟨3, ![128, 1, 96]⟩

abbrev nBuf : Space → Nat
  | .hbm => 95
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x1x1024, .f32⟩
  | .hbm, ⟨2, _⟩ => ⟨S128x1x1024, .f32⟩
  | .hbm, ⟨3, _⟩ => ⟨S1024x1604, .f32⟩
  | .hbm, ⟨4, _⟩ => ⟨S256, .f32⟩
  | .hbm, ⟨5, _⟩ => ⟨S128, .f32⟩
  | .hbm, ⟨6, _⟩ => ⟨S256x4x96, .f32⟩
  | .hbm, ⟨7, _⟩ => ⟨S128x4x64, .f32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S1, .i32⟩
  | .hbm, ⟨12, _⟩ => ⟨S_, .f32⟩
  | .hbm, ⟨13, _⟩ => ⟨S128x1x1024, .f32⟩
  | .hbm, ⟨14, _⟩ => ⟨S128x1x1024, .f32⟩
  | .hbm, ⟨15, _⟩ => ⟨S128x1x1024, .f32⟩
  | .hbm, ⟨16, _⟩ => ⟨S128x1x1024, .f32⟩
  | .hbm, ⟨17, _⟩ => ⟨S128x1x1604, .f32⟩
  | .hbm, ⟨18, _⟩ => ⟨S128x1x256, .f32⟩
  | .hbm, ⟨19, _⟩ => ⟨S128x1x128, .f32⟩
  | .hbm, ⟨20, _⟩ => ⟨S128x1x128, .f32⟩
  | .hbm, ⟨21, _⟩ => ⟨S128x1x128, .f32⟩
  | .hbm, ⟨22, _⟩ => ⟨S128x1x4, .f32⟩
  | .hbm, ⟨23, _⟩ => ⟨S128x1x32, .f32⟩
  | .hbm, ⟨24, _⟩ => ⟨S128x1x256, .f32⟩
  | .hbm, ⟨25, _⟩ => ⟨S128x1x128, .f32⟩
  | .hbm, ⟨26, _⟩ => ⟨S128x1x32, .f32⟩
  | .hbm, ⟨27, _⟩ => ⟨S128x1x512, .f32⟩
  | .hbm, ⟨28, _⟩ => ⟨S_, .f32⟩
  | .hbm, ⟨29, _⟩ => ⟨S128x1x4, .f32⟩
  | .hbm, ⟨30, _⟩ => ⟨S128x1x4, .f32⟩
  | .hbm, ⟨31, _⟩ => ⟨S128x1x128, .f32⟩
  | .hbm, ⟨32, _⟩ => ⟨S_, .f32⟩
  | .hbm, ⟨33, _⟩ => ⟨S128x1, .f32⟩
  | .hbm, ⟨34, _⟩ => ⟨S128x1x1, .f32⟩
  | .hbm, ⟨35, _⟩ => ⟨S_, .f32⟩
  | .hbm, ⟨36, _⟩ => ⟨S128x1x1, .f32⟩
  | .hbm, ⟨37, _⟩ => ⟨S128x1x1, .f32⟩
  | .hbm, ⟨38, _⟩ => ⟨S_, .f32⟩
  | .hbm, ⟨39, _⟩ => ⟨S128x1x1, .f32⟩
  | .hbm, ⟨40, _⟩ => ⟨S128x1x1, .f32⟩
  | .hbm, ⟨41, _⟩ => ⟨S128x1x1, .f32⟩
  | .hbm, ⟨42, _⟩ => ⟨S128x1x128, .f32⟩
  | .hbm, ⟨43, _⟩ => ⟨S128x1x128, .f32⟩
  | .hbm, ⟨44, _⟩ => ⟨S1x1x128, .f32⟩
  | .hbm, ⟨45, _⟩ => ⟨S128x1x128, .f32⟩
  | .hbm, ⟨46, _⟩ => ⟨S128x1x128, .f32⟩
  | .hbm, ⟨47, _⟩ => ⟨S128x1x1x32, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S1, .f32⟩
  | .hbm, ⟨57, _⟩ => ⟨S1x1, .f32⟩
  | .hbm, ⟨58, _⟩ => ⟨S1x16, .f32⟩
  | .hbm, ⟨59, _⟩ => ⟨S1x16, .f32⟩
  | .hbm, ⟨60, _⟩ => ⟨S1x16, .f32⟩
  | .hbm, ⟨61, _⟩ => ⟨S1x16, .f32⟩
  | .hbm, ⟨62, _⟩ => ⟨S1x1x16, .f32⟩
  | .hbm, ⟨63, _⟩ => ⟨S1x16, .f32⟩
  | .hbm, ⟨64, _⟩ => ⟨S1x1x16, .f32⟩
  | .hbm, ⟨65, _⟩ => ⟨S128x1x1x16, .f32⟩
  | .hbm, ⟨66, _⟩ => ⟨S128x1x1x16, .f32⟩
  | .hbm, ⟨67, _⟩ => ⟨S1x1x1x16, .f32⟩
  | .hbm, ⟨68, _⟩ => ⟨S128x1x1x16, .f32⟩
  | .hbm, ⟨69, _⟩ => ⟨S128x1x1x16, .f32⟩
  | .hbm, ⟨70, _⟩ => ⟨S1x1x1x16, .f32⟩
  | .hbm, ⟨71, _⟩ => ⟨S128x1x1x16, .f32⟩
  | .hbm, ⟨72, _⟩ => ⟨S128x1x1x16, .f32⟩
  | .hbm, ⟨73, _⟩ => ⟨S128x1x1x16, .f32⟩
  | .hbm, ⟨74, _⟩ => ⟨S1x1x1x16, .f32⟩
  | .hbm, ⟨75, _⟩ => ⟨S128x1x1x16, .f32⟩
  | .hbm, ⟨76, _⟩ => ⟨S128x1x1x16, .f32⟩
  | .hbm, ⟨77, _⟩ => ⟨S1x1x1x16, .f32⟩
  | .hbm, ⟨78, _⟩ => ⟨S128x1x1x16, .f32⟩
  | .hbm, ⟨79, _⟩ => ⟨S128x1x1x16, .f32⟩
  | .hbm, ⟨80, _⟩ => ⟨S128x1x1x16, .f32⟩
  | .hbm, ⟨81, _⟩ => ⟨S128x1x1x32, .f32⟩
  | .hbm, ⟨82, _⟩ => ⟨S128x1x32, .f32⟩
  | .hbm, ⟨83, _⟩ => ⟨S128x128, .f32⟩
  | .hbm, ⟨84, _⟩ => ⟨S128x128, .f32⟩
  | .hbm, ⟨85, _⟩ => ⟨S128x1x36, .f32⟩
  | .hbm, ⟨86, _⟩ => ⟨S_, .f32⟩
  | .hbm, ⟨87, _⟩ => ⟨S128x1x92, .f32⟩
  | .hbm, ⟨88, _⟩ => ⟨S128x1x128, .f32⟩
  | .hbm, ⟨89, _⟩ => ⟨S128x128, .f32⟩
  | .hbm, ⟨90, _⟩ => ⟨S128x128, .f32⟩
  | .hbm, ⟨91, _⟩ => ⟨S_, .f32⟩
  | .hbm, ⟨92, _⟩ => ⟨S128x1x96, .f32⟩
  | .hbm, ⟨93, _⟩ => ⟨S128x1x128, .f32⟩
  | .hbm, ⟨94, _⟩ => ⟨S128x128, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_6 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_7 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩

abbrev nD : Nat := 1
abbrev τ : Topo := Topo.v7x

variable {F : FTy → Type} [FloatOps F]
-- ==== Proof.Trip.lean ====
/- The attention kernel's block at one grid point, with its loop replaced by an invariant. -/
module

public import proofs.«01_k».proof.Proof.Gen.KernelIdeal.Value
public import Idealize.ShloMosaic.Lib.Pointwise

@[expose] public section

noncomputable section

namespace Cert.KernelIdeal.Attn

open Cert.KernelIdeal Cert.KernelIdeal.Gen Idealize.ShloMosaic Idealize.ShloMosaic.TcCoe Idealize.SL.Sem

variable {F : FTy → Type} [FloatOps F]

/-- What the key loop carries: the running maximum, the running sum and the running weighted sum of the values. -/
abbrev Carry (F : FTy → Type) : Type := FVec F S4x256x1 .f32 × FVec F S4x256x1 .f32 × FVec F S4x256x128 .f32

/-- The queries of the block's 256 positions, the four heads stacked: row `256 h + r` is head `h` of position `r`. -/
def stacked (q : Vec F S1x256x1024 .bf16) : FVec F S1024x256 .bf16 :=
  k0_pay2 (View.ld q (Rect.unit (s := S1x256x1024) ![0, 0, 0] S1x256x256.size inb_S1x256x1024_S1x256x256_0_0_0))
    (View.ld q (Rect.unit (s := S1x256x1024) ![0, 0, 256] S1x256x256.size inb_S1x256x1024_S1x256x256_0_0_256))
    (View.ld q (Rect.unit (s := S1x256x1024) ![0, 0, 512] S1x256x256.size inb_S1x256x1024_S1x256x256_0_0_512))
    (View.ld q (Rect.unit (s := S1x256x1024) ![0, 0, 768] S1x256x256.size inb_S1x256x1024_S1x256x256_0_0_768))

/-- The 1024 keys that trip `k` reads. -/
def chunk (i : grid0.Coords) (kv : Vec F S1x8192x256 .bf16) (k : Fin (k0_t1_loop i).trips) : Vec F S1x1024x256 .bf16 :=
  View.ld kv (Rect.unit (s := S1x8192x256) (k0_off1 i k) S1x1024x256.size (k0_off1_inb i k))

/-- One trip of the key loop on the carried triple. -/
def step (i : grid0.Coords) (q : Vec F S1x256x1024 .bf16) (kv : Vec F S1x8192x256 .bf16) (k : Fin (k0_t1_loop i).trips)
    (s : Carry F) : Carry F :=
  (k0_pay9 i (stacked q) (k0_pay3 i) k s.1 (chunk i kv k),
   k0_pay12 i (stacked q) (k0_pay3 i) k s.1 s.2.1 (chunk i kv k),
   k0_pay13 i (stacked q) (k0_pay3 i) k s.1 s.2.2 (chunk i kv k))

/-- What the block stores, from what the key loop leaves and the value projection of the four heads. -/
def finish (s : Carry F) (w : Vec F S4x128x256 .bf16) : FVec F S1x256x256 .bf16 :=
  k0_pay1 (k0_pay21 s.2.1 s.2.2
    (View.ld w (Rect.unit (s := S4x128x256) ![0, 0, 0] S1x128x256.size inb_S4x128x256_S1x128x256_0_0_0))
    (View.ld w (Rect.unit (s := S4x128x256) ![1, 0, 0] S1x128x256.size inb_S4x128x256_S1x128x256_1_0_0))
    (View.ld w (Rect.unit (s := S4x128x256) ![2, 0, 0] S1x128x256.size inb_S4x128x256_S1x128x256_2_0_0))
    (View.ld w (Rect.unit (s := S4x128x256) ![3, 0, 0] S1x128x256.size inb_S4x128x256_S1x128x256_3_0_0)))

/-- The generated trip, at the block's own queries and keys, is `step`. -/
theorem trip_eq_step (𝒱 : Variants) (c : Dev nD) (bd : Option 𝒱.V) (i : grid0.Coords) (arg2 : Memref sig .tc .vmem S1x256x1024 .bf16) (harg2 : arg2.IsWhole) (arg3 : Memref sig .tc .vmem S1x8192x256 .bf16) (harg3 : arg3.IsWhole) (arg4 : Memref sig .tc .vmem S4x128x256 .bf16) (harg4 : arg4.IsWhole) (arg5 : Memref sig .tc .vmem S1x256x256 .bf16) (harg5 : arg5.IsWhole)
    (v13 : FVec F S4x256x1 .f32) (v14 : FVec F S4x256x1 .f32) (v15 : FVec F S4x256x128 .f32) (v19 : BitVec 32) (v30 : BitVec 1) (v32 : BitVec 1)
    (q : Vec F S1x256x1024 .bf16) (kv : Vec F S1x8192x256 .bf16) (k : Fin (k0_t1_loop i).trips) (s : Carry F) :
    tripR_k0_t1 (F := F) 𝒱 c bd i arg2 harg2 arg3 harg3 arg4 harg4 arg5 harg5 (stacked q) (k0_pay3 i) v13 v14 v15 v19 v30 v32 (harg3.unread kv) k s
      = step i q kv k s := by
  unfold tripR_k0_t1 trip_k0_t1
  dsimp only
  simp only [View.readAt_eq_ld, harg3.read_unread]
  rfl

/-- The carried triple after the key loop has any property that the first triple has and a trip keeps. -/
theorem loop_keeps (𝒱 : Variants) (c : Dev nD) (bd : Option 𝒱.V) (i : grid0.Coords) (arg2 : Memref sig .tc .vmem S1x256x1024 .bf16) (harg2 : arg2.IsWhole) (arg3 : Memref sig .tc .vmem S1x8192x256 .bf16) (harg3 : arg3.IsWhole) (arg4 : Memref sig .tc .vmem S4x128x256 .bf16) (harg4 : arg4.IsWhole) (arg5 : Memref sig .tc .vmem S1x256x256 .bf16) (harg5 : arg5.IsWhole)
    (v13 : FVec F S4x256x1 .f32) (v14 : FVec F S4x256x1 .f32) (v15 : FVec F S4x256x128 .f32) (v19 : BitVec 32) (v30 : BitVec 1) (v32 : BitVec 1)
    (q : Vec F S1x256x1024 .bf16) (kv : Vec F S1x8192x256 .bf16) (init : Carry F) (Inv : ℕ → Carry F → Prop) (h0 : Inv 0 init)
    (hs : ∀ (k : Fin (k0_t1_loop i).trips) (s : Carry F), Inv k s → Inv (k + 1) (step i q kv k s)) (n : ℕ) (hn : n ≤ (k0_t1_loop i).trips) :
    Inv n (st_k0_t1 (F := F) 𝒱 c bd i arg2 harg2 arg3 harg3 arg4 harg4 arg5 harg5 (stacked q) (k0_pay3 i) v13 v14 v15 v19 v30 v32 (harg3.unread kv) init n) := by
  induction n with
  | zero => exact h0
  | succ n ih =>
    have h := st_k0_t1_succ (F := F) 𝒱 c bd i arg2 harg2 arg3 harg3 arg4 harg4 arg5 harg5 (stacked q) (k0_pay3 i) v13 v14 v15 v19 v30 v32 (harg3.unread kv) init ⟨n, hn⟩
    rw [trip_eq_step] at h
    dsimp only at h
    rw [h]
    exact hs ⟨n, hn⟩ _ (ih (Nat.le_of_succ_le hn))

variable (m : (ℓ : Loc nD τ sig) → Buf (Elt F) ℓ)

/-- The block that point `t` stores is `finish` of a triple with any property that the loop's first triple has and a
    trip keeps. -/
theorem block_of_invariant (c : Dev nD) (t : Fin cfg0.N) (Inv : ℕ → Carry F → Prop) (h0 : Inv 0 (k0_pay4, k0_pay5, k0_pay6))
    (hs : ∀ (k : Fin (k0_t1_loop (grid0.coords t)).trips) (s : Carry F), Inv k s →
      Inv (k + 1) (step (grid0.coords t) (iblk m c 0 t) (iblk m c 1 t) k s)) :
    ∃ s : Carry F, Inv (k0_t1_loop (grid0.coords t)).trips s ∧ outsAt0 m c t = finish s (iblk m c 2 t) := by
  have ht : Scf.trips (k0_t2_loop (grid0.coords t)).lb (k0_t2_loop (grid0.coords t)).ub (k0_t2_loop (grid0.coords t)).st = 0 :=
    Nat.le_zero.1 (k0_t2_abs (grid0.coords t)).2.1
  unfold outsAt0 out0_A_3
  rw [View.read_writes_eq_canon _ _ _ (cover0_A_3 c _ _ _ _ _ _ _ _ _ _ _ _)]
  unfold kernelRun0_A
  dsimp only
  rw [View.canon_unit_zero (by decide)]
  sl_unfold_words
  rw [ht]
  simp only [st_k0_t2_zero, View.readAt_eq_ld, (hs0_0 t).read_unread, (hs0_2 t).read_unread]
  refine ⟨_, ?_, rfl⟩
  exact loop_keeps Variants.none c none (grid0.coords t) (ms0_0 t) (hs0_0 t) (ms0_1 t) (hs0_1 t) (ms0_2 t) (hs0_2 t)
    (ms0_3 t) (hs0_3 t) k0_pay4 k0_pay5 k0_pay6 _ _ _ (iblk m c 0 t) (iblk m c 1 t) (k0_pay4, k0_pay5, k0_pay6) Inv h0 hs _ le_rfl

end Cert.KernelIdeal.Attn
end
-- ==== Proof.Payload.lean ====
/- What the attention kernel's vector expressions hold, element by element. -/
module

public import proofs.«01_k».proof.Proof.Trip

@[expose] public section

noncomputable section

namespace Cert.KernelIdeal.Attn

open Cert.KernelIdeal Cert.KernelIdeal.Gen Idealize.ShloMosaic Idealize.ShloMosaic.TcCoe Idealize.SL.Sem

/-- A masked score of one block: the mask compares the key's position with the query's. -/
theorem score_apply (i : grid0.Coords) (v9 : FVec Ideal S1024x256 .bf16) (k : Fin (k0_t1_loop i).trips) (kv : Vec Ideal S1x1024x256 .bf16)
    (h : Fin 4) (r : Fin 256) (x : Fin 1024) :
    k0_pay8 i v9 (k0_pay3 i) k kv (ix3 h r x) = Scalar.select
      (Scalar.cmpi CmpIPredicate.sle (Scalar.addi (Scalar.muli (Scf.iv 0#32 1#32 k.val) 1024#32) (BitVec.ofNat 32 x.val))
        (Scalar.addi (Scalar.muli (BitVec.ofNat 32 (i 1).val) 256#32) (BitVec.ofNat 32 r.val)))
      ((∑ c : Fin 256, v9 (ix2 ⟨h.val * 256 + r.val, by omega⟩ c) * kv (ix3 0 x c)) * Ideal.ofBits FTy.f32 0x3DD105EC#32)
      (Ideal.ofBits FTy.f32 0xFF800000#32) := by
  pointwise [k0_pay8, k0_pay3, k0_pay7]
  rfl

/-- The new maximum. -/
theorem max_apply (i : grid0.Coords) (v9 : FVec Ideal S1024x256 .bf16) (k : Fin (k0_t1_loop i).trips) (m : FVec Ideal S4x256x1 .f32)
    (kv : Vec Ideal S1x1024x256 .bf16) (h : Fin 4) (r : Fin 256) :
    k0_pay9 i v9 (k0_pay3 i) k m kv (ix3 h r 0) = max (m (ix3 h r 0))
      (Finset.fold max (Ideal.ofBits FTy.f32 0xFF800000#32) (fun x : Fin 1024 => k0_pay8 i v9 (k0_pay3 i) k kv (ix3 h r x)) Finset.univ) := by
  pointwise [k0_pay9]

/-- The new sum. -/
theorem sum_apply (i : grid0.Coords) (v9 : FVec Ideal S1024x256 .bf16) (k : Fin (k0_t1_loop i).trips) (m l : FVec Ideal S4x256x1 .f32)
    (kv : Vec Ideal S1x1024x256 .bf16) (h : Fin 4) (r : Fin 256) :
    k0_pay12 i v9 (k0_pay3 i) k m l kv (ix3 h r 0) =
      Ideal.exp (m (ix3 h r 0) - k0_pay9 i v9 (k0_pay3 i) k m kv (ix3 h r 0)) * l (ix3 h r 0) +
        ∑ x : Fin 1024, Ideal.exp (k0_pay8 i v9 (k0_pay3 i) k kv (ix3 h r x) - k0_pay9 i v9 (k0_pay3 i) k m kv (ix3 h r 0)) := by
  pointwise [k0_pay12, k0_pay10, k0_pay11]

/-- The new weighted sum of the values. -/
theorem acc_apply (i : grid0.Coords) (v9 : FVec Ideal S1024x256 .bf16) (k : Fin (k0_t1_loop i).trips) (m : FVec Ideal S4x256x1 .f32)
    (a : FVec Ideal S4x256x128 .f32) (kv : Vec Ideal S1x1024x256 .bf16) (h : Fin 4) (r : Fin 256) (d : Fin 128) :
    k0_pay13 i v9 (k0_pay3 i) k m a kv (ix3 h r d) =
      Ideal.exp (m (ix3 h r 0) - k0_pay9 i v9 (k0_pay3 i) k m kv (ix3 h r 0)) * a (ix3 h r d) +
        ∑ x : Fin 1024, Ideal.exp (k0_pay8 i v9 (k0_pay3 i) k kv (ix3 h r x) - k0_pay9 i v9 (k0_pay3 i) k m kv (ix3 h r 0)) *
          kv (ix3 0 x ⟨d.val, by omega⟩) := by
  pointwise [k0_pay13, k0_pay10, k0_pay11, k0_pay7]

end Cert.KernelIdeal.Attn
end
-- ==== Proof.Ends.lean ====
/- What the attention kernel reads at the start of a block and stores at its end, element by element. -/
module

public import proofs.«01_k».proof.Proof.Trip

@[expose] public section

noncomputable section

namespace Cert.KernelIdeal.Attn

open Cert.KernelIdeal Cert.KernelIdeal.Gen Idealize.ShloMosaic Idealize.ShloMosaic.TcCoe Idealize.SL.Sem

/-- The stored block: per head the average times the head's value projection, the four heads added. -/
theorem finish_apply (s : Carry Ideal) (w : Vec Ideal S4x128x256 .bf16) (r v : Fin 256) :
    finish s w (ix3 0 r v) =
      ∑ x : Fin 128, Ideal.div (s.2.2 (ix3 0 r x)) (s.2.1 (ix3 0 r 0)) * w (ix3 0 x v) +
          ∑ x : Fin 128, Ideal.div (s.2.2 (ix3 1 r x)) (s.2.1 (ix3 1 r 0)) * w (ix3 1 x v) +
        ∑ x : Fin 128, Ideal.div (s.2.2 (ix3 2 r x)) (s.2.1 (ix3 2 r 0)) * w (ix3 2 x v) +
      ∑ x : Fin 128, Ideal.div (s.2.2 (ix3 3 r x)) (s.2.1 (ix3 3 r 0)) * w (ix3 3 x v) := by
  pointwise [finish, k0_pay1, k0_pay21]

/-- Head `h` of the block's position `r` in the stacked queries. -/
theorem stacked_apply (q : Vec Ideal S1x256x1024 .bf16) (h : Fin 4) (r c : Fin 256) :
    stacked q (ix2 ⟨h.val * 256 + r.val, by omega⟩ c) = q (ix3 0 r ⟨256 * h.val + c.val, by omega⟩) := by
  have e : stacked q (ix2 ⟨h.val * 256 + r.val, by omega⟩ c) = (if _h : h.val * 256 + r.val < 256 then q (ix3 0 ⟨h.val * 256 + r.val, by omega⟩ ⟨c.val, by omega⟩)
      else if _h : h.val * 256 + r.val - 256 < 256 then q (ix3 0 ⟨h.val * 256 + r.val - 256, by omega⟩ ⟨256 + c.val, by omega⟩)
      else if _h : h.val * 256 + r.val - 256 - 256 < 256 then q (ix3 0 ⟨h.val * 256 + r.val - 256 - 256, by omega⟩ ⟨512 + c.val, by omega⟩)
      else q (ix3 0 ⟨h.val * 256 + r.val - 256 - 256 - 256, by omega⟩ ⟨768 + c.val, by omega⟩)) := by
    pointwise [stacked, k0_pay2]
  rw [e]
  split_ifs <;> refine congrArg q (congrArg₂ (fun a b => ix3 0 a b) (Fin.ext ?_) (Fin.ext ?_)) <;> dsimp only <;> omega

/-- Key `x` of trip `k`'s chunk. -/
theorem chunk_apply (i : grid0.Coords) (kv : Vec Ideal S1x8192x256 .bf16) (k : Fin (k0_t1_loop i).trips) (x : Fin 1024) (c : Fin 256) :
    chunk i kv k (ix3 0 x c) = kv (ix3 0 ⟨1024 * k.val + x.val, by
      have := Nat.lt_of_lt_of_le k.isLt (k0_t1_abs i).2.1
      omega⟩ c) := by
  pointwise [chunk]
  simp only [k0_off1_eq]
  simp

end Cert.KernelIdeal.Attn
end
-- ==== Proof.Softmax.lean ====
/- A causal softmax average over extended-real scores: in one pass over all keys, and key chunk by key chunk with a
   running maximum. Both are the same real number. -/
module

public import Idealize.ShloMosaic.Lib.Pointwise

@[expose] public section

noncomputable section

namespace Cert.Attn

open Idealize.ShloMosaic

/-- The scores `X` are a row that a softmax can be taken of: none is `⊤`, and the first is a real number. -/
structure Row (X : ℕ → EReal) : Prop where
  top (j : ℕ) : X j ≠ ⊤
  first : X 0 ≠ ⊥

/-- The weight of key `j` against the real number `M`: `exp (X j - M)`, which is 0 at a masked key. -/
def wt (X : ℕ → EReal) (M : ℝ) (j : ℕ) : ℝ := (Ideal.exp (X j - (M : EReal))).toReal

/-- The softmax average of the values `V` over the first 8192 keys. -/
def soft (X : ℕ → EReal) (V : ℕ → ℝ) : ℝ :=
  (∑ j ∈ Finset.range 8192, wt X 0 j * V j) / ∑ j ∈ Finset.range 8192, wt X 0 j

variable {X : ℕ → EReal}

/-- A sum of real numbers, taken in the extended reals. -/
theorem coe_sum {ι : Type*} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The exponential of `⊥` is 0. -/
theorem exp_bot : Ideal.exp ⊥ = 0 := rfl

/-- The exponential of a score less a real number is the weight. -/
theorem exp_sub_eq (h : ∀ j, X j ≠ ⊤) (M : ℝ) (j : ℕ) : Ideal.exp (X j - (M : EReal)) = (wt X M j : EReal) := by
  unfold wt
  induction hx : X j with
  | bot => rw [EReal.bot_sub]; rfl
  | top => exact absurd hx (h j)
  | coe r => rw [← EReal.coe_sub]; rfl

/-- Weights against another number differ by a common factor. -/
theorem wt_shift (h : ∀ j, X j ≠ ⊤) (M N : ℝ) (j : ℕ) : wt X N j = Real.exp (M - N) * wt X M j := by
  unfold wt
  induction hx : X j with
  | bot => rw [EReal.bot_sub, EReal.bot_sub, exp_bot, EReal.toReal_zero, mul_zero]
  | top => exact absurd hx (h j)
  | coe r =>
    rw [← EReal.coe_sub, ← EReal.coe_sub, Ideal.exp_coe, Ideal.exp_coe, EReal.toReal_coe, EReal.toReal_coe, ← Real.exp_add]
    congr 1
    ring

/-- A weight is not negative. -/
theorem wt_nonneg (h : ∀ j, X j ≠ ⊤) (M : ℝ) (j : ℕ) : 0 ≤ wt X M j := by
  unfold wt
  induction hx : X j with
  | bot => rw [EReal.bot_sub]; exact le_of_eq rfl
  | top => exact absurd hx (h j)
  | coe r => rw [← EReal.coe_sub, Ideal.exp_coe, EReal.toReal_coe]; exact (Real.exp_pos _).le

/-- The weight of the first key is positive. -/
theorem wt_first (h : Row X) (M : ℝ) : 0 < wt X M 0 := by
  unfold wt
  induction hx : X 0 with
  | bot => exact absurd hx h.first
  | top => exact absurd hx (h.top 0)
  | coe r => rw [← EReal.coe_sub, Ideal.exp_coe, EReal.toReal_coe]; exact Real.exp_pos _

/-- A masked key weighs nothing. -/
theorem wt_bot (M : ℝ) {j : ℕ} (h : X j = ⊥) : wt X M j = 0 := by
  unfold wt
  rw [h, EReal.bot_sub]
  rfl

/-- The sum of the weights is positive as soon as it has the first key. -/
theorem sum_pos (h : Row X) (M : ℝ) {n : ℕ} (hn : 0 < n) : 0 < ∑ j ∈ Finset.range n, wt X M j :=
  lt_of_lt_of_le (wt_first h M)
    (Finset.single_le_sum (f := fun j => wt X M j) (fun j _ => wt_nonneg h.top M j) (Finset.mem_range.2 hn))

/-- A quotient of two real numbers with a positive denominator. -/
theorem div_coe (a b : ℝ) (hb : 0 < b) : Ideal.div (a : EReal) (b : EReal) = ((a / b : ℝ) : EReal) := by
  unfold Ideal.div
  rw [if_neg (by exact_mod_cast hb.ne'), ← EReal.coe_inv, ← EReal.coe_mul, div_eq_mul_inv]

/-- The average does not depend on the number the scores are taken against. -/
theorem soft_eq (h : Row X) (V : ℕ → ℝ) (M : ℝ) :
    (∑ j ∈ Finset.range 8192, wt X M j * V j) / (∑ j ∈ Finset.range 8192, wt X M j) = soft X V := by
  unfold soft
  have hw : ∀ j, wt X M j = Real.exp (0 - M) * wt X 0 j := wt_shift h.top 0 M
  simp only [hw, mul_assoc]
  rw [← Finset.mul_sum, ← Finset.mul_sum]
  exact mul_div_mul_left _ _ (Real.exp_pos _).ne'

/-- The one-pass form: every value times its weight over the sum of the weights. -/
theorem direct (h : Row X) (V : ℕ → ℝ) (M : ℝ) :
    ∑ j : Fin 8192, (V j : EReal) * Ideal.div (Ideal.exp (X j - (M : EReal))) (∑ i : Fin 8192, Ideal.exp (X i - (M : EReal)))
      = (soft X V : EReal) := by
  have hL := sum_pos h M (n := 8192) (by norm_num)
  simp only [exp_sub_eq h.top, ← coe_sum]
  rw [Finset.sum_range (fun j => wt X M j)] at hL
  simp only [div_coe _ _ hL, ← EReal.coe_mul, ← coe_sum]
  rw [← soft_eq h V M, Finset.sum_range, Finset.sum_range, Finset.sum_div]
  exact congrArg _ (Finset.sum_congr rfl fun j _ => by ring)

/-- What a running pass has after `n` chunks of 1024 keys: before the first nothing; later a real maximum, the sum of
    the weights against it, and the weighted sum of the values. -/
def After (X : ℕ → EReal) (V : ℕ → ℝ) (n : ℕ) (m l a : EReal) : Prop :=
  (n = 0 ∧ m = ⊥ ∧ l = 0 ∧ a = 0) ∨
    ∃ M : ℝ, m = (M : EReal) ∧ l = ((∑ j ∈ Finset.range (1024 * n), wt X M j : ℝ) : EReal) ∧
      a = ((∑ j ∈ Finset.range (1024 * n), wt X M j * V j : ℝ) : EReal)

/-- A greatest element of finitely many extended reals that are not `⊤` is not `⊤`. -/
theorem fold_max_ne_top {ι : Type*} (s : Finset ι) (f : ι → EReal) (h : ∀ i, f i ≠ ⊤) : Finset.fold max ⊥ f s ≠ ⊤ := by
  classical
  induction s using Finset.induction_on with
  | empty => simp
  | insert a s ha ih =>
    rw [Finset.fold_insert ha]
    rcases max_choice (f a) (Finset.fold max ⊥ f s) with e | e <;> rw [e]
    · exact h a
    · exact ih

/-- A greatest element is at least each element. -/
theorem le_fold_max {ι : Type*} (s : Finset ι) (f : ι → EReal) {i : ι} (h : i ∈ s) : f i ≤ Finset.fold max ⊥ f s := by
  rw [Finset.le_fold_max]
  exact Or.inr ⟨i, h, le_rfl⟩

/-- The greatest of a row's first scores is a real number. -/
theorem fold_max_real (h : Row X) {n : ℕ} (hn : 0 < n) : ∃ M : ℝ, Finset.fold max ⊥ (fun j : Fin n => X j) Finset.univ = (M : EReal) := by
  have ht := fold_max_ne_top (Finset.univ : Finset (Fin n)) (fun j => X j) fun j => h.top j
  have hb : Finset.fold max ⊥ (fun j : Fin n => X j) Finset.univ ≠ ⊥ := by
    intro e
    have := le_fold_max (Finset.univ : Finset (Fin n)) (fun j => X j) (Finset.mem_univ ⟨0, hn⟩)
    rw [e, le_bot_iff] at this
    exact h.first this
  exact ⟨_, (EReal.coe_toReal ht hb).symm⟩

/-- The scores of chunk `n`. -/
def part (X : ℕ → EReal) (n : ℕ) (x : Fin 1024) : EReal := X (1024 * n + x)

/-- The maximum after a chunk. -/
def newMax (X : ℕ → EReal) (n : ℕ) (m : EReal) : EReal := max m (Finset.fold max ⊥ (part X n) Finset.univ)

/-- The sum over the keys up to the end of chunk `n` splits off that chunk. -/
theorem sum_chunk (f : ℕ → ℝ) (n : ℕ) :
    ∑ j ∈ Finset.range (1024 * (n + 1)), f j = ∑ j ∈ Finset.range (1024 * n), f j + ∑ x : Fin 1024, f (1024 * n + x) := by
  rw [Nat.mul_add, Nat.mul_one, Finset.sum_range_add, Finset.sum_range (fun x => f (1024 * n + x))]

/-- A running pass goes on: the old sums are scaled to the new maximum and the chunk's are added. -/
theorem After.step (h : Row X) (V : ℕ → ℝ) (n : ℕ) (m l a : EReal) (hs : After X V n m l a) :
    After X V (n + 1) (newMax X n m)
      (Ideal.exp (m - newMax X n m) * l + ∑ x, Ideal.exp (part X n x - newMax X n m))
      (Ideal.exp (m - newMax X n m) * a + ∑ x : Fin 1024, Ideal.exp (part X n x - newMax X n m) * (V (1024 * n + x) : EReal)) := by
  have hreal : ∃ N : ℝ, newMax X n m = (N : EReal) := by
    unfold newMax
    rcases hs with ⟨rfl, rfl, -, -⟩ | ⟨M, rfl, -, -⟩
    · obtain ⟨N, hN⟩ := fold_max_real h (n := 1024) (by norm_num)
      refine ⟨N, ?_⟩
      rw [← hN, max_eq_right bot_le]
      unfold part
      simp only [Nat.mul_zero, Nat.zero_add]
    · have ht := fold_max_ne_top (Finset.univ : Finset (Fin 1024)) (part X n) fun x => h.top _
      have hmt : max (M : EReal) (Finset.fold max ⊥ (part X n) Finset.univ) ≠ ⊤ := by
        rcases max_choice (M : EReal) (Finset.fold max ⊥ (part X n) Finset.univ) with e | e <;> rw [e]
        · exact EReal.coe_ne_top M
        · exact ht
      have hmb : max (M : EReal) (Finset.fold max ⊥ (part X n) Finset.univ) ≠ ⊥ := by
        intro e
        have := le_max_left (M : EReal) (Finset.fold max ⊥ (part X n) Finset.univ)
        rw [e, le_bot_iff] at this
        exact EReal.coe_ne_bot M this
      exact ⟨_, (EReal.coe_toReal hmt hmb).symm⟩
  obtain ⟨N, hN⟩ := hreal
  rw [hN]
  refine Or.inr ⟨N, rfl, ?_, ?_⟩
  · simp only [part, exp_sub_eq h.top, ← coe_sum]
    rw [sum_chunk, EReal.coe_add]
    congr 1
    rcases hs with ⟨rfl, rfl, rfl, -⟩ | ⟨M, rfl, rfl, -⟩
    · simp
    · rw [← EReal.coe_sub, Ideal.exp_coe, ← EReal.coe_mul, Finset.mul_sum]
      simp only [← wt_shift h.top]
  · simp only [part, exp_sub_eq h.top, ← EReal.coe_mul, ← coe_sum]
    rw [sum_chunk, EReal.coe_add]
    congr 1
    rcases hs with ⟨rfl, rfl, -, rfl⟩ | ⟨M, rfl, -, rfl⟩
    · simp
    · rw [← EReal.coe_sub, Ideal.exp_coe, ← EReal.coe_mul, Finset.mul_sum]
      simp only [← mul_assoc, ← wt_shift h.top]

/-- Once the chunks reach past the last unmasked key, the running pass's quotient is the average. -/
theorem After.quotient (h : Row X) (V : ℕ → ℝ) (n : ℕ) (m l a : EReal) (hs : After X V n m l a) (h0 : 0 < n) (h8 : n ≤ 8)
    (hm : ∀ j, 1024 * n ≤ j → X j = ⊥) : Ideal.div a l = (soft X V : EReal) := by
  rcases hs with ⟨rfl, -⟩ | ⟨M, -, rfl, rfl⟩
  · exact absurd h0 (lt_irrefl 0)
  · have hsub : Finset.range (1024 * n) ⊆ Finset.range 8192 := Finset.range_subset_range.2 (by omega)
    have hl : ∑ j ∈ Finset.range (1024 * n), wt X M j = ∑ j ∈ Finset.range 8192, wt X M j := by
      refine Finset.sum_subset hsub fun j _ hj => ?_
      rw [wt_bot M (hm j (by simpa using hj))]
    have ha : ∑ j ∈ Finset.range (1024 * n), wt X M j * V j = ∑ j ∈ Finset.range 8192, wt X M j * V j := by
      refine Finset.sum_subset hsub fun j _ hj => ?_
      rw [wt_bot M (hm j (by simpa using hj)), zero_mul]
    rw [hl, ha, div_coe _ _ (sum_pos h M (by norm_num)), ← soft_eq h V M]

end Cert.Attn
end
-- ==== Proof.Scores.lean ====
/- One query's causal scores against the keys, and the values its weights average. -/
module

public import proofs.«01_k».proof.Proof.Softmax

@[expose] public section

noncomputable section

namespace Cert.Attn

open Idealize.ShloMosaic

/-- The factor on a query-key product. -/
def scale : EReal := Ideal.ofBits .f32 0x3DD105EC#32

/-- The scores of the query `q` at position `t`: its scaled products with the keys up to `t`, and `⊥` from there on. -/
def scores (q : Fin 256 → EReal) (ks : Fin 8192 → Fin 256 → EReal) (t : ℕ) (j : ℕ) : EReal :=
  if h : j < 8192 then if j ≤ t then (∑ c, q c * ks ⟨j, h⟩ c) * scale else ⊥ else ⊥

/-- Component `d` of the values: the keys' own first 128 components. -/
def vals (ks : Fin 8192 → Fin 256 → EReal) (d : Fin 128) (j : ℕ) : ℝ :=
  if h : j < 8192 then (ks ⟨j, h⟩ ⟨d, by omega⟩).toReal else 0

/-- A real number read from an extended real that is neither `⊤` nor `⊥`. -/
def IsReal (x : EReal) : Prop := x ≠ ⊤ ∧ x ≠ ⊥

theorem IsReal.coe {x : EReal} (h : IsReal x) : x = (x.toReal : EReal) := (EReal.coe_toReal h.1 h.2).symm

theorem isReal_coe (r : ℝ) : IsReal (r : EReal) := ⟨EReal.coe_ne_top r, EReal.coe_ne_bot r⟩

theorem IsReal.mul {x y : EReal} (hx : IsReal x) (hy : IsReal y) : IsReal (x * y) := by
  rw [hx.coe, hy.coe, ← EReal.coe_mul]
  exact isReal_coe _

theorem isReal_sum {ι : Type*} (s : Finset ι) (f : ι → EReal) (h : ∀ i, IsReal (f i)) : IsReal (∑ i ∈ s, f i) := by
  rw [Finset.sum_congr rfl fun i _ => (h i).coe, ← coe_sum]
  exact isReal_coe _

/-- The factor is a real number. -/
theorem isReal_scale : IsReal scale := by
  have h : ∃ r : ℝ, (r : EReal) = scale := by
    simp only [scale, Ideal.ofBits, Ideal.ieee]
    simp [-EReal.coe_mul]
  obtain ⟨r, hr⟩ := h
  rw [← hr]
  exact isReal_coe r

/-- A finite query against finite keys has a row of scores. -/
theorem row_scores (q : Fin 256 → EReal) (ks : Fin 8192 → Fin 256 → EReal) (t : ℕ) (hq : ∀ c, IsReal (q c))
    (hk : ∀ j c, IsReal (ks j c)) : Row (scores q ks t) := by
  have hr : ∀ j, IsReal ((∑ c, q c * ks j c) * scale) := fun j =>
    (isReal_sum _ _ fun c => (hq c).mul (hk j c)).mul isReal_scale
  constructor
  · intro j
    unfold scores
    split_ifs
    · exact (hr _).1
    · exact bot_ne_top
    · exact bot_ne_top
  · unfold scores
    rw [dif_pos (by norm_num), if_pos (Nat.zero_le t)]
    exact (hr _).2

/-- Past the query's own position every key is masked. -/
theorem scores_masked (q : Fin 256 → EReal) (ks : Fin 8192 → Fin 256 → EReal) (t j : ℕ) (h : t < j) : scores q ks t j = ⊥ := by
  unfold scores
  split_ifs with h1 h2
  · omega
  · rfl
  · rfl

/-- A finite key component is the value's real number. -/
theorem vals_coe (ks : Fin 8192 → Fin 256 → EReal) (hk : ∀ j c, IsReal (ks j c)) (d : Fin 128) (j : Fin 8192) :
    ((vals ks d j : ℝ) : EReal) = ks j ⟨d, by omega⟩ := by
  unfold vals
  rw [dif_pos j.isLt, ← (hk _ _).coe]

end Cert.Attn
end
-- ==== Proof.Block.lean ====
/- The value of one block of the attention kernel: per head the causal softmax average of the values, projected. -/
module

public import proofs.«01_k».proof.Proof.Payload
public import proofs.«01_k».proof.Proof.Ends
public import proofs.«01_k».proof.Proof.Scores

@[expose] public section

noncomputable section

namespace Cert.KernelIdeal.Attn

open Cert.KernelIdeal Cert.KernelIdeal.Gen Idealize.ShloMosaic Idealize.ShloMosaic.TcCoe Idealize.SL.Sem Cert.Attn

/-- The query of head `h` at the block's position `r`. -/
def qrow (q : Vec Ideal S1x256x1024 .bf16) (h : Fin 4) (r : Fin 256) (c : Fin 256) : EReal :=
  q (ix3 0 r ⟨256 * h.val + c.val, by omega⟩)

/-- The keys of the block's batch. -/
def krows (kv : Vec Ideal S1x8192x256 .bf16) (j : Fin 8192) (c : Fin 256) : EReal := kv (ix3 0 j c)

/-- The scores of head `h` at the block's position `r`, the block being the `i 1`-th of its batch. -/
def bscores (i : grid0.Coords) (q : Vec Ideal S1x256x1024 .bf16) (kv : Vec Ideal S1x8192x256 .bf16) (h : Fin 4) (r : Fin 256) : ℕ → EReal :=
  scores (qrow q h r) (krows kv) (256 * (i 1).val + r.val)

/-- The pattern of minus infinity. -/
theorem ofBits_bot : Ideal.ofBits FTy.f32 0xFF800000#32 = ⊥ := by simp [Ideal.ofBits, Ideal.ieee]

/-- The grid's second coordinate counts 32 blocks. -/
theorem coord_lt (i : grid0.Coords) : (i 1).val < 32 := (i 1).isLt

/-- The mask's comparison, on numbers. -/
theorem mask_iff (i : grid0.Coords) (k : Fin (k0_t1_loop i).trips) (r : Fin 256) (x : Fin 1024) :
    Scalar.cmpi CmpIPredicate.sle (Scalar.addi (Scalar.muli (Scf.iv 0#32 1#32 k.val) 1024#32) (BitVec.ofNat 32 x.val))
        (Scalar.addi (Scalar.muli (BitVec.ofNat 32 (i 1).val) 256#32) (BitVec.ofNat 32 r.val)) = 1 ↔
      1024 * k.val + x.val ≤ 256 * (i 1).val + r.val := by
  have hk : k.val < 8 := Nat.lt_of_lt_of_le k.isLt (k0_t1_abs i).2.1
  have hi := coord_lt i
  have hiv : Affine.IsInt (Scf.iv 0#32 1#32 k.val) (k.val : Int) :=
    Affine.iv (Affine.ofNat (e := 0) 0 (by omega)) (Affine.ofNat (e := 1) 1 (by omega)) k.val (by omega)
  have hkey : Affine.IsInt (Scalar.addi (Scalar.muli (Scf.iv 0#32 1#32 k.val) 1024#32) (BitVec.ofNat 32 x.val)) (k.val * 1024 + x.val : Int) :=
    Affine.addi (Affine.muli (e := (k.val * 1024 : Int)) hiv (Affine.ofNat (e := 1024) 1024 (by omega)) (by omega))
      (Affine.ofNat (e := (x.val : Int)) x.val (by omega)) (by omega)
  have hpos : Affine.IsInt (Scalar.addi (Scalar.muli (BitVec.ofNat 32 (i 1).val) 256#32) (BitVec.ofNat 32 r.val)) ((i 1).val * 256 + r.val : Int) :=
    Affine.addi (Affine.muli (e := ((i 1).val * 256 : Int)) (Affine.ofNat (e := ((i 1).val : Int)) (i 1).val (by omega))
      (Affine.ofNat (e := 256) 256 (by omega)) (by omega)) (Affine.ofNat (e := (r.val : Int)) r.val (by omega)) (by omega)
  constructor
  · intro h
    by_contra hn
    exact Affine.sle_fails hkey hpos (by omega) h
  · intro h
    exact Affine.sle_holds hkey hpos (by omega)

/-- The block's masked scores of trip `k` are the row's chunk `k`. -/
theorem score_part (i : grid0.Coords) (q : Vec Ideal S1x256x1024 .bf16) (kv : Vec Ideal S1x8192x256 .bf16)
    (k : Fin (k0_t1_loop i).trips) (h : Fin 4) (r : Fin 256) (x : Fin 1024) :
    k0_pay8 i (stacked q) (k0_pay3 i) k (chunk i kv k) (ix3 h r x) = part (bscores i q kv h r) k x := by
  have hk : k.val < 8 := Nat.lt_of_lt_of_le k.isLt (k0_t1_abs i).2.1
  rw [score_apply]
  simp only [stacked_apply, chunk_apply]
  unfold part bscores scores Scalar.select
  rw [dif_pos (by omega), ofBits_bot]
  by_cases hm : 1024 * k.val + x.val ≤ 256 * (i 1).val + r.val
  · rw [if_pos ((mask_iff i k r x).2 hm), if_pos hm]
    rfl
  · rw [if_neg fun e => hm ((mask_iff i k r x).1 e), if_neg hm]

/-- What the carried triple holds after `n` trips. -/
def Inv (i : grid0.Coords) (q : Vec Ideal S1x256x1024 .bf16) (kv : Vec Ideal S1x8192x256 .bf16) (n : ℕ) (s : Carry Ideal) : Prop :=
  ∀ (h : Fin 4) (r : Fin 256) (d : Fin 128),
    After (bscores i q kv h r) (vals (krows kv) d) n (s.1 (ix3 h r 0)) (s.2.1 (ix3 h r 0)) (s.2.2 (ix3 h r d))

/-- It holds before the first trip. -/
theorem inv_zero (i : grid0.Coords) (q : Vec Ideal S1x256x1024 .bf16) (kv : Vec Ideal S1x8192x256 .bf16) :
    Inv i q kv 0 (k0_pay4, k0_pay5, k0_pay6) := by
  intro h r d
  refine Or.inl ⟨rfl, ?_, ?_, ?_⟩
  · exact ofBits_bot
  · exact Ideal.ofBits_zero_f32
  · exact Ideal.ofBits_zero_f32

/-- A trip keeps it, when queries and keys are real numbers. -/
theorem inv_step (i : grid0.Coords) (q : Vec Ideal S1x256x1024 .bf16) (kv : Vec Ideal S1x8192x256 .bf16)
    (hq : ∀ j, IsReal (q j)) (hkv : ∀ j, IsReal (kv j)) (k : Fin (k0_t1_loop i).trips) (s : Carry Ideal)
    (hs : Inv i q kv k s) : Inv i q kv (k + 1) (step i q kv k s) := by
  intro h r d
  have hk : k.val < 8 := Nat.lt_of_lt_of_le k.isLt (k0_t1_abs i).2.1
  have hrow : Row (bscores i q kv h r) := row_scores _ _ _ (fun c => hq _) (fun j c => hkv _)
  have key := After.step hrow (vals (krows kv) d) k _ _ _ (hs h r d)
  have hmax : k0_pay9 i (stacked q) (k0_pay3 i) k s.1 (chunk i kv k) (ix3 h r 0) = newMax (bscores i q kv h r) k (s.1 (ix3 h r 0)) := by
    rw [max_apply, ofBits_bot]
    simp only [score_part]
    rfl
  have hv : ∀ x : Fin 1024, ((vals (krows kv) d (1024 * k.val + x.val) : ℝ) : EReal) = chunk i kv k (ix3 0 x ⟨d.val, by omega⟩) := by
    intro x
    rw [chunk_apply]
    exact vals_coe (krows kv) (fun j c => hkv _) d ⟨1024 * k.val + x.val, by omega⟩
  unfold step
  dsimp only
  rw [sum_apply, acc_apply, hmax]
  simp only [score_part, ← hv]
  exact key

/-- The number of trips of block `i`'s key loop: enough chunks to reach the block's last position. -/
theorem trips_reach (i : grid0.Coords) : 256 * (i 1).val + 256 ≤ 1024 * (k0_t1_loop i).trips := by
  revert i
  decide +kernel

/-- What head `h` of the block's position `r` averages, component `d`. -/
def avg (i : grid0.Coords) (q : Vec Ideal S1x256x1024 .bf16) (kv : Vec Ideal S1x8192x256 .bf16) (h : Fin 4) (r : Fin 256) (d : Fin 128) : EReal :=
  ((soft (bscores i q kv h r) (vals (krows kv) d) : ℝ) : EReal)

variable (m : (ℓ : Loc nD τ sig) → Buf (Elt Ideal) ℓ)

/-- The block that point `t` stores, element by element, when its queries and keys are real numbers. -/
theorem block_apply (c : Dev nD) (t : Fin cfg0.N) (q : Vec Ideal S1x256x1024 .bf16) (kv : Vec Ideal S1x8192x256 .bf16) (w : Vec Ideal S4x128x256 .bf16)
    (eq : iblk m c 0 t = q) (ek : iblk m c 1 t = kv) (ew : iblk m c 2 t = w) (hq : ∀ j, IsReal (q j)) (hkv : ∀ j, IsReal (kv j)) (r v : Fin 256) :
    outsAt0 m c t (ix3 0 r v) =
      ∑ x : Fin 128, avg (grid0.coords t) q kv 0 r x * w (ix3 0 x v) + ∑ x : Fin 128, avg (grid0.coords t) q kv 1 r x * w (ix3 1 x v) +
        ∑ x : Fin 128, avg (grid0.coords t) q kv 2 r x * w (ix3 2 x v) + ∑ x : Fin 128, avg (grid0.coords t) q kv 3 r x * w (ix3 3 x v) := by
  subst eq ek ew
  obtain ⟨s, hs, e⟩ := block_of_invariant m c t (Inv (grid0.coords t) (iblk m c 0 t) (iblk m c 1 t)) (inv_zero _ _ _)
    fun k s => inv_step _ _ _ hq hkv k s
  rw [e, finish_apply]
  have hd : ∀ (h : Fin 4) (x : Fin 128), Ideal.div (s.2.2 (ix3 h r x)) (s.2.1 (ix3 h r 0)) = avg (grid0.coords t) (iblk m c 0 t) (iblk m c 1 t) h r x := by
    intro h x
    have hr := trips_reach (grid0.coords t)
    exact After.quotient (row_scores _ _ _ (fun c => hq _) (fun j c => hkv _)) _ _ _ _ _ (hs h r x) (by omega) (k0_t1_abs _).2.1
      fun j hj => scores_masked _ _ _ _ (by omega)
  simp only [hd]

end Cert.KernelIdeal.Attn
end
-- ==== Proof.Weights.lean ====
/- The value projection as the host lays it out for the attention kernel: head `h`'s columns at `64 h … 64 h + 63`, and
   zero elsewhere. -/
module

public import proofs.«01_k».proof.Proof.Gen.KernelIdeal.Value
public import Idealize.ShloMosaic.Lib.Pointwise
public import Idealize.ShloMosaic.Lib.Routing.OpsPair

@[expose] public section

noncomputable section

namespace Cert.KernelIdeal.Attn

open Cert.KernelIdeal Cert.KernelIdeal.Gen Idealize.ShloMosaic Idealize.ShloMosaic.TcCoe Idealize.SL.Sem

/-- A fold that overwrites its value at the one place `n0` of a list where `p` holds. -/
theorem foldl_overwrite {α ι : Type} [DecidableEq ι] (g : ι → α) (p : ι → Prop) [DecidablePred p] (n0 : ι) (h : ∀ n, p n ↔ n = n0)
    (l : List ι) (x : α) : l.foldl (fun a n => if p n then g n else a) x = if n0 ∈ l then g n0 else x := by
  induction l generalizing x with
  | nil => rfl
  | cons n l ih =>
    rw [List.foldl_cons, ih]
    by_cases hl : n0 ∈ l
    · rw [if_pos hl, if_pos (List.mem_cons_of_mem n hl)]
    · rw [if_neg hl]
      by_cases hn : p n
      · rw [if_pos hn, (h n).1 hn, if_pos (List.mem_cons_self ..)]
      · rw [if_neg hn, if_neg]
        intro hm
        rcases List.mem_cons.1 hm with e | e
        · exact hn ((h n).2 e.symm)
        · exact hl e

/-- A fold that overwrites its value nowhere. -/
theorem foldl_keep {α ι : Type} (g : ι → α) (p : ι → Prop) [DecidablePred p] (h : ∀ n, ¬p n) (l : List ι) (x : α) :
    l.foldl (fun a n => if p n then g n else a) x = x := by
  induction l generalizing x with
  | nil => rfl
  | cons n l ih => rw [List.foldl_cons, ih, if_neg (h n)]

/-- Where a head's columns land: update `(a, b)` at row `a` of head `h`, column `off + b`. -/
theorem lands (idx : IVec S2 32) (h off : ℕ) (h0 : (idx (ix1 0)).toInt = h) (h1 : (idx (ix1 1)).toInt = off)
    (a : Fin 128) (b : Fin 64) (j0 : Fin 4) (j1 : Fin 128) (j2 : Fin 256) :
    scatter_S4x128x256_S2_S128x64_01_0_02_0.resultIdx? (ix2 a b) idx = some (ix3 j0 j1 j2) ↔
      j0.val = h ∧ j1 = a ∧ j2.val = off + b.val := by
  rw [Routing.resultIdx?_eq_some]
  have s0 : scatter_S4x128x256_S2_S128x64_01_0_02_0.start (ix2 a b) idx 0 = h := by
    unfold ScatterDims.start
    rw [dif_pos (by decide), ← h0]
    refine congrArg (fun p => (idx p).toInt) (funext fun x => ?_)
    match x with
    | ⟨0, _⟩ => rfl
  have s1 : scatter_S4x128x256_S2_S128x64_01_0_02_0.start (ix2 a b) idx 1 = 0 := rfl
  have s2 : scatter_S4x128x256_S2_S128x64_01_0_02_0.start (ix2 a b) idx 2 = off := by
    unfold ScatterDims.start
    rw [dif_pos (by decide), ← h1]
    refine congrArg (fun p => (idx p).toInt) (funext fun x => ?_)
    match x with
    | ⟨0, _⟩ => rfl
  have w0 : scatter_S4x128x256_S2_S128x64_01_0_02_0.window (ix2 a b) 0 = 0 := rfl
  have w1 : scatter_S4x128x256_S2_S128x64_01_0_02_0.window (ix2 a b) 1 = a.val := rfl
  have w2 : scatter_S4x128x256_S2_S128x64_01_0_02_0.window (ix2 a b) 2 = b.val := rfl
  constructor
  · intro q
    have q0 := q 0; have q1 := q 1; have q2 := q 2
    rw [s0, w0] at q0
    rw [s1, w1] at q1
    rw [s2, w2] at q2
    have e0 : (((ix3 j0 j1 j2 : S4x128x256.Idx) 0).val : ℤ) = j0.val := rfl
    have e1 : (((ix3 j0 j1 j2 : S4x128x256.Idx) 1).val : ℤ) = j1.val := rfl
    have e2 : (((ix3 j0 j1 j2 : S4x128x256.Idx) 2).val : ℤ) = j2.val := rfl
    rw [e0] at q0; rw [e1] at q1; rw [e2] at q2
    exact ⟨by omega, Fin.ext (by omega), by omega⟩
  · rintro ⟨q0, rfl, q2⟩ x
    match x with
    | ⟨0, _⟩ =>
      show scatter_S4x128x256_S2_S128x64_01_0_02_0.start (ix2 j1 b) idx 0 + (scatter_S4x128x256_S2_S128x64_01_0_02_0.window (ix2 j1 b) 0 : ℤ) = (j0.val : ℤ)
      rw [s0, w0]; omega
    | ⟨1, _⟩ =>
      show scatter_S4x128x256_S2_S128x64_01_0_02_0.start (ix2 j1 b) idx 1 + (scatter_S4x128x256_S2_S128x64_01_0_02_0.window (ix2 j1 b) 1 : ℤ) = (j1.val : ℤ)
      rw [s1, w1]; omega
    | ⟨2, _⟩ =>
      show scatter_S4x128x256_S2_S128x64_01_0_02_0.start (ix2 j1 b) idx 2 + (scatter_S4x128x256_S2_S128x64_01_0_02_0.window (ix2 j1 b) 2 : ℤ) = (j2.val : ℤ)
      rw [s2, w2]; omega

/-- Writing one head's columns: at that head's columns the update, elsewhere what was there. -/
theorem scatter_apply (x : S4x128x256.Idx → EReal) (idx : IVec S2 32) (u : S128x64.Idx → EReal) (h off : ℕ)
    (h0 : (idx (ix1 0)).toInt = h) (h1 : (idx (ix1 1)).toInt = off) (j0 : Fin 4) (j1 : Fin 128) (j2 : Fin 256) :
    Host.scatter scatter_S4x128x256_S2_S128x64_01_0_02_0 (fun _ b => b) x idx u (ix3 j0 j1 j2) =
      if hv : j0.val = h ∧ off ≤ j2.val ∧ j2.val < off + 64 then u (ix2 j1 ⟨j2.val - off, by omega⟩) else x (ix3 j0 j1 j2) := by
  rw [Routing.scatter_at]
  have hl : ∀ n : Fin S128x64.numel, scatter_S4x128x256_S2_S128x64_01_0_02_0.resultIdx? (S128x64.rowMajor.symm n) idx = some (ix3 j0 j1 j2) ↔
      j0.val = h ∧ j1 = (S128x64.rowMajor.symm n) 0 ∧ j2.val = off + ((S128x64.rowMajor.symm n) 1).val := by
    intro n
    rw [eq_ix2 (S128x64.rowMajor.symm n)]
    exact lands idx h off h0 h1 _ _ j0 j1 j2
  by_cases hv : j0.val = h ∧ off ≤ j2.val ∧ j2.val < off + 64
  · rw [dif_pos hv]
    have key := foldl_overwrite (fun n => u (S128x64.rowMajor.symm n))
      (fun n => scatter_S4x128x256_S2_S128x64_01_0_02_0.resultIdx? (S128x64.rowMajor.symm n) idx = some (ix3 j0 j1 j2))
      (S128x64.rowMajor (ix2 j1 ⟨j2.val - off, by omega⟩)) (fun n => by
        rw [hl n]
        constructor
        · rintro ⟨-, e1, e2⟩
          rw [← Equiv.symm_apply_eq]
          rw [eq_ix2 (S128x64.rowMajor.symm n)]
          refine congrArg₂ ix2 e1.symm (Fin.ext ?_)
          show ((S128x64.rowMajor.symm n) 1).val = j2.val - off
          omega
        · rintro rfl
          rw [Equiv.symm_apply_apply]
          refine ⟨hv.1, rfl, ?_⟩
          show j2.val = off + (j2.val - off)
          omega) (List.finRange S128x64.numel) (x (ix3 j0 j1 j2))
    rw [if_pos (List.mem_finRange _), Equiv.symm_apply_apply] at key
    exact key
  · rw [dif_neg hv]
    refine foldl_keep (fun n => u (S128x64.rowMajor.symm n)) _ (fun n hn => hv ?_) _ _
    obtain ⟨e0, -, e2⟩ := (hl n).1 hn
    have hb : ((S128x64.rowMajor.symm n) 1).val < 64 := ((S128x64.rowMajor.symm n) 1).isLt
    omega

/-- The two start indices of a write, as the host stacks them. -/
def starts (p q : BitVec 32) : IVec S2 32 :=
  concatenate S2 0 [⟨S1, broadcastInDim S1 ![] bcast_S_S1 (constantI S_ 32 p)⟩, ⟨S1, broadcastInDim S1 ![] bcast_S_S1 (constantI S_ 32 q)⟩]
    concatenates_S1_S1_S2_d0

theorem starts_zero (p q : BitVec 32) : starts p q (ix1 0) = p := by
  pointwise [starts]

theorem starts_one (p q : BitVec 32) : starts p q (ix1 1) = q := by
  pointwise [starts]

/-- One head's columns, as the host takes them out. -/
theorem head0 (w : Vec Ideal S128x4x64 .f32) (a : Fin 128) (b : Fin 64) :
    shapeCast S128x64 (extractStridedSlice S128x1x64 ![0, 0, 0] w slices_S128x4x64_S128x1x64_0_0_0) shapeCasts_S128x1x64_S128x64 (ix2 a b) = w (ix3 a 0 b) := by
  pointwise
theorem head1 (w : Vec Ideal S128x4x64 .f32) (a : Fin 128) (b : Fin 64) :
    shapeCast S128x64 (extractStridedSlice S128x1x64 ![0, 1, 0] w slices_S128x4x64_S128x1x64_0_1_0) shapeCasts_S128x1x64_S128x64 (ix2 a b) = w (ix3 a 1 b) := by
  pointwise
theorem head2 (w : Vec Ideal S128x4x64 .f32) (a : Fin 128) (b : Fin 64) :
    shapeCast S128x64 (extractStridedSlice S128x1x64 ![0, 2, 0] w slices_S128x4x64_S128x1x64_0_2_0) shapeCasts_S128x1x64_S128x64 (ix2 a b) = w (ix3 a 2 b) := by
  pointwise
theorem head3 (w : Vec Ideal S128x4x64 .f32) (a : Fin 128) (b : Fin 64) :
    shapeCast S128x64 (extractStridedSlice S128x1x64 ![0, 3, 0] w slices_S128x4x64_S128x1x64_0_3_0) shapeCasts_S128x1x64_S128x64 (ix2 a b) = w (ix3 a 3 b) := by
  pointwise

/-- The zeros that the heads' columns are written over. -/
def zeros : Vec Ideal S4x128x256 .f32 := broadcastInDim S4x128x256 ![] bcast_S_S4x128x256 (constant (F := Ideal) S_ .f32 0x00000000#32 : (⟨S_, .f32⟩ : BufTy).Contents (Elt Ideal))

/-- One write of 64 columns. -/
def write (p q : BitVec 32) (u : Vec Ideal S128x64 .f32) (x : Vec Ideal S4x128x256 .f32) : Vec Ideal S4x128x256 .f32 :=
  Host.scatter scatter_S4x128x256_S2_S128x64_01_0_02_0 (fun _ b => b) x (starts p q) u

/-- The host's four writes. -/
def padded (w : Vec Ideal S128x4x64 .f32) : Vec Ideal S4x128x256 .f32 :=
  write 3#32 192#32 (shapeCast S128x64 (extractStridedSlice S128x1x64 ![0, 3, 0] w slices_S128x4x64_S128x1x64_0_3_0) shapeCasts_S128x1x64_S128x64)
    (write 2#32 128#32 (shapeCast S128x64 (extractStridedSlice S128x1x64 ![0, 2, 0] w slices_S128x4x64_S128x1x64_0_2_0) shapeCasts_S128x1x64_S128x64)
      (write 1#32 64#32 (shapeCast S128x64 (extractStridedSlice S128x1x64 ![0, 1, 0] w slices_S128x4x64_S128x1x64_0_1_0) shapeCasts_S128x1x64_S128x64)
        (write 0#32 0#32 (shapeCast S128x64 (extractStridedSlice S128x1x64 ![0, 0, 0] w slices_S128x4x64_S128x1x64_0_0_0) shapeCasts_S128x1x64_S128x64)
          zeros)))

theorem write_apply (p q : BitVec 32) (h off : ℕ) (hp : p.toInt = h) (hq : q.toInt = off) (u : Vec Ideal S128x64 .f32) (x : Vec Ideal S4x128x256 .f32)
    (j0 : Fin 4) (j1 : Fin 128) (j2 : Fin 256) :
    write p q u x (ix3 j0 j1 j2) =
      if hv : j0.val = h ∧ off ≤ j2.val ∧ j2.val < off + 64 then u (ix2 j1 ⟨j2.val - off, by omega⟩) else x (ix3 j0 j1 j2) :=
  scatter_apply x (starts p q) u h off (by rw [starts_zero]; exact hp) (by rw [starts_one]; exact hq) j0 j1 j2

/-- The written array, element by element. -/
theorem padded_apply (w : Vec Ideal S128x4x64 .f32) (h : Fin 4) (a : Fin 128) (v : Fin 256) :
    padded w (ix3 h a v) =
      if hv : 64 * h.val ≤ v.val ∧ v.val < 64 * h.val + 64 then w (ix3 a h ⟨v.val - 64 * h.val, by omega⟩) else (0 : EReal) := by
  unfold padded
  rw [write_apply _ _ 3 192 (by decide) (by decide), write_apply _ _ 2 128 (by decide) (by decide),
    write_apply _ _ 1 64 (by decide) (by decide), write_apply _ _ 0 0 (by decide) (by decide)]
  split_ifs
  all_goals first
    | omega
    | exact Ideal.ofBits_zero_f32
    | (refine (head0 w _ _).trans (congrArg w (congrArg₂ (ix3 a) (Fin.ext ?_) (Fin.ext ?_))) <;> simp <;> omega)
    | (refine (head1 w _ _).trans (congrArg w (congrArg₂ (ix3 a) (Fin.ext ?_) (Fin.ext ?_))) <;> simp <;> omega)
    | (refine (head2 w _ _).trans (congrArg w (congrArg₂ (ix3 a) (Fin.ext ?_) (Fin.ext ?_))) <;> simp <;> omega)
    | (refine (head3 w _ _).trans (congrArg w (congrArg₂ (ix3 a) (Fin.ext ?_) (Fin.ext ?_))) <;> simp <;> omega)

variable (m : (ℓ : Loc nD τ sig) → Buf (Elt Ideal) ℓ)

/-- Narrowing keeps an exact value. -/
theorem trunc_id (x : FVec Ideal S4x128x256 .f32) : (truncf .bf16 x bitsLt_bf16_f32 : S4x128x256.Idx → EReal) = x := rfl

/-- The kernel's weight window holds the written array. -/
theorem weights_eq (c : Dev nD) : (V m c main_v25 : S4x128x256.Idx → EReal) = padded (m ((c : Thread nD τ).loc main_arg2)) := by
  unfold_abbrev_sides
  after_results
  refine (trunc_id _).trans ?_
  unfold padded write starts zeros
  congr 1

end Cert.KernelIdeal.Attn
end
-- ==== Proof.Array.lean ====
/- The array the attention kernel leaves: at every batch, position and output channel, from the whole query, key and
   weight arrays. -/
module

public import proofs.«01_k».proof.Proof.Block
public import proofs.«01_k».proof.Proof.Weights
public import proofs.«01_k».proof.Proof.Gen.KernelIdeal.Value
public import Idealize.ShloMosaic.Lib.Pipeline.ValueKit

@[expose] public section

noncomputable section

namespace Cert.KernelIdeal.Attn

open Cert.KernelIdeal Cert.KernelIdeal.Gen Idealize.ShloMosaic Idealize.ShloMosaic.TcCoe Idealize.SL.Sem Cert.Attn

/-- The query of head `h` at position `t` of batch `b`, in the whole query array. -/
def query (Q : S2x8192x1024.Idx → EReal) (b : Fin 2) (t : Fin 8192) (h : Fin 4) (c : Fin 256) : EReal :=
  Q (ix3 b t ⟨256 * h.val + c.val, by omega⟩)

/-- The keys of batch `b`, in the whole key array. -/
def keys (K : S2x8192x256.Idx → EReal) (b : Fin 2) (j : Fin 8192) (c : Fin 256) : EReal := K (ix3 b j c)

/-- The causal softmax average of value channel `d`, for head `h` at position `t` of batch `b`. -/
def attended (Q : S2x8192x1024.Idx → EReal) (K : S2x8192x256.Idx → EReal) (b : Fin 2) (t : Fin 8192) (h : Fin 4) (d : Fin 128) : EReal :=
  ((soft (scores (query Q b t h) (keys K b) t.val) (vals (keys K b) d) : ℝ) : EReal)

/-- The layer's attention output: per head the average of the values times the head's padded weights, summed. -/
def layer (Q : S2x8192x1024.Idx → EReal) (K : S2x8192x256.Idx → EReal) (W : S128x4x64.Idx → EReal) (b : Fin 2) (t : Fin 8192) (v : Fin 256) : EReal :=
  (∑ x : Fin 128, attended Q K b t 0 x * padded W (ix3 0 x v)) + (∑ x : Fin 128, attended Q K b t 1 x * padded W (ix3 1 x v))
    + (∑ x : Fin 128, attended Q K b t 2 x * padded W (ix3 2 x v)) + ∑ x : Fin 128, attended Q K b t 3 x * padded W (ix3 3 x v)

/-- Which block of each array a grid point stages. -/
theorem idx (t : Fin cfg0.N) : win0_0.index t = ![(grid0.coords t 0).val, (grid0.coords t 1).val, 0]
    ∧ win0_1.index t = ![(grid0.coords t 0).val, 0, 0] ∧ win0_2.index t = ![0, 0, 0]
    ∧ win0_3.index t = ![(grid0.coords t 0).val, (grid0.coords t 1).val, 0] :=
  (by decide +kernel : ∀ t : Fin grid0.N, win0_0.index t = ![(grid0.coords t 0).val, (grid0.coords t 1).val, 0]
    ∧ win0_1.index t = ![(grid0.coords t 0).val, 0, 0] ∧ win0_2.index t = ![0, 0, 0]
    ∧ win0_3.index t = ![(grid0.coords t 0).val, (grid0.coords t 1).val, 0]) t

variable (m : (ℓ : Loc nD τ sig) → Buf (Elt Ideal) ℓ)

/-- The grid's first coordinate is the batch. -/
def batch (t : Fin cfg0.N) : Fin 2 := ⟨(grid0.coords t 0).val, (grid0.coords t 0).isLt⟩

/-- The position in its batch of row `r` of the block of grid point `t`. -/
def pos (t : Fin cfg0.N) (r : Fin 256) : Fin 8192 := ⟨256 * (grid0.coords t 1).val + r.val, by have := coord_lt (grid0.coords t); omega⟩

/-- The query block of a grid point, in the whole query array. -/
theorem query_block (c : Dev nD) (t : Fin cfg0.N) (r : Fin 256) (x : Fin 1024) :
    (iblk m c 0 t : S1x256x1024.Idx → EReal) (ix3 0 r x) = (m ((c : Thread nD τ).loc main_arg0) : S2x8192x1024.Idx → EReal) (ix3 (batch t) (pos t r) x) := by
  have := idx t
  blk_ext! [iblk, V, (idx t).1, batch, pos]

/-- The key block of a grid point, in the whole key array. -/
theorem key_block (c : Dev nD) (t : Fin cfg0.N) (j : Fin 8192) (x : Fin 256) :
    (iblk m c 1 t : S1x8192x256.Idx → EReal) (ix3 0 j x) = (m ((c : Thread nD τ).loc main_arg1) : S2x8192x256.Idx → EReal) (ix3 (batch t) j x) := by
  blk_ext! [iblk, V, (idx t).2.1, batch]

/-- The weight block of a grid point is the whole padded weight array. -/
theorem weight_block (c : Dev nD) (t : Fin cfg0.N) :
    (iblk m c 2 t : S4x128x256.Idx → EReal) = padded (m ((c : Thread nD τ).loc main_arg2)) := by
  rw [← weights_eq m c]
  funext j
  show V m c main_v25 ((win0_2.rect t).emb j) = V m c main_v25 j
  congr 1
  funext a
  apply Fin.ext
  rw [Pipeline.Window.rect_emb_val_of_index_zero]
  rw [(idx t).2.2.1]
  fin_cases a <;> rfl

/-- Every query entry of a grid point's block is real if the whole array's are. -/
theorem query_real (Q : S2x8192x1024.Idx → EReal) (hQ : ∀ j, IsReal (Q j)) (c : Dev nD) (t : Fin cfg0.N)
    (e : m ((c : Thread nD τ).loc main_arg0) = Q) (j : S1x256x1024.Idx) : IsReal ((iblk m c 0 t : S1x256x1024.Idx → EReal) j) := by
  idx_vars j
  have h := query_block m c t j1 j2
  rw [e] at h
  have e0 : j0 = 0 := Fin.fin_one_eq_zero j0
  subst e0
  rw [h]
  exact hQ _

/-- Every key entry of a grid point's block is real if the whole array's are. -/
theorem key_real (K : S2x8192x256.Idx → EReal) (hK : ∀ j, IsReal (K j)) (c : Dev nD) (t : Fin cfg0.N)
    (e : m ((c : Thread nD τ).loc main_arg1) = K) (j : S1x8192x256.Idx) : IsReal ((iblk m c 1 t : S1x8192x256.Idx → EReal) j) := by
  idx_vars j
  have h := key_block m c t j1 j2
  rw [e] at h
  have e0 : j0 = 0 := Fin.fin_one_eq_zero j0
  subst e0
  rw [h]
  exact hK _

/-- A block's softmax average is the layer's. -/
theorem avg_eq (Q : S2x8192x1024.Idx → EReal) (K : S2x8192x256.Idx → EReal) (c : Dev nD) (t : Fin cfg0.N)
    (eQ : m ((c : Thread nD τ).loc main_arg0) = Q) (eK : m ((c : Thread nD τ).loc main_arg1) = K) (h : Fin 4) (r : Fin 256) (x : Fin 128) :
    avg (grid0.coords t) (iblk m c 0 t) (iblk m c 1 t) h r x = attended Q K (batch t) (pos t r) h x := by
  have hk : krows (iblk m c 1 t) = keys K (batch t) := by
    funext j y
    have := key_block m c t j y
    rw [eK] at this
    exact this
  have hq : qrow (iblk m c 0 t) h r = query Q (batch t) (pos t r) h := by
    funext y
    have := query_block m c t r ⟨256 * h.val + y.val, by omega⟩
    rw [eQ] at this
    exact this
  unfold avg attended bscores
  rw [hk, hq]
  rfl

/-- What the body leaves in the output block at a grid point. -/
theorem block_eq (Q : S2x8192x1024.Idx → EReal) (K : S2x8192x256.Idx → EReal) (W : S128x4x64.Idx → EReal) (c : Dev nD) (t : Fin cfg0.N)
    (eQ : m ((c : Thread nD τ).loc main_arg0) = Q) (eK : m ((c : Thread nD τ).loc main_arg1) = K) (eW : m ((c : Thread nD τ).loc main_arg2) = W)
    (hQ : ∀ j, IsReal (Q j)) (hK : ∀ j, IsReal (K j)) (r v : Fin 256) :
    (outsAt0 m c t : S1x256x256.Idx → EReal) (ix3 0 r v) = layer Q K W (batch t) (pos t r) v := by
  have h := block_apply m c t (iblk m c 0 t) (iblk m c 1 t) (padded W) rfl rfl ((weight_block m c t).trans (by rw [eW]))
    (query_real m Q hQ c t eQ) (key_real m K hK c t eK) r v
  simp only [avg_eq m Q K c t eQ eK] at h
  exact h

/-- The whole output array after the run. -/
theorem array_eq (Q : S2x8192x1024.Idx → EReal) (K : S2x8192x256.Idx → EReal) (W : S128x4x64.Idx → EReal) (c : Dev nD)
    (eQ : m ((c : Thread nD τ).loc main_arg0) = Q) (eK : m ((c : Thread nD τ).loc main_arg1) = K) (eW : m ((c : Thread nD τ).loc main_arg2) = W)
    (hQ : ∀ j, IsReal (Q j)) (hK : ∀ j, IsReal (K j)) :
    (dats m 0 c).arrAt 3 cfg0.N = fun j : S2x8192x256.Idx => layer Q K W (j 0) (j 1) (j 2) := by
  refine (dats m 0 c).arrAt_eq_of_covers 3 _ (by decide +kernel) fun t hf y => ?_
  blk_simp
  rw [after0_3]
  idx_vars y
  have e0 : y0 = 0 := Fin.fin_one_eq_zero y0
  subst e0
  refine (block_eq m Q K W c t eQ eK eW hQ hK y1 y2).trans ?_
  have hv : ∀ a, (((win0_3.rect t).emb (ix3 (0 : Fin 1) y1 y2) a : ℕ)) = win0_3.index t a * win0_3.size a + (ix3 (0 : Fin 1) y1 y2 a).val :=
    fun a => Pipeline.Window.rect_emb_val win0_3 t (ix3 (0 : Fin 1) y1 y2) a rfl
  rw [(idx t).2.2.2] at hv
  have h0 : ((View.whole main_v26).slice (win0_3.rect t)).emb (ix3 (0 : Fin 1) y1 y2) 0 = batch t :=
    Fin.ext ((hv 0).trans (show (grid0.coords t 0).val * 1 + 0 = (grid0.coords t 0).val by omega))
  have h1 : ((View.whole main_v26).slice (win0_3.rect t)).emb (ix3 (0 : Fin 1) y1 y2) 1 = pos t y1 :=
    Fin.ext ((hv 1).trans (show (grid0.coords t 1).val * 256 + y1.val = 256 * (grid0.coords t 1).val + y1.val by omega))
  have h2 : ((View.whole main_v26).slice (win0_3.rect t)).emb (ix3 (0 : Fin 1) y1 y2) 2 = y2 :=
    Fin.ext ((hv 2).trans (show 0 * 256 + y2.val = y2.val by omega))
  rw [h0, h1, h2]

end Cert.KernelIdeal.Attn

end
-- ==== Proof.Ref.lean ====
/- What the reference computes: its scores, its softmax and its output, at an index. -/
module

public import proofs.«01_k».proof.Proof.Array
public import proofs.«01_k».proof.Proof.Gen.ReferenceIdeal.Read
public import Idealize.ShloMosaic.Lib.Pointwise

@[expose] public section

noncomputable section

namespace Cert.ReferenceIdeal.Attn

open Cert.ReferenceIdeal Cert.ReferenceIdeal.Gen Cert.ReferenceIdeal.Read Idealize.ShloMosaic Idealize.ShloMosaic.TcCoe Idealize.SL.Sem Cert.Attn
open Cert.KernelIdeal.Attn (query keys attended layer padded padded_apply ofBits_bot)

variable (Q : S2x8192x1024.Idx → EReal) (K : S2x8192x256.Idx → EReal) (W : S128x4x64.Idx → EReal)

/-- The first half of a query. -/
theorem query_lat (b : Fin 2) (t : Fin 8192) (h : Fin 4) (k : Fin 128) :
    (val_main_v3 (F := Ideal) Q (ix4 b t h k) : EReal) = query Q b t h ⟨k.val, by omega⟩ := by
  rw [val_main_v3_apply, val_main_v1_apply, val_main_v0_apply]
  unfold query
  refine congrArg Q ?_
  funext a
  apply Fin.ext
  match a with
  | ⟨0, _⟩ => show (((b.val * 8192 + t.val) * 4 + h.val) * 256 + k.val) / 8388608 = b.val; omega
  | ⟨1, _⟩ => show (((b.val * 8192 + t.val) * 4 + h.val) * 256 + k.val) / 1024 % 8192 = t.val; omega
  | ⟨2, _⟩ => show (((b.val * 8192 + t.val) * 4 + h.val) * 256 + k.val) % 1024 = 256 * h.val + k.val; omega

/-- The second half of a query. -/
theorem query_pe (b : Fin 2) (t : Fin 8192) (h : Fin 4) (k : Fin 128) :
    (val_main_v4 (F := Ideal) Q (ix4 b t h k) : EReal) = query Q b t h ⟨128 + k.val, by omega⟩ := by
  rw [val_main_v4_apply, val_main_v1_apply, val_main_v0_apply]
  unfold query
  refine congrArg Q ?_
  funext a
  apply Fin.ext
  match a with
  | ⟨0, _⟩ => show (((b.val * 8192 + t.val) * 4 + h.val) * 256 + (128 + k.val)) / 8388608 = b.val; omega
  | ⟨1, _⟩ => show (((b.val * 8192 + t.val) * 4 + h.val) * 256 + (128 + k.val)) / 1024 % 8192 = t.val; omega
  | ⟨2, _⟩ => show (((b.val * 8192 + t.val) * 4 + h.val) * 256 + (128 + k.val)) % 1024 = 256 * h.val + (128 + k.val); omega

/-- The first half of a key. -/
theorem key_lat (b : Fin 2) (s : Fin 8192) (k : Fin 128) :
    (val_main_v5 (F := Ideal) K (ix3 b s k) : EReal) = keys K b s ⟨k.val, by omega⟩ := by
  rw [val_main_v5_apply, val_main_v2_apply]
  unfold keys
  refine congrArg K ?_
  funext a
  apply Fin.ext
  match a with
  | ⟨0, _⟩ => rfl
  | ⟨1, _⟩ => rfl
  | ⟨2, _⟩ => rfl

/-- The second half of a key. -/
theorem key_pe (b : Fin 2) (s : Fin 8192) (k : Fin 128) :
    (val_main_v6 (F := Ideal) K (ix3 b s k) : EReal) = keys K b s ⟨128 + k.val, by omega⟩ := by
  rw [val_main_v6_apply, val_main_v2_apply]
  unfold keys
  refine congrArg K ?_
  funext a
  apply Fin.ext
  match a with
  | ⟨0, _⟩ => rfl
  | ⟨1, _⟩ => rfl
  | ⟨2, _⟩ => rfl

/-- A query's product with a key: the two halves' products, added. -/
theorem product (b : Fin 2) (h : Fin 4) (t s : Fin 8192) :
    (val_main_v12 (F := Ideal) Q K (ix4 b h t s) : EReal) = ∑ c : Fin 256, query Q b t h c * keys K b s c := by
  rw [Fin.sum_univ_two_halves 128 128 rfl (fun c => query Q b t h c * keys K b s c)]
  rw [val_main_v12_apply, val_main_v9_apply, val_main_v11_apply, val_main_v8_apply, val_main_v10_apply]
  refine congrArg₂ (fun x y : EReal => x + y) (Finset.sum_congr rfl fun k _ => ?_) (Finset.sum_congr rfl fun k _ => ?_)
  · have el : lidx_main_v8 (idx_main_v9 (ix4 b h t s)) k = ix3 b s k := by funext a; fin_cases a <;> rfl
    have er : ridx_main_v8 (idx_main_v9 (ix4 b h t s)) k = ix4 b t h k := by funext a; fin_cases a <;> rfl
    rw [el, er, query_lat, key_lat]
    exact mul_comm _ _
  · have el : lidx_main_v10 (idx_main_v11 (ix4 b h t s)) k = ix3 b s k := by funext a; fin_cases a <;> rfl
    have er : ridx_main_v10 (idx_main_v11 (ix4 b h t s)) k = ix4 b t h k := by funext a; fin_cases a <;> rfl
    rw [el, er, query_pe, key_pe]
    exact mul_comm _ _

/-- The mask lets a key through when it is no later than the query. -/
theorem mask (b : Fin 2) (h : Fin 4) (t s : Fin 8192) :
    val_main_call0_v1 (F := Ideal) (ix4 b h t s) = 1 ↔ s.val ≤ t.val := by
  rw [val_main_call0_v1_apply, val_main_v19_apply, val_main_v17_apply, val_main_v18_apply, val_main_v15_apply, val_main_v16_apply,
    val_main_v7_apply, val_main_v7_apply]
  have hs : Affine.IsInt (BitVec.ofNat 32 s.val) (s.val : Int) := Affine.ofNat (e := (s.val : Int)) s.val (by omega)
  have ht : Affine.IsInt (BitVec.ofNat 32 t.val) (t.val : Int) := Affine.ofNat (e := (t.val : Int)) t.val (by omega)
  constructor
  · intro e
    by_contra hn
    exact Affine.sle_fails hs ht (by omega) e
  · intro e
    exact Affine.sle_holds hs ht (by omega)

/-- The masked scaled scores. -/
theorem score (b : Fin 2) (h : Fin 4) (t s : Fin 8192) :
    (val_main_v20 (F := Ideal) Q K (ix4 b h t s) : EReal) = scores (query Q b t h) (keys K b) t.val s.val := by
  rw [val_main_v20_apply, val_main_v14_apply, val_main_v13_apply, val_main_cst_apply, val_main_call0_v2_apply, val_main_call0_v0_apply,
    val_main_cst_0_apply, product]
  unfold scores Scalar.select
  rw [dif_pos s.isLt]
  by_cases hc : s.val ≤ t.val
  · rw [if_pos hc, if_pos ((mask b h t s).2 hc)]
    rfl
  · rw [if_neg hc, if_neg (fun e => hc ((mask b h t s).1 e))]
    exact ofBits_bot

/-- The row's largest score. -/
theorem row_max (b : Fin 2) (h : Fin 4) (t : Fin 8192) :
    (val_main_v23 (F := Ideal) Q K (ix3 b h t) : EReal)
      = Finset.fold max ⊥ (fun j : Fin 8192 => scores (query Q b t h) (keys K b) t.val j.val) Finset.univ := by
  rw [val_main_v23_apply, val_main_v22_apply, val_main_cst_2_apply]
  have e : (val_main_v21 (F := Ideal) Q K (ix3 b h t) : EReal)
      = Finset.fold max ⊥ (fun j : Fin 8192 => (val_main_v20 (F := Ideal) Q K (ix4 b h t j) : EReal)) Finset.univ := by
    unfold val_main_v21
    generalize val_main_v20 (F := Ideal) Q K = y
    pointwise [val_main_cst_1]
    rw [ofBits_bot]
  rw [e]
  simp only [score]
  refine (congrArg (fun x : EReal => max x _) ofBits_bot).trans ?_
  exact bot_sup_eq _

/-- The exponential of a score less the row's largest. -/
theorem weight (b : Fin 2) (h : Fin 4) (t s : Fin 8192) :
    (val_main_v27 (F := Ideal) Q K (ix4 b h t s) : EReal)
      = Ideal.exp (scores (query Q b t h) (keys K b) t.val s.val
          - Finset.fold max ⊥ (fun j : Fin 8192 => scores (query Q b t h) (keys K b) t.val j.val) Finset.univ) := by
  rw [val_main_v27_apply, val_main_v26_apply, val_main_v25_apply, val_main_v24_apply, score]
  have e : idx_main_v24 (idx_main_v25 (ix4 b h t s)) = ix3 b h t := by funext a; fin_cases a <;> rfl
  rw [e, row_max]
  rfl

/-- A softmax weight: the exponential over the row's sum of exponentials. -/
theorem soft_weight (b : Fin 2) (h : Fin 4) (t s : Fin 8192) :
    (val_main_v31 (F := Ideal) Q K (ix4 b h t s) : EReal)
      = Ideal.div (val_main_v27 (F := Ideal) Q K (ix4 b h t s)) (∑ i : Fin 8192, (val_main_v27 (F := Ideal) Q K (ix4 b h t i) : EReal)) := by
  rw [val_main_v31_apply, val_main_v30_apply, val_main_v29_apply]
  have e : idx_main_v29 (idx_main_v30 (ix4 b h t s)) = ix3 b h t := by funext a; fin_cases a <;> rfl
  rw [e, val_main_v28_apply, val_main_cst_3_apply]
  have e' : ∀ k : Fin 8192, idx_main_v28 (ix3 b h t) k = ix4 b h t k := fun k => by funext a; fin_cases a <;> rfl
  simp only [e']
  refine congrArg (Ideal.div _) ?_
  refine (congrArg (fun x : EReal => x + _) Ideal.ofBits_zero_f32).trans ?_
  exact zero_add _

/-- The softmax average of the values. -/
theorem average (hQ : ∀ j, IsReal (Q j)) (hK : ∀ j, IsReal (K j)) (b : Fin 2) (d : Fin 128) (h : Fin 4) (t : Fin 8192) :
    (val_main_v32 (F := Ideal) Q K (ix4 b d h t) : EReal) = attended Q K b t h d := by
  have hr : Row (scores (query Q b t h) (keys K b) t.val) := row_scores _ _ _ (fun c => hQ _) fun j c => hK _
  obtain ⟨M, hM⟩ := fold_max_real hr (n := 8192) (by norm_num)
  unfold attended
  rw [← direct hr _ M, val_main_v32_apply]
  refine Finset.sum_congr rfl fun s _ => ?_
  have el : lidx_main_v32 (ix4 b d h t) s = ix3 b s d := by funext a; fin_cases a <;> rfl
  have er : ridx_main_v32 (ix4 b d h t) s = ix4 b h t s := by funext a; fin_cases a <;> rfl
  rw [el, er, key_lat, soft_weight]
  simp only [weight]
  rw [hM, vals_coe (keys K b) (fun j c => hK _) d s]

/-- Head `h`'s share of the layer's output at a channel: its own if the channel is one of the head's, else zero. -/
theorem head_share (b : Fin 2) (t : Fin 8192) (h : Fin 4) (v : Fin 256) :
    ∑ x : Fin 128, attended Q K b t h x * padded W (ix3 h x v)
      = if hv : 64 * h.val ≤ v.val ∧ v.val < 64 * h.val + 64 then
          ∑ x : Fin 128, attended Q K b t h x * W (ix3 x h ⟨v.val - 64 * h.val, by omega⟩) else 0 := by
  split_ifs with hv
  · refine Finset.sum_congr rfl fun x _ => ?_
    rw [padded_apply, dif_pos hv]
  · refine Finset.sum_eq_zero fun x _ => ?_
    rw [padded_apply, dif_neg hv, mul_zero]

/-- A sum of four terms of which only one is not zero. -/
theorem only_one (f : Fin 4 → EReal) (h : Fin 4) (off : ∀ g, g ≠ h → f g = 0) : f 0 + f 1 + f 2 + f 3 = f h := by
  match h, off with
  | 0, off => rw [off 1 (by decide), off 2 (by decide), off 3 (by decide)]; simp only [add_zero]
  | 1, off => rw [off 0 (by decide), off 2 (by decide), off 3 (by decide)]; simp only [add_zero, zero_add]
  | 2, off => rw [off 0 (by decide), off 1 (by decide), off 3 (by decide)]; simp only [add_zero, zero_add]
  | 3, off => rw [off 0 (by decide), off 1 (by decide), off 2 (by decide)]; simp only [zero_add]

/-- Of the four heads only the channel's own has a share. -/
theorem layer_eq (b : Fin 2) (t : Fin 8192) (h : Fin 4) (x : Fin 64) (v : Fin 256) (e : v.val = 64 * h.val + x.val) :
    layer Q K W b t v = ∑ a : Fin 128, attended Q K b t h a * W (ix3 a h x) := by
  have on : ∑ a : Fin 128, attended Q K b t h a * padded W (ix3 h a v) = ∑ a : Fin 128, attended Q K b t h a * W (ix3 a h x) := by
    rw [head_share, dif_pos (by omega)]
    have : (⟨v.val - 64 * h.val, by omega⟩ : Fin 64) = x := Fin.ext (by show v.val - 64 * h.val = x.val; omega)
    rw [this]
  have off : ∀ g : Fin 4, g ≠ h → ∑ a : Fin 128, attended Q K b t g a * padded W (ix3 g a v) = 0 := by
    intro g hg
    have : g.val ≠ h.val := fun e => hg (Fin.ext e)
    rw [head_share, dif_neg (by omega)]
  rw [← on]
  exact only_one (fun g => ∑ a : Fin 128, attended Q K b t g a * padded W (ix3 g a v)) h off

/-- The reference's result is the layer's attention output. -/
theorem result (hQ : ∀ j, IsReal (Q j)) (hK : ∀ j, IsReal (K j)) (b : Fin 2) (t : Fin 8192) (v : Fin 256) :
    (val_main_v37 (F := Ideal) Q K W (ix3 b t v) : EReal) = layer Q K W b t v := by
  have hh : v.val / 64 < 4 := by omega
  rw [layer_eq Q K W b t ⟨v.val / 64, hh⟩ ⟨v.val % 64, by omega⟩ v (by show v.val = 64 * (v.val / 64) + v.val % 64; omega)]
  rw [val_main_v37_apply]
  refine (?_ : (_ : EReal) = val_main_v36 (F := Ideal) Q K W (ix3 b t v)).trans ?_
  · rfl
  rw [val_main_v36_apply, val_main_v35_apply]
  have e : idx_main_v35 (idx_main_v36 (ix3 b t v)) = ix4 ⟨v.val / 64, hh⟩ ⟨v.val % 64, by omega⟩ b t := by
    funext a
    apply Fin.ext
    match a with
    | ⟨0, _⟩ => show ((b.val * 8192 + t.val) * 256 + v.val) / 64 % 4 = v.val / 64; omega
    | ⟨1, _⟩ => show ((b.val * 8192 + t.val) * 256 + v.val) % 64 = v.val % 64; omega
    | ⟨2, _⟩ => show ((b.val * 8192 + t.val) * 256 + v.val) / 2097152 = b.val; omega
    | ⟨3, _⟩ => show ((b.val * 8192 + t.val) * 256 + v.val) / 256 % 8192 = t.val; omega
  rw [e, val_main_v34_apply]
  refine Finset.sum_congr rfl fun a _ => ?_
  have el : lidx_main_v34 (ix4 ⟨v.val / 64, hh⟩ ⟨v.val % 64, by omega⟩ b t) a = ix3 a ⟨v.val / 64, hh⟩ ⟨v.val % 64, by omega⟩ := by
    funext a; fin_cases a <;> rfl
  have er : idx_main_v33 (ridx_main_v34 (ix4 ⟨v.val / 64, hh⟩ ⟨v.val % 64, by omega⟩ b t) a) = ix4 b a ⟨v.val / 64, hh⟩ t := by
    funext a; fin_cases a <;> rfl
  rw [el, val_main_v33_apply, er, average Q K hQ hK]
  exact mul_comm _ _

end Cert.ReferenceIdeal.Attn

end
-- ==== Proof.Pre.lean ====
/- The precondition, read: every query and key entry is a real number. -/
module

public import proofs.«01_k».proof.Defs
public import proofs.«01_k».proof.Proof.Scores
public import Idealize.ShloMosaic.Lib.Pointwise

@[expose] public section

noncomputable section

namespace Cert.Pre_finite

open Idealize.ShloMosaic Idealize.ShloMosaic.TcCoe Cert.Attn

/-- The pattern of infinity. -/
theorem ofBits_top : Ideal.ofBits FTy.f32 0x7F800000#32 = ⊤ := by simp [Ideal.ofBits, Ideal.ieee]

/-- A number whose absolute value is less than infinity is real. -/
theorem real_of_abs (x : EReal) (h : max x (-x) < ⊤) : IsReal x := by
  constructor
  · rintro rfl
    simp at h
  · rintro rfl
    simp at h

/-- Under the precondition every query entry is real. -/
theorem query_real [Facts] (q : S2x8192x1024.Idx → EReal) (k : S2x8192x256.Idx → EReal) (w : S128x4x64.Idx → EReal)
    (h : (fn (F := Ideal) q k w).1 = fun _ => 1#1) (j : S2x8192x1024.Idx) : IsReal (q j) := by
  have e := congrFun h j
  unfold fn at e
  pointwise at e
  rw [ofBits_top] at e
  refine real_of_abs _ ?_
  by_contra hn
  exact absurd (e.symm.trans (congrArg BitVec.ofBool (decide_eq_false hn))) (by decide)

/-- Under the precondition every key entry is real. -/
theorem key_real [Facts] (q : S2x8192x1024.Idx → EReal) (k : S2x8192x256.Idx → EReal) (w : S128x4x64.Idx → EReal)
    (h : (fn (F := Ideal) q k w).2 = fun _ => 1#1) (j : S2x8192x256.Idx) : IsReal (k j) := by
  have e := congrFun h j
  unfold fn at e
  pointwise at e
  rw [ofBits_top] at e
  refine real_of_abs _ ?_
  by_contra hn
  exact absurd (e.symm.trans (congrArg BitVec.ofBool (decide_eq_false hn))) (by decide)

end Cert.Pre_finite

end
-- ==== Proof.Claims.lean ====
/- The claims about the attention: its frames, and the equation of the kernel's result with the reference's. -/
module

public import proofs.«01_k».proof.Proof.Ref
public import proofs.«01_k».proof.Proof.Pre
public import proofs.«01_k».proof.Proof.Gen.Pre_finite
public import proofs.«01_k».proof.Proof.Gen.Kernel.Frame
public import proofs.«01_k».proof.Proof.Gen.ReferenceIdeal.Run
public import Idealize.ShloMosaic.Lib.Claim

@[expose] public section

noncomputable section

namespace Cert.Proof.Attention

open Idealize.ShloMosaic Idealize.ShloMosaic.TcCoe Idealize.SL.Sem Cert.Attn

/-- The kernel's frame, bit by bit. -/
theorem frame_p : Cert.quiescent_Kernel := fun m ρ _ => Cert.Kernel.Gen.frame m ρ

/-- The idealized kernel's frame. -/
theorem frame_pi : Cert.quiescent_KernelIdeal := fun m ρ _ => Cert.KernelIdeal.Gen.frame m ρ

/-- The idealized kernel's frame, where the value claim's precondition holds. -/
theorem frame_pi_pre : Cert.quiescent_KernelIdeal_pre_finite := fun m ρ _ => Cert.KernelIdeal.Gen.frame m ρ

/-- The reference's frame: it has no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's frame, where the value claim's precondition holds. -/
theorem frame_ri_pre : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, for real queries and keys, the kernel's result is the reference's. -/
theorem algebraic : Cert.algebraic_KernelIdeal_ReferenceIdeal_pre_finite := by
  pair_intro
  · run_from Cert.KernelIdeal.Value.run_blocks m g
  · run_from Cert.ReferenceIdeal.Value.run m' g'
    rw [Cert.ReferenceIdeal.Read.val_main_v37_eq, (hagree c).1, (hagree c).2.1, (hagree c).2.2]
    have hQ := Cert.Pre_finite.query_real _ _ _ (hpre c).1
    have hK := Cert.Pre_finite.key_real _ _ _ (hpre c).2
    rw [Cert.KernelIdeal.Attn.array_eq m _ _ _ c rfl rfl rfl hQ hK]
    funext j
    idx_vars j
    exact Cert.ReferenceIdeal.Attn.result _ _ _ hQ hK j0 j1 j2

end Cert.Proof.Attention

end
-- ==== Proof.FfnTrip.lean ====
/- The feed-forward block's body at one grid point, with its loop over the hidden chunks replaced by an invariant. -/
module

public import proofs.«01_k».proof.Proof.Gen.Kernel2Ideal.Value
public import Idealize.ShloMosaic.Lib.Pointwise
public import Idealize.ShloMosaic.Lib.VecWindow
public import Idealize.ShloMosaic.Lib.Pipeline.ValueKit

@[expose] public section

noncomputable section

namespace Cert.Kernel2Ideal.Ffn

open Cert.Kernel2Ideal Cert.Kernel2Ideal.Gen Idealize.ShloMosaic Idealize.ShloMosaic.TcCoe Idealize.SL.Sem

variable {F : FTy → Type} [FloatOps F]

/-- The up-projection weights (of the gate, or of the value) that trip `k` reads: one chunk of 256 hidden units. -/
def upChunk (w : Vec F S11x1024x256 .bf16) (k : Fin k0_t1_loop.trips) : Vec F S1x1024x256 .bf16 :=
  View.ld w (Rect.unit (s := S11x1024x256) (k0_off1 k) S1x1024x256.size (k0_off1_inb k))

/-- The down-projection weights that trip `k` reads. -/
def downChunk (w : Vec F S11x256x1024 .bf16) (k : Fin k0_t1_loop.trips) : Vec F S1x256x1024 .bf16 :=
  View.ld w (Rect.unit (s := S11x256x1024) (k0_off2 k) S1x256x1024.size (k0_off2_inb k))

/-- One trip on the accumulator: the chunk's gated activation times its down-projection is added. -/
def step (x : Vec F S512x1024 .f32) (scale shift : Vec F S1x1x1024 .f32) (wg wu : Vec F S11x1024x256 .bf16) (wd : Vec F S11x256x1024 .bf16)
    (k : Fin k0_t1_loop.trips) (a : Vec F S512x1024 .f32) : Vec F S512x1024 .f32 :=
  k0_pay4 x scale shift (upChunk wg k) (upChunk wu k) a (downChunk wd k)

/-- What one trip stores in the accumulator, over what it finds there. -/
theorem trip_reads (𝒱 : Variants) (c : Dev nD) (bd : Option 𝒱.V) (i : grid0.Coords) (arg1 : Memref sig .tc .vmem S512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S11x1024x256 .bf16) (harg5 : arg5.IsWhole) (arg6 : Memref sig .tc .vmem S11x1024x256 .bf16) (harg6 : arg6.IsWhole) (arg7 : Memref sig .tc .vmem S11x256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (scale shift : Vec F S1x1x1024 .f32) (wg wu : Vec F S11x1024x256 .bf16) (wd : Vec F S11x256x1024 .bf16)
    (k : Fin k0_t1_loop.trips) (f : BufTy.Contents (Elt F) arg11.view.ty) (L : List (View.Piece (Elt F) S512x1024 .f32)) :
    arg11.view.read (Elt F) (arg11.view.writes (Elt F) f
        (tripL_k0_t1 (F := F) 𝒱 c bd i arg1 harg1 arg2 harg2 arg3 harg3 arg4 harg4 arg5 harg5 arg6 harg6 arg7 harg7 arg8 harg8 arg9 harg9 arg10 harg10 arg11 harg11 x scale shift (harg5.unread wg) (harg6.unread wu) (harg7.unread wd) k (arg11.view.writes (Elt F) f L) ++ L))
      = step x scale shift wg wu wd k (arg11.view.read (Elt F) (arg11.view.writes (Elt F) f L)) := by
  unfold tripL_k0_t1 trip_k0_t1
  dsimp only
  rw [List.singleton_append]
  refine (View.read_writes_full _ _ _ _ _).trans ?_
  sl_unfold_words
  simp only [View.readAt_eq_ld, harg5.read_unread, harg6.read_unread, harg7.read_unread]
  exact congrArg (fun a => k0_pay4 x scale shift (upChunk wg k) (upChunk wu k) a (downChunk wd k))
    (View.ld_unit_lit (S := S512x1024) inb_S512x1024_S512x1024_0_0 _ (by decide))

/-- After `n` trips the accumulator has any property that it has at entry and a trip keeps. -/
theorem loop_keeps (𝒱 : Variants) (c : Dev nD) (bd : Option 𝒱.V) (i : grid0.Coords) (arg1 : Memref sig .tc .vmem S512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S11x1024x256 .bf16) (harg5 : arg5.IsWhole) (arg6 : Memref sig .tc .vmem S11x1024x256 .bf16) (harg6 : arg6.IsWhole) (arg7 : Memref sig .tc .vmem S11x256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (scale shift : Vec F S1x1x1024 .f32) (wg wu : Vec F S11x1024x256 .bf16) (wd : Vec F S11x256x1024 .bf16)
    (f : BufTy.Contents (Elt F) arg11.view.ty) (Inv : ℕ → Vec F S512x1024 .f32 → Prop) (h0 : Inv 0 (arg11.view.read (Elt F) f))
    (hs : ∀ (k : Fin k0_t1_loop.trips) (a : Vec F S512x1024 .f32), Inv k a → Inv (k + 1) (step x scale shift wg wu wd k a))
    (n : ℕ) (hn : n ≤ k0_t1_loop.trips) :
    Inv n (arg11.view.read (Elt F) (arg11.view.writes (Elt F) f
      (pb_k0_t1 (F := F) 𝒱 c bd i arg1 harg1 arg2 harg2 arg3 harg3 arg4 harg4 arg5 harg5 arg6 harg6 arg7 harg7 arg8 harg8 arg9 harg9 arg10 harg10 arg11 harg11 x scale shift (harg5.unread wg) (harg6.unread wu) (harg7.unread wd) f n))) := by
  induction n with
  | zero => exact h0
  | succ n ih =>
    have h := pb_k0_t1_succ (F := F) 𝒱 c bd i arg1 harg1 arg2 harg2 arg3 harg3 arg4 harg4 arg5 harg5 arg6 harg6 arg7 harg7 arg8 harg8 arg9 harg9 arg10 harg10 arg11 harg11 x scale shift (harg5.unread wg) (harg6.unread wu) (harg7.unread wd) f ⟨n, hn⟩
    dsimp only at h
    rw [h, trip_reads]
    exact hs ⟨n, hn⟩ _ (ih (Nat.le_of_succ_le hn))

/-- A load of a whole block of rows. -/
theorem whole_rows (x : Vec F S512x1024 .f32) :
    View.ld x (Rect.unit (s := S512x1024) ![0, 0] ![512, 1024] inb_S512x1024_S512x1024_0_0) = x :=
  View.ld_unit_lit (S := S512x1024) inb_S512x1024_S512x1024_0_0 x (by decide)

/-- A load of a whole row. -/
theorem whole_row (x : Vec F S1x1024 .f32) : View.ld x (Rect.unit (s := S1x1024) ![0, 0] ![1, 1024] inb_S1x1024_S1x1024_0_0) = x :=
  View.ld_unit_lit (S := S1x1024) inb_S1x1024_S1x1024_0_0 x (by decide)

/-- A load of a whole modulation row. -/
theorem whole_row3 (x : Vec F S1x1x1024 .f32) :
    View.ld x (Rect.unit (s := S1x1x1024) ![0, 0, 0] ![1, 1, 1024] inb_S1x1x1024_S1x1x1024_0_0_0) = x :=
  View.ld_unit_lit (S := S1x1x1024) inb_S1x1x1024_S1x1x1024_0_0_0 x (by decide)

variable (m : (ℓ : Loc nD τ sig) → Buf (Elt F) ℓ)

/-- The block that point `t` stores: the residual and the accumulator, normalised, for an accumulator with any property
    that the zero accumulator has and a trip keeps. -/
theorem block_of_invariant (c : Dev nD) (t : Fin cfg0.N) (Inv : ℕ → Vec F S512x1024 .f32 → Prop) (h0 : Inv 0 k0_pay3)
    (hs : ∀ (k : Fin k0_t1_loop.trips) (a : Vec F S512x1024 .f32), Inv k a →
      Inv (k + 1) (step (iblk m c 0 t) (iblk m c 2 t) (iblk m c 1 t) (iblk m c 4 t) (iblk m c 5 t) (iblk m c 6 t) k a)) :
    ∃ a : Vec F S512x1024 .f32, Inv k0_t1_loop.trips a ∧
      outsAt0 m c t = k0_pay1 (k0_pay5 (iblk m c 0 t) (iblk m c 3 t) a) (iblk m c 7 t) (iblk m c 8 t) := by
  unfold outsAt0 out0_A_9
  rw [View.read_writes_eq_canon _ _ _ (cover0_A_9 c _ _ _ _ _ _ _ _ _ _ _ _ _ _ _ _ _ _ _ _ _ _ _ _ _ _ _ _ _ _ _ _)]
  unfold kernelRun0_A
  dsimp only
  rw [View.canon_unit_zero (by decide)]
  sl_unfold_words
  unfold View.readCov
  simp only [View.writes_append]
  simp only [View.readAt_eq_ld, Memref.IsWhole.read_unread, whole_rows, whole_row, whole_row3]
  refine ⟨_, ?_, rfl⟩
  refine loop_keeps Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 2 t) (iblk m c 1 t)
    (iblk m c 4 t) (iblk m c 5 t) (iblk m c 6 t) _ Inv ?_ hs _ le_rfl
  refine Eq.mpr (congrArg (Inv 0) ?_) h0
  exact View.read_writes_full _ _ _ _ _

end Cert.Kernel2Ideal.Ffn

end
-- ==== Proof.LayerMath.lean ====
/- The feed-forward block on extended reals: the modulation, the gated unit, the layer norm, and sums taken in chunks. -/
module

public import Idealize.ShloMosaic.Lib.Pointwise

@[expose] public section

noncomputable section

namespace Cert.Layer

open Idealize.ShloMosaic

/-- The layer norm of a row of 1024 channels, at channel `c`: the divisor is the pattern of 1024, the offset that of 1e-5. -/
def norm (v g b : Fin 1024 → EReal) (c : Fin 1024) : EReal :=
  (v c - Ideal.div (∑ x, v x) (Ideal.ofBits FTy.f32 1149239296#32)) *
      Ideal.rsqrt
        (Ideal.div
            (∑ x, (v x - Ideal.div (∑ y, v y) (Ideal.ofBits FTy.f32 1149239296#32)) *
              (v x - Ideal.div (∑ y, v y) (Ideal.ofBits FTy.f32 1149239296#32)))
            (Ideal.ofBits FTy.f32 1149239296#32) +
          Ideal.ofBits FTy.f32 925353388#32) * g c + b c

/-- A row scaled and shifted by its batch's modulation. -/
def modulated (x scale shift : Fin 1024 → EReal) (d : Fin 1024) : EReal := x d * (1 + scale d) + shift d

/-- A hidden unit: the gate times its logistic, times the value. -/
def gated (h wg wu : Fin 1024 → EReal) : EReal :=
  (∑ d, h d * wg d) * Ideal.logistic (∑ d, h d * wg d) * ∑ d, h d * wu d

/-- Hidden unit `f` of a row: its gate from column `f` of the up-projection, its value from column `2816 + f`. -/
def unit (h : Fin 1024 → EReal) (win : Fin 1024 → Fin 5632 → EReal) (f : Fin 2816) : EReal :=
  gated h (fun d => win d ⟨f.val, by omega⟩) (fun d => win d ⟨2816 + f.val, by omega⟩)

/-- The term of hidden unit `j` in output channel `c`, nothing past the last unit. -/
def term (h : Fin 1024 → EReal) (win : Fin 1024 → Fin 5632 → EReal) (wout : Fin 2816 → Fin 1024 → EReal) (c : Fin 1024) (j : ℕ) : EReal :=
  if hj : j < 2816 then unit h win ⟨j, hj⟩ * wout ⟨j, hj⟩ c else 0

/-- The feed-forward output of a row at channel `c`. -/
def ffn (h : Fin 1024 → EReal) (win : Fin 1024 → Fin 5632 → EReal) (wout : Fin 2816 → Fin 1024 → EReal) (c : Fin 1024) : EReal :=
  ∑ f : Fin 2816, unit h win f * wout f c

/-- The residual of the feed-forward block, at channel `c`: √2 (its pattern) times the row, and half of the gated output. -/
def residual (x gate y : Fin 1024 → EReal) (c : Fin 1024) : EReal :=
  Ideal.ofBits FTy.f32 1068827891#32 * x c + Ideal.ofBits FTy.f32 1056964608#32 * (1 + gate c) * y c

/-- The feed-forward block on one row. -/
def block (x scale shift gate : Fin 1024 → EReal) (win : Fin 1024 → Fin 5632 → EReal) (wout : Fin 2816 → Fin 1024 → EReal)
    (g b : Fin 1024 → EReal) (c : Fin 1024) : EReal :=
  norm (residual x gate (ffn (modulated x scale shift) win wout)) g b c

/-- The terms of the first `256 (n + 1)` units are those of the first `256 n` and a chunk of 256. -/
theorem chunk_sum (f : ℕ → EReal) (n : ℕ) :
    (∑ j ∈ Finset.range (256 * (n + 1)), f j) = (∑ j ∈ Finset.range (256 * n), f j) + ∑ x : Fin 256, f (256 * n + x.val) := by
  rw [Nat.mul_succ, Finset.sum_range_add, Finset.sum_range (fun x => f (256 * n + x))]

/-- All chunks together are the whole feed-forward output. -/
theorem sum_terms (h : Fin 1024 → EReal) (win : Fin 1024 → Fin 5632 → EReal) (wout : Fin 2816 → Fin 1024 → EReal) (c : Fin 1024) :
    (∑ j ∈ Finset.range (256 * 11), term h win wout c j) = ffn h win wout c := by
  rw [Finset.sum_range]
  refine Finset.sum_congr rfl fun f _ => ?_
  unfold term
  rw [dif_pos f.isLt]

end Cert.Layer

end
-- ==== Proof.FfnPayload.lean ====
/- The feed-forward kernel's stored values at an index. -/
module

public import proofs.«01_k».proof.Proof.FfnTrip
public import proofs.«01_k».proof.Proof.LayerMath

@[expose] public section

noncomputable section

namespace Cert.Kernel2Ideal.Ffn

open Cert.Kernel2Ideal Cert.Kernel2Ideal.Gen Idealize.ShloMosaic Idealize.ShloMosaic.TcCoe Idealize.SL.Sem Cert.Layer

/-- Row `r` of a block. -/
def row (x : Vec Ideal S512x1024 .f32) (r : Fin 512) (c : Fin 1024) : EReal := x (ix2 r c)

/-- A staged row of parameters. -/
def param (x : Vec Ideal S1x1024 .f32) (c : Fin 1024) : EReal := x (ix2 0 c)

/-- A staged modulation row. -/
def modrow (x : Vec Ideal S1x1x1024 .f32) (c : Fin 1024) : EReal := x (ix3 0 0 c)

/-- An entry of the up-projection that trip `k` reads. -/
theorem upChunk_apply (w : Vec Ideal S11x1024x256 .bf16) (k : Fin k0_t1_loop.trips) (hk : k.val < 11) (d : Fin 1024) (f : Fin 256) :
    upChunk w k (ix3 0 d f) = w (ix3 ⟨k.val, hk⟩ d f) := by
  unfold upChunk
  refine View.ld_unit_apply_of _ _ _ _ _ _ fun a => ?_
  refine Eq.trans ?_ (congrArg (fun n => n + ((ix3 0 d f : S1x1024x256.Idx) a).val) (congrFun (k0_off1_eq k) a).symm)
  match a with
  | ⟨0, _⟩ => rfl
  | ⟨1, _⟩ => exact (Nat.zero_add _).symm
  | ⟨2, _⟩ => exact (Nat.zero_add _).symm

/-- An entry of the down-projection that trip `k` reads. -/
theorem downChunk_apply (w : Vec Ideal S11x256x1024 .bf16) (k : Fin k0_t1_loop.trips) (hk : k.val < 11) (f : Fin 256) (c : Fin 1024) :
    downChunk w k (ix3 0 f c) = w (ix3 ⟨k.val, hk⟩ f c) := by
  unfold downChunk
  refine View.ld_unit_apply_of _ _ _ _ _ _ fun a => ?_
  refine Eq.trans ?_ (congrArg (fun n => n + ((ix3 0 f c : S1x256x1024.Idx) a).val) (congrFun (k0_off2_eq k) a).symm)
  match a with
  | ⟨0, _⟩ => rfl
  | ⟨1, _⟩ => exact (Nat.zero_add _).symm
  | ⟨2, _⟩ => exact (Nat.zero_add _).symm

/-- One trip at an index: the chunk's 256 units are added. -/
theorem step_apply (x : Vec Ideal S512x1024 .f32) (scale shift : Vec Ideal S1x1x1024 .f32) (wg wu : Vec Ideal S11x1024x256 .bf16)
    (wd : Vec Ideal S11x256x1024 .bf16) (k : Fin k0_t1_loop.trips) (hk : k.val < 11) (a : Vec Ideal S512x1024 .f32) (r : Fin 512) (c : Fin 1024) :
    step x scale shift wg wu wd k a (ix2 r c) = a (ix2 r c) + ∑ f : Fin 256,
      gated (modulated (row x r) (modrow scale) (modrow shift)) (fun d => wg (ix3 ⟨k.val, hk⟩ d f)) (fun d => wu (ix3 ⟨k.val, hk⟩ d f))
        * wd (ix3 ⟨k.val, hk⟩ f c) := by
  have key : ∀ (p q : Vec Ideal S1x1024x256 .bf16) (s : Vec Ideal S1x256x1024 .bf16), k0_pay4 x scale shift p q a s (ix2 r c)
      = a (ix2 r c) + ∑ f : Fin 256, gated (modulated (row x r) (modrow scale) (modrow shift)) (fun d => p (ix3 0 d f)) (fun d => q (ix3 0 d f))
        * s (ix3 0 f c) := by
    intro p q s
    unfold k0_pay4 k0_pay2
    pointwise
    rfl
  unfold step
  rw [key]
  simp only [upChunk_apply _ k hk, downChunk_apply _ k hk]

/-- The zero accumulator. -/
theorem start_apply (r : Fin 512) (c : Fin 1024) : (k0_pay3 : FVec Ideal S512x1024 .f32) (ix2 r c) = 0 := by
  unfold k0_pay3
  pointwise

/-- What the block stores, at an index: the layer norm of the residual. -/
theorem finish_apply (x : Vec Ideal S512x1024 .f32) (gate : Vec Ideal S1x1x1024 .f32) (a : Vec Ideal S512x1024 .f32)
    (g b : Vec Ideal S1x1024 .f32) (r : Fin 512) (c : Fin 1024) :
    k0_pay1 (k0_pay5 x gate a) g b (ix2 r c) = norm (residual (row x r) (modrow gate) (row a r)) (param g) (param b) c := by
  have h5 : ∀ y : Fin 1024, k0_pay5 x gate a (ix2 r y) = residual (row x r) (modrow gate) (row a r) y := by
    intro y
    unfold k0_pay5 k0_pay2
    pointwise
    rfl
  have h1 : ∀ v : Vec Ideal S512x1024 .f32, k0_pay1 v g b (ix2 r c) = norm (row v r) (param g) (param b) c := by
    intro v
    unfold k0_pay1
    pointwise
    rfl
  rw [h1]
  exact congrArg (fun v => norm v (param g) (param b) c) (funext h5)

end Cert.Kernel2Ideal.Ffn

end
-- ==== Proof.FfnHost.lean ====
/- The arrays that the feed-forward call is given: the rows flattened, the weights cut into chunks of hidden units. -/
module

public import proofs.«01_k».proof.Proof.FfnPayload

@[expose] public section

noncomputable section

namespace Cert.Kernel2Ideal.Ffn

open Cert.Kernel2Ideal Cert.Kernel2Ideal.Gen Idealize.ShloMosaic Idealize.ShloMosaic.TcCoe Idealize.SL.Sem Cert.Layer

/-- The rows of both batches, one after the other. -/
def flat (x : Vec Ideal S2x8192x1024 .f32) : Vec Ideal S16384x1024 .f32 := shapeCast S16384x1024 x shapeCasts_S2x8192x1024_S16384x1024

/-- The gate half of the up-projection, cut into chunks. -/
def gates (w : Vec Ideal S1024x5632 .f32) : Vec Ideal S11x1024x256 .f32 :=
  transpose S11x1024x256 [1, 0, 2] (shapeCast S1024x11x256 (extractStridedSlice S1024x2816 ![0, 0] w slices_S1024x5632_S1024x2816_0_0)
    shapeCasts_S1024x2816_S1024x11x256) transposes_S1024x11x256_S11x1024x256_1_0_2

/-- The value half of the up-projection, cut into chunks. -/
def values (w : Vec Ideal S1024x5632 .f32) : Vec Ideal S11x1024x256 .f32 :=
  transpose S11x1024x256 [1, 0, 2] (shapeCast S1024x11x256 (extractStridedSlice S1024x2816 ![0, 2816] w slices_S1024x5632_S1024x2816_0_2816)
    shapeCasts_S1024x2816_S1024x11x256) transposes_S1024x11x256_S11x1024x256_1_0_2

/-- The down-projection, cut into chunks. -/
def downs (w : Vec Ideal S2816x1024 .f32) : Vec Ideal S11x256x1024 .f32 := shapeCast S11x256x1024 w shapeCasts_S2816x1024_S11x256x1024

/-- A vector as one row. -/
def asRow (w : Vec Ideal S1024 .f32) : Vec Ideal S1x1024 .f32 := shapeCast S1x1024 w shapeCasts_S1024_S1x1024

/-- Row `8192 b + t` of the flattened rows is row `t` of batch `b`. -/
theorem flat_apply (x : Vec Ideal S2x8192x1024 .f32) (b : Fin 2) (t : Fin 8192) (c : Fin 1024) :
    flat x (ix2 ⟨8192 * b.val + t.val, by omega⟩ c) = x (ix3 b t c) := by
  unfold flat
  pointwise

/-- Row `R` of the flattened rows is row `R % 8192` of batch `R / 8192`. -/
theorem flat_row (x : Vec Ideal S2x8192x1024 .f32) (R : Fin 16384) (c : Fin 1024) :
    flat x (ix2 R c) = x (ix3 ⟨R.val / 8192, by omega⟩ ⟨R.val % 8192, by omega⟩ c) := by
  refine Eq.trans ?_ (flat_apply x ⟨R.val / 8192, by omega⟩ ⟨R.val % 8192, by omega⟩ c)
  have e : R = ⟨8192 * (R.val / 8192) + R.val % 8192, by omega⟩ := Fin.ext (by show R.val = 8192 * (R.val / 8192) + R.val % 8192; omega)
  exact congrArg (fun r => flat x (ix2 r c)) e

/-- The gate weights of chunk `k`. -/
theorem gates_apply (w : Vec Ideal S1024x5632 .f32) (k : Fin 11) (d : Fin 1024) (f : Fin 256) :
    gates w (ix3 k d f) = w (ix2 d ⟨256 * k.val + f.val, by omega⟩) := by
  unfold gates
  pointwise
  congr! 3
  omega

/-- The value weights of chunk `k`. -/
theorem values_apply (w : Vec Ideal S1024x5632 .f32) (k : Fin 11) (d : Fin 1024) (f : Fin 256) :
    values w (ix3 k d f) = w (ix2 d ⟨2816 + (256 * k.val + f.val), by omega⟩) := by
  unfold values
  pointwise
  congr! 3
  omega

/-- The down-projection of chunk `k`. -/
theorem downs_apply (w : Vec Ideal S2816x1024 .f32) (k : Fin 11) (f : Fin 256) (c : Fin 1024) :
    downs w (ix3 k f c) = w (ix2 ⟨256 * k.val + f.val, by omega⟩ c) := by
  unfold downs
  pointwise
  congr! 3
  omega

/-- A vector's row, at an index. -/
theorem asRow_apply (w : Vec Ideal S1024 .f32) (c : Fin 1024) : asRow w (ix2 0 c) = w (ix1 c) := by
  unfold asRow
  pointwise

variable (m : (ℓ : Loc nD τ sig) → Buf (Elt Ideal) ℓ)

/-- Narrowing keeps an exact value. -/
theorem trunc_id {s : Shape} (x : FVec Ideal s .f32) : (truncf .bf16 x bitsLt_bf16_f32 : s.Idx → EReal) = x := rfl

/-- The call's rows. -/
theorem rows_eq (c : Dev nD) : (V m c main_v0 : S16384x1024.Idx → EReal) = flat (m ((c : Thread nD τ).loc main_arg0)) := by
  unfold_abbrev_sides
  after_results
  unfold flat
  congr 1

/-- The call's gate weights. -/
theorem gates_eq (c : Dev nD) : (V m c main_v4 : S11x1024x256.Idx → EReal) = gates (m ((c : Thread nD τ).loc main_arg4)) := by
  unfold_abbrev_sides
  after_results
  refine (trunc_id _).trans ?_
  unfold gates
  congr 1

/-- The call's value weights. -/
theorem values_eq (c : Dev nD) : (V m c main_v8 : S11x1024x256.Idx → EReal) = values (m ((c : Thread nD τ).loc main_arg4)) := by
  unfold_abbrev_sides
  after_results
  refine (trunc_id _).trans ?_
  unfold values
  congr 1

/-- The call's down-projection. -/
theorem downs_eq (c : Dev nD) : (V m c main_v10 : S11x256x1024.Idx → EReal) = downs (m ((c : Thread nD τ).loc main_arg5)) := by
  unfold_abbrev_sides
  after_results
  refine (trunc_id _).trans ?_
  unfold downs
  congr 1

/-- The call's layer norm scale. -/
theorem scale_eq (c : Dev nD) : (V m c main_v11 : S1x1024.Idx → EReal) = asRow (m ((c : Thread nD τ).loc main_arg6)) := by
  unfold_abbrev_sides
  after_results
  unfold asRow
  congr 1

/-- The call's layer norm offset. -/
theorem offset_eq (c : Dev nD) : (V m c main_v12 : S1x1024.Idx → EReal) = asRow (m ((c : Thread nD τ).loc main_arg7)) := by
  unfold_abbrev_sides
  after_results
  unfold asRow
  congr 1

end Cert.Kernel2Ideal.Ffn

end
-- ==== Proof.FfnArray.lean ====
/- The array that the feed-forward call leaves: at every row and channel, from the whole arrays it is given. -/
module

public import proofs.«01_k».proof.Proof.FfnHost
public import Idealize.ShloMosaic.Lib.Pipeline.ValueKit

@[expose] public section

noncomputable section

namespace Cert.Kernel2Ideal.Ffn

open Cert.Kernel2Ideal Cert.Kernel2Ideal.Gen Idealize.ShloMosaic Idealize.ShloMosaic.TcCoe Idealize.SL.Sem Cert.Layer

/-- The feed-forward block of position `t` of batch `b`, at channel `c`, from the arrays the layer is given. -/
def layer (x : S2x8192x1024.Idx → EReal) (shift scale gate : S2x1x1024.Idx → EReal) (win : S1024x5632.Idx → EReal)
    (wout : S2816x1024.Idx → EReal) (g b : S1024.Idx → EReal) (n : Fin 2) (t : Fin 8192) (c : Fin 1024) : EReal :=
  block (fun d => x (ix3 n t d)) (fun d => scale (ix3 n 0 d)) (fun d => shift (ix3 n 0 d)) (fun d => gate (ix3 n 0 d))
    (fun d f => win (ix2 d f)) (fun f e => wout (ix2 f e)) (fun e => g (ix1 e)) (fun e => b (ix1 e)) c

/-- Which block of each array a grid point stages. -/
theorem idx (t : Fin cfg0.N) : win0_0.index t = ![t.val, 0] ∧ win0_1.index t = ![t.val / 16, 0, 0] ∧ win0_2.index t = ![t.val / 16, 0, 0]
    ∧ win0_3.index t = ![t.val / 16, 0, 0] ∧ win0_4.index t = ![0, 0, 0] ∧ win0_5.index t = ![0, 0, 0] ∧ win0_6.index t = ![0, 0, 0]
    ∧ win0_7.index t = ![0, 0] ∧ win0_8.index t = ![0, 0] ∧ win0_9.index t = ![t.val, 0] :=
  (by decide +kernel : ∀ t : Fin grid0.N, win0_0.index t = ![t.val, 0] ∧ win0_1.index t = ![t.val / 16, 0, 0]
    ∧ win0_2.index t = ![t.val / 16, 0, 0] ∧ win0_3.index t = ![t.val / 16, 0, 0] ∧ win0_4.index t = ![0, 0, 0]
    ∧ win0_5.index t = ![0, 0, 0] ∧ win0_6.index t = ![0, 0, 0] ∧ win0_7.index t = ![0, 0] ∧ win0_8.index t = ![0, 0]
    ∧ win0_9.index t = ![t.val, 0]) t

/-- The grid has 32 points. -/
theorem points (t : Fin cfg0.N) : t.val < 32 := t.isLt

/-- The batch of a grid point's rows. -/
def batch (t : Fin cfg0.N) : Fin 2 := ⟨t.val / 16, by have := points t; omega⟩

/-- Row `r` of a grid point's block, among the flattened rows. -/
def flatRow (t : Fin cfg0.N) (r : Fin 512) : Fin 16384 := ⟨512 * t.val + r.val, by have := points t; omega⟩

variable (m : (ℓ : Loc nD τ sig) → Buf (Elt Ideal) ℓ)

/-- The block of rows of a grid point. -/
theorem rows_block (c : Dev nD) (t : Fin cfg0.N) (r : Fin 512) (d : Fin 1024) :
    (iblk m c 0 t : S512x1024.Idx → EReal) (ix2 r d) = flat (m ((c : Thread nD τ).loc main_arg0)) (ix2 (flatRow t r) d) := by
  rw [← rows_eq m c]
  show V m c main_v0 ((win0_0.rect t).emb (ix2 r d)) = V m c main_v0 (ix2 (flatRow t r) d)
  congr 1
  funext a
  apply Fin.ext
  rw [Pipeline.Window.rect_emb_val win0_0 t (ix2 r d) a rfl]
  rw [(idx t).1]
  match a with
  | ⟨0, _⟩ => show t.val * 512 + r.val = 512 * t.val + r.val; omega
  | ⟨1, _⟩ => show 0 * 1024 + d.val = d.val; omega

/-- A grid point's shift row. -/
theorem shift_block (c : Dev nD) (t : Fin cfg0.N) (d : Fin 1024) :
    (iblk m c 1 t : S1x1x1024.Idx → EReal) (ix3 0 0 d) = (m ((c : Thread nD τ).loc main_arg1) : S2x1x1024.Idx → EReal) (ix3 (batch t) 0 d) := by
  blk_ext! [iblk, V, (idx t).2.1, batch]

/-- A grid point's scale row. -/
theorem scale_block (c : Dev nD) (t : Fin cfg0.N) (d : Fin 1024) :
    (iblk m c 2 t : S1x1x1024.Idx → EReal) (ix3 0 0 d) = (m ((c : Thread nD τ).loc main_arg2) : S2x1x1024.Idx → EReal) (ix3 (batch t) 0 d) := by
  blk_ext! [iblk, V, (idx t).2.2.1, batch]

/-- A grid point's gate row. -/
theorem gate_block (c : Dev nD) (t : Fin cfg0.N) (d : Fin 1024) :
    (iblk m c 3 t : S1x1x1024.Idx → EReal) (ix3 0 0 d) = (m ((c : Thread nD τ).loc main_arg3) : S2x1x1024.Idx → EReal) (ix3 (batch t) 0 d) := by
  blk_ext! [iblk, V, (idx t).2.2.2.1, batch]

/-- Every grid point reads all the gate weights. -/
theorem gates_block (c : Dev nD) (t : Fin cfg0.N) : (iblk m c 4 t : S11x1024x256.Idx → EReal) = gates (m ((c : Thread nD τ).loc main_arg4)) := by
  rw [← gates_eq m c]
  funext j
  show V m c main_v4 ((win0_4.rect t).emb j) = V m c main_v4 j
  congr 1
  funext a
  apply Fin.ext
  rw [Pipeline.Window.rect_emb_val_of_index_zero]
  rw [(idx t).2.2.2.2.1]
  fin_cases a <;> rfl

/-- Every grid point reads all the value weights. -/
theorem values_block (c : Dev nD) (t : Fin cfg0.N) : (iblk m c 5 t : S11x1024x256.Idx → EReal) = values (m ((c : Thread nD τ).loc main_arg4)) := by
  rw [← values_eq m c]
  funext j
  show V m c main_v8 ((win0_5.rect t).emb j) = V m c main_v8 j
  congr 1
  funext a
  apply Fin.ext
  rw [Pipeline.Window.rect_emb_val_of_index_zero]
  rw [(idx t).2.2.2.2.2.1]
  fin_cases a <;> rfl

/-- Every grid point reads the whole down-projection. -/
theorem downs_block (c : Dev nD) (t : Fin cfg0.N) : (iblk m c 6 t : S11x256x1024.Idx → EReal) = downs (m ((c : Thread nD τ).loc main_arg5)) := by
  rw [← downs_eq m c]
  funext j
  show V m c main_v10 ((win0_6.rect t).emb j) = V m c main_v10 j
  congr 1
  funext a
  apply Fin.ext
  rw [Pipeline.Window.rect_emb_val_of_index_zero]
  rw [(idx t).2.2.2.2.2.2.1]
  fin_cases a <;> rfl

/-- Every grid point reads the layer norm's scale. -/
theorem norm_scale_block (c : Dev nD) (t : Fin cfg0.N) : (iblk m c 7 t : S1x1024.Idx → EReal) = asRow (m ((c : Thread nD τ).loc main_arg6)) := by
  rw [← scale_eq m c]
  funext j
  show V m c main_v11 ((win0_7.rect t).emb j) = V m c main_v11 j
  congr 1
  funext a
  apply Fin.ext
  rw [Pipeline.Window.rect_emb_val_of_index_zero]
  rw [(idx t).2.2.2.2.2.2.2.1]
  fin_cases a <;> rfl

/-- Every grid point reads the layer norm's offset. -/
theorem norm_offset_block (c : Dev nD) (t : Fin cfg0.N) : (iblk m c 8 t : S1x1024.Idx → EReal) = asRow (m ((c : Thread nD τ).loc main_arg7)) := by
  rw [← offset_eq m c]
  funext j
  show V m c main_v12 ((win0_8.rect t).emb j) = V m c main_v12 j
  congr 1
  funext a
  apply Fin.ext
  rw [Pipeline.Window.rect_emb_val_of_index_zero]
  rw [(idx t).2.2.2.2.2.2.2.2.1]
  fin_cases a <;> rfl

/-- The chunk loop runs eleven times. -/
theorem trips_eq : k0_t1_loop.trips = 11 := by decide +kernel

/-- The block of a row, when each chunk adds its units' terms: the row's feed-forward block. -/
theorem block_apply (c : Dev nD) (t : Fin cfg0.N) (win : S1024x5632.Idx → EReal) (wout : S2816x1024.Idx → EReal)
    (ei : m ((c : Thread nD τ).loc main_arg4) = win) (eo : m ((c : Thread nD τ).loc main_arg5) = wout) (r : Fin 512) (e : Fin 1024) :
    outsAt0 m c t (ix2 r e) = block (row (iblk m c 0 t) r) (modrow (iblk m c 2 t)) (modrow (iblk m c 1 t)) (modrow (iblk m c 3 t))
      (fun d f => win (ix2 d f)) (fun f e => wout (ix2 f e)) (param (iblk m c 7 t)) (param (iblk m c 8 t)) e := by
  obtain ⟨a, ha, h⟩ := block_of_invariant m c t
    (fun n a => ∀ (r : Fin 512) (e : Fin 1024), a (ix2 r e) = ∑ j ∈ Finset.range (256 * n),
      term (modulated (row (iblk m c 0 t) r) (modrow (iblk m c 2 t)) (modrow (iblk m c 1 t))) (fun d f => win (ix2 d f)) (fun f e => wout (ix2 f e)) e j)
    (fun r e => by rw [start_apply]; simp)
    (fun k a hk r e => by
      have hk11 : k.val < 11 := Nat.lt_of_lt_of_le k.isLt k0_t1_abs.2.1
      rw [step_apply _ _ _ _ _ _ k hk11, hk, chunk_sum]
      congr 1
      refine Finset.sum_congr rfl fun f _ => ?_
      unfold term unit
      rw [dif_pos (by omega), gates_block, values_block, downs_block, ei, eo, downs_apply]
      simp only [gates_apply, values_apply])
  rw [h, finish_apply]
  unfold block
  congr 1
  congr 1
  funext x
  rw [← sum_terms, ← trips_eq]
  exact ha r x

/-- The position in its batch of row `r` of a grid point's block. -/
def pos (t : Fin cfg0.N) (r : Fin 512) : Fin 8192 := ⟨(512 * t.val + r.val) % 8192, by omega⟩

/-- What the body leaves in the output block at a grid point. -/
theorem block_eq (x : S2x8192x1024.Idx → EReal) (shift scale gate : S2x1x1024.Idx → EReal) (win : S1024x5632.Idx → EReal)
    (wout : S2816x1024.Idx → EReal) (g b : S1024.Idx → EReal) (c : Dev nD) (t : Fin cfg0.N)
    (e0 : m ((c : Thread nD τ).loc main_arg0) = x) (e1 : m ((c : Thread nD τ).loc main_arg1) = shift)
    (e2 : m ((c : Thread nD τ).loc main_arg2) = scale) (e3 : m ((c : Thread nD τ).loc main_arg3) = gate)
    (e4 : m ((c : Thread nD τ).loc main_arg4) = win) (e5 : m ((c : Thread nD τ).loc main_arg5) = wout)
    (e6 : m ((c : Thread nD τ).loc main_arg6) = g) (e7 : m ((c : Thread nD τ).loc main_arg7) = b) (r : Fin 512) (e : Fin 1024) :
    outsAt0 m c t (ix2 r e) = layer x shift scale gate win wout g b (batch t) (pos t r) e := by
  rw [block_apply m c t win wout e4 e5 r e]
  unfold layer
  have h0 : row (iblk m c 0 t) r = fun d => x (ix3 (batch t) (pos t r) d) := by
    funext d
    refine (rows_block m c t r d).trans ?_
    rw [flat_row, e0]
    refine congrArg (fun n => x (ix3 n (pos t r) d)) (Fin.ext ?_)
    show (512 * t.val + r.val) / 8192 = t.val / 16
    omega
  have h1 : modrow (iblk m c 1 t) = fun d => shift (ix3 (batch t) 0 d) := by
    funext d
    exact (shift_block m c t d).trans (by rw [e1])
  have h2 : modrow (iblk m c 2 t) = fun d => scale (ix3 (batch t) 0 d) := by
    funext d
    exact (scale_block m c t d).trans (by rw [e2])
  have h3 : modrow (iblk m c 3 t) = fun d => gate (ix3 (batch t) 0 d) := by
    funext d
    exact (gate_block m c t d).trans (by rw [e3])
  have h7 : param (iblk m c 7 t) = fun e => g (ix1 e) := by
    funext d
    unfold param
    rw [norm_scale_block, e6]
    exact asRow_apply g d
  have h8 : param (iblk m c 8 t) = fun e => b (ix1 e) := by
    funext d
    unfold param
    rw [norm_offset_block, e7]
    exact asRow_apply b d
  rw [h0, h1, h2, h3, h7, h8]

/-- The whole output array after the run. -/
theorem array_eq (x : S2x8192x1024.Idx → EReal) (shift scale gate : S2x1x1024.Idx → EReal) (win : S1024x5632.Idx → EReal)
    (wout : S2816x1024.Idx → EReal) (g b : S1024.Idx → EReal) (c : Dev nD)
    (e0 : m ((c : Thread nD τ).loc main_arg0) = x) (e1 : m ((c : Thread nD τ).loc main_arg1) = shift)
    (e2 : m ((c : Thread nD τ).loc main_arg2) = scale) (e3 : m ((c : Thread nD τ).loc main_arg3) = gate)
    (e4 : m ((c : Thread nD τ).loc main_arg4) = win) (e5 : m ((c : Thread nD τ).loc main_arg5) = wout)
    (e6 : m ((c : Thread nD τ).loc main_arg6) = g) (e7 : m ((c : Thread nD τ).loc main_arg7) = b) :
    (dats m 0 c).arrAt 9 cfg0.N = fun j : S16384x1024.Idx =>
      layer x shift scale gate win wout g b ⟨(j 0).val / 8192, by have : (j 0).val < 16384 := (j 0).isLt; omega⟩
        ⟨(j 0).val % 8192, by omega⟩ (j 1) := by
  refine (dats m 0 c).arrAt_eq_of_covers 9 _ (by decide +kernel) fun t hf y => ?_
  blk_simp
  rw [after0_9]
  idx_vars y
  refine (block_eq m x shift scale gate win wout g b c t e0 e1 e2 e3 e4 e5 e6 e7 y0 y1).trans ?_
  have hi : win0_9.index t 0 = t.val := by rw [(idx t).2.2.2.2.2.2.2.2.2]; rfl
  have hv : ∀ a, (((win0_9.rect t).emb (ix2 y0 y1) a : ℕ)) = win0_9.index t a * win0_9.size a + (ix2 y0 y1 a).val :=
    fun a => Pipeline.Window.rect_emb_val win0_9 t (ix2 y0 y1) a rfl
  rw [(idx t).2.2.2.2.2.2.2.2.2] at hv
  have h1 : ((View.whole main_v13).slice (win0_9.rect t)).emb (ix2 y0 y1) 1 = y1 :=
    Fin.ext ((hv 1).trans (show 0 * 1024 + y1.val = y1.val by omega))
  rw [h1]
  refine congrArg₂ (fun n p => layer x shift scale gate win wout g b n p y1) (Fin.ext ?_) (Fin.ext ?_)
  · show t.val / 16 = (win0_9.index t 0 * 512 + y0.val) / 8192
    rw [hi]
    omega
  · show (512 * t.val + y0.val) % 8192 = (win0_9.index t 0 * 512 + y0.val) % 8192
    rw [hi, Nat.mul_comm]

end Cert.Kernel2Ideal.Ffn

end
-- ==== Proof.FfnRef.lean ====
/- What the feed-forward reference computes: its hidden units, its residual and its layer norm, at an index. -/
module

public import proofs.«01_k».proof.Proof.FfnArray
public import proofs.«01_k».proof.Proof.Gen.Reference2Ideal.Read
public import Idealize.ShloMosaic.Lib.Pointwise

@[expose] public section

noncomputable section

namespace Cert.Reference2Ideal.Ffn

open Cert.Reference2Ideal Cert.Reference2Ideal.Gen Cert.Reference2Ideal.Read Idealize.ShloMosaic Idealize.ShloMosaic.TcCoe Idealize.SL.Sem Cert.Layer
open Cert.Kernel2Ideal.Ffn (layer)

variable (x : S2x8192x1024.Idx → EReal) (shift scale gate : S2x1x1024.Idx → EReal) (win : S1024x5632.Idx → EReal)
  (wout : S2816x1024.Idx → EReal) (g b : S1024.Idx → EReal)

/-- The modulated row of position `t` of batch `n`. -/
def hrow (n : Fin 2) (t : Fin 8192) : Fin 1024 → EReal :=
  modulated (fun d => x (ix3 n t d)) (fun d => scale (ix3 n 0 d)) (fun d => shift (ix3 n 0 d))

/-- The modulation. -/
theorem hrow_eq (n : Fin 2) (t : Fin 8192) (d : Fin 1024) :
    (val_main_v5 (F := Ideal) x shift scale (ix3 n t d) : EReal) = hrow x shift scale n t d := by
  have e2 : idx_main_v2 (ix3 n t d) = ix3 n 0 d := by funext a; fin_cases a <;> rfl
  have e4 : idx_main_v4 (ix3 n t d) = ix3 n 0 d := by funext a; fin_cases a <;> rfl
  rw [val_main_v5_apply, val_main_v3_apply, val_main_v4_apply, val_main_v2_apply, e2, e4, val_main_v1_apply, val_main_v0_apply, val_main_cst_apply]
  unfold hrow modulated
  rw [← Ideal.ofBits_one_f32]
  rfl

/-- The up-projection. -/
theorem up_eq (n : Fin 2) (t : Fin 8192) (f : Fin 5632) :
    (val_main_v6 (F := Ideal) x shift scale win (ix3 n t f) : EReal) = ∑ d : Fin 1024, hrow x shift scale n t d * win (ix2 d f) := by
  rw [val_main_v6_apply]
  refine Finset.sum_congr rfl fun d _ => ?_
  have el : lidx_main_v6 (ix3 n t f) d = ix3 n t d := by funext a; fin_cases a <;> rfl
  have er : ridx_main_v6 (ix3 n t f) d = ix2 d f := by funext a; fin_cases a <;> rfl
  rw [el, er, hrow_eq]

/-- A hidden unit. -/
theorem unit_eq (n : Fin 2) (t : Fin 8192) (f : Fin 2816) :
    (val_main_v10 (F := Ideal) x shift scale win (ix3 n t f) : EReal) = unit (hrow x shift scale n t) (fun d f => win (ix2 d f)) f := by
  have e7 : idx_main_v7 (ix3 n t f) = ix3 n t ⟨f.val, by omega⟩ := by funext a; fin_cases a <;> rfl
  have e8 : idx_main_v8 (ix3 n t f) = ix3 n t ⟨2816 + f.val, by omega⟩ := by
    funext a; fin_cases a <;> rfl
  rw [val_main_v10_apply, val_main_v9_apply, val_main_call0_v5_apply, val_main_call0_v3_apply, val_main_call0_v1_apply, val_main_call0_v0_apply,
    val_main_call0_v4_apply, val_main_call0_v2_apply, val_main_call0_cst_apply, val_main_call0_cst_0_apply, val_main_v7_apply, val_main_v8_apply, e7, e8, up_eq, up_eq]
  unfold unit gated Ideal.logistic
  rw [← Ideal.ofBits_one_f32]
  rfl

/-- The feed-forward output. -/
theorem ffn_eq (n : Fin 2) (t : Fin 8192) (c : Fin 1024) :
    (val_main_v11 (F := Ideal) x shift scale win wout (ix3 n t c) : EReal)
      = ffn (hrow x shift scale n t) (fun d f => win (ix2 d f)) (fun f e => wout (ix2 f e)) c := by
  rw [val_main_v11_apply]
  refine Finset.sum_congr rfl fun f _ => ?_
  have el : lidx_main_v11 (ix3 n t c) f = ix3 n t f := by funext a; fin_cases a <;> rfl
  have er : ridx_main_v11 (ix3 n t c) f = ix2 f c := by funext a; fin_cases a <;> rfl
  rw [el, er, unit_eq]

/-- The residual row of position `t` of batch `n`. -/
def vrow (n : Fin 2) (t : Fin 8192) : Fin 1024 → EReal :=
  Layer.residual (fun d => x (ix3 n t d)) (fun d => gate (ix3 n 0 d)) (ffn (hrow x shift scale n t) (fun d f => win (ix2 d f)) (fun f e => wout (ix2 f e)))

/-- The residual. -/
theorem vrow_eq (n : Fin 2) (t : Fin 8192) (c : Fin 1024) :
    (val_main_v20 (F := Ideal) x shift scale gate win wout (ix3 n t c) : EReal) = vrow x shift scale gate win wout n t c := by
  have e18 : idx_main_v18 (ix3 n t c) = ix3 n 0 c := by funext a; fin_cases a <;> rfl
  rw [val_main_v20_apply, val_main_v19_apply, val_main_v18_apply, e18, val_main_v17_apply, val_main_v16_apply, val_main_v15_apply, val_main_v14_apply,
    val_main_v13_apply, val_main_v12_apply, val_main_cst_0_apply, val_main_cst_1_apply, val_main_cst_2_apply, ffn_eq]
  unfold vrow Layer.residual
  rw [← Ideal.ofBits_one_f32]
  rfl

/-- The mean of a residual row. -/
theorem mean_eq (n : Fin 2) (t : Fin 8192) :
    (val_main_v24 (F := Ideal) x shift scale gate win wout (ix3 n t 0) : EReal)
      = Ideal.div (∑ d, vrow x shift scale gate win wout n t d) (Ideal.ofBits FTy.f32 1149239296#32) := by
  have e22 : idx_main_v22 (ix3 n t 0) = ix2 n t := by funext a; fin_cases a <;> rfl
  have e21 : ∀ k : Fin 1024, idx_main_v21 (ix2 n t) k = ix3 n t k := fun k => by funext a; fin_cases a <;> rfl
  rw [val_main_v24_apply, val_main_v22_apply, e22, val_main_v21_apply, val_main_v23_apply, val_main_cst_3_apply, val_main_cst_4_apply]
  simp only [e21, vrow_eq]
  refine congrArg (fun s => Ideal.div s _) ?_
  refine (congrArg (fun y : EReal => y + _) Ideal.ofBits_zero_f32).trans ?_
  exact zero_add _

/-- The variance of a residual row. -/
theorem var_eq (n : Fin 2) (t : Fin 8192) :
    (val_main_v31 (F := Ideal) x shift scale gate win wout (ix3 n t 0) : EReal)
      = Ideal.div (∑ d, (vrow x shift scale gate win wout n t d - Ideal.div (∑ d, vrow x shift scale gate win wout n t d) (Ideal.ofBits FTy.f32 1149239296#32))
          * (vrow x shift scale gate win wout n t d - Ideal.div (∑ d, vrow x shift scale gate win wout n t d) (Ideal.ofBits FTy.f32 1149239296#32)))
        (Ideal.ofBits FTy.f32 1149239296#32) := by
  have e29 : idx_main_v29 (ix3 n t 0) = ix2 n t := by funext a; fin_cases a <;> rfl
  have e28 : ∀ k : Fin 1024, idx_main_v28 (ix2 n t) k = ix3 n t k := fun k => by funext a; fin_cases a <;> rfl
  have e25 : ∀ k : Fin 1024, idx_main_v25 (ix3 n t k) = ix3 n t 0 := fun k => by funext a; fin_cases a <;> rfl
  rw [val_main_v31_apply, val_main_v29_apply, e29, val_main_v28_apply, val_main_v30_apply, val_main_cst_5_apply, val_main_cst_6_apply]
  simp only [e28, val_main_v27_apply, val_main_v26_apply, val_main_v25_apply, e25, vrow_eq, mean_eq]
  refine congrArg (fun s => Ideal.div s _) ?_
  refine (congrArg (fun y : EReal => y + _) Ideal.ofBits_zero_f32).trans ?_
  exact zero_add _

/-- The reference's result before it is flattened. -/
theorem result (n : Fin 2) (t : Fin 8192) (c : Fin 1024) :
    (val_main_v44 (F := Ideal) x shift scale gate win wout g b (ix3 n t c) : EReal) = layer x shift scale gate win wout g b n t c := by
  have e32 : idx_main_v32 (ix3 n t c) = ix3 n t 0 := by funext a; fin_cases a <;> rfl
  have e37 : idx_main_v37 (ix3 n t c) = ix3 n t 0 := by funext a; fin_cases a <;> rfl
  have e40 : idx_main_v39 (idx_main_v40 (ix3 n t c)) = ix1 c := by funext a; fin_cases a <;> rfl
  have e43 : idx_main_v42 (idx_main_v43 (ix3 n t c)) = ix1 c := by funext a; fin_cases a <;> rfl
  rw [val_main_v44_apply, val_main_v43_apply, val_main_v42_apply, e43, val_main_v41_apply, val_main_v40_apply, val_main_v39_apply, e40,
    val_main_v38_apply, val_main_v37_apply, e37, val_main_v36_apply, val_main_v35_apply, val_main_v34_apply, val_main_cst_7_apply,
    val_main_v33_apply, val_main_v32_apply, e32, vrow_eq, mean_eq, var_eq]
  rfl

/-- The reference's result: the layer's rows, one after the other. -/
theorem flat_result (j : S16384x1024.Idx) :
    (val_main_v45 (F := Ideal) x shift scale gate win wout g b j : EReal)
      = layer x shift scale gate win wout g b ⟨(j 0).val / 8192, by have : (j 0).val < 16384 := (j 0).isLt; omega⟩ ⟨(j 0).val % 8192, by omega⟩ (j 1) := by
  idx_vars j
  rw [val_main_v45_apply]
  have e : idx_main_v45 (ix2 j0 j1) = ix3 ⟨j0.val / 8192, by omega⟩ ⟨j0.val % 8192, by omega⟩ j1 := by
    funext a
    apply Fin.ext
    match a with
    | ⟨0, _⟩ => show (j0.val * 1024 + j1.val) / 8388608 = j0.val / 8192; omega
    | ⟨1, _⟩ => show (j0.val * 1024 + j1.val) / 1024 % 8192 = j0.val % 8192; omega
    | ⟨2, _⟩ => show (j0.val * 1024 + j1.val) % 1024 = j1.val; omega
  rw [e, result]

end Cert.Reference2Ideal.Ffn

end
-- ==== Proof.FfnClaims.lean ====
/- The claims about the feed-forward call: its frames, and the equation of the kernel's result with the reference's. -/
module

public import proofs.«01_k».proof.Defs
public import proofs.«01_k».proof.Proof.FfnRef
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import Idealize.ShloMosaic.Lib.Claim

@[expose] public section

noncomputable section

namespace Cert.Proof.Ffn

open Idealize.ShloMosaic Idealize.ShloMosaic.TcCoe Idealize.SL.Sem

/-- The kernel's frame, bit by bit. -/
theorem frame_p : Cert.quiescent_Kernel2 := fun m ρ _ => Cert.Kernel2.Gen.frame m ρ

/-- The idealized kernel's frame. -/
theorem frame_pi : Cert.quiescent_Kernel2Ideal := fun m ρ _ => Cert.Kernel2Ideal.Gen.frame m ρ

/-- The reference's frame: it has no semaphore. -/
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Over the extended reals the kernel's result is the reference's, whatever the arguments. -/
theorem algebraic : Cert.algebraic_Kernel2Ideal_Reference2Ideal := by
  pair_intro
  · run_from Cert.Kernel2Ideal.Value.run_blocks m g
  · run_from Cert.Reference2Ideal.Value.run m' g'
    obtain ⟨h0, h1, h2, h3, h4, h5, h6, h7⟩ := hagree c
    rw [Cert.Reference2Ideal.Read.val_main_v45_eq, h0, h1, h2, h3, h4, h5, h6, h7]
    rw [Cert.Kernel2Ideal.Ffn.array_eq m _ _ _ _ _ _ _ _ c rfl rfl rfl rfl rfl rfl rfl rfl]
    funext j
    exact Cert.Reference2Ideal.Ffn.flat_result _ _ _ _ _ _ _ _ j

end Cert.Proof.Ffn

end
-- ==== Proof.OutPayload.lean ====
/- The output projection on extended reals, and the kernel's stored value at an index. -/
module

public import proofs.«01_k».proof.Proof.LayerMath
public import proofs.«01_k».proof.Proof.Gen.Kernel4Ideal.Value
public import Idealize.ShloMosaic.Lib.Pointwise
public import Idealize.ShloMosaic.Lib.Pipeline.ValueKit

@[expose] public section

noncomputable section

namespace Cert.Layer

open Idealize.ShloMosaic

/-- The Gaussian error unit in its hyperbolic form; the constants are the patterns of 1/2, √(2/π) and 0.044715. -/
def gelu (y : EReal) : EReal :=
  Ideal.ofBits FTy.f32 1056964608#32 * y *
    (1 + Ideal.tanh (Ideal.ofBits FTy.f32 1061962282#32 * (y + Ideal.ofBits FTy.f32 1027024659#32 * (y * y * y))))

/-- The gated linear unit of the state space branch, at channel `e`. -/
def glu (y : Fin 512 → EReal) (w : Fin 512 → Fin 512 → EReal) (b : Fin 512 → EReal) (e : Fin 512) : EReal :=
  gelu (y e) * Ideal.logistic ((∑ f, gelu (y f) * w f e) + b e)

/-- The three branches, each through its rows of the output projection, at channel `c`. -/
def mixed (oa ob : Fin 256 → EReal) (yc : Fin 512 → EReal) (wa wb : Fin 256 → Fin 1024 → EReal) (wc : Fin 512 → Fin 1024 → EReal)
    (c : Fin 1024) : EReal :=
  (∑ k, oa k * wa k c) + (∑ k, ob k * wb k c) + ∑ k, yc k * wc k c

/-- The residual of the mixing block, at channel `c`: √2 (its pattern) times the row, and the gated mixture. -/
def mixres (x gate y : Fin 1024 → EReal) (c : Fin 1024) : EReal :=
  Ideal.ofBits FTy.f32 1068827891#32 * x c + (1 + gate c) * y c

/-- The output projection of one row. -/
def outrow (x gate : Fin 1024 → EReal) (oa ob : Fin 256 → EReal) (y : Fin 512 → EReal) (w : Fin 512 → Fin 512 → EReal) (b : Fin 512 → EReal)
    (wa wb : Fin 256 → Fin 1024 → EReal) (wc : Fin 512 → Fin 1024 → EReal) (g h : Fin 1024 → EReal) (c : Fin 1024) : EReal :=
  norm (mixres x gate (mixed oa ob (glu y w b) wa wb wc)) g h c

end Cert.Layer

namespace Cert.Kernel4Ideal.Out

open Cert.Kernel4Ideal Cert.Kernel4Ideal.Gen Idealize.ShloMosaic Idealize.ShloMosaic.TcCoe Idealize.SL.Sem Cert.Layer

/-- The state space branch of a block, at an index. -/
theorem glu_apply (y : Vec Ideal S512x512 .f32) (w : Vec Ideal S512x512 .bf16) (b : Vec Ideal S1x512 .f32) (r e : Fin 512) :
    k0_pay2 y w b (ix2 r e) = glu (fun f => y (ix2 r f)) (fun f e => w (ix2 f e)) (fun e => b (ix2 0 e)) e := by
  unfold k0_pay2
  pointwise
  rfl

/-- The two attention branches of a block, at an index. -/
theorem heads_apply (oa : Vec Ideal S512x256 .bf16) (wa : Vec Ideal S256x1024 .bf16) (ob : Vec Ideal S512x256 .bf16) (wb : Vec Ideal S256x1024 .bf16)
    (r : Fin 512) (c : Fin 1024) :
    k0_pay1 oa wa ob wb (ix2 r c) = (∑ k : Fin 256, (oa (ix2 r k) : EReal) * wa (ix2 k c)) + ∑ k : Fin 256, (ob (ix2 r k) : EReal) * wb (ix2 k c) := by
  unfold k0_pay1
  pointwise

/-- The layer norm of the residual, at an index. -/
theorem norm_apply (s : FVec Ideal S512x1024 .f32) (yc : FVec Ideal S512x512 .bf16) (wc : Vec Ideal S512x1024 .bf16) (x : Vec Ideal S512x1024 .f32)
    (gate : Vec Ideal S1x1x1024 .f32) (g h : Vec Ideal S1x1024 .f32) (r : Fin 512) (c : Fin 1024) :
    k0_pay3 s yc wc x gate g h (ix2 r c)
      = norm (mixres (fun d => x (ix2 r d)) (fun d => gate (ix3 0 0 d)) (fun d => s (ix2 r d) + ∑ k : Fin 512, (yc (ix2 r k) : EReal) * wc (ix2 k d)))
          (fun d => g (ix2 0 d)) (fun d => h (ix2 0 d)) c := by
  unfold k0_pay3
  pointwise
  rfl

/-- What the body stores, at an index. -/
theorem stored_apply (x0 : Vec Ideal S512x1024 .f32) (x1 : Vec Ideal S1x1x1024 .f32) (x2 x3 : Vec Ideal S512x256 .bf16) (x4 : Vec Ideal S512x512 .f32)
    (x5 : Vec Ideal S512x512 .bf16) (x6 : Vec Ideal S1x512 .f32) (x7 x8 : Vec Ideal S256x1024 .bf16) (x9 : Vec Ideal S512x1024 .bf16)
    (x10 x11 : Vec Ideal S1x1024 .f32) (r : Fin 512) (c : Fin 1024) :
    out0_12 x0 x1 x2 x3 x4 x5 x6 x7 x8 x9 x10 x11 (ix2 r c)
      = outrow (fun d => x0 (ix2 r d)) (fun d => x1 (ix3 0 0 d)) (fun k => x2 (ix2 r k)) (fun k => x3 (ix2 r k)) (fun f => x4 (ix2 r f))
          (fun f e => x5 (ix2 f e)) (fun e => x6 (ix2 0 e)) (fun k c => x7 (ix2 k c)) (fun k c => x8 (ix2 k c)) (fun k c => x9 (ix2 k c))
          (fun d => x10 (ix2 0 d)) (fun d => x11 (ix2 0 d)) c := by
  have e : out0_12 x0 x1 x2 x3 x4 x5 x6 x7 x8 x9 x10 x11 = k0_pay3 (k0_pay1 x2 x7 x3 x8) (k0_pay2 x4 x5 x6) x9 x0 x1 x10 x11 := by
    unfold out0_12
    rw [View.canon_cons_unit_lit (S := S512x1024) _ _ _ (by decide)]
    rw [View.ld_unit_lit (S := S512x256) _ _ (by decide), View.ld_unit_lit (S := S512x256) _ _ (by decide),
      View.ld_unit_lit (S := S256x1024) _ _ (by decide), View.ld_unit_lit (S := S256x1024) _ _ (by decide),
      View.ld_unit_lit (S := S512x512) _ _ (by decide), View.ld_unit_lit (S := S512x512) _ _ (by decide),
      View.ld_unit_lit (S := S1x512) _ _ (by decide), View.ld_unit_lit (S := S512x1024) _ _ (by decide),
      View.ld_unit_lit (S := S512x1024) _ _ (by decide), View.ld_unit_lit (S := S1x1x1024) _ _ (by decide),
      View.ld_unit_lit (S := S1x1024) _ _ (by decide), View.ld_unit_lit (S := S1x1024) _ _ (by decide)]
  rw [e, norm_apply]
  simp only [heads_apply, glu_apply]
  rfl

end Cert.Kernel4Ideal.Out

end
-- ==== Proof.OutHost.lean ====
/- The arrays that the output projection is given: the rows flattened, the projection cut by branch. -/
module

public import proofs.«01_k».proof.Proof.OutPayload

@[expose] public section

noncomputable section

namespace Cert.Kernel4Ideal.Out

open Cert.Kernel4Ideal Cert.Kernel4Ideal.Gen Idealize.ShloMosaic Idealize.ShloMosaic.TcCoe Idealize.SL.Sem Cert.Layer

/-- The rows of both batches, one after the other. -/
def flat (x : Vec Ideal S2x8192x1024 .f32) : Vec Ideal S16384x1024 .f32 := shapeCast S16384x1024 x shapeCasts_S2x8192x1024_S16384x1024

/-- The same of rows of 512 channels. -/
def flatHalf (x : Vec Ideal S2x8192x512 .f32) : Vec Ideal S16384x512 .f32 := shapeCast S16384x512 x shapeCasts_S2x8192x512_S16384x512

/-- The same of the attention branches. -/
def flatHeads (x : Vec Ideal S2x8192x256 .bf16) : Vec Ideal S16384x256 .bf16 := shapeCast S16384x256 x shapeCasts_S2x8192x256_S16384x256

/-- The rows of the output projection for the first attention branch. -/
def projA (w : Vec Ideal S1024x1024 .f32) : Vec Ideal S256x1024 .f32 := extractStridedSlice S256x1024 ![0, 0] w slices_S1024x1024_S256x1024_0_0

/-- The rows of the output projection for the second attention branch. -/
def projB (w : Vec Ideal S1024x1024 .f32) : Vec Ideal S256x1024 .f32 := extractStridedSlice S256x1024 ![256, 0] w slices_S1024x1024_S256x1024_256_0

/-- The rows of the output projection for the state space branch. -/
def projC (w : Vec Ideal S1024x1024 .f32) : Vec Ideal S512x1024 .f32 := extractStridedSlice S512x1024 ![512, 0] w slices_S1024x1024_S512x1024_512_0

/-- A vector of 1024 as one row. -/
def asRow (w : Vec Ideal S1024 .f32) : Vec Ideal S1x1024 .f32 := shapeCast S1x1024 w shapeCasts_S1024_S1x1024

/-- A vector of 512 as one row. -/
def asRowHalf (w : Vec Ideal S512 .f32) : Vec Ideal S1x512 .f32 := shapeCast S1x512 w shapeCasts_S512_S1x512

/-- Row `8192 b + t` of the flattened rows is row `t` of batch `b` (`flat`). -/
theorem flat_apply (x : Vec Ideal S2x8192x1024 .f32) (b : Fin 2) (t : Fin 8192) (c : Fin 1024) :
    flat x (ix2 ⟨8192 * b.val + t.val, by omega⟩ c) = x (ix3 b t c) := by
  unfold flat
  pointwise

/-- Row `R` of the flattened rows is row `R % 8192` of batch `R / 8192` (`flat`). -/
theorem flat_row (x : Vec Ideal S2x8192x1024 .f32) (R : Fin 16384) (c : Fin 1024) :
    flat x (ix2 R c) = x (ix3 ⟨R.val / 8192, by omega⟩ ⟨R.val % 8192, by omega⟩ c) := by
  refine Eq.trans ?_ (flat_apply x ⟨R.val / 8192, by omega⟩ ⟨R.val % 8192, by omega⟩ c)
  have e : R = ⟨8192 * (R.val / 8192) + R.val % 8192, by omega⟩ := Fin.ext (by show R.val = 8192 * (R.val / 8192) + R.val % 8192; omega)
  exact congrArg (fun r => flat x (ix2 r c)) e

/-- Row `8192 b + t` of the flattened rows is row `t` of batch `b` (`flatHalf`). -/
theorem flatHalf_apply (x : Vec Ideal S2x8192x512 .f32) (b : Fin 2) (t : Fin 8192) (c : Fin 512) :
    flatHalf x (ix2 ⟨8192 * b.val + t.val, by omega⟩ c) = x (ix3 b t c) := by
  unfold flatHalf
  pointwise

/-- Row `R` of the flattened rows is row `R % 8192` of batch `R / 8192` (`flatHalf`). -/
theorem flatHalf_row (x : Vec Ideal S2x8192x512 .f32) (R : Fin 16384) (c : Fin 512) :
    flatHalf x (ix2 R c) = x (ix3 ⟨R.val / 8192, by omega⟩ ⟨R.val % 8192, by omega⟩ c) := by
  refine Eq.trans ?_ (flatHalf_apply x ⟨R.val / 8192, by omega⟩ ⟨R.val % 8192, by omega⟩ c)
  have e : R = ⟨8192 * (R.val / 8192) + R.val % 8192, by omega⟩ := Fin.ext (by show R.val = 8192 * (R.val / 8192) + R.val % 8192; omega)
  exact congrArg (fun r => flatHalf x (ix2 r c)) e

/-- Row `8192 b + t` of the flattened rows is row `t` of batch `b` (`flatHeads`). -/
theorem flatHeads_apply (x : Vec Ideal S2x8192x256 .bf16) (b : Fin 2) (t : Fin 8192) (c : Fin 256) :
    flatHeads x (ix2 ⟨8192 * b.val + t.val, by omega⟩ c) = x (ix3 b t c) := by
  unfold flatHeads
  pointwise

/-- Row `R` of the flattened rows is row `R % 8192` of batch `R / 8192` (`flatHeads`). -/
theorem flatHeads_row (x : Vec Ideal S2x8192x256 .bf16) (R : Fin 16384) (c : Fin 256) :
    flatHeads x (ix2 R c) = x (ix3 ⟨R.val / 8192, by omega⟩ ⟨R.val % 8192, by omega⟩ c) := by
  refine Eq.trans ?_ (flatHeads_apply x ⟨R.val / 8192, by omega⟩ ⟨R.val % 8192, by omega⟩ c)
  have e : R = ⟨8192 * (R.val / 8192) + R.val % 8192, by omega⟩ := Fin.ext (by show R.val = 8192 * (R.val / 8192) + R.val % 8192; omega)
  exact congrArg (fun r => flatHeads x (ix2 r c)) e

/-- An entry of `projA`. -/
theorem projA_apply (w : Vec Ideal S1024x1024 .f32) (k : Fin 256) (c : Fin 1024) : projA w (ix2 k c) = w (ix2 ⟨k.val, by omega⟩ c) := by
  unfold projA
  pointwise

/-- An entry of `projB`. -/
theorem projB_apply (w : Vec Ideal S1024x1024 .f32) (k : Fin 256) (c : Fin 1024) : projB w (ix2 k c) = w (ix2 ⟨256 + k.val, by omega⟩ c) := by
  unfold projB
  pointwise

/-- An entry of `projC`. -/
theorem projC_apply (w : Vec Ideal S1024x1024 .f32) (k : Fin 512) (c : Fin 1024) : projC w (ix2 k c) = w (ix2 ⟨512 + k.val, by omega⟩ c) := by
  unfold projC
  pointwise

/-- An entry of `asRow`. -/
theorem asRow_apply (w : Vec Ideal S1024 .f32) (c : Fin 1024) : asRow w (ix2 0 c) = w (ix1 c) := by
  unfold asRow
  pointwise

/-- An entry of `asRowHalf`. -/
theorem asRowHalf_apply (w : Vec Ideal S512 .f32) (c : Fin 512) : asRowHalf w (ix2 0 c) = w (ix1 c) := by
  unfold asRowHalf
  pointwise

variable (m : (ℓ : Loc nD τ sig) → Buf (Elt Ideal) ℓ)

/-- Narrowing keeps an exact value. -/
theorem trunc_id {s : Shape} (x : FVec Ideal s .f32) : (truncf .bf16 x bitsLt_bf16_f32 : s.Idx → EReal) = x := rfl

/-- The call's rows. -/
theorem rows_eq (c : Dev nD) : (V m c main_v0 : S16384x1024.Idx → EReal) = flat (m ((c : Thread nD τ).loc main_arg0)) := by
  unfold_abbrev_sides
  after_results
  unfold flat
  congr 1

/-- The call's first attention branch. -/
theorem headsA_eq (c : Dev nD) : (V m c main_v1 : S16384x256.Idx → EReal) = flatHeads (m ((c : Thread nD τ).loc main_arg2)) := by
  unfold_abbrev_sides
  after_results
  unfold flatHeads
  congr 1

/-- The call's second attention branch. -/
theorem headsB_eq (c : Dev nD) : (V m c main_v2 : S16384x256.Idx → EReal) = flatHeads (m ((c : Thread nD τ).loc main_arg3)) := by
  unfold_abbrev_sides
  after_results
  unfold flatHeads
  congr 1

/-- The call's state space branch. -/
theorem states_eq (c : Dev nD) : (V m c main_v3 : S16384x512.Idx → EReal) = flatHalf (m ((c : Thread nD τ).loc main_arg4)) := by
  unfold_abbrev_sides
  after_results
  unfold flatHalf
  congr 1

/-- The call's projection of the first attention branch. -/
theorem projA_eq (c : Dev nD) : (V m c main_v5 : S256x1024.Idx → EReal) = projA (m ((c : Thread nD τ).loc main_arg7)) := by
  unfold_abbrev_sides
  after_results
  refine (trunc_id _).trans ?_
  unfold projA
  congr 1

/-- The call's projection of the second attention branch. -/
theorem projB_eq (c : Dev nD) : (V m c main_v7 : S256x1024.Idx → EReal) = projB (m ((c : Thread nD τ).loc main_arg7)) := by
  unfold_abbrev_sides
  after_results
  refine (trunc_id _).trans ?_
  unfold projB
  congr 1

/-- The call's projection of the state space branch. -/
theorem projC_eq (c : Dev nD) : (V m c main_v9 : S512x1024.Idx → EReal) = projC (m ((c : Thread nD τ).loc main_arg7)) := by
  unfold_abbrev_sides
  after_results
  refine (trunc_id _).trans ?_
  unfold projC
  congr 1

/-- The call's weights of the gated linear unit. -/
theorem glu_eq (c : Dev nD) : (V m c main_v10 : S512x512.Idx → EReal) = m ((c : Thread nD τ).loc main_arg5) := by
  unfold_abbrev_sides
  after_results
  exact trunc_id _

/-- The call's offset of the gated linear unit. -/
theorem bias_eq (c : Dev nD) : (V m c main_v11 : S1x512.Idx → EReal) = asRowHalf (m ((c : Thread nD τ).loc main_arg6)) := by
  unfold_abbrev_sides
  after_results
  unfold asRowHalf
  congr 1

/-- The call's layer norm scale. -/
theorem scale_eq (c : Dev nD) : (V m c main_v12 : S1x1024.Idx → EReal) = asRow (m ((c : Thread nD τ).loc main_arg8)) := by
  unfold_abbrev_sides
  after_results
  unfold asRow
  congr 1

/-- The call's layer norm offset. -/
theorem offset_eq (c : Dev nD) : (V m c main_v13 : S1x1024.Idx → EReal) = asRow (m ((c : Thread nD τ).loc main_arg9)) := by
  unfold_abbrev_sides
  after_results
  unfold asRow
  congr 1

end Cert.Kernel4Ideal.Out

end
-- ==== Proof.OutArray.lean ====
/- The array that the output projection leaves: at every row and channel, from the whole arrays it is given. -/
module

public import proofs.«01_k».proof.Proof.OutHost

@[expose] public section

noncomputable section

namespace Cert.Kernel4Ideal.Out

open Cert.Kernel4Ideal Cert.Kernel4Ideal.Gen Idealize.ShloMosaic Idealize.ShloMosaic.TcCoe Idealize.SL.Sem Cert.Layer

/-- The mixing block's output at position `t` of batch `n`, at channel `c`, from the arrays the layer is given. -/
def layer (x : S2x8192x1024.Idx → EReal) (gate : S2x1x1024.Idx → EReal) (oa ob : S2x8192x256.Idx → EReal) (ys : S2x8192x512.Idx → EReal)
    (w : S512x512.Idx → EReal) (u : S512.Idx → EReal) (wo : S1024x1024.Idx → EReal) (g b : S1024.Idx → EReal) (n : Fin 2) (t : Fin 8192) (c : Fin 1024) : EReal :=
  outrow (fun d => x (ix3 n t d)) (fun d => gate (ix3 n 0 d)) (fun k => oa (ix3 n t k)) (fun k => ob (ix3 n t k)) (fun f => ys (ix3 n t f))
    (fun f e => w (ix2 f e)) (fun e => u (ix1 e)) (fun k c => wo (ix2 ⟨k.val, by omega⟩ c)) (fun k c => wo (ix2 ⟨256 + k.val, by omega⟩ c))
    (fun k c => wo (ix2 ⟨512 + k.val, by omega⟩ c)) (fun e => g (ix1 e)) (fun e => b (ix1 e)) c

/-- Which block of each array a grid point stages. -/
theorem idx (t : Fin cfg0.N) : win0_0.index t = ![t.val, 0] ∧ win0_1.index t = ![t.val / 16, 0, 0] ∧ win0_2.index t = ![t.val, 0]
    ∧ win0_3.index t = ![t.val, 0] ∧ win0_4.index t = ![t.val, 0] ∧ win0_5.index t = ![0, 0] ∧ win0_6.index t = ![0, 0] ∧ win0_7.index
    t = ![0, 0] ∧ win0_8.index t = ![0, 0] ∧ win0_9.index t = ![0, 0] ∧ win0_10.index t = ![0, 0] ∧ win0_11.index t = ![0, 0] ∧
    win0_12.index t = ![t.val, 0] :=
  (by decide +kernel : ∀ t : Fin grid0.N, win0_0.index t = ![t.val, 0] ∧ win0_1.index t = ![t.val / 16, 0, 0] ∧ win0_2.index t =
    ![t.val, 0] ∧ win0_3.index t = ![t.val, 0] ∧ win0_4.index t = ![t.val, 0] ∧ win0_5.index t = ![0, 0] ∧ win0_6.index t = ![0, 0] ∧
    win0_7.index t = ![0, 0] ∧ win0_8.index t = ![0, 0] ∧ win0_9.index t = ![0, 0] ∧ win0_10.index t = ![0, 0] ∧ win0_11.index t =
    ![0, 0] ∧ win0_12.index t = ![t.val, 0]) t

/-- The grid has 32 points. -/
theorem points (t : Fin cfg0.N) : t.val < 32 := t.isLt

/-- The batch of a grid point's rows. -/
def batch (t : Fin cfg0.N) : Fin 2 := ⟨t.val / 16, by have := points t; omega⟩

/-- Row `r` of a grid point's block, among the flattened rows. -/
def flatRow (t : Fin cfg0.N) (r : Fin 512) : Fin 16384 := ⟨512 * t.val + r.val, by have := points t; omega⟩

/-- The position in its batch of row `r` of a grid point's block. -/
def pos (t : Fin cfg0.N) (r : Fin 512) : Fin 8192 := ⟨(512 * t.val + r.val) % 8192, by omega⟩

variable (m : (ℓ : Loc nD τ sig) → Buf (Elt Ideal) ℓ)

/-- A grid point's block of the rows. -/
theorem rows_block (c : Dev nD) (t : Fin cfg0.N) (r : Fin 512) (d : Fin 1024) (x : S2x8192x1024.Idx → EReal) (e : m ((c : Thread nD τ).loc main_arg0) = x) :
    (iblk m c 0 t : S512x1024.Idx → EReal) (ix2 r d) = x (ix3 (batch t) (pos t r) d) := by
  have h : (iblk m c 0 t : S512x1024.Idx → EReal) (ix2 r d) = flat (m ((c : Thread nD τ).loc main_arg0)) (ix2 (flatRow t r) d) := by
    rw [← rows_eq m c]
    show V m c main_v0 ((win0_0.rect t).emb (ix2 r d)) = V m c main_v0 (ix2 (flatRow t r) d)
    congr 1
    funext a
    apply Fin.ext
    rw [Pipeline.Window.rect_emb_val win0_0 t (ix2 r d) a rfl]
    rw [(idx t).1]
    match a with
    | ⟨0, _⟩ => show t.val * 512 + r.val = 512 * t.val + r.val; omega
    | ⟨1, _⟩ => show 0 * 1024 + d.val = d.val; omega
  refine h.trans ?_
  rw [flat_row, e]
  refine congrArg (fun n => x (ix3 n (pos t r) d)) (Fin.ext ?_)
  show (512 * t.val + r.val) / 8192 = t.val / 16
  omega

/-- A grid point's block of the first attention branch. -/
theorem headsA_block (c : Dev nD) (t : Fin cfg0.N) (r : Fin 512) (d : Fin 256) (x : S2x8192x256.Idx → EReal) (e : m ((c : Thread nD τ).loc main_arg2) = x) :
    (iblk m c 2 t : S512x256.Idx → EReal) (ix2 r d) = x (ix3 (batch t) (pos t r) d) := by
  have h : (iblk m c 2 t : S512x256.Idx → EReal) (ix2 r d) = flatHeads (m ((c : Thread nD τ).loc main_arg2)) (ix2 (flatRow t r) d) := by
    rw [← headsA_eq m c]
    show V m c main_v1 ((win0_2.rect t).emb (ix2 r d)) = V m c main_v1 (ix2 (flatRow t r) d)
    congr 1
    funext a
    apply Fin.ext
    rw [Pipeline.Window.rect_emb_val win0_2 t (ix2 r d) a rfl]
    rw [(idx t).2.2.1]
    match a with
    | ⟨0, _⟩ => show t.val * 512 + r.val = 512 * t.val + r.val; omega
    | ⟨1, _⟩ => show 0 * 256 + d.val = d.val; omega
  refine h.trans ?_
  rw [flatHeads_row, e]
  refine congrArg (fun n => x (ix3 n (pos t r) d)) (Fin.ext ?_)
  show (512 * t.val + r.val) / 8192 = t.val / 16
  omega

/-- A grid point's block of the second attention branch. -/
theorem headsB_block (c : Dev nD) (t : Fin cfg0.N) (r : Fin 512) (d : Fin 256) (x : S2x8192x256.Idx → EReal) (e : m ((c : Thread nD τ).loc main_arg3) = x) :
    (iblk m c 3 t : S512x256.Idx → EReal) (ix2 r d) = x (ix3 (batch t) (pos t r) d) := by
  have h : (iblk m c 3 t : S512x256.Idx → EReal) (ix2 r d) = flatHeads (m ((c : Thread nD τ).loc main_arg3)) (ix2 (flatRow t r) d) := by
    rw [← headsB_eq m c]
    show V m c main_v2 ((win0_3.rect t).emb (ix2 r d)) = V m c main_v2 (ix2 (flatRow t r) d)
    congr 1
    funext a
    apply Fin.ext
    rw [Pipeline.Window.rect_emb_val win0_3 t (ix2 r d) a rfl]
    rw [(idx t).2.2.2.1]
    match a with
    | ⟨0, _⟩ => show t.val * 512 + r.val = 512 * t.val + r.val; omega
    | ⟨1, _⟩ => show 0 * 256 + d.val = d.val; omega
  refine h.trans ?_
  rw [flatHeads_row, e]
  refine congrArg (fun n => x (ix3 n (pos t r) d)) (Fin.ext ?_)
  show (512 * t.val + r.val) / 8192 = t.val / 16
  omega

/-- A grid point's block of the state space branch. -/
theorem states_block (c : Dev nD) (t : Fin cfg0.N) (r : Fin 512) (d : Fin 512) (x : S2x8192x512.Idx → EReal) (e : m ((c : Thread nD τ).loc main_arg4) = x) :
    (iblk m c 4 t : S512x512.Idx → EReal) (ix2 r d) = x (ix3 (batch t) (pos t r) d) := by
  have h : (iblk m c 4 t : S512x512.Idx → EReal) (ix2 r d) = flatHalf (m ((c : Thread nD τ).loc main_arg4)) (ix2 (flatRow t r) d) := by
    rw [← states_eq m c]
    show V m c main_v3 ((win0_4.rect t).emb (ix2 r d)) = V m c main_v3 (ix2 (flatRow t r) d)
    congr 1
    funext a
    apply Fin.ext
    rw [Pipeline.Window.rect_emb_val win0_4 t (ix2 r d) a rfl]
    rw [(idx t).2.2.2.2.1]
    match a with
    | ⟨0, _⟩ => show t.val * 512 + r.val = 512 * t.val + r.val; omega
    | ⟨1, _⟩ => show 0 * 512 + d.val = d.val; omega
  refine h.trans ?_
  rw [flatHalf_row, e]
  refine congrArg (fun n => x (ix3 n (pos t r) d)) (Fin.ext ?_)
  show (512 * t.val + r.val) / 8192 = t.val / 16
  omega

/-- A grid point's gate row. -/
theorem gate_block (c : Dev nD) (t : Fin cfg0.N) (d : Fin 1024) :
    (iblk m c 1 t : S1x1x1024.Idx → EReal) (ix3 0 0 d) = (m ((c : Thread nD τ).loc main_arg1) : S2x1x1024.Idx → EReal) (ix3 (batch t) 0 d) := by
  blk_ext! [iblk, V, (idx t).2.1, batch]

/-- Every grid point reads the whole array (`glu_eq`). -/
theorem glu_block (c : Dev nD) (t : Fin cfg0.N) : (iblk m c 5 t : S512x512.Idx → EReal) = m ((c : Thread nD τ).loc main_arg5) := by
  rw [← glu_eq m c]
  funext j
  show V m c main_v10 ((win0_5.rect t).emb j) = V m c main_v10 j
  congr 1
  funext a
  apply Fin.ext
  rw [Pipeline.Window.rect_emb_val_of_index_zero]
  rw [(idx t).2.2.2.2.2.1]
  fin_cases a <;> rfl

/-- Every grid point reads the whole array (`bias_eq`). -/
theorem bias_block (c : Dev nD) (t : Fin cfg0.N) : (iblk m c 6 t : S1x512.Idx → EReal) = asRowHalf (m ((c : Thread nD τ).loc main_arg6)) := by
  rw [← bias_eq m c]
  funext j
  show V m c main_v11 ((win0_6.rect t).emb j) = V m c main_v11 j
  congr 1
  funext a
  apply Fin.ext
  rw [Pipeline.Window.rect_emb_val_of_index_zero]
  rw [(idx t).2.2.2.2.2.2.1]
  fin_cases a <;> rfl

/-- Every grid point reads the whole array (`projA_eq`). -/
theorem projA_block (c : Dev nD) (t : Fin cfg0.N) : (iblk m c 7 t : S256x1024.Idx → EReal) = projA (m ((c : Thread nD τ).loc main_arg7)) := by
  rw [← projA_eq m c]
  funext j
  show V m c main_v5 ((win0_7.rect t).emb j) = V m c main_v5 j
  congr 1
  funext a
  apply Fin.ext
  rw [Pipeline.Window.rect_emb_val_of_index_zero]
  rw [(idx t).2.2.2.2.2.2.2.1]
  fin_cases a <;> rfl

/-- Every grid point reads the whole array (`projB_eq`). -/
theorem projB_block (c : Dev nD) (t : Fin cfg0.N) : (iblk m c 8 t : S256x1024.Idx → EReal) = projB (m ((c : Thread nD τ).loc main_arg7)) := by
  rw [← projB_eq m c]
  funext j
  show V m c main_v7 ((win0_8.rect t).emb j) = V m c main_v7 j
  congr 1
  funext a
  apply Fin.ext
  rw [Pipeline.Window.rect_emb_val_of_index_zero]
  rw [(idx t).2.2.2.2.2.2.2.2.1]
  fin_cases a <;> rfl

/-- Every grid point reads the whole array (`projC_eq`). -/
theorem projC_block (c : Dev nD) (t : Fin cfg0.N) : (iblk m c 9 t : S512x1024.Idx → EReal) = projC (m ((c : Thread nD τ).loc main_arg7)) := by
  rw [← projC_eq m c]
  funext j
  show V m c main_v9 ((win0_9.rect t).emb j) = V m c main_v9 j
  congr 1
  funext a
  apply Fin.ext
  rw [Pipeline.Window.rect_emb_val_of_index_zero]
  rw [(idx t).2.2.2.2.2.2.2.2.2.1]
  fin_cases a <;> rfl

/-- Every grid point reads the whole array (`scale_eq`). -/
theorem scale_block (c : Dev nD) (t : Fin cfg0.N) : (iblk m c 10 t : S1x1024.Idx → EReal) = asRow (m ((c : Thread nD τ).loc main_arg8)) := by
  rw [← scale_eq m c]
  funext j
  show V m c main_v12 ((win0_10.rect t).emb j) = V m c main_v12 j
  congr 1
  funext a
  apply Fin.ext
  rw [Pipeline.Window.rect_emb_val_of_index_zero]
  rw [(idx t).2.2.2.2.2.2.2.2.2.2.1]
  fin_cases a <;> rfl

/-- Every grid point reads the whole array (`offset_eq`). -/
theorem offset_block (c : Dev nD) (t : Fin cfg0.N) : (iblk m c 11 t : S1x1024.Idx → EReal) = asRow (m ((c : Thread nD τ).loc main_arg9)) := by
  rw [← offset_eq m c]
  funext j
  show V m c main_v13 ((win0_11.rect t).emb j) = V m c main_v13 j
  congr 1
  funext a
  apply Fin.ext
  rw [Pipeline.Window.rect_emb_val_of_index_zero]
  rw [(idx t).2.2.2.2.2.2.2.2.2.2.2.1]
  fin_cases a <;> rfl

/-- What the body leaves in the output block at a grid point. -/
theorem block_eq (x : S2x8192x1024.Idx → EReal) (gate : S2x1x1024.Idx → EReal) (oa ob : S2x8192x256.Idx → EReal) (ys : S2x8192x512.Idx → EReal)
    (w : S512x512.Idx → EReal) (u : S512.Idx → EReal) (wo : S1024x1024.Idx → EReal) (g b : S1024.Idx → EReal)
    (c : Dev nD) (t : Fin cfg0.N) (e0 : m ((c : Thread nD τ).loc main_arg0) = x) (e1 : m ((c : Thread nD τ).loc main_arg1) = gate) (e2 : m ((c : Thread nD τ).loc main_arg2) = oa)
    (e3 : m ((c : Thread nD τ).loc main_arg3) = ob) (e4 : m ((c : Thread nD τ).loc main_arg4) = ys) (e5 : m ((c : Thread nD τ).loc main_arg5) = w)
    (e6 : m ((c : Thread nD τ).loc main_arg6) = u) (e7 : m ((c : Thread nD τ).loc main_arg7) = wo) (e8 : m ((c : Thread nD τ).loc main_arg8) = g)
    (e9 : m ((c : Thread nD τ).loc main_arg9) = b) (r : Fin 512) (d : Fin 1024) :
    out0_12 (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (ix2 r d) = layer x gate oa ob ys w u wo g b (batch t) (pos t r) d := by
  rw [stored_apply]
  unfold layer
  congr 1
  · exact funext fun d => rows_block m c t r d x e0
  · exact funext fun d => (gate_block m c t d).trans (by rw [e1])
  · exact funext fun d => headsA_block m c t r d oa e2
  · exact funext fun d => headsB_block m c t r d ob e3
  · exact funext fun d => states_block m c t r d ys e4
  · rw [glu_block, e5]
  · rw [bias_block, e6]
    exact funext fun e => asRowHalf_apply u e
  · rw [projA_block, e7]
    exact funext fun k => funext fun e => projA_apply wo k e
  · rw [projB_block, e7]
    exact funext fun k => funext fun e => projB_apply wo k e
  · rw [projC_block, e7]
    exact funext fun k => funext fun e => projC_apply wo k e
  · rw [scale_block, e8]
    exact funext fun e => asRow_apply g e
  · rw [offset_block, e9]
    exact funext fun e => asRow_apply b e

/-- The whole output array after the run. -/
theorem array_eq (x : S2x8192x1024.Idx → EReal) (gate : S2x1x1024.Idx → EReal) (oa ob : S2x8192x256.Idx → EReal) (ys : S2x8192x512.Idx → EReal)
    (w : S512x512.Idx → EReal) (u : S512.Idx → EReal) (wo : S1024x1024.Idx → EReal) (g b : S1024.Idx → EReal)
    (c : Dev nD) (e0 : m ((c : Thread nD τ).loc main_arg0) = x) (e1 : m ((c : Thread nD τ).loc main_arg1) = gate) (e2 : m ((c : Thread nD τ).loc main_arg2) = oa)
    (e3 : m ((c : Thread nD τ).loc main_arg3) = ob) (e4 : m ((c : Thread nD τ).loc main_arg4) = ys) (e5 : m ((c : Thread nD τ).loc main_arg5) = w)
    (e6 : m ((c : Thread nD τ).loc main_arg6) = u) (e7 : m ((c : Thread nD τ).loc main_arg7) = wo) (e8 : m ((c : Thread nD τ).loc main_arg8) = g)
    (e9 : m ((c : Thread nD τ).loc main_arg9) = b) :
    (dats m 0 c).arrAt 12 cfg0.N = fun j : S16384x1024.Idx =>
      layer x gate oa ob ys w u wo g b ⟨(j 0).val / 8192, by have : (j 0).val < 16384 := (j 0).isLt; omega⟩ ⟨(j 0).val % 8192, by omega⟩ (j 1) := by
  refine (dats m 0 c).arrAt_eq_of_covers 12 _ (by decide +kernel) fun t hf y => ?_
  blk_simp
  rw [after0_12]
  idx_vars y
  refine (block_eq m x gate oa ob ys w u wo g b c t e0 e1 e2 e3 e4 e5 e6 e7 e8 e9 y0 y1).trans ?_
  have hi : win0_12.index t 0 = t.val := by rw [(idx t).2.2.2.2.2.2.2.2.2.2.2.2]; rfl
  have hv : ∀ a, (((win0_12.rect t).emb (ix2 y0 y1) a : ℕ)) = win0_12.index t a * win0_12.size a + (ix2 y0 y1 a).val :=
    fun a => Pipeline.Window.rect_emb_val win0_12 t (ix2 y0 y1) a rfl
  rw [(idx t).2.2.2.2.2.2.2.2.2.2.2.2] at hv
  have h1 : ((View.whole main_v14).slice (win0_12.rect t)).emb (ix2 y0 y1) 1 = y1 :=
    Fin.ext ((hv 1).trans (show 0 * 1024 + y1.val = y1.val by omega))
  rw [h1]
  refine congrArg₂ (fun n p => layer x gate oa ob ys w u wo g b n p y1) (Fin.ext ?_) (Fin.ext ?_)
  · show t.val / 16 = (win0_12.index t 0 * 512 + y0.val) / 8192
    rw [hi]
    omega
  · show (512 * t.val + y0.val) % 8192 = (win0_12.index t 0 * 512 + y0.val) % 8192
    rw [hi, Nat.mul_comm]

end Cert.Kernel4Ideal.Out

end
-- ==== Proof.OutRef.lean ====
/- What the reference of the output projection computes: its branches, its residual and its layer norm, at an index. -/
module

public import proofs.«01_k».proof.Proof.OutArray
public import proofs.«01_k».proof.Proof.Gen.Reference4Ideal.Read
public import Idealize.ShloMosaic.Lib.Pointwise

@[expose] public section

noncomputable section

namespace Cert.Reference4Ideal.Out

open Cert.Reference4Ideal Cert.Reference4Ideal.Gen Cert.Reference4Ideal.Read Idealize.ShloMosaic Idealize.ShloMosaic.TcCoe Idealize.SL.Sem Cert.Layer
open Cert.Kernel4Ideal.Out (layer)

variable (x : S2x8192x1024.Idx → EReal) (gate : S2x1x1024.Idx → EReal) (oa ob : S2x8192x256.Idx → EReal) (ys : S2x8192x512.Idx → EReal)
  (w : S512x512.Idx → EReal) (u : S512.Idx → EReal) (wo : S1024x1024.Idx → EReal) (g b : S1024.Idx → EReal)

/-- The Gaussian error unit. -/
theorem gelu_eq (n : Fin 2) (t : Fin 8192) (f : Fin 512) :
    (val_main_v12 (F := Ideal) ys (ix3 n t f) : EReal) = gelu (ys (ix3 n t f)) := by
  rw [val_main_v12_apply, val_main_v11_apply, val_main_v10_apply, val_main_v9_apply, val_main_v8_apply, val_main_v7_apply, val_main_v6_apply,
    val_main_v5_apply, val_main_v4_apply, val_main_v3_apply, val_main_v2_apply, val_main_v1_apply, val_main_v0_apply, val_main_cst_apply,
    val_main_cst_0_apply, val_main_cst_1_apply, val_main_cst_2_apply]
  unfold gelu
  rw [← Ideal.ofBits_one_f32, mul_comm (Ideal.ofBits FTy.f32 1056964608#32), mul_assoc (ys (ix3 n t f)) (Ideal.ofBits FTy.f32 1056964608#32)]
  rfl

/-- The state space branch behind its gated linear unit. -/
theorem glu_eq (n : Fin 2) (t : Fin 8192) (e : Fin 512) :
    (val_main_v23 (F := Ideal) ys w u (ix3 n t e) : EReal) = glu (fun f => ys (ix3 n t f)) (fun f e => w (ix2 f e)) (fun e => u (ix1 e)) e := by
  have e15 : idx_main_v14 (idx_main_v15 (ix3 n t e)) = ix1 e := by funext a; fin_cases a <;> rfl
  have h13 : (val_main_v13 (F := Ideal) ys w (ix3 n t e) : EReal) = ∑ f : Fin 512, gelu (ys (ix3 n t f)) * w (ix2 f e) := by
    rw [val_main_v13_apply]
    refine Finset.sum_congr rfl fun f _ => ?_
    have el : lidx_main_v13 (ix3 n t e) f = ix3 n t f := by funext a; fin_cases a <;> rfl
    have er : ridx_main_v13 (ix3 n t e) f = ix2 f e := by funext a; fin_cases a <;> rfl
    rw [el, er, gelu_eq]
  rw [val_main_v23_apply, val_main_v22_apply, val_main_v21_apply, val_main_v20_apply, val_main_v19_apply, val_main_v18_apply, val_main_v17_apply,
    val_main_v16_apply, val_main_v15_apply, val_main_v14_apply, e15, h13, gelu_eq, val_main_cst_3_apply, val_main_cst_4_apply]
  unfold glu Ideal.logistic
  rw [← Ideal.ofBits_one_f32]
  rfl

/-- The branches side by side, from the first attention branch. -/
theorem cat_a (n : Fin 2) (t : Fin 8192) (k : Fin 256) :
    (val_main_v26 (F := Ideal) oa ob ys w u (ix3 n t ⟨k.val, by omega⟩) : EReal) = oa (ix3 n t k) := by
  unfold val_main_v26 val_main_v25 val_main_v24
  pointwise

/-- The branches side by side, from the second attention branch. -/
theorem cat_b (n : Fin 2) (t : Fin 8192) (k : Fin 256) :
    (val_main_v26 (F := Ideal) oa ob ys w u (ix3 n t ⟨256 + k.val, by omega⟩) : EReal) = ob (ix3 n t k) := by
  unfold val_main_v26 val_main_v25 val_main_v24
  pointwise

/-- The branches side by side, from the state space branch. -/
theorem cat_c (n : Fin 2) (t : Fin 8192) (k : Fin 512) :
    (val_main_v26 (F := Ideal) oa ob ys w u (ix3 n t ⟨512 + k.val, by omega⟩) : EReal)
      = glu (fun f => ys (ix3 n t f)) (fun f e => w (ix2 f e)) (fun e => u (ix1 e)) k := by
  rw [← glu_eq]
  unfold val_main_v26 val_main_v25 val_main_v24
  generalize val_main_v23 (F := Ideal) ys w u = y
  pointwise
  rw [dif_neg (by omega), dif_neg (by omega)]
  refine congrArg (fun i => y (ix3 n t i)) (Fin.ext ?_)
  show 512 + k.val - 256 - 256 = k.val
  omega

/-- A sum over 1024 channels, branch by branch. -/
theorem sum_branches (f : Fin 1024 → EReal) : (∑ j, f j)
    = (∑ k : Fin 256, f ⟨k.val, by omega⟩) + (∑ k : Fin 256, f ⟨256 + k.val, by omega⟩) + ∑ k : Fin 512, f ⟨512 + k.val, by omega⟩ := by
  have h1 : (∑ j, f j) = (∑ i : Fin 512, f (Fin.castAdd 512 i)) + ∑ i : Fin 512, f (Fin.natAdd 512 i) := Fin.sum_univ_add (a := 512) (b := 512) f
  have h2 : (∑ i : Fin 512, f (Fin.castAdd 512 i)) = (∑ i : Fin 256, f (Fin.castAdd 512 (Fin.castAdd 256 i)))
      + ∑ i : Fin 256, f (Fin.castAdd 512 (Fin.natAdd 256 i)) := Fin.sum_univ_add (a := 256) (b := 256) (fun i => f (Fin.castAdd 512 i))
  rw [h1, h2]
  rfl

/-- The mixture of the branches. -/
theorem mixed_eq (n : Fin 2) (t : Fin 8192) (c : Fin 1024) :
    (val_main_v31 (F := Ideal) oa ob ys w u wo (ix3 n t c) : EReal)
      = mixed (fun k => oa (ix3 n t k)) (fun k => ob (ix3 n t k)) (glu (fun f => ys (ix3 n t f)) (fun f e => w (ix2 f e)) (fun e => u (ix1 e)))
          (fun k c => wo (ix2 ⟨k.val, by omega⟩ c)) (fun k c => wo (ix2 ⟨256 + k.val, by omega⟩ c)) (fun k c => wo (ix2 ⟨512 + k.val, by omega⟩ c)) c := by
  have el : ∀ k, lidx_main_v31 (ix3 n t c) k = ix3 n t k := fun k => by funext a; fin_cases a <;> rfl
  have er : ∀ k, ridx_main_v31 (ix3 n t c) k = ix2 k c := fun k => by funext a; fin_cases a <;> rfl
  rw [val_main_v31_apply]
  simp only [el, er]
  rw [sum_branches]
  simp only [cat_a, cat_b, cat_c]
  rfl

/-- The residual row of position `t` of batch `n`. -/
def vrow (n : Fin 2) (t : Fin 8192) : Fin 1024 → EReal :=
  mixres (fun d => x (ix3 n t d)) (fun d => gate (ix3 n 0 d))
    (mixed (fun k => oa (ix3 n t k)) (fun k => ob (ix3 n t k)) (glu (fun f => ys (ix3 n t f)) (fun f e => w (ix2 f e)) (fun e => u (ix1 e)))
      (fun k c => wo (ix2 ⟨k.val, by omega⟩ c)) (fun k c => wo (ix2 ⟨256 + k.val, by omega⟩ c)) (fun k c => wo (ix2 ⟨512 + k.val, by omega⟩ c)))

/-- The residual. -/
theorem vrow_eq (n : Fin 2) (t : Fin 8192) (c : Fin 1024) :
    (val_main_v34 (F := Ideal) x gate oa ob ys w u wo (ix3 n t c) : EReal) = vrow x gate oa ob ys w u wo n t c := by
  have e32 : idx_main_v32 (ix3 n t c) = ix3 n 0 c := by funext a; fin_cases a <;> rfl
  rw [val_main_v34_apply, val_main_v33_apply, val_main_v32_apply, e32, val_main_v30_apply, val_main_v29_apply, val_main_v28_apply, val_main_v27_apply,
    val_main_cst_5_apply, val_main_cst_6_apply, mixed_eq]
  unfold vrow mixres
  rw [← Ideal.ofBits_one_f32]
  rfl

/-- The mean of a residual row. -/
theorem mean_eq (n : Fin 2) (t : Fin 8192) :
    (val_main_v38 (F := Ideal) x gate oa ob ys w u wo (ix3 n t 0) : EReal)
      = Ideal.div (∑ d, vrow x gate oa ob ys w u wo n t d) (Ideal.ofBits FTy.f32 1149239296#32) := by
  have e36 : idx_main_v36 (ix3 n t 0) = ix2 n t := by funext a; fin_cases a <;> rfl
  have e35 : ∀ k : Fin 1024, idx_main_v35 (ix2 n t) k = ix3 n t k := fun k => by funext a; fin_cases a <;> rfl
  rw [val_main_v38_apply, val_main_v36_apply, e36, val_main_v35_apply, val_main_v37_apply, val_main_cst_7_apply, val_main_cst_8_apply]
  simp only [e35, vrow_eq]
  refine congrArg (fun s => Ideal.div s _) ?_
  refine (congrArg (fun y : EReal => y + _) Ideal.ofBits_zero_f32).trans ?_
  exact zero_add _

/-- The variance of a residual row. -/
theorem var_eq (n : Fin 2) (t : Fin 8192) :
    (val_main_v45 (F := Ideal) x gate oa ob ys w u wo (ix3 n t 0) : EReal)
      = Ideal.div (∑ d, (vrow x gate oa ob ys w u wo n t d - Ideal.div (∑ d, vrow x gate oa ob ys w u wo n t d) (Ideal.ofBits FTy.f32 1149239296#32))
          * (vrow x gate oa ob ys w u wo n t d - Ideal.div (∑ d, vrow x gate oa ob ys w u wo n t d) (Ideal.ofBits FTy.f32 1149239296#32)))
        (Ideal.ofBits FTy.f32 1149239296#32) := by
  have e43 : idx_main_v43 (ix3 n t 0) = ix2 n t := by funext a; fin_cases a <;> rfl
  have e42 : ∀ k : Fin 1024, idx_main_v42 (ix2 n t) k = ix3 n t k := fun k => by funext a; fin_cases a <;> rfl
  have e39 : ∀ k : Fin 1024, idx_main_v39 (ix3 n t k) = ix3 n t 0 := fun k => by funext a; fin_cases a <;> rfl
  rw [val_main_v45_apply, val_main_v43_apply, e43, val_main_v42_apply, val_main_v44_apply, val_main_cst_9_apply, val_main_cst_10_apply]
  simp only [e42, val_main_v41_apply, val_main_v40_apply, val_main_v39_apply, e39, vrow_eq, mean_eq]
  refine congrArg (fun s => Ideal.div s _) ?_
  refine (congrArg (fun y : EReal => y + _) Ideal.ofBits_zero_f32).trans ?_
  exact zero_add _

/-- The reference's result before it is flattened. -/
theorem result (n : Fin 2) (t : Fin 8192) (c : Fin 1024) :
    (val_main_v58 (F := Ideal) x gate oa ob ys w u wo g b (ix3 n t c) : EReal) = layer x gate oa ob ys w u wo g b n t c := by
  have e46 : idx_main_v46 (ix3 n t c) = ix3 n t 0 := by funext a; fin_cases a <;> rfl
  have e51 : idx_main_v51 (ix3 n t c) = ix3 n t 0 := by funext a; fin_cases a <;> rfl
  have e54 : idx_main_v53 (idx_main_v54 (ix3 n t c)) = ix1 c := by funext a; fin_cases a <;> rfl
  have e57 : idx_main_v56 (idx_main_v57 (ix3 n t c)) = ix1 c := by funext a; fin_cases a <;> rfl
  rw [val_main_v58_apply, val_main_v57_apply, val_main_v56_apply, e57, val_main_v55_apply, val_main_v54_apply, val_main_v53_apply, e54,
    val_main_v52_apply, val_main_v51_apply, e51, val_main_v50_apply, val_main_v49_apply, val_main_v48_apply, val_main_cst_11_apply,
    val_main_v47_apply, val_main_v46_apply, e46, vrow_eq, mean_eq, var_eq]
  rfl

/-- The reference's result: the layer's rows, one after the other. -/
theorem flat_result (j : S16384x1024.Idx) :
    (val_main_v59 (F := Ideal) x gate oa ob ys w u wo g b j : EReal)
      = layer x gate oa ob ys w u wo g b ⟨(j 0).val / 8192, by have : (j 0).val < 16384 := (j 0).isLt; omega⟩ ⟨(j 0).val % 8192, by omega⟩ (j 1) := by
  idx_vars j
  rw [val_main_v59_apply]
  have e : idx_main_v59 (ix2 j0 j1) = ix3 ⟨j0.val / 8192, by omega⟩ ⟨j0.val % 8192, by omega⟩ j1 := by
    funext a
    apply Fin.ext
    match a with
    | ⟨0, _⟩ => show (j0.val * 1024 + j1.val) / 8388608 = j0.val / 8192; omega
    | ⟨1, _⟩ => show (j0.val * 1024 + j1.val) / 1024 % 8192 = j0.val % 8192; omega
    | ⟨2, _⟩ => show (j0.val * 1024 + j1.val) % 1024 = j1.val; omega
  rw [e, result]

end Cert.Reference4Ideal.Out

end
-- ==== Proof.OutClaims.lean ====
/- The claims about the output projection: its frames, and the equation of the kernel's result with the reference's. -/
module

public import proofs.«01_k».proof.Defs
public import proofs.«01_k».proof.Proof.OutRef
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Claim

@[expose] public section

noncomputable section

namespace Cert.Proof.Out

open Idealize.ShloMosaic Idealize.ShloMosaic.TcCoe Idealize.SL.Sem

/-- The kernel's frame, bit by bit. -/
theorem frame_p : Cert.quiescent_Kernel4 := fun m ρ _ => Cert.Kernel4.Gen.frame m ρ

/-- The idealized kernel's frame. -/
theorem frame_pi : Cert.quiescent_Kernel4Ideal := fun m ρ _ => Cert.Kernel4Ideal.Gen.frame m ρ

/-- The reference's frame: it has no semaphore. -/
theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Over the extended reals the kernel's result is the reference's, whatever the arguments. -/
theorem algebraic : Cert.algebraic_Kernel4Ideal_Reference4Ideal := by
  pair_intro
  · run_from Cert.Kernel4Ideal.Value.run_blocks m g
  · run_from Cert.Reference4Ideal.Value.run m' g'
    obtain ⟨h0, h1, h2, h3, h4, h5, h6, h7, h8, h9⟩ := hagree c
    rw [Cert.Reference4Ideal.Read.val_main_v59_eq, h0, h1, h2, h3, h4, h5, h6, h7, h8, h9]
    rw [Cert.Kernel4Ideal.Out.array_eq m _ _ _ _ _ _ _ _ _ _ c rfl rfl rfl rfl rfl rfl rfl rfl rfl rfl]
    funext j
    exact Cert.Reference4Ideal.Out.flat_result _ _ _ _ _ _ _ _ _ _ j

end Cert.Proof.Out

end
-- ==== Proof.MixWeights.lean ====
/- The weights as the host lays them out for the projection: columns of the input projection moved into lanes, some with
   their sign turned, over zeros. -/
module

public import proofs.«01_k».proof.Proof.Gen.Kernel3Ideal.Value
public import proofs.«01_k».proof.Proof.Weights
public import Idealize.ShloMosaic.Lib.Pointwise
public import Idealize.ShloMosaic.Lib.Routing.OpsPair

@[expose] public section

noncomputable section

namespace Cert.Kernel3Ideal.Mix

open Cert.Kernel3Ideal Cert.Kernel3Ideal.Gen Idealize.ShloMosaic Idealize.ShloMosaic.TcCoe Idealize.SL.Sem
open Cert.KernelIdeal.Attn (foldl_overwrite foldl_keep)

/-- Writing one rectangle into a matrix: inside it the update, elsewhere what was there. -/
theorem scatter_rect {A B wa wb : ℕ} {si : Shape} (D : ScatterDims (⟨2, ![A, B]⟩ : Shape) si (⟨2, ![wa, wb]⟩ : Shape)) (idx : IVec si 32) (oa ob : ℕ)
    (s0 : ∀ k, D.start k idx 0 = oa) (s1 : ∀ k, D.start k idx 1 = ob)
    (v0 : ∀ (a : Fin wa) (b : Fin wb), D.window (ix2 a b) 0 = a.val) (v1 : ∀ (a : Fin wa) (b : Fin wb), D.window (ix2 a b) 1 = b.val)
    (x : (⟨2, ![A, B]⟩ : Shape).Idx → EReal) (u : (⟨2, ![wa, wb]⟩ : Shape).Idx → EReal) (i : Fin A) (j : Fin B) :
    Host.scatter D (fun _ b => b) x idx u (ix2 i j) =
      if hv : oa ≤ i.val ∧ i.val < oa + wa ∧ ob ≤ j.val ∧ j.val < ob + wb then
        u (ix2 ⟨i.val - oa, by omega⟩ ⟨j.val - ob, by omega⟩)
      else x (ix2 i j) := by
  rw [Routing.scatter_at]
  have hl : ∀ n : Fin (⟨2, ![wa, wb]⟩ : Shape).numel, D.resultIdx? ((⟨2, ![wa, wb]⟩ : Shape).rowMajor.symm n) idx = some (ix2 i j) ↔
      i.val = oa + (((⟨2, ![wa, wb]⟩ : Shape).rowMajor.symm n) 0).val ∧ j.val = ob + (((⟨2, ![wa, wb]⟩ : Shape).rowMajor.symm n) 1).val := by
    intro n
    have hn := eq_ix2 ((⟨2, ![wa, wb]⟩ : Shape).rowMajor.symm n)
    have t0 : D.window ((⟨2, ![wa, wb]⟩ : Shape).rowMajor.symm n) 0 = (((⟨2, ![wa, wb]⟩ : Shape).rowMajor.symm n) 0).val :=
      (congrArg (fun k => D.window k 0) hn).trans (v0 _ _)
    have t1 : D.window ((⟨2, ![wa, wb]⟩ : Shape).rowMajor.symm n) 1 = (((⟨2, ![wa, wb]⟩ : Shape).rowMajor.symm n) 1).val :=
      (congrArg (fun k => D.window k 1) hn).trans (v1 _ _)
    refine (Routing.resultIdx?_ix2 D _ idx i j).trans ?_
    rw [s0, s1, t0, t1]
    constructor
    · rintro ⟨h0, h1⟩
      exact ⟨by omega, by omega⟩
    · rintro ⟨h0, h1⟩
      exact ⟨by omega, by omega⟩
  by_cases hv : oa ≤ i.val ∧ i.val < oa + wa ∧ ob ≤ j.val ∧ j.val < ob + wb
  · rw [dif_pos hv]
    have key := foldl_overwrite (fun n => u ((⟨2, ![wa, wb]⟩ : Shape).rowMajor.symm n))
      (fun n => D.resultIdx? ((⟨2, ![wa, wb]⟩ : Shape).rowMajor.symm n) idx = some (ix2 i j))
      ((⟨2, ![wa, wb]⟩ : Shape).rowMajor (ix2 (⟨i.val - oa, by omega⟩ : Fin wa) (⟨j.val - ob, by omega⟩ : Fin wb))) (fun n => by
        rw [hl n]
        constructor
        · rintro ⟨e0, e1⟩
          rw [← Equiv.symm_apply_eq]
          rw [eq_ix2 ((⟨2, ![wa, wb]⟩ : Shape).rowMajor.symm n)]
          refine congrArg₂ ix2 (Fin.ext ?_) (Fin.ext ?_)
          · show (((⟨2, ![wa, wb]⟩ : Shape).rowMajor.symm n) 0).val = i.val - oa
            omega
          · show (((⟨2, ![wa, wb]⟩ : Shape).rowMajor.symm n) 1).val = j.val - ob
            omega
        · rintro rfl
          rw [Equiv.symm_apply_apply]
          refine ⟨?_, ?_⟩
          · show i.val = oa + (i.val - oa)
            omega
          · show j.val = ob + (j.val - ob)
            omega) (List.finRange (⟨2, ![wa, wb]⟩ : Shape).numel) (x (ix2 i j))
    rw [if_pos (List.mem_finRange _), Equiv.symm_apply_apply] at key
    exact key
  · rw [dif_neg hv]
    refine foldl_keep (fun n => u ((⟨2, ![wa, wb]⟩ : Shape).rowMajor.symm n)) _ (fun n hn => hv ?_) _ _
    obtain ⟨e0, e1⟩ := (hl n).1 hn
    have h0 : (((⟨2, ![wa, wb]⟩ : Shape).rowMajor.symm n) 0).val < wa := (((⟨2, ![wa, wb]⟩ : Shape).rowMajor.symm n) 0).isLt
    have h1 : (((⟨2, ![wa, wb]⟩ : Shape).rowMajor.symm n) 1).val < wb := (((⟨2, ![wa, wb]⟩ : Shape).rowMajor.symm n) 1).isLt
    exact ⟨by omega, by omega, by omega, by omega⟩

/-- One start index, as the host gives it to a write. -/
def at1 (p : BitVec 32) : IVec S1 32 := broadcastInDim S1 ![] bcast_S_S1 (constantI S_ 32 p)

theorem at1_apply (p : BitVec 32) (i : S1.Idx) : at1 p i = p := rfl

/-- One write of 64 columns. -/
def put64 (p : BitVec 32) (u : Vec Ideal S1024x64 .f32) (x : Vec Ideal S1024x2560 .f32) : Vec Ideal S1024x2560 .f32 :=
  Host.scatter scatter_S1024x2560_S1_S1024x64_01_n_1_0 (fun _ b => b) x (at1 p) u

theorem put64_apply (p : BitVec 32) (off : ℕ) (hp : p.toInt = off) (u : Vec Ideal S1024x64 .f32) (x : Vec Ideal S1024x2560 .f32) (i : Fin 1024) (j : Fin 2560) :
    put64 p u x (ix2 i j) = if hv : off ≤ j.val ∧ j.val < off + 64 then u (ix2 i ⟨j.val - off, by omega⟩) else x (ix2 i j) := by
  have key := scatter_rect scatter_S1024x2560_S1_S1024x64_01_n_1_0 (at1 p) 0 off
    (fun _ => rfl) (fun k => by unfold ScatterDims.start; rw [dif_pos (by decide), at1_apply]; exact hp)
    (fun _ _ => rfl) (fun _ _ => rfl) x u i j
  refine Eq.trans key ?_
  by_cases hv : off ≤ j.val ∧ j.val < off + 64
  · rw [dif_pos ⟨Nat.zero_le _, by omega, hv.1, hv.2⟩, dif_pos hv]
    rfl
  · rw [dif_neg (fun h => hv ⟨h.2.2.1, h.2.2.2⟩), dif_neg hv]

/-- One write of 128 columns. -/
def put128 (p : BitVec 32) (u : Vec Ideal S1024x128 .f32) (x : Vec Ideal S1024x2560 .f32) : Vec Ideal S1024x2560 .f32 :=
  Host.scatter scatter_S1024x2560_S1_S1024x128_01_n_1_0 (fun _ b => b) x (at1 p) u

theorem put128_apply (p : BitVec 32) (off : ℕ) (hp : p.toInt = off) (u : Vec Ideal S1024x128 .f32) (x : Vec Ideal S1024x2560 .f32) (i : Fin 1024) (j : Fin 2560) :
    put128 p u x (ix2 i j) = if hv : off ≤ j.val ∧ j.val < off + 128 then u (ix2 i ⟨j.val - off, by omega⟩) else x (ix2 i j) := by
  have key := scatter_rect scatter_S1024x2560_S1_S1024x128_01_n_1_0 (at1 p) 0 off
    (fun _ => rfl) (fun k => by unfold ScatterDims.start; rw [dif_pos (by decide), at1_apply]; exact hp)
    (fun _ _ => rfl) (fun _ _ => rfl) x u i j
  refine Eq.trans key ?_
  by_cases hv : off ≤ j.val ∧ j.val < off + 128
  · rw [dif_pos ⟨Nat.zero_le _, by omega, hv.1, hv.2⟩, dif_pos hv]
    rfl
  · rw [dif_neg (fun h => hv ⟨h.2.2.1, h.2.2.2⟩), dif_neg hv]

/-- One write of 32 columns. -/
def put32 (p : BitVec 32) (u : Vec Ideal S1024x32 .f32) (x : Vec Ideal S1024x2560 .f32) : Vec Ideal S1024x2560 .f32 :=
  Host.scatter scatter_S1024x2560_S1_S1024x32_01_n_1_0 (fun _ b => b) x (at1 p) u

theorem put32_apply (p : BitVec 32) (off : ℕ) (hp : p.toInt = off) (u : Vec Ideal S1024x32 .f32) (x : Vec Ideal S1024x2560 .f32) (i : Fin 1024) (j : Fin 2560) :
    put32 p u x (ix2 i j) = if hv : off ≤ j.val ∧ j.val < off + 32 then u (ix2 i ⟨j.val - off, by omega⟩) else x (ix2 i j) := by
  have key := scatter_rect scatter_S1024x2560_S1_S1024x32_01_n_1_0 (at1 p) 0 off
    (fun _ => rfl) (fun k => by unfold ScatterDims.start; rw [dif_pos (by decide), at1_apply]; exact hp)
    (fun _ _ => rfl) (fun _ _ => rfl) x u i j
  refine Eq.trans key ?_
  by_cases hv : off ≤ j.val ∧ j.val < off + 32
  · rw [dif_pos ⟨Nat.zero_le _, by omega, hv.1, hv.2⟩, dif_pos hv]
    rfl
  · rw [dif_neg (fun h => hv ⟨h.2.2.1, h.2.2.2⟩), dif_neg hv]

/-- One write of 256 columns. -/
def put256 (p : BitVec 32) (u : Vec Ideal S1024x256 .f32) (x : Vec Ideal S1024x2560 .f32) : Vec Ideal S1024x2560 .f32 :=
  Host.scatter scatter_S1024x2560_S1_S1024x256_01_n_1_0 (fun _ b => b) x (at1 p) u

theorem put256_apply (p : BitVec 32) (off : ℕ) (hp : p.toInt = off) (u : Vec Ideal S1024x256 .f32) (x : Vec Ideal S1024x2560 .f32) (i : Fin 1024) (j : Fin 2560) :
    put256 p u x (ix2 i j) = if hv : off ≤ j.val ∧ j.val < off + 256 then u (ix2 i ⟨j.val - off, by omega⟩) else x (ix2 i j) := by
  have key := scatter_rect scatter_S1024x2560_S1_S1024x256_01_n_1_0 (at1 p) 0 off
    (fun _ => rfl) (fun k => by unfold ScatterDims.start; rw [dif_pos (by decide), at1_apply]; exact hp)
    (fun _ _ => rfl) (fun _ _ => rfl) x u i j
  refine Eq.trans key ?_
  by_cases hv : off ≤ j.val ∧ j.val < off + 256
  · rw [dif_pos ⟨Nat.zero_le _, by omega, hv.1, hv.2⟩, dif_pos hv]
    rfl
  · rw [dif_neg (fun h => hv ⟨h.2.2.1, h.2.2.2⟩), dif_neg hv]

/-- One write of 512 columns. -/
def put512 (p : BitVec 32) (u : Vec Ideal S1024x512 .f32) (x : Vec Ideal S1024x2560 .f32) : Vec Ideal S1024x2560 .f32 :=
  Host.scatter scatter_S1024x2560_S1_S1024x512_01_n_1_0 (fun _ b => b) x (at1 p) u

theorem put512_apply (p : BitVec 32) (off : ℕ) (hp : p.toInt = off) (u : Vec Ideal S1024x512 .f32) (x : Vec Ideal S1024x2560 .f32) (i : Fin 1024) (j : Fin 2560) :
    put512 p u x (ix2 i j) = if hv : off ≤ j.val ∧ j.val < off + 512 then u (ix2 i ⟨j.val - off, by omega⟩) else x (ix2 i j) := by
  have key := scatter_rect scatter_S1024x2560_S1_S1024x512_01_n_1_0 (at1 p) 0 off
    (fun _ => rfl) (fun k => by unfold ScatterDims.start; rw [dif_pos (by decide), at1_apply]; exact hp)
    (fun _ _ => rfl) (fun _ _ => rfl) x u i j
  refine Eq.trans key ?_
  by_cases hv : off ≤ j.val ∧ j.val < off + 512
  · rw [dif_pos ⟨Nat.zero_le _, by omega, hv.1, hv.2⟩, dif_pos hv]
    rfl
  · rw [dif_neg (fun h => hv ⟨h.2.2.1, h.2.2.2⟩), dif_neg hv]

/-- One write of 16 columns. -/
def put16 (p : BitVec 32) (u : Vec Ideal S1024x16 .f32) (x : Vec Ideal S1024x2560 .f32) : Vec Ideal S1024x2560 .f32 :=
  Host.scatter scatter_S1024x2560_S1_S1024x16_01_n_1_0 (fun _ b => b) x (at1 p) u

theorem put16_apply (p : BitVec 32) (off : ℕ) (hp : p.toInt = off) (u : Vec Ideal S1024x16 .f32) (x : Vec Ideal S1024x2560 .f32) (i : Fin 1024) (j : Fin 2560) :
    put16 p u x (ix2 i j) = if hv : off ≤ j.val ∧ j.val < off + 16 then u (ix2 i ⟨j.val - off, by omega⟩) else x (ix2 i j) := by
  have key := scatter_rect scatter_S1024x2560_S1_S1024x16_01_n_1_0 (at1 p) 0 off
    (fun _ => rfl) (fun k => by unfold ScatterDims.start; rw [dif_pos (by decide), at1_apply]; exact hp)
    (fun _ _ => rfl) (fun _ _ => rfl) x u i j
  refine Eq.trans key ?_
  by_cases hv : off ≤ j.val ∧ j.val < off + 16
  · rw [dif_pos ⟨Nat.zero_le _, by omega, hv.1, hv.2⟩, dif_pos hv]
    rfl
  · rw [dif_neg (fun h => hv ⟨h.2.2.1, h.2.2.2⟩), dif_neg hv]

/-- One write of 4 columns. -/
def put4 (p : BitVec 32) (u : Vec Ideal S1024x4 .f32) (x : Vec Ideal S1024x2560 .f32) : Vec Ideal S1024x2560 .f32 :=
  Host.scatter scatter_S1024x2560_S1_S1024x4_01_n_1_0 (fun _ b => b) x (at1 p) u

theorem put4_apply (p : BitVec 32) (off : ℕ) (hp : p.toInt = off) (u : Vec Ideal S1024x4 .f32) (x : Vec Ideal S1024x2560 .f32) (i : Fin 1024) (j : Fin 2560) :
    put4 p u x (ix2 i j) = if hv : off ≤ j.val ∧ j.val < off + 4 then u (ix2 i ⟨j.val - off, by omega⟩) else x (ix2 i j) := by
  have key := scatter_rect scatter_S1024x2560_S1_S1024x4_01_n_1_0 (at1 p) 0 off
    (fun _ => rfl) (fun k => by unfold ScatterDims.start; rw [dif_pos (by decide), at1_apply]; exact hp)
    (fun _ _ => rfl) (fun _ _ => rfl) x u i j
  refine Eq.trans key ?_
  by_cases hv : off ≤ j.val ∧ j.val < off + 4
  · rw [dif_pos ⟨Nat.zero_le _, by omega, hv.1, hv.2⟩, dif_pos hv]
    rfl
  · rw [dif_neg (fun h => hv ⟨h.2.2.1, h.2.2.2⟩), dif_neg hv]

/-- Piece 0 of the input projection. -/
def piece0 (w : Vec Ideal S1024x1604 .f32) : Vec Ideal S1024x64 .f32 := extractStridedSlice S1024x64 ![0, 0] (extractStridedSlice S1024x256 ![0, 0] w slices_S1024x1604_S1024x256_0_0) slices_S1024x256_S1024x64_0_0

theorem piece0_apply (w : Vec Ideal S1024x1604 .f32) (a : Fin 1024) (b : Fin 64) :
    piece0 w (ix2 a b) = w (ix2 a ⟨0 + b.val, by omega⟩) := by
  unfold piece0
  pointwise

/-- Piece 1 of the input projection. -/
def piece1 (w : Vec Ideal S1024x1604 .f32) : Vec Ideal S1024x64 .f32 := extractStridedSlice S1024x64 ![0, 64] (extractStridedSlice S1024x256 ![0, 0] w slices_S1024x1604_S1024x256_0_0) slices_S1024x256_S1024x64_0_64

theorem piece1_apply (w : Vec Ideal S1024x1604 .f32) (a : Fin 1024) (b : Fin 64) :
    piece1 w (ix2 a b) = w (ix2 a ⟨64 + b.val, by omega⟩) := by
  unfold piece1
  pointwise

/-- Piece 2 of the input projection. -/
def piece2 (w : Vec Ideal S1024x1604 .f32) : Vec Ideal S1024x64 .f32 := extractStridedSlice S1024x64 ![0, 128] (extractStridedSlice S1024x256 ![0, 0] w slices_S1024x1604_S1024x256_0_0) slices_S1024x256_S1024x64_0_128

theorem piece2_apply (w : Vec Ideal S1024x1604 .f32) (a : Fin 1024) (b : Fin 64) :
    piece2 w (ix2 a b) = w (ix2 a ⟨128 + b.val, by omega⟩) := by
  unfold piece2
  pointwise

/-- Piece 3 of the input projection. -/
def piece3 (w : Vec Ideal S1024x1604 .f32) : Vec Ideal S1024x64 .f32 := extractStridedSlice S1024x64 ![0, 192] (extractStridedSlice S1024x256 ![0, 0] w slices_S1024x1604_S1024x256_0_0) slices_S1024x256_S1024x64_0_192

theorem piece3_apply (w : Vec Ideal S1024x1604 .f32) (a : Fin 1024) (b : Fin 64) :
    piece3 w (ix2 a b) = w (ix2 a ⟨192 + b.val, by omega⟩) := by
  unfold piece3
  pointwise

/-- Piece 4 of the input projection. -/
def piece4 (w : Vec Ideal S1024x1604 .f32) : Vec Ideal S1024x128 .f32 := extractStridedSlice S1024x128 ![0, 256] w slices_S1024x1604_S1024x128_0_256

theorem piece4_apply (w : Vec Ideal S1024x1604 .f32) (a : Fin 1024) (b : Fin 128) :
    piece4 w (ix2 a b) = w (ix2 a ⟨256 + b.val, by omega⟩) := by
  unfold piece4
  pointwise

/-- Piece 5 of the input projection. -/
def piece5 (w : Vec Ideal S1024x1604 .f32) : Vec Ideal S1024x128 .f32 := extractStridedSlice S1024x128 ![0, 384] w slices_S1024x1604_S1024x128_0_384

theorem piece5_apply (w : Vec Ideal S1024x1604 .f32) (a : Fin 1024) (b : Fin 128) :
    piece5 w (ix2 a b) = w (ix2 a ⟨384 + b.val, by omega⟩) := by
  unfold piece5
  pointwise

/-- Piece 6 of the input projection. -/
def piece6 (w : Vec Ideal S1024x1604 .f32) : Vec Ideal S1024x32 .f32 := extractStridedSlice S1024x32 ![0, 0] (extractStridedSlice S1024x128 ![0, 512] w slices_S1024x1604_S1024x128_0_512) slices_S1024x128_S1024x32_0_0

theorem piece6_apply (w : Vec Ideal S1024x1604 .f32) (a : Fin 1024) (b : Fin 32) :
    piece6 w (ix2 a b) = w (ix2 a ⟨512 + b.val, by omega⟩) := by
  unfold piece6
  pointwise

/-- Piece 7 of the input projection. -/
def piece7 (w : Vec Ideal S1024x1604 .f32) : Vec Ideal S1024x32 .f32 := extractStridedSlice S1024x32 ![0, 32] (extractStridedSlice S1024x128 ![0, 512] w slices_S1024x1604_S1024x128_0_512) slices_S1024x128_S1024x32_0_32

theorem piece7_apply (w : Vec Ideal S1024x1604 .f32) (a : Fin 1024) (b : Fin 32) :
    piece7 w (ix2 a b) = w (ix2 a ⟨512 + (32 + b.val), by omega⟩) := by
  unfold piece7
  pointwise

/-- Piece 8 of the input projection. -/
def piece8 (w : Vec Ideal S1024x1604 .f32) : Vec Ideal S1024x32 .f32 := extractStridedSlice S1024x32 ![0, 64] (extractStridedSlice S1024x128 ![0, 512] w slices_S1024x1604_S1024x128_0_512) slices_S1024x128_S1024x32_0_64

theorem piece8_apply (w : Vec Ideal S1024x1604 .f32) (a : Fin 1024) (b : Fin 32) :
    piece8 w (ix2 a b) = w (ix2 a ⟨512 + (64 + b.val), by omega⟩) := by
  unfold piece8
  pointwise

/-- Piece 9 of the input projection. -/
def piece9 (w : Vec Ideal S1024x1604 .f32) : Vec Ideal S1024x32 .f32 := extractStridedSlice S1024x32 ![0, 96] (extractStridedSlice S1024x128 ![0, 512] w slices_S1024x1604_S1024x128_0_512) slices_S1024x128_S1024x32_0_96

theorem piece9_apply (w : Vec Ideal S1024x1604 .f32) (a : Fin 1024) (b : Fin 32) :
    piece9 w (ix2 a b) = w (ix2 a ⟨512 + (96 + b.val), by omega⟩) := by
  unfold piece9
  pointwise

/-- Piece 10 of the input projection. -/
def piece10 (w : Vec Ideal S1024x1604 .f32) : Vec Ideal S1024x256 .f32 := extractStridedSlice S1024x256 ![0, 676] w slices_S1024x1604_S1024x256_0_676

theorem piece10_apply (w : Vec Ideal S1024x1604 .f32) (a : Fin 1024) (b : Fin 256) :
    piece10 w (ix2 a b) = w (ix2 a ⟨676 + b.val, by omega⟩) := by
  unfold piece10
  pointwise

/-- Piece 11 of the input projection. -/
def piece11 (w : Vec Ideal S1024x1604 .f32) : Vec Ideal S1024x128 .f32 := extractStridedSlice S1024x128 ![0, 932] w slices_S1024x1604_S1024x128_0_932

theorem piece11_apply (w : Vec Ideal S1024x1604 .f32) (a : Fin 1024) (b : Fin 128) :
    piece11 w (ix2 a b) = w (ix2 a ⟨932 + b.val, by omega⟩) := by
  unfold piece11
  pointwise

/-- Piece 12 of the input projection. -/
def piece12 (w : Vec Ideal S1024x1604 .f32) : Vec Ideal S1024x512 .f32 := extractStridedSlice S1024x512 ![0, 1092] w slices_S1024x1604_S1024x512_0_1092

theorem piece12_apply (w : Vec Ideal S1024x1604 .f32) (a : Fin 1024) (b : Fin 512) :
    piece12 w (ix2 a b) = w (ix2 a ⟨1092 + b.val, by omega⟩) := by
  unfold piece12
  pointwise

/-- Piece 13 of the input projection. -/
def piece13 (w : Vec Ideal S1024x1604 .f32) : Vec Ideal S1024x32 .f32 := extractStridedSlice S1024x32 ![0, 1060] w slices_S1024x1604_S1024x32_0_1060

theorem piece13_apply (w : Vec Ideal S1024x1604 .f32) (a : Fin 1024) (b : Fin 32) :
    piece13 w (ix2 a b) = w (ix2 a ⟨1060 + b.val, by omega⟩) := by
  unfold piece13
  pointwise

/-- Piece 14 of the input projection. -/
def piece14 (w : Vec Ideal S1024x1604 .f32) : Vec Ideal S1024x16 .f32 := Host.negf (F := Ideal) (φ := .f32) (extractStridedSlice S1024x16 ![0, 16] (extractStridedSlice S1024x32 ![0, 1060] w slices_S1024x1604_S1024x32_0_1060) slices_S1024x32_S1024x16_0_16)

theorem piece14_apply (w : Vec Ideal S1024x1604 .f32) (a : Fin 1024) (b : Fin 16) :
    piece14 w (ix2 a b) = -w (ix2 a ⟨1060 + (16 + b.val), by omega⟩) := by
  unfold piece14
  show -_ = _
  pointwise

/-- Piece 15 of the input projection. -/
def piece15 (w : Vec Ideal S1024x1604 .f32) : Vec Ideal S1024x16 .f32 := extractStridedSlice S1024x16 ![0, 0] (extractStridedSlice S1024x32 ![0, 1060] w slices_S1024x1604_S1024x32_0_1060) slices_S1024x32_S1024x16_0_0

theorem piece15_apply (w : Vec Ideal S1024x1604 .f32) (a : Fin 1024) (b : Fin 16) :
    piece15 w (ix2 a b) = w (ix2 a ⟨1060 + b.val, by omega⟩) := by
  unfold piece15
  pointwise

/-- Piece 16 of the input projection. -/
def piece16 (w : Vec Ideal S1024x1604 .f32) : Vec Ideal S1024x32 .f32 := extractStridedSlice S1024x32 ![0, 644] w slices_S1024x1604_S1024x32_0_644

theorem piece16_apply (w : Vec Ideal S1024x1604 .f32) (a : Fin 1024) (b : Fin 32) :
    piece16 w (ix2 a b) = w (ix2 a ⟨644 + b.val, by omega⟩) := by
  unfold piece16
  pointwise

/-- Piece 17 of the input projection. -/
def piece17 (w : Vec Ideal S1024x1604 .f32) : Vec Ideal S1024x4 .f32 := extractStridedSlice S1024x4 ![0, 640] w slices_S1024x1604_S1024x4_0_640

theorem piece17_apply (w : Vec Ideal S1024x1604 .f32) (a : Fin 1024) (b : Fin 4) :
    piece17 w (ix2 a b) = w (ix2 a ⟨640 + b.val, by omega⟩) := by
  unfold piece17
  pointwise

/-- The zeros that the pieces are written over. -/
def blank : Vec Ideal S1024x2560 .f32 := broadcastInDim S1024x2560 ![] bcast_S_S1024x2560 (constant (F := Ideal) S_ .f32 0x00000000#32 : (⟨S_, .f32⟩ : BufTy).Contents (Elt Ideal))

theorem blank_apply (i : S1024x2560.Idx) : blank i = (0 : EReal) := Ideal.ofBits_zero_f32

/-- The input projection in lanes. -/
def padded (w : Vec Ideal S1024x1604 .f32) : Vec Ideal S1024x2560 .f32 :=
  put4 2464#32 (piece17 w)
    (put32 2432#32 (piece16 w)
    (put16 2320#32 (piece15 w)
    (put16 2304#32 (piece14 w)
    (put32 2176#32 (piece13 w)
    (put512 1664#32 (piece12 w)
    (put128 1536#32 (piece11 w)
    (put256 1280#32 (piece10 w)
    (put32 1152#32 (piece9 w)
    (put32 1024#32 (piece8 w)
    (put32 896#32 (piece7 w)
    (put32 768#32 (piece6 w)
    (put128 640#32 (piece5 w)
    (put128 512#32 (piece4 w)
    (put64 448#32 (piece3 w)
    (put64 320#32 (piece2 w)
    (put64 128#32 (piece1 w)
    (put64 0#32 (piece0 w)
    (blank))))))))))))))))))

theorem padded_0 (w : Vec Ideal S1024x1604 .f32) (d : Fin 1024) (j : Fin 2560) (s : Fin 1604)
    (h : 0 ≤ j.val ∧ j.val < 64 ∧ j.val + 0 = s.val + 0) : padded w (ix2 d j) = w (ix2 d s) := by
  unfold padded
  rw [put4_apply _ 2464 (by decide), dif_neg (by omega)]
  rw [put32_apply _ 2432 (by decide), dif_neg (by omega)]
  rw [put16_apply _ 2320 (by decide), dif_neg (by omega)]
  rw [put16_apply _ 2304 (by decide), dif_neg (by omega)]
  rw [put32_apply _ 2176 (by decide), dif_neg (by omega)]
  rw [put512_apply _ 1664 (by decide), dif_neg (by omega)]
  rw [put128_apply _ 1536 (by decide), dif_neg (by omega)]
  rw [put256_apply _ 1280 (by decide), dif_neg (by omega)]
  rw [put32_apply _ 1152 (by decide), dif_neg (by omega)]
  rw [put32_apply _ 1024 (by decide), dif_neg (by omega)]
  rw [put32_apply _ 896 (by decide), dif_neg (by omega)]
  rw [put32_apply _ 768 (by decide), dif_neg (by omega)]
  rw [put128_apply _ 640 (by decide), dif_neg (by omega)]
  rw [put128_apply _ 512 (by decide), dif_neg (by omega)]
  rw [put64_apply _ 448 (by decide), dif_neg (by omega)]
  rw [put64_apply _ 320 (by decide), dif_neg (by omega)]
  rw [put64_apply _ 128 (by decide), dif_neg (by omega)]
  rw [put64_apply _ 0 (by decide), dif_pos (by omega)]
  refine (piece0_apply w d _).trans (congrArg (fun q => w (ix2 d q)) (Fin.ext ?_))
  show 0 + (j.val - 0) = s.val
  omega

theorem padded_1 (w : Vec Ideal S1024x1604 .f32) (d : Fin 1024) (j : Fin 2560) (s : Fin 1604)
    (h : 128 ≤ j.val ∧ j.val < 192 ∧ j.val + 64 = s.val + 128) : padded w (ix2 d j) = w (ix2 d s) := by
  unfold padded
  rw [put4_apply _ 2464 (by decide), dif_neg (by omega)]
  rw [put32_apply _ 2432 (by decide), dif_neg (by omega)]
  rw [put16_apply _ 2320 (by decide), dif_neg (by omega)]
  rw [put16_apply _ 2304 (by decide), dif_neg (by omega)]
  rw [put32_apply _ 2176 (by decide), dif_neg (by omega)]
  rw [put512_apply _ 1664 (by decide), dif_neg (by omega)]
  rw [put128_apply _ 1536 (by decide), dif_neg (by omega)]
  rw [put256_apply _ 1280 (by decide), dif_neg (by omega)]
  rw [put32_apply _ 1152 (by decide), dif_neg (by omega)]
  rw [put32_apply _ 1024 (by decide), dif_neg (by omega)]
  rw [put32_apply _ 896 (by decide), dif_neg (by omega)]
  rw [put32_apply _ 768 (by decide), dif_neg (by omega)]
  rw [put128_apply _ 640 (by decide), dif_neg (by omega)]
  rw [put128_apply _ 512 (by decide), dif_neg (by omega)]
  rw [put64_apply _ 448 (by decide), dif_neg (by omega)]
  rw [put64_apply _ 320 (by decide), dif_neg (by omega)]
  rw [put64_apply _ 128 (by decide), dif_pos (by omega)]
  refine (piece1_apply w d _).trans (congrArg (fun q => w (ix2 d q)) (Fin.ext ?_))
  show 64 + (j.val - 128) = s.val
  omega

theorem padded_2 (w : Vec Ideal S1024x1604 .f32) (d : Fin 1024) (j : Fin 2560) (s : Fin 1604)
    (h : 320 ≤ j.val ∧ j.val < 384 ∧ j.val + 128 = s.val + 320) : padded w (ix2 d j) = w (ix2 d s) := by
  unfold padded
  rw [put4_apply _ 2464 (by decide), dif_neg (by omega)]
  rw [put32_apply _ 2432 (by decide), dif_neg (by omega)]
  rw [put16_apply _ 2320 (by decide), dif_neg (by omega)]
  rw [put16_apply _ 2304 (by decide), dif_neg (by omega)]
  rw [put32_apply _ 2176 (by decide), dif_neg (by omega)]
  rw [put512_apply _ 1664 (by decide), dif_neg (by omega)]
  rw [put128_apply _ 1536 (by decide), dif_neg (by omega)]
  rw [put256_apply _ 1280 (by decide), dif_neg (by omega)]
  rw [put32_apply _ 1152 (by decide), dif_neg (by omega)]
  rw [put32_apply _ 1024 (by decide), dif_neg (by omega)]
  rw [put32_apply _ 896 (by decide), dif_neg (by omega)]
  rw [put32_apply _ 768 (by decide), dif_neg (by omega)]
  rw [put128_apply _ 640 (by decide), dif_neg (by omega)]
  rw [put128_apply _ 512 (by decide), dif_neg (by omega)]
  rw [put64_apply _ 448 (by decide), dif_neg (by omega)]
  rw [put64_apply _ 320 (by decide), dif_pos (by omega)]
  refine (piece2_apply w d _).trans (congrArg (fun q => w (ix2 d q)) (Fin.ext ?_))
  show 128 + (j.val - 320) = s.val
  omega

theorem padded_3 (w : Vec Ideal S1024x1604 .f32) (d : Fin 1024) (j : Fin 2560) (s : Fin 1604)
    (h : 448 ≤ j.val ∧ j.val < 512 ∧ j.val + 192 = s.val + 448) : padded w (ix2 d j) = w (ix2 d s) := by
  unfold padded
  rw [put4_apply _ 2464 (by decide), dif_neg (by omega)]
  rw [put32_apply _ 2432 (by decide), dif_neg (by omega)]
  rw [put16_apply _ 2320 (by decide), dif_neg (by omega)]
  rw [put16_apply _ 2304 (by decide), dif_neg (by omega)]
  rw [put32_apply _ 2176 (by decide), dif_neg (by omega)]
  rw [put512_apply _ 1664 (by decide), dif_neg (by omega)]
  rw [put128_apply _ 1536 (by decide), dif_neg (by omega)]
  rw [put256_apply _ 1280 (by decide), dif_neg (by omega)]
  rw [put32_apply _ 1152 (by decide), dif_neg (by omega)]
  rw [put32_apply _ 1024 (by decide), dif_neg (by omega)]
  rw [put32_apply _ 896 (by decide), dif_neg (by omega)]
  rw [put32_apply _ 768 (by decide), dif_neg (by omega)]
  rw [put128_apply _ 640 (by decide), dif_neg (by omega)]
  rw [put128_apply _ 512 (by decide), dif_neg (by omega)]
  rw [put64_apply _ 448 (by decide), dif_pos (by omega)]
  refine (piece3_apply w d _).trans (congrArg (fun q => w (ix2 d q)) (Fin.ext ?_))
  show 192 + (j.val - 448) = s.val
  omega

theorem padded_4 (w : Vec Ideal S1024x1604 .f32) (d : Fin 1024) (j : Fin 2560) (s : Fin 1604)
    (h : 512 ≤ j.val ∧ j.val < 640 ∧ j.val + 256 = s.val + 512) : padded w (ix2 d j) = w (ix2 d s) := by
  unfold padded
  rw [put4_apply _ 2464 (by decide), dif_neg (by omega)]
  rw [put32_apply _ 2432 (by decide), dif_neg (by omega)]
  rw [put16_apply _ 2320 (by decide), dif_neg (by omega)]
  rw [put16_apply _ 2304 (by decide), dif_neg (by omega)]
  rw [put32_apply _ 2176 (by decide), dif_neg (by omega)]
  rw [put512_apply _ 1664 (by decide), dif_neg (by omega)]
  rw [put128_apply _ 1536 (by decide), dif_neg (by omega)]
  rw [put256_apply _ 1280 (by decide), dif_neg (by omega)]
  rw [put32_apply _ 1152 (by decide), dif_neg (by omega)]
  rw [put32_apply _ 1024 (by decide), dif_neg (by omega)]
  rw [put32_apply _ 896 (by decide), dif_neg (by omega)]
  rw [put32_apply _ 768 (by decide), dif_neg (by omega)]
  rw [put128_apply _ 640 (by decide), dif_neg (by omega)]
  rw [put128_apply _ 512 (by decide), dif_pos (by omega)]
  refine (piece4_apply w d _).trans (congrArg (fun q => w (ix2 d q)) (Fin.ext ?_))
  show 256 + (j.val - 512) = s.val
  omega

theorem padded_5 (w : Vec Ideal S1024x1604 .f32) (d : Fin 1024) (j : Fin 2560) (s : Fin 1604)
    (h : 640 ≤ j.val ∧ j.val < 768 ∧ j.val + 384 = s.val + 640) : padded w (ix2 d j) = w (ix2 d s) := by
  unfold padded
  rw [put4_apply _ 2464 (by decide), dif_neg (by omega)]
  rw [put32_apply _ 2432 (by decide), dif_neg (by omega)]
  rw [put16_apply _ 2320 (by decide), dif_neg (by omega)]
  rw [put16_apply _ 2304 (by decide), dif_neg (by omega)]
  rw [put32_apply _ 2176 (by decide), dif_neg (by omega)]
  rw [put512_apply _ 1664 (by decide), dif_neg (by omega)]
  rw [put128_apply _ 1536 (by decide), dif_neg (by omega)]
  rw [put256_apply _ 1280 (by decide), dif_neg (by omega)]
  rw [put32_apply _ 1152 (by decide), dif_neg (by omega)]
  rw [put32_apply _ 1024 (by decide), dif_neg (by omega)]
  rw [put32_apply _ 896 (by decide), dif_neg (by omega)]
  rw [put32_apply _ 768 (by decide), dif_neg (by omega)]
  rw [put128_apply _ 640 (by decide), dif_pos (by omega)]
  refine (piece5_apply w d _).trans (congrArg (fun q => w (ix2 d q)) (Fin.ext ?_))
  show 384 + (j.val - 640) = s.val
  omega

theorem padded_6 (w : Vec Ideal S1024x1604 .f32) (d : Fin 1024) (j : Fin 2560) (s : Fin 1604)
    (h : 768 ≤ j.val ∧ j.val < 800 ∧ j.val + 512 = s.val + 768) : padded w (ix2 d j) = w (ix2 d s) := by
  unfold padded
  rw [put4_apply _ 2464 (by decide), dif_neg (by omega)]
  rw [put32_apply _ 2432 (by decide), dif_neg (by omega)]
  rw [put16_apply _ 2320 (by decide), dif_neg (by omega)]
  rw [put16_apply _ 2304 (by decide), dif_neg (by omega)]
  rw [put32_apply _ 2176 (by decide), dif_neg (by omega)]
  rw [put512_apply _ 1664 (by decide), dif_neg (by omega)]
  rw [put128_apply _ 1536 (by decide), dif_neg (by omega)]
  rw [put256_apply _ 1280 (by decide), dif_neg (by omega)]
  rw [put32_apply _ 1152 (by decide), dif_neg (by omega)]
  rw [put32_apply _ 1024 (by decide), dif_neg (by omega)]
  rw [put32_apply _ 896 (by decide), dif_neg (by omega)]
  rw [put32_apply _ 768 (by decide), dif_pos (by omega)]
  refine (piece6_apply w d _).trans (congrArg (fun q => w (ix2 d q)) (Fin.ext ?_))
  show 512 + (j.val - 768) = s.val
  omega

theorem padded_7 (w : Vec Ideal S1024x1604 .f32) (d : Fin 1024) (j : Fin 2560) (s : Fin 1604)
    (h : 896 ≤ j.val ∧ j.val < 928 ∧ j.val + 544 = s.val + 896) : padded w (ix2 d j) = w (ix2 d s) := by
  unfold padded
  rw [put4_apply _ 2464 (by decide), dif_neg (by omega)]
  rw [put32_apply _ 2432 (by decide), dif_neg (by omega)]
  rw [put16_apply _ 2320 (by decide), dif_neg (by omega)]
  rw [put16_apply _ 2304 (by decide), dif_neg (by omega)]
  rw [put32_apply _ 2176 (by decide), dif_neg (by omega)]
  rw [put512_apply _ 1664 (by decide), dif_neg (by omega)]
  rw [put128_apply _ 1536 (by decide), dif_neg (by omega)]
  rw [put256_apply _ 1280 (by decide), dif_neg (by omega)]
  rw [put32_apply _ 1152 (by decide), dif_neg (by omega)]
  rw [put32_apply _ 1024 (by decide), dif_neg (by omega)]
  rw [put32_apply _ 896 (by decide), dif_pos (by omega)]
  refine (piece7_apply w d _).trans (congrArg (fun q => w (ix2 d q)) (Fin.ext ?_))
  show 512 + (32 + (j.val - 896)) = s.val
  omega

theorem padded_8 (w : Vec Ideal S1024x1604 .f32) (d : Fin 1024) (j : Fin 2560) (s : Fin 1604)
    (h : 1024 ≤ j.val ∧ j.val < 1056 ∧ j.val + 576 = s.val + 1024) : padded w (ix2 d j) = w (ix2 d s) := by
  unfold padded
  rw [put4_apply _ 2464 (by decide), dif_neg (by omega)]
  rw [put32_apply _ 2432 (by decide), dif_neg (by omega)]
  rw [put16_apply _ 2320 (by decide), dif_neg (by omega)]
  rw [put16_apply _ 2304 (by decide), dif_neg (by omega)]
  rw [put32_apply _ 2176 (by decide), dif_neg (by omega)]
  rw [put512_apply _ 1664 (by decide), dif_neg (by omega)]
  rw [put128_apply _ 1536 (by decide), dif_neg (by omega)]
  rw [put256_apply _ 1280 (by decide), dif_neg (by omega)]
  rw [put32_apply _ 1152 (by decide), dif_neg (by omega)]
  rw [put32_apply _ 1024 (by decide), dif_pos (by omega)]
  refine (piece8_apply w d _).trans (congrArg (fun q => w (ix2 d q)) (Fin.ext ?_))
  show 512 + (64 + (j.val - 1024)) = s.val
  omega

theorem padded_9 (w : Vec Ideal S1024x1604 .f32) (d : Fin 1024) (j : Fin 2560) (s : Fin 1604)
    (h : 1152 ≤ j.val ∧ j.val < 1184 ∧ j.val + 608 = s.val + 1152) : padded w (ix2 d j) = w (ix2 d s) := by
  unfold padded
  rw [put4_apply _ 2464 (by decide), dif_neg (by omega)]
  rw [put32_apply _ 2432 (by decide), dif_neg (by omega)]
  rw [put16_apply _ 2320 (by decide), dif_neg (by omega)]
  rw [put16_apply _ 2304 (by decide), dif_neg (by omega)]
  rw [put32_apply _ 2176 (by decide), dif_neg (by omega)]
  rw [put512_apply _ 1664 (by decide), dif_neg (by omega)]
  rw [put128_apply _ 1536 (by decide), dif_neg (by omega)]
  rw [put256_apply _ 1280 (by decide), dif_neg (by omega)]
  rw [put32_apply _ 1152 (by decide), dif_pos (by omega)]
  refine (piece9_apply w d _).trans (congrArg (fun q => w (ix2 d q)) (Fin.ext ?_))
  show 512 + (96 + (j.val - 1152)) = s.val
  omega

theorem padded_10 (w : Vec Ideal S1024x1604 .f32) (d : Fin 1024) (j : Fin 2560) (s : Fin 1604)
    (h : 1280 ≤ j.val ∧ j.val < 1536 ∧ j.val + 676 = s.val + 1280) : padded w (ix2 d j) = w (ix2 d s) := by
  unfold padded
  rw [put4_apply _ 2464 (by decide), dif_neg (by omega)]
  rw [put32_apply _ 2432 (by decide), dif_neg (by omega)]
  rw [put16_apply _ 2320 (by decide), dif_neg (by omega)]
  rw [put16_apply _ 2304 (by decide), dif_neg (by omega)]
  rw [put32_apply _ 2176 (by decide), dif_neg (by omega)]
  rw [put512_apply _ 1664 (by decide), dif_neg (by omega)]
  rw [put128_apply _ 1536 (by decide), dif_neg (by omega)]
  rw [put256_apply _ 1280 (by decide), dif_pos (by omega)]
  refine (piece10_apply w d _).trans (congrArg (fun q => w (ix2 d q)) (Fin.ext ?_))
  show 676 + (j.val - 1280) = s.val
  omega

theorem padded_11 (w : Vec Ideal S1024x1604 .f32) (d : Fin 1024) (j : Fin 2560) (s : Fin 1604)
    (h : 1536 ≤ j.val ∧ j.val < 1664 ∧ j.val + 932 = s.val + 1536) : padded w (ix2 d j) = w (ix2 d s) := by
  unfold padded
  rw [put4_apply _ 2464 (by decide), dif_neg (by omega)]
  rw [put32_apply _ 2432 (by decide), dif_neg (by omega)]
  rw [put16_apply _ 2320 (by decide), dif_neg (by omega)]
  rw [put16_apply _ 2304 (by decide), dif_neg (by omega)]
  rw [put32_apply _ 2176 (by decide), dif_neg (by omega)]
  rw [put512_apply _ 1664 (by decide), dif_neg (by omega)]
  rw [put128_apply _ 1536 (by decide), dif_pos (by omega)]
  refine (piece11_apply w d _).trans (congrArg (fun q => w (ix2 d q)) (Fin.ext ?_))
  show 932 + (j.val - 1536) = s.val
  omega

theorem padded_12 (w : Vec Ideal S1024x1604 .f32) (d : Fin 1024) (j : Fin 2560) (s : Fin 1604)
    (h : 1664 ≤ j.val ∧ j.val < 2176 ∧ j.val + 1092 = s.val + 1664) : padded w (ix2 d j) = w (ix2 d s) := by
  unfold padded
  rw [put4_apply _ 2464 (by decide), dif_neg (by omega)]
  rw [put32_apply _ 2432 (by decide), dif_neg (by omega)]
  rw [put16_apply _ 2320 (by decide), dif_neg (by omega)]
  rw [put16_apply _ 2304 (by decide), dif_neg (by omega)]
  rw [put32_apply _ 2176 (by decide), dif_neg (by omega)]
  rw [put512_apply _ 1664 (by decide), dif_pos (by omega)]
  refine (piece12_apply w d _).trans (congrArg (fun q => w (ix2 d q)) (Fin.ext ?_))
  show 1092 + (j.val - 1664) = s.val
  omega

theorem padded_13 (w : Vec Ideal S1024x1604 .f32) (d : Fin 1024) (j : Fin 2560) (s : Fin 1604)
    (h : 2176 ≤ j.val ∧ j.val < 2208 ∧ j.val + 1060 = s.val + 2176) : padded w (ix2 d j) = w (ix2 d s) := by
  unfold padded
  rw [put4_apply _ 2464 (by decide), dif_neg (by omega)]
  rw [put32_apply _ 2432 (by decide), dif_neg (by omega)]
  rw [put16_apply _ 2320 (by decide), dif_neg (by omega)]
  rw [put16_apply _ 2304 (by decide), dif_neg (by omega)]
  rw [put32_apply _ 2176 (by decide), dif_pos (by omega)]
  refine (piece13_apply w d _).trans (congrArg (fun q => w (ix2 d q)) (Fin.ext ?_))
  show 1060 + (j.val - 2176) = s.val
  omega

theorem padded_14 (w : Vec Ideal S1024x1604 .f32) (d : Fin 1024) (j : Fin 2560) (s : Fin 1604)
    (h : 2304 ≤ j.val ∧ j.val < 2320 ∧ j.val + 1076 = s.val + 2304) : padded w (ix2 d j) = -w (ix2 d s) := by
  unfold padded
  rw [put4_apply _ 2464 (by decide), dif_neg (by omega)]
  rw [put32_apply _ 2432 (by decide), dif_neg (by omega)]
  rw [put16_apply _ 2320 (by decide), dif_neg (by omega)]
  rw [put16_apply _ 2304 (by decide), dif_pos (by omega)]
  refine (piece14_apply w d _).trans (congrArg (fun q => -w (ix2 d q)) (Fin.ext ?_))
  show 1060 + (16 + (j.val - 2304)) = s.val
  omega

theorem padded_15 (w : Vec Ideal S1024x1604 .f32) (d : Fin 1024) (j : Fin 2560) (s : Fin 1604)
    (h : 2320 ≤ j.val ∧ j.val < 2336 ∧ j.val + 1060 = s.val + 2320) : padded w (ix2 d j) = w (ix2 d s) := by
  unfold padded
  rw [put4_apply _ 2464 (by decide), dif_neg (by omega)]
  rw [put32_apply _ 2432 (by decide), dif_neg (by omega)]
  rw [put16_apply _ 2320 (by decide), dif_pos (by omega)]
  refine (piece15_apply w d _).trans (congrArg (fun q => w (ix2 d q)) (Fin.ext ?_))
  show 1060 + (j.val - 2320) = s.val
  omega

theorem padded_16 (w : Vec Ideal S1024x1604 .f32) (d : Fin 1024) (j : Fin 2560) (s : Fin 1604)
    (h : 2432 ≤ j.val ∧ j.val < 2464 ∧ j.val + 644 = s.val + 2432) : padded w (ix2 d j) = w (ix2 d s) := by
  unfold padded
  rw [put4_apply _ 2464 (by decide), dif_neg (by omega)]
  rw [put32_apply _ 2432 (by decide), dif_pos (by omega)]
  refine (piece16_apply w d _).trans (congrArg (fun q => w (ix2 d q)) (Fin.ext ?_))
  show 644 + (j.val - 2432) = s.val
  omega

theorem padded_17 (w : Vec Ideal S1024x1604 .f32) (d : Fin 1024) (j : Fin 2560) (s : Fin 1604)
    (h : 2464 ≤ j.val ∧ j.val < 2468 ∧ j.val + 640 = s.val + 2464) : padded w (ix2 d j) = w (ix2 d s) := by
  unfold padded
  rw [put4_apply _ 2464 (by decide), dif_pos (by omega)]
  refine (piece17_apply w d _).trans (congrArg (fun q => w (ix2 d q)) (Fin.ext ?_))
  show 640 + (j.val - 2464) = s.val
  omega

/-- Where a column of the input projection goes. -/
theorem padded_move (w : Vec Ideal S1024x1604 .f32) (d : Fin 1024) (j : Fin 2560) (s : Fin 1604)
    (h : (0 ≤ j.val ∧ j.val < 64 ∧ j.val + 0 = s.val + 0) ∨
      (128 ≤ j.val ∧ j.val < 192 ∧ j.val + 64 = s.val + 128) ∨
      (320 ≤ j.val ∧ j.val < 384 ∧ j.val + 128 = s.val + 320) ∨
      (448 ≤ j.val ∧ j.val < 512 ∧ j.val + 192 = s.val + 448) ∨
      (512 ≤ j.val ∧ j.val < 640 ∧ j.val + 256 = s.val + 512) ∨
      (640 ≤ j.val ∧ j.val < 768 ∧ j.val + 384 = s.val + 640) ∨
      (768 ≤ j.val ∧ j.val < 800 ∧ j.val + 512 = s.val + 768) ∨
      (896 ≤ j.val ∧ j.val < 928 ∧ j.val + 544 = s.val + 896) ∨
      (1024 ≤ j.val ∧ j.val < 1056 ∧ j.val + 576 = s.val + 1024) ∨
      (1152 ≤ j.val ∧ j.val < 1184 ∧ j.val + 608 = s.val + 1152) ∨
      (1280 ≤ j.val ∧ j.val < 1536 ∧ j.val + 676 = s.val + 1280) ∨
      (1536 ≤ j.val ∧ j.val < 1664 ∧ j.val + 932 = s.val + 1536) ∨
      (1664 ≤ j.val ∧ j.val < 2176 ∧ j.val + 1092 = s.val + 1664) ∨
      (2176 ≤ j.val ∧ j.val < 2208 ∧ j.val + 1060 = s.val + 2176) ∨
      (2320 ≤ j.val ∧ j.val < 2336 ∧ j.val + 1060 = s.val + 2320) ∨
      (2432 ≤ j.val ∧ j.val < 2464 ∧ j.val + 644 = s.val + 2432) ∨
      (2464 ≤ j.val ∧ j.val < 2468 ∧ j.val + 640 = s.val + 2464)) :
    padded w (ix2 d j) = w (ix2 d s) := by
  rcases h with h | h | h | h | h | h | h | h | h | h | h | h | h | h | h | h | h
  · exact padded_0 w d j s h
  · exact padded_1 w d j s h
  · exact padded_2 w d j s h
  · exact padded_3 w d j s h
  · exact padded_4 w d j s h
  · exact padded_5 w d j s h
  · exact padded_6 w d j s h
  · exact padded_7 w d j s h
  · exact padded_8 w d j s h
  · exact padded_9 w d j s h
  · exact padded_10 w d j s h
  · exact padded_11 w d j s h
  · exact padded_12 w d j s h
  · exact padded_13 w d j s h
  · exact padded_15 w d j s h
  · exact padded_16 w d j s h
  · exact padded_17 w d j s h

/-- The lanes that stay zero. -/
theorem padded_zero (w : Vec Ideal S1024x1604 .f32) (d : Fin 1024) (j : Fin 2560)
    (h : (64 ≤ j.val ∧ j.val < 128) ∨ (192 ≤ j.val ∧ j.val < 320) ∨ (384 ≤ j.val ∧ j.val < 448) ∨ (800 ≤ j.val ∧ j.val < 896) ∨ (928 ≤ j.val ∧ j.val < 1024) ∨ (1056 ≤ j.val ∧ j.val < 1152) ∨ (1184 ≤ j.val ∧ j.val < 1280) ∨ (2208 ≤ j.val ∧ j.val < 2304) ∨ (2336 ≤ j.val ∧ j.val < 2432) ∨ (2468 ≤ j.val ∧ j.val < 2560)) :
    padded w (ix2 d j) = (0 : EReal) := by
  unfold padded
  rw [put4_apply _ 2464 (by decide), dif_neg (by omega)]
  rw [put32_apply _ 2432 (by decide), dif_neg (by omega)]
  rw [put16_apply _ 2320 (by decide), dif_neg (by omega)]
  rw [put16_apply _ 2304 (by decide), dif_neg (by omega)]
  rw [put32_apply _ 2176 (by decide), dif_neg (by omega)]
  rw [put512_apply _ 1664 (by decide), dif_neg (by omega)]
  rw [put128_apply _ 1536 (by decide), dif_neg (by omega)]
  rw [put256_apply _ 1280 (by decide), dif_neg (by omega)]
  rw [put32_apply _ 1152 (by decide), dif_neg (by omega)]
  rw [put32_apply _ 1024 (by decide), dif_neg (by omega)]
  rw [put32_apply _ 896 (by decide), dif_neg (by omega)]
  rw [put32_apply _ 768 (by decide), dif_neg (by omega)]
  rw [put128_apply _ 640 (by decide), dif_neg (by omega)]
  rw [put128_apply _ 512 (by decide), dif_neg (by omega)]
  rw [put64_apply _ 448 (by decide), dif_neg (by omega)]
  rw [put64_apply _ 320 (by decide), dif_neg (by omega)]
  rw [put64_apply _ 128 (by decide), dif_neg (by omega)]
  rw [put64_apply _ 0 (by decide), dif_neg (by omega)]
  exact blank_apply _

variable (m : (ℓ : Loc nD τ sig) → Buf (Elt Ideal) ℓ)

/-- Narrowing keeps an exact value. -/
theorem narrow_id {S : Shape} (x : FVec Ideal S .f32) : (truncf .bf16 x bitsLt_bf16_f32 : S.Idx → EReal) = x := rfl

set_option maxRecDepth 20000 in
/-- The kernel's window holds the input projection in lanes. -/
theorem padded_eq (c : Dev nD) : (V m c main_v174 : S1024x2560.Idx → EReal) = padded (m ((c : Thread nD τ).loc main_arg3)) := by
  unfold_abbrev_sides
  after_results
  refine (narrow_id _).trans ?_
  unfold padded put64 put128 put32 put256 put512 put16 put4 blank piece0 piece1 piece2 piece3 piece4 piece5 piece6 piece7 piece8 piece9 piece10 piece11 piece12 piece13 piece14 piece15 piece16 piece17 at1
  rfl

end Cert.Kernel3Ideal.Mix

end
-- ==== Proof.MixHeads.lean ====
/- The query and key projections as the host lays them out by head, over zeros. -/
module

public import proofs.«01_k».proof.Proof.MixWeights

@[expose] public section

noncomputable section

namespace Cert.Kernel3Ideal.Mix

open Cert.Kernel3Ideal Cert.Kernel3Ideal.Gen Idealize.ShloMosaic Idealize.ShloMosaic.TcCoe Idealize.SL.Sem

/-- One write of 64 columns. -/
def up64 (p : BitVec 32) (u : Vec Ideal S256x64 .f32) (x : Vec Ideal S256x1280 .f32) : Vec Ideal S256x1280 .f32 :=
  Host.scatter scatter_S256x1280_S1_S256x64_01_n_1_0 (fun _ b => b) x (at1 p) u

theorem up64_apply (p : BitVec 32) (off : ℕ) (hp : p.toInt = off) (u : Vec Ideal S256x64 .f32) (x : Vec Ideal S256x1280 .f32) (i : Fin 256) (j : Fin 1280) :
    up64 p u x (ix2 i j) = if hv : off ≤ j.val ∧ j.val < off + 64 then u (ix2 i ⟨j.val - off, by omega⟩) else x (ix2 i j) := by
  have key := scatter_rect scatter_S256x1280_S1_S256x64_01_n_1_0 (at1 p) 0 off
    (fun _ => rfl) (fun k => by unfold ScatterDims.start; rw [dif_pos (by decide), at1_apply]; exact hp)
    (fun _ _ => rfl) (fun _ _ => rfl) x u i j
  refine Eq.trans key ?_
  by_cases hv : off ≤ j.val ∧ j.val < off + 64
  · rw [dif_pos ⟨Nat.zero_le _, by omega, hv.1, hv.2⟩, dif_pos hv]
    rfl
  · rw [dif_neg (fun h => hv ⟨h.2.2.1, h.2.2.2⟩), dif_neg hv]

/-- One write of 32 columns. -/
def up32 (p : BitVec 32) (u : Vec Ideal S256x32 .f32) (x : Vec Ideal S256x1280 .f32) : Vec Ideal S256x1280 .f32 :=
  Host.scatter scatter_S256x1280_S1_S256x32_01_n_1_0 (fun _ b => b) x (at1 p) u

theorem up32_apply (p : BitVec 32) (off : ℕ) (hp : p.toInt = off) (u : Vec Ideal S256x32 .f32) (x : Vec Ideal S256x1280 .f32) (i : Fin 256) (j : Fin 1280) :
    up32 p u x (ix2 i j) = if hv : off ≤ j.val ∧ j.val < off + 32 then u (ix2 i ⟨j.val - off, by omega⟩) else x (ix2 i j) := by
  have key := scatter_rect scatter_S256x1280_S1_S256x32_01_n_1_0 (at1 p) 0 off
    (fun _ => rfl) (fun k => by unfold ScatterDims.start; rw [dif_pos (by decide), at1_apply]; exact hp)
    (fun _ _ => rfl) (fun _ _ => rfl) x u i j
  refine Eq.trans key ?_
  by_cases hv : off ≤ j.val ∧ j.val < off + 32
  · rw [dif_pos ⟨Nat.zero_le _, by omega, hv.1, hv.2⟩, dif_pos hv]
    rfl
  · rw [dif_neg (fun h => hv ⟨h.2.2.1, h.2.2.2⟩), dif_neg hv]

/-- One write of 16 columns. -/
def up16 (p : BitVec 32) (u : Vec Ideal S256x16 .f32) (x : Vec Ideal S256x1280 .f32) : Vec Ideal S256x1280 .f32 :=
  Host.scatter scatter_S256x1280_S1_S256x16_01_n_1_0 (fun _ b => b) x (at1 p) u

theorem up16_apply (p : BitVec 32) (off : ℕ) (hp : p.toInt = off) (u : Vec Ideal S256x16 .f32) (x : Vec Ideal S256x1280 .f32) (i : Fin 256) (j : Fin 1280) :
    up16 p u x (ix2 i j) = if hv : off ≤ j.val ∧ j.val < off + 16 then u (ix2 i ⟨j.val - off, by omega⟩) else x (ix2 i j) := by
  have key := scatter_rect scatter_S256x1280_S1_S256x16_01_n_1_0 (at1 p) 0 off
    (fun _ => rfl) (fun k => by unfold ScatterDims.start; rw [dif_pos (by decide), at1_apply]; exact hp)
    (fun _ _ => rfl) (fun _ _ => rfl) x u i j
  refine Eq.trans key ?_
  by_cases hv : off ≤ j.val ∧ j.val < off + 16
  · rw [dif_pos ⟨Nat.zero_le _, by omega, hv.1, hv.2⟩, dif_pos hv]
    rfl
  · rw [dif_neg (fun h => hv ⟨h.2.2.1, h.2.2.2⟩), dif_neg hv]

/-- Head 0's query columns without a position. -/
def nope0 (u : Vec Ideal S256x4x96 .f32) : Vec Ideal S256x64 .f32 :=
  shapeCast S256x64 (extractStridedSlice S256x1x64 ![0, 0, 0] u slices_S256x4x96_S256x1x64_0_0_0) shapeCasts_S256x1x64_S256x64

theorem nope0_apply (u : Vec Ideal S256x4x96 .f32) (r : Fin 256) (n : Fin 64) : nope0 u (ix2 r n) = u (ix3 r 0 ⟨n.val, by omega⟩) := by
  unfold nope0
  pointwise

/-- Head 0's query columns with a position. -/
def rot0 (u : Vec Ideal S256x4x96 .f32) : Vec Ideal S256x32 .f32 :=
  shapeCast S256x32 (extractStridedSlice S256x1x32 ![0, 0, 64] u slices_S256x4x96_S256x1x32_0_0_64) shapeCasts_S256x1x32_S256x32

theorem rot0_apply (u : Vec Ideal S256x4x96 .f32) (r : Fin 256) (n : Fin 32) : rot0 u (ix2 r n) = u (ix3 r 0 ⟨64 + n.val, by omega⟩) := by
  unfold rot0
  pointwise

/-- Head 0's second half with its sign turned. -/
def turn0 (u : Vec Ideal S256x4x96 .f32) : Vec Ideal S256x16 .f32 :=
  Host.negf (F := Ideal) (φ := .f32) (extractStridedSlice S256x16 ![0, 16] (rot0 u) slices_S256x32_S256x16_0_16)

theorem turn0_apply (u : Vec Ideal S256x4x96 .f32) (r : Fin 256) (n : Fin 16) : turn0 u (ix2 r n) = -u (ix3 r 0 ⟨64 + (16 + n.val), by omega⟩) := by
  unfold turn0 rot0
  show -_ = _
  pointwise

/-- Head 0's first half. -/
def half0 (u : Vec Ideal S256x4x96 .f32) : Vec Ideal S256x16 .f32 :=
  extractStridedSlice S256x16 ![0, 0] (rot0 u) slices_S256x32_S256x16_0_0

theorem half0_apply (u : Vec Ideal S256x4x96 .f32) (r : Fin 256) (n : Fin 16) : half0 u (ix2 r n) = u (ix3 r 0 ⟨64 + n.val, by omega⟩) := by
  unfold half0 rot0
  pointwise

/-- Head 0's latent key projection, transposed. -/
def key0 (u : Vec Ideal S128x4x64 .f32) : Vec Ideal S64x128 .f32 :=
  transpose S64x128 [1, 0] (shapeCast S128x64 (extractStridedSlice S128x1x64 ![0, 0, 0] u slices_S128x4x64_S128x1x64_0_0_0) shapeCasts_S128x1x64_S128x64) transposes_S128x64_S64x128_1_0

theorem key0_apply (u : Vec Ideal S128x4x64 .f32) (n : Fin 64) (r : Fin 128) : key0 u (ix2 n r) = u (ix3 r 0 n) := by
  unfold key0
  pointwise

/-- Head 1's query columns without a position. -/
def nope1 (u : Vec Ideal S256x4x96 .f32) : Vec Ideal S256x64 .f32 :=
  shapeCast S256x64 (extractStridedSlice S256x1x64 ![0, 1, 0] u slices_S256x4x96_S256x1x64_0_1_0) shapeCasts_S256x1x64_S256x64

theorem nope1_apply (u : Vec Ideal S256x4x96 .f32) (r : Fin 256) (n : Fin 64) : nope1 u (ix2 r n) = u (ix3 r 1 ⟨n.val, by omega⟩) := by
  unfold nope1
  pointwise

/-- Head 1's query columns with a position. -/
def rot1 (u : Vec Ideal S256x4x96 .f32) : Vec Ideal S256x32 .f32 :=
  shapeCast S256x32 (extractStridedSlice S256x1x32 ![0, 1, 64] u slices_S256x4x96_S256x1x32_0_1_64) shapeCasts_S256x1x32_S256x32

theorem rot1_apply (u : Vec Ideal S256x4x96 .f32) (r : Fin 256) (n : Fin 32) : rot1 u (ix2 r n) = u (ix3 r 1 ⟨64 + n.val, by omega⟩) := by
  unfold rot1
  pointwise

/-- Head 1's second half with its sign turned. -/
def turn1 (u : Vec Ideal S256x4x96 .f32) : Vec Ideal S256x16 .f32 :=
  Host.negf (F := Ideal) (φ := .f32) (extractStridedSlice S256x16 ![0, 16] (rot1 u) slices_S256x32_S256x16_0_16)

theorem turn1_apply (u : Vec Ideal S256x4x96 .f32) (r : Fin 256) (n : Fin 16) : turn1 u (ix2 r n) = -u (ix3 r 1 ⟨64 + (16 + n.val), by omega⟩) := by
  unfold turn1 rot1
  show -_ = _
  pointwise

/-- Head 1's first half. -/
def half1 (u : Vec Ideal S256x4x96 .f32) : Vec Ideal S256x16 .f32 :=
  extractStridedSlice S256x16 ![0, 0] (rot1 u) slices_S256x32_S256x16_0_0

theorem half1_apply (u : Vec Ideal S256x4x96 .f32) (r : Fin 256) (n : Fin 16) : half1 u (ix2 r n) = u (ix3 r 1 ⟨64 + n.val, by omega⟩) := by
  unfold half1 rot1
  pointwise

/-- Head 1's latent key projection, transposed. -/
def key1 (u : Vec Ideal S128x4x64 .f32) : Vec Ideal S64x128 .f32 :=
  transpose S64x128 [1, 0] (shapeCast S128x64 (extractStridedSlice S128x1x64 ![0, 1, 0] u slices_S128x4x64_S128x1x64_0_1_0) shapeCasts_S128x1x64_S128x64) transposes_S128x64_S64x128_1_0

theorem key1_apply (u : Vec Ideal S128x4x64 .f32) (n : Fin 64) (r : Fin 128) : key1 u (ix2 n r) = u (ix3 r 1 n) := by
  unfold key1
  pointwise

/-- Head 2's query columns without a position. -/
def nope2 (u : Vec Ideal S256x4x96 .f32) : Vec Ideal S256x64 .f32 :=
  shapeCast S256x64 (extractStridedSlice S256x1x64 ![0, 2, 0] u slices_S256x4x96_S256x1x64_0_2_0) shapeCasts_S256x1x64_S256x64

theorem nope2_apply (u : Vec Ideal S256x4x96 .f32) (r : Fin 256) (n : Fin 64) : nope2 u (ix2 r n) = u (ix3 r 2 ⟨n.val, by omega⟩) := by
  unfold nope2
  pointwise

/-- Head 2's query columns with a position. -/
def rot2 (u : Vec Ideal S256x4x96 .f32) : Vec Ideal S256x32 .f32 :=
  shapeCast S256x32 (extractStridedSlice S256x1x32 ![0, 2, 64] u slices_S256x4x96_S256x1x32_0_2_64) shapeCasts_S256x1x32_S256x32

theorem rot2_apply (u : Vec Ideal S256x4x96 .f32) (r : Fin 256) (n : Fin 32) : rot2 u (ix2 r n) = u (ix3 r 2 ⟨64 + n.val, by omega⟩) := by
  unfold rot2
  pointwise

/-- Head 2's second half with its sign turned. -/
def turn2 (u : Vec Ideal S256x4x96 .f32) : Vec Ideal S256x16 .f32 :=
  Host.negf (F := Ideal) (φ := .f32) (extractStridedSlice S256x16 ![0, 16] (rot2 u) slices_S256x32_S256x16_0_16)

theorem turn2_apply (u : Vec Ideal S256x4x96 .f32) (r : Fin 256) (n : Fin 16) : turn2 u (ix2 r n) = -u (ix3 r 2 ⟨64 + (16 + n.val), by omega⟩) := by
  unfold turn2 rot2
  show -_ = _
  pointwise

/-- Head 2's first half. -/
def half2 (u : Vec Ideal S256x4x96 .f32) : Vec Ideal S256x16 .f32 :=
  extractStridedSlice S256x16 ![0, 0] (rot2 u) slices_S256x32_S256x16_0_0

theorem half2_apply (u : Vec Ideal S256x4x96 .f32) (r : Fin 256) (n : Fin 16) : half2 u (ix2 r n) = u (ix3 r 2 ⟨64 + n.val, by omega⟩) := by
  unfold half2 rot2
  pointwise

/-- Head 2's latent key projection, transposed. -/
def key2 (u : Vec Ideal S128x4x64 .f32) : Vec Ideal S64x128 .f32 :=
  transpose S64x128 [1, 0] (shapeCast S128x64 (extractStridedSlice S128x1x64 ![0, 2, 0] u slices_S128x4x64_S128x1x64_0_2_0) shapeCasts_S128x1x64_S128x64) transposes_S128x64_S64x128_1_0

theorem key2_apply (u : Vec Ideal S128x4x64 .f32) (n : Fin 64) (r : Fin 128) : key2 u (ix2 n r) = u (ix3 r 2 n) := by
  unfold key2
  pointwise

/-- Head 3's query columns without a position. -/
def nope3 (u : Vec Ideal S256x4x96 .f32) : Vec Ideal S256x64 .f32 :=
  shapeCast S256x64 (extractStridedSlice S256x1x64 ![0, 3, 0] u slices_S256x4x96_S256x1x64_0_3_0) shapeCasts_S256x1x64_S256x64

theorem nope3_apply (u : Vec Ideal S256x4x96 .f32) (r : Fin 256) (n : Fin 64) : nope3 u (ix2 r n) = u (ix3 r 3 ⟨n.val, by omega⟩) := by
  unfold nope3
  pointwise

/-- Head 3's query columns with a position. -/
def rot3 (u : Vec Ideal S256x4x96 .f32) : Vec Ideal S256x32 .f32 :=
  shapeCast S256x32 (extractStridedSlice S256x1x32 ![0, 3, 64] u slices_S256x4x96_S256x1x32_0_3_64) shapeCasts_S256x1x32_S256x32

theorem rot3_apply (u : Vec Ideal S256x4x96 .f32) (r : Fin 256) (n : Fin 32) : rot3 u (ix2 r n) = u (ix3 r 3 ⟨64 + n.val, by omega⟩) := by
  unfold rot3
  pointwise

/-- Head 3's second half with its sign turned. -/
def turn3 (u : Vec Ideal S256x4x96 .f32) : Vec Ideal S256x16 .f32 :=
  Host.negf (F := Ideal) (φ := .f32) (extractStridedSlice S256x16 ![0, 16] (rot3 u) slices_S256x32_S256x16_0_16)

theorem turn3_apply (u : Vec Ideal S256x4x96 .f32) (r : Fin 256) (n : Fin 16) : turn3 u (ix2 r n) = -u (ix3 r 3 ⟨64 + (16 + n.val), by omega⟩) := by
  unfold turn3 rot3
  show -_ = _
  pointwise

/-- Head 3's first half. -/
def half3 (u : Vec Ideal S256x4x96 .f32) : Vec Ideal S256x16 .f32 :=
  extractStridedSlice S256x16 ![0, 0] (rot3 u) slices_S256x32_S256x16_0_0

theorem half3_apply (u : Vec Ideal S256x4x96 .f32) (r : Fin 256) (n : Fin 16) : half3 u (ix2 r n) = u (ix3 r 3 ⟨64 + n.val, by omega⟩) := by
  unfold half3 rot3
  pointwise

/-- Head 3's latent key projection, transposed. -/
def key3 (u : Vec Ideal S128x4x64 .f32) : Vec Ideal S64x128 .f32 :=
  transpose S64x128 [1, 0] (shapeCast S128x64 (extractStridedSlice S128x1x64 ![0, 3, 0] u slices_S128x4x64_S128x1x64_0_3_0) shapeCasts_S128x1x64_S128x64) transposes_S128x64_S64x128_1_0

theorem key3_apply (u : Vec Ideal S128x4x64 .f32) (n : Fin 64) (r : Fin 128) : key3 u (ix2 n r) = u (ix3 r 3 n) := by
  unfold key3
  pointwise

/-- The zeros that the query projection is written over. -/
def blankQ : Vec Ideal S256x1280 .f32 := broadcastInDim S256x1280 ![] bcast_S_S256x1280 (constant (F := Ideal) S_ .f32 0x00000000#32 : (⟨S_, .f32⟩ : BufTy).Contents (Elt Ideal))

theorem blankQ_apply (i : S256x1280.Idx) : blankQ i = (0 : EReal) := Ideal.ofBits_zero_f32

/-- The query projection by head. -/
def heads (u : Vec Ideal S256x4x96 .f32) : Vec Ideal S256x1280 .f32 :=
  up16 1168#32 (half3 u)
    (up16 1152#32 (turn3 u)
    (up32 640#32 (rot3 u)
    (up64 192#32 (nope3 u)
    (up16 1040#32 (half2 u)
    (up16 1024#32 (turn2 u)
    (up32 512#32 (rot2 u)
    (up64 128#32 (nope2 u)
    (up16 912#32 (half1 u)
    (up16 896#32 (turn1 u)
    (up32 384#32 (rot1 u)
    (up64 64#32 (nope1 u)
    (up16 784#32 (half0 u)
    (up16 768#32 (turn0 u)
    (up32 256#32 (rot0 u)
    (up64 0#32 (nope0 u)
    (blankQ))))))))))))))))

theorem heads_nope0 (u : Vec Ideal S256x4x96 .f32) (r : Fin 256) (j : Fin 1280) (n : Fin 96)
    (h : 0 ≤ j.val ∧ j.val < 64 ∧ j.val + 0 = n.val + 0) : heads u (ix2 r j) = u (ix3 r 0 n) := by
  unfold heads
  rw [up16_apply _ 1168 (by decide), dif_neg (by omega)]
  rw [up16_apply _ 1152 (by decide), dif_neg (by omega)]
  rw [up32_apply _ 640 (by decide), dif_neg (by omega)]
  rw [up64_apply _ 192 (by decide), dif_neg (by omega)]
  rw [up16_apply _ 1040 (by decide), dif_neg (by omega)]
  rw [up16_apply _ 1024 (by decide), dif_neg (by omega)]
  rw [up32_apply _ 512 (by decide), dif_neg (by omega)]
  rw [up64_apply _ 128 (by decide), dif_neg (by omega)]
  rw [up16_apply _ 912 (by decide), dif_neg (by omega)]
  rw [up16_apply _ 896 (by decide), dif_neg (by omega)]
  rw [up32_apply _ 384 (by decide), dif_neg (by omega)]
  rw [up64_apply _ 64 (by decide), dif_neg (by omega)]
  rw [up16_apply _ 784 (by decide), dif_neg (by omega)]
  rw [up16_apply _ 768 (by decide), dif_neg (by omega)]
  rw [up32_apply _ 256 (by decide), dif_neg (by omega)]
  rw [up64_apply _ 0 (by decide), dif_pos (by omega)]
  refine (nope0_apply u r _).trans (congrArg (fun q => u (ix3 r 0 q)) (Fin.ext ?_))
  show (j.val - 0) = n.val
  omega

theorem heads_rot0 (u : Vec Ideal S256x4x96 .f32) (r : Fin 256) (j : Fin 1280) (n : Fin 96)
    (h : 256 ≤ j.val ∧ j.val < 288 ∧ j.val + 64 = n.val + 256) : heads u (ix2 r j) = u (ix3 r 0 n) := by
  unfold heads
  rw [up16_apply _ 1168 (by decide), dif_neg (by omega)]
  rw [up16_apply _ 1152 (by decide), dif_neg (by omega)]
  rw [up32_apply _ 640 (by decide), dif_neg (by omega)]
  rw [up64_apply _ 192 (by decide), dif_neg (by omega)]
  rw [up16_apply _ 1040 (by decide), dif_neg (by omega)]
  rw [up16_apply _ 1024 (by decide), dif_neg (by omega)]
  rw [up32_apply _ 512 (by decide), dif_neg (by omega)]
  rw [up64_apply _ 128 (by decide), dif_neg (by omega)]
  rw [up16_apply _ 912 (by decide), dif_neg (by omega)]
  rw [up16_apply _ 896 (by decide), dif_neg (by omega)]
  rw [up32_apply _ 384 (by decide), dif_neg (by omega)]
  rw [up64_apply _ 64 (by decide), dif_neg (by omega)]
  rw [up16_apply _ 784 (by decide), dif_neg (by omega)]
  rw [up16_apply _ 768 (by decide), dif_neg (by omega)]
  rw [up32_apply _ 256 (by decide), dif_pos (by omega)]
  refine (rot0_apply u r _).trans (congrArg (fun q => u (ix3 r 0 q)) (Fin.ext ?_))
  show 64 + (j.val - 256) = n.val
  omega

theorem heads_turn0 (u : Vec Ideal S256x4x96 .f32) (r : Fin 256) (j : Fin 1280) (n : Fin 96)
    (h : 768 ≤ j.val ∧ j.val < 784 ∧ j.val + 80 = n.val + 768) : heads u (ix2 r j) = -u (ix3 r 0 n) := by
  unfold heads
  rw [up16_apply _ 1168 (by decide), dif_neg (by omega)]
  rw [up16_apply _ 1152 (by decide), dif_neg (by omega)]
  rw [up32_apply _ 640 (by decide), dif_neg (by omega)]
  rw [up64_apply _ 192 (by decide), dif_neg (by omega)]
  rw [up16_apply _ 1040 (by decide), dif_neg (by omega)]
  rw [up16_apply _ 1024 (by decide), dif_neg (by omega)]
  rw [up32_apply _ 512 (by decide), dif_neg (by omega)]
  rw [up64_apply _ 128 (by decide), dif_neg (by omega)]
  rw [up16_apply _ 912 (by decide), dif_neg (by omega)]
  rw [up16_apply _ 896 (by decide), dif_neg (by omega)]
  rw [up32_apply _ 384 (by decide), dif_neg (by omega)]
  rw [up64_apply _ 64 (by decide), dif_neg (by omega)]
  rw [up16_apply _ 784 (by decide), dif_neg (by omega)]
  rw [up16_apply _ 768 (by decide), dif_pos (by omega)]
  refine (turn0_apply u r _).trans (congrArg (fun q => -u (ix3 r 0 q)) (Fin.ext ?_))
  show 64 + (16 + (j.val - 768)) = n.val
  omega

theorem heads_half0 (u : Vec Ideal S256x4x96 .f32) (r : Fin 256) (j : Fin 1280) (n : Fin 96)
    (h : 784 ≤ j.val ∧ j.val < 800 ∧ j.val + 64 = n.val + 784) : heads u (ix2 r j) = u (ix3 r 0 n) := by
  unfold heads
  rw [up16_apply _ 1168 (by decide), dif_neg (by omega)]
  rw [up16_apply _ 1152 (by decide), dif_neg (by omega)]
  rw [up32_apply _ 640 (by decide), dif_neg (by omega)]
  rw [up64_apply _ 192 (by decide), dif_neg (by omega)]
  rw [up16_apply _ 1040 (by decide), dif_neg (by omega)]
  rw [up16_apply _ 1024 (by decide), dif_neg (by omega)]
  rw [up32_apply _ 512 (by decide), dif_neg (by omega)]
  rw [up64_apply _ 128 (by decide), dif_neg (by omega)]
  rw [up16_apply _ 912 (by decide), dif_neg (by omega)]
  rw [up16_apply _ 896 (by decide), dif_neg (by omega)]
  rw [up32_apply _ 384 (by decide), dif_neg (by omega)]
  rw [up64_apply _ 64 (by decide), dif_neg (by omega)]
  rw [up16_apply _ 784 (by decide), dif_pos (by omega)]
  refine (half0_apply u r _).trans (congrArg (fun q => u (ix3 r 0 q)) (Fin.ext ?_))
  show 64 + (j.val - 784) = n.val
  omega

theorem heads_nope1 (u : Vec Ideal S256x4x96 .f32) (r : Fin 256) (j : Fin 1280) (n : Fin 96)
    (h : 64 ≤ j.val ∧ j.val < 128 ∧ j.val + 0 = n.val + 64) : heads u (ix2 r j) = u (ix3 r 1 n) := by
  unfold heads
  rw [up16_apply _ 1168 (by decide), dif_neg (by omega)]
  rw [up16_apply _ 1152 (by decide), dif_neg (by omega)]
  rw [up32_apply _ 640 (by decide), dif_neg (by omega)]
  rw [up64_apply _ 192 (by decide), dif_neg (by omega)]
  rw [up16_apply _ 1040 (by decide), dif_neg (by omega)]
  rw [up16_apply _ 1024 (by decide), dif_neg (by omega)]
  rw [up32_apply _ 512 (by decide), dif_neg (by omega)]
  rw [up64_apply _ 128 (by decide), dif_neg (by omega)]
  rw [up16_apply _ 912 (by decide), dif_neg (by omega)]
  rw [up16_apply _ 896 (by decide), dif_neg (by omega)]
  rw [up32_apply _ 384 (by decide), dif_neg (by omega)]
  rw [up64_apply _ 64 (by decide), dif_pos (by omega)]
  refine (nope1_apply u r _).trans (congrArg (fun q => u (ix3 r 1 q)) (Fin.ext ?_))
  show (j.val - 64) = n.val
  omega

theorem heads_rot1 (u : Vec Ideal S256x4x96 .f32) (r : Fin 256) (j : Fin 1280) (n : Fin 96)
    (h : 384 ≤ j.val ∧ j.val < 416 ∧ j.val + 64 = n.val + 384) : heads u (ix2 r j) = u (ix3 r 1 n) := by
  unfold heads
  rw [up16_apply _ 1168 (by decide), dif_neg (by omega)]
  rw [up16_apply _ 1152 (by decide), dif_neg (by omega)]
  rw [up32_apply _ 640 (by decide), dif_neg (by omega)]
  rw [up64_apply _ 192 (by decide), dif_neg (by omega)]
  rw [up16_apply _ 1040 (by decide), dif_neg (by omega)]
  rw [up16_apply _ 1024 (by decide), dif_neg (by omega)]
  rw [up32_apply _ 512 (by decide), dif_neg (by omega)]
  rw [up64_apply _ 128 (by decide), dif_neg (by omega)]
  rw [up16_apply _ 912 (by decide), dif_neg (by omega)]
  rw [up16_apply _ 896 (by decide), dif_neg (by omega)]
  rw [up32_apply _ 384 (by decide), dif_pos (by omega)]
  refine (rot1_apply u r _).trans (congrArg (fun q => u (ix3 r 1 q)) (Fin.ext ?_))
  show 64 + (j.val - 384) = n.val
  omega

theorem heads_turn1 (u : Vec Ideal S256x4x96 .f32) (r : Fin 256) (j : Fin 1280) (n : Fin 96)
    (h : 896 ≤ j.val ∧ j.val < 912 ∧ j.val + 80 = n.val + 896) : heads u (ix2 r j) = -u (ix3 r 1 n) := by
  unfold heads
  rw [up16_apply _ 1168 (by decide), dif_neg (by omega)]
  rw [up16_apply _ 1152 (by decide), dif_neg (by omega)]
  rw [up32_apply _ 640 (by decide), dif_neg (by omega)]
  rw [up64_apply _ 192 (by decide), dif_neg (by omega)]
  rw [up16_apply _ 1040 (by decide), dif_neg (by omega)]
  rw [up16_apply _ 1024 (by decide), dif_neg (by omega)]
  rw [up32_apply _ 512 (by decide), dif_neg (by omega)]
  rw [up64_apply _ 128 (by decide), dif_neg (by omega)]
  rw [up16_apply _ 912 (by decide), dif_neg (by omega)]
  rw [up16_apply _ 896 (by decide), dif_pos (by omega)]
  refine (turn1_apply u r _).trans (congrArg (fun q => -u (ix3 r 1 q)) (Fin.ext ?_))
  show 64 + (16 + (j.val - 896)) = n.val
  omega

theorem heads_half1 (u : Vec Ideal S256x4x96 .f32) (r : Fin 256) (j : Fin 1280) (n : Fin 96)
    (h : 912 ≤ j.val ∧ j.val < 928 ∧ j.val + 64 = n.val + 912) : heads u (ix2 r j) = u (ix3 r 1 n) := by
  unfold heads
  rw [up16_apply _ 1168 (by decide), dif_neg (by omega)]
  rw [up16_apply _ 1152 (by decide), dif_neg (by omega)]
  rw [up32_apply _ 640 (by decide), dif_neg (by omega)]
  rw [up64_apply _ 192 (by decide), dif_neg (by omega)]
  rw [up16_apply _ 1040 (by decide), dif_neg (by omega)]
  rw [up16_apply _ 1024 (by decide), dif_neg (by omega)]
  rw [up32_apply _ 512 (by decide), dif_neg (by omega)]
  rw [up64_apply _ 128 (by decide), dif_neg (by omega)]
  rw [up16_apply _ 912 (by decide), dif_pos (by omega)]
  refine (half1_apply u r _).trans (congrArg (fun q => u (ix3 r 1 q)) (Fin.ext ?_))
  show 64 + (j.val - 912) = n.val
  omega

theorem heads_nope2 (u : Vec Ideal S256x4x96 .f32) (r : Fin 256) (j : Fin 1280) (n : Fin 96)
    (h : 128 ≤ j.val ∧ j.val < 192 ∧ j.val + 0 = n.val + 128) : heads u (ix2 r j) = u (ix3 r 2 n) := by
  unfold heads
  rw [up16_apply _ 1168 (by decide), dif_neg (by omega)]
  rw [up16_apply _ 1152 (by decide), dif_neg (by omega)]
  rw [up32_apply _ 640 (by decide), dif_neg (by omega)]
  rw [up64_apply _ 192 (by decide), dif_neg (by omega)]
  rw [up16_apply _ 1040 (by decide), dif_neg (by omega)]
  rw [up16_apply _ 1024 (by decide), dif_neg (by omega)]
  rw [up32_apply _ 512 (by decide), dif_neg (by omega)]
  rw [up64_apply _ 128 (by decide), dif_pos (by omega)]
  refine (nope2_apply u r _).trans (congrArg (fun q => u (ix3 r 2 q)) (Fin.ext ?_))
  show (j.val - 128) = n.val
  omega

theorem heads_rot2 (u : Vec Ideal S256x4x96 .f32) (r : Fin 256) (j : Fin 1280) (n : Fin 96)
    (h : 512 ≤ j.val ∧ j.val < 544 ∧ j.val + 64 = n.val + 512) : heads u (ix2 r j) = u (ix3 r 2 n) := by
  unfold heads
  rw [up16_apply _ 1168 (by decide), dif_neg (by omega)]
  rw [up16_apply _ 1152 (by decide), dif_neg (by omega)]
  rw [up32_apply _ 640 (by decide), dif_neg (by omega)]
  rw [up64_apply _ 192 (by decide), dif_neg (by omega)]
  rw [up16_apply _ 1040 (by decide), dif_neg (by omega)]
  rw [up16_apply _ 1024 (by decide), dif_neg (by omega)]
  rw [up32_apply _ 512 (by decide), dif_pos (by omega)]
  refine (rot2_apply u r _).trans (congrArg (fun q => u (ix3 r 2 q)) (Fin.ext ?_))
  show 64 + (j.val - 512) = n.val
  omega

theorem heads_turn2 (u : Vec Ideal S256x4x96 .f32) (r : Fin 256) (j : Fin 1280) (n : Fin 96)
    (h : 1024 ≤ j.val ∧ j.val < 1040 ∧ j.val + 80 = n.val + 1024) : heads u (ix2 r j) = -u (ix3 r 2 n) := by
  unfold heads
  rw [up16_apply _ 1168 (by decide), dif_neg (by omega)]
  rw [up16_apply _ 1152 (by decide), dif_neg (by omega)]
  rw [up32_apply _ 640 (by decide), dif_neg (by omega)]
  rw [up64_apply _ 192 (by decide), dif_neg (by omega)]
  rw [up16_apply _ 1040 (by decide), dif_neg (by omega)]
  rw [up16_apply _ 1024 (by decide), dif_pos (by omega)]
  refine (turn2_apply u r _).trans (congrArg (fun q => -u (ix3 r 2 q)) (Fin.ext ?_))
  show 64 + (16 + (j.val - 1024)) = n.val
  omega

theorem heads_half2 (u : Vec Ideal S256x4x96 .f32) (r : Fin 256) (j : Fin 1280) (n : Fin 96)
    (h : 1040 ≤ j.val ∧ j.val < 1056 ∧ j.val + 64 = n.val + 1040) : heads u (ix2 r j) = u (ix3 r 2 n) := by
  unfold heads
  rw [up16_apply _ 1168 (by decide), dif_neg (by omega)]
  rw [up16_apply _ 1152 (by decide), dif_neg (by omega)]
  rw [up32_apply _ 640 (by decide), dif_neg (by omega)]
  rw [up64_apply _ 192 (by decide), dif_neg (by omega)]
  rw [up16_apply _ 1040 (by decide), dif_pos (by omega)]
  refine (half2_apply u r _).trans (congrArg (fun q => u (ix3 r 2 q)) (Fin.ext ?_))
  show 64 + (j.val - 1040) = n.val
  omega

theorem heads_nope3 (u : Vec Ideal S256x4x96 .f32) (r : Fin 256) (j : Fin 1280) (n : Fin 96)
    (h : 192 ≤ j.val ∧ j.val < 256 ∧ j.val + 0 = n.val + 192) : heads u (ix2 r j) = u (ix3 r 3 n) := by
  unfold heads
  rw [up16_apply _ 1168 (by decide), dif_neg (by omega)]
  rw [up16_apply _ 1152 (by decide), dif_neg (by omega)]
  rw [up32_apply _ 640 (by decide), dif_neg (by omega)]
  rw [up64_apply _ 192 (by decide), dif_pos (by omega)]
  refine (nope3_apply u r _).trans (congrArg (fun q => u (ix3 r 3 q)) (Fin.ext ?_))
  show (j.val - 192) = n.val
  omega

theorem heads_rot3 (u : Vec Ideal S256x4x96 .f32) (r : Fin 256) (j : Fin 1280) (n : Fin 96)
    (h : 640 ≤ j.val ∧ j.val < 672 ∧ j.val + 64 = n.val + 640) : heads u (ix2 r j) = u (ix3 r 3 n) := by
  unfold heads
  rw [up16_apply _ 1168 (by decide), dif_neg (by omega)]
  rw [up16_apply _ 1152 (by decide), dif_neg (by omega)]
  rw [up32_apply _ 640 (by decide), dif_pos (by omega)]
  refine (rot3_apply u r _).trans (congrArg (fun q => u (ix3 r 3 q)) (Fin.ext ?_))
  show 64 + (j.val - 640) = n.val
  omega

theorem heads_turn3 (u : Vec Ideal S256x4x96 .f32) (r : Fin 256) (j : Fin 1280) (n : Fin 96)
    (h : 1152 ≤ j.val ∧ j.val < 1168 ∧ j.val + 80 = n.val + 1152) : heads u (ix2 r j) = -u (ix3 r 3 n) := by
  unfold heads
  rw [up16_apply _ 1168 (by decide), dif_neg (by omega)]
  rw [up16_apply _ 1152 (by decide), dif_pos (by omega)]
  refine (turn3_apply u r _).trans (congrArg (fun q => -u (ix3 r 3 q)) (Fin.ext ?_))
  show 64 + (16 + (j.val - 1152)) = n.val
  omega

theorem heads_half3 (u : Vec Ideal S256x4x96 .f32) (r : Fin 256) (j : Fin 1280) (n : Fin 96)
    (h : 1168 ≤ j.val ∧ j.val < 1184 ∧ j.val + 64 = n.val + 1168) : heads u (ix2 r j) = u (ix3 r 3 n) := by
  unfold heads
  rw [up16_apply _ 1168 (by decide), dif_pos (by omega)]
  refine (half3_apply u r _).trans (congrArg (fun q => u (ix3 r 3 q)) (Fin.ext ?_))
  show 64 + (j.val - 1168) = n.val
  omega

/-- Where a head's columns without a position go. -/
theorem heads_nope (u : Vec Ideal S256x4x96 .f32) (r : Fin 256) (j : Fin 1280) (a : Fin 4) (n : Fin 96)
    (h : j.val = 64 * a.val + n.val ∧ n.val < 64) : heads u (ix2 r j) = u (ix3 r a n) := by
  match a, h with
  | ⟨0, _⟩, h => exact heads_nope0 u r j n (by simp only [] at h; omega)
  | ⟨1, _⟩, h => exact heads_nope1 u r j n (by simp only [] at h; omega)
  | ⟨2, _⟩, h => exact heads_nope2 u r j n (by simp only [] at h; omega)
  | ⟨3, _⟩, h => exact heads_nope3 u r j n (by simp only [] at h; omega)

/-- Where a head's columns with a position go. -/
theorem heads_rot (u : Vec Ideal S256x4x96 .f32) (r : Fin 256) (j : Fin 1280) (a : Fin 4) (n : Fin 96)
    (h : j.val + 64 = 256 + 128 * a.val + n.val ∧ 64 ≤ n.val) : heads u (ix2 r j) = u (ix3 r a n) := by
  match a, h with
  | ⟨0, _⟩, h => exact heads_rot0 u r j n (by simp only [] at h; omega)
  | ⟨1, _⟩, h => exact heads_rot1 u r j n (by simp only [] at h; omega)
  | ⟨2, _⟩, h => exact heads_rot2 u r j n (by simp only [] at h; omega)
  | ⟨3, _⟩, h => exact heads_rot3 u r j n (by simp only [] at h; omega)

/-- Where the second half goes with its sign turned. -/
theorem heads_turn (u : Vec Ideal S256x4x96 .f32) (r : Fin 256) (j : Fin 1280) (a : Fin 4) (n : Fin 96)
    (h : j.val + 80 = 768 + 128 * a.val + n.val ∧ 80 ≤ n.val) : heads u (ix2 r j) = -u (ix3 r a n) := by
  match a, h with
  | ⟨0, _⟩, h => exact heads_turn0 u r j n (by simp only [] at h; omega)
  | ⟨1, _⟩, h => exact heads_turn1 u r j n (by simp only [] at h; omega)
  | ⟨2, _⟩, h => exact heads_turn2 u r j n (by simp only [] at h; omega)
  | ⟨3, _⟩, h => exact heads_turn3 u r j n (by simp only [] at h; omega)

/-- Where the first half goes once more. -/
theorem heads_half (u : Vec Ideal S256x4x96 .f32) (r : Fin 256) (j : Fin 1280) (a : Fin 4) (n : Fin 96)
    (h : j.val + 64 = 784 + 128 * a.val + n.val ∧ 64 ≤ n.val ∧ n.val < 80) : heads u (ix2 r j) = u (ix3 r a n) := by
  match a, h with
  | ⟨0, _⟩, h => exact heads_half0 u r j n (by simp only [] at h; omega)
  | ⟨1, _⟩, h => exact heads_half1 u r j n (by simp only [] at h; omega)
  | ⟨2, _⟩, h => exact heads_half2 u r j n (by simp only [] at h; omega)
  | ⟨3, _⟩, h => exact heads_half3 u r j n (by simp only [] at h; omega)

/-- The lanes that stay zero. -/
theorem heads_zero (u : Vec Ideal S256x4x96 .f32) (r : Fin 256) (j : Fin 1280) (h : 256 ≤ j.val ∧ 32 ≤ j.val % 128) :
    heads u (ix2 r j) = (0 : EReal) := by
  unfold heads
  rw [up16_apply _ 1168 (by decide), dif_neg (by omega)]
  rw [up16_apply _ 1152 (by decide), dif_neg (by omega)]
  rw [up32_apply _ 640 (by decide), dif_neg (by omega)]
  rw [up64_apply _ 192 (by decide), dif_neg (by omega)]
  rw [up16_apply _ 1040 (by decide), dif_neg (by omega)]
  rw [up16_apply _ 1024 (by decide), dif_neg (by omega)]
  rw [up32_apply _ 512 (by decide), dif_neg (by omega)]
  rw [up64_apply _ 128 (by decide), dif_neg (by omega)]
  rw [up16_apply _ 912 (by decide), dif_neg (by omega)]
  rw [up16_apply _ 896 (by decide), dif_neg (by omega)]
  rw [up32_apply _ 384 (by decide), dif_neg (by omega)]
  rw [up64_apply _ 64 (by decide), dif_neg (by omega)]
  rw [up16_apply _ 784 (by decide), dif_neg (by omega)]
  rw [up16_apply _ 768 (by decide), dif_neg (by omega)]
  rw [up32_apply _ 256 (by decide), dif_neg (by omega)]
  rw [up64_apply _ 0 (by decide), dif_neg (by omega)]
  exact blankQ_apply _

/-- Two start indices, as the host stacks them. -/
def at2 (p q : BitVec 32) : IVec S2 32 := concatenate S2 0 [⟨S1, at1 p⟩, ⟨S1, at1 q⟩] concatenates_S1_S1_S2_d0

theorem at2_zero (p q : BitVec 32) : at2 p q (ix1 0) = p := by
  pointwise [at2, at1]

theorem at2_one (p q : BitVec 32) : at2 p q (ix1 1) = q := by
  pointwise [at2, at1]

/-- One write of a 64 × 128 block. -/
def block (p q : BitVec 32) (u : Vec Ideal S64x128 .f32) (x : Vec Ideal S256x512 .f32) : Vec Ideal S256x512 .f32 :=
  Host.scatter scatter_S256x512_S2_S64x128_01_n_01_0 (fun _ b => b) x (at2 p q) u

theorem block_apply (p q : BitVec 32) (oa ob : ℕ) (hp : p.toInt = oa) (hq : q.toInt = ob) (u : Vec Ideal S64x128 .f32) (x : Vec Ideal S256x512 .f32)
    (i : Fin 256) (j : Fin 512) :
    block p q u x (ix2 i j) = if hv : oa ≤ i.val ∧ i.val < oa + 64 ∧ ob ≤ j.val ∧ j.val < ob + 128 then
      u (ix2 ⟨i.val - oa, by omega⟩ ⟨j.val - ob, by omega⟩) else x (ix2 i j) :=
  scatter_rect scatter_S256x512_S2_S64x128_01_n_01_0 (at2 p q) oa ob
    (fun k => by
      unfold ScatterDims.start
      rw [dif_pos (by decide), ← hp, ← at2_zero p q]
      refine congrArg (fun p' => (at2 p q p').toInt) (funext fun x => ?_)
      match x with
      | ⟨0, _⟩ => rfl)
    (fun k => by
      unfold ScatterDims.start
      rw [dif_pos (by decide), ← hq, ← at2_one p q]
      refine congrArg (fun p' => (at2 p q p').toInt) (funext fun x => ?_)
      match x with
      | ⟨0, _⟩ => rfl)
    (fun _ _ => rfl) (fun _ _ => rfl) x u i j

/-- The zeros that the key projection is written over. -/
def blankK : Vec Ideal S256x512 .f32 := broadcastInDim S256x512 ![] bcast_S_S256x512 (constant (F := Ideal) S_ .f32 0x00000000#32 : (⟨S_, .f32⟩ : BufTy).Contents (Elt Ideal))

theorem blankK_apply (i : S256x512.Idx) : blankK i = (0 : EReal) := Ideal.ofBits_zero_f32

/-- The key projection, a block to a head. -/
def keys (u : Vec Ideal S128x4x64 .f32) : Vec Ideal S256x512 .f32 :=
  block 192#32 384#32 (key3 u) (block 128#32 256#32 (key2 u) (block 64#32 128#32 (key1 u) (block 0#32 0#32 (key0 u) blankK)))

theorem keys_0 (u : Vec Ideal S128x4x64 .f32) (i : Fin 256) (j : Fin 512) (n : Fin 64) (r : Fin 128)
    (h : i.val = 0 + n.val ∧ j.val = 0 + r.val) : keys u (ix2 i j) = u (ix3 r 0 n) := by
  unfold keys
  rw [block_apply _ _ 192 384 (by decide) (by decide), dif_neg (by omega)]
  rw [block_apply _ _ 128 256 (by decide) (by decide), dif_neg (by omega)]
  rw [block_apply _ _ 64 128 (by decide) (by decide), dif_neg (by omega)]
  rw [block_apply _ _ 0 0 (by decide) (by decide), dif_pos (by omega)]
  have e1 : (⟨i.val - 0, by omega⟩ : Fin 64) = n := Fin.ext (by show i.val - 0 = n.val; omega)
  have e2 : (⟨j.val - 0, by omega⟩ : Fin 128) = r := Fin.ext (by show j.val - 0 = r.val; omega)
  rw [e1, e2]
  exact key0_apply u n r

theorem keys_1 (u : Vec Ideal S128x4x64 .f32) (i : Fin 256) (j : Fin 512) (n : Fin 64) (r : Fin 128)
    (h : i.val = 64 + n.val ∧ j.val = 128 + r.val) : keys u (ix2 i j) = u (ix3 r 1 n) := by
  unfold keys
  rw [block_apply _ _ 192 384 (by decide) (by decide), dif_neg (by omega)]
  rw [block_apply _ _ 128 256 (by decide) (by decide), dif_neg (by omega)]
  rw [block_apply _ _ 64 128 (by decide) (by decide), dif_pos (by omega)]
  have e1 : (⟨i.val - 64, by omega⟩ : Fin 64) = n := Fin.ext (by show i.val - 64 = n.val; omega)
  have e2 : (⟨j.val - 128, by omega⟩ : Fin 128) = r := Fin.ext (by show j.val - 128 = r.val; omega)
  rw [e1, e2]
  exact key1_apply u n r

theorem keys_2 (u : Vec Ideal S128x4x64 .f32) (i : Fin 256) (j : Fin 512) (n : Fin 64) (r : Fin 128)
    (h : i.val = 128 + n.val ∧ j.val = 256 + r.val) : keys u (ix2 i j) = u (ix3 r 2 n) := by
  unfold keys
  rw [block_apply _ _ 192 384 (by decide) (by decide), dif_neg (by omega)]
  rw [block_apply _ _ 128 256 (by decide) (by decide), dif_pos (by omega)]
  have e1 : (⟨i.val - 128, by omega⟩ : Fin 64) = n := Fin.ext (by show i.val - 128 = n.val; omega)
  have e2 : (⟨j.val - 256, by omega⟩ : Fin 128) = r := Fin.ext (by show j.val - 256 = r.val; omega)
  rw [e1, e2]
  exact key2_apply u n r

theorem keys_3 (u : Vec Ideal S128x4x64 .f32) (i : Fin 256) (j : Fin 512) (n : Fin 64) (r : Fin 128)
    (h : i.val = 192 + n.val ∧ j.val = 384 + r.val) : keys u (ix2 i j) = u (ix3 r 3 n) := by
  unfold keys
  rw [block_apply _ _ 192 384 (by decide) (by decide), dif_pos (by omega)]
  have e1 : (⟨i.val - 192, by omega⟩ : Fin 64) = n := Fin.ext (by show i.val - 192 = n.val; omega)
  have e2 : (⟨j.val - 384, by omega⟩ : Fin 128) = r := Fin.ext (by show j.val - 384 = r.val; omega)
  rw [e1, e2]
  exact key3_apply u n r

/-- Where a head's block goes. -/
theorem keys_move (u : Vec Ideal S128x4x64 .f32) (i : Fin 256) (j : Fin 512) (a : Fin 4) (n : Fin 64) (r : Fin 128)
    (h : i.val = 64 * a.val + n.val ∧ j.val = 128 * a.val + r.val) : keys u (ix2 i j) = u (ix3 r a n) := by
  match a, h with
  | ⟨0, _⟩, h => exact keys_0 u i j n r (by simp only [] at h; omega)
  | ⟨1, _⟩, h => exact keys_1 u i j n r (by simp only [] at h; omega)
  | ⟨2, _⟩, h => exact keys_2 u i j n r (by simp only [] at h; omega)
  | ⟨3, _⟩, h => exact keys_3 u i j n r (by simp only [] at h; omega)

/-- Outside the heads' blocks there are zeros. -/
theorem keys_zero (u : Vec Ideal S128x4x64 .f32) (i : Fin 256) (j : Fin 512) (h : i.val / 64 ≠ j.val / 128) : keys u (ix2 i j) = (0 : EReal) := by
  unfold keys
  rw [block_apply _ _ 192 384 (by decide) (by decide), dif_neg (by omega)]
  rw [block_apply _ _ 128 256 (by decide) (by decide), dif_neg (by omega)]
  rw [block_apply _ _ 64 128 (by decide) (by decide), dif_neg (by omega)]
  rw [block_apply _ _ 0 0 (by decide) (by decide), dif_neg (by omega)]
  exact blankK_apply _

variable (m : (ℓ : Loc nD τ sig) → Buf (Elt Ideal) ℓ)

set_option maxRecDepth 20000 in
/-- The kernel's window holds the query projection by head. -/
theorem heads_eq (c : Dev nD) : (V m c main_v175 : S256x1280.Idx → EReal) = heads (m ((c : Thread nD τ).loc main_arg6)) := by
  unfold_abbrev_sides
  after_results
  refine (narrow_id _).trans ?_
  unfold heads up64 up32 up16 blankQ turn0 half0 rot0 nope0 turn1 half1 rot1 nope1 turn2 half2 rot2 nope2 turn3 half3 rot3 nope3  at1
  rfl

set_option maxRecDepth 20000 in
/-- The kernel's window holds the key projection by head. -/
theorem keys_eq (c : Dev nD) : (V m c main_v176 : S256x512.Idx → EReal) = keys (m ((c : Thread nD τ).loc main_arg7)) := by
  unfold_abbrev_sides
  after_results
  refine (narrow_id _).trans ?_
  unfold keys block blankK key0 key1 key2 key3 at2 at1
  rfl

end Cert.Kernel3Ideal.Mix

end
-- ==== Proof.MixMath.lean ====
/- The input projections on extended reals: one row's projection, its norms, its rotary embedding, and the rows that the
   attention, the indexer and the state space branch are given, by channel. -/
module

public import proofs.«01_k».proof.Proof.LayerMath
public import proofs.«01_k».proof.Proof.Scores
public import Idealize.ShloMosaic.Lib.Pointwise

@[expose] public section

noncomputable section

namespace Cert.Mix

open Idealize.ShloMosaic Cert.Attn

/-- Channel `e` of a row's projection. -/
def proj (h : Fin 1024 → EReal) (w : Fin 1024 → Fin 1604 → EReal) (e : Fin 1604) : EReal := ∑ d, h d * w d e

/-- The root mean square norm of a row with a learned factor; `size` is the pattern of the row's length, the offset that of 1e-6. -/
def rms {n : ℕ} (size : EReal) (v g : Fin n → EReal) (e : Fin n) : EReal :=
  v e * Ideal.rsqrt (Ideal.div (∑ f, v f * v f) size + Ideal.ofBits FTy.f32 0x358637BD#32) * g e

/-- The rotary embedding of 32 channels by 16 angles (given by their cosines and sines). -/
def rope (co si : Fin 16 → EReal) (a : Fin 32 → EReal) (l : Fin 32) : EReal :=
  if hl : l.val < 16 then a l * co ⟨l.val, hl⟩ - a ⟨l.val + 16, by omega⟩ * si ⟨l.val, hl⟩
  else a ⟨l.val - 16, by omega⟩ * si ⟨l.val - 16, by omega⟩ + a l * co ⟨l.val - 16, by omega⟩

variable (h : Fin 1024 → EReal) (w : Fin 1024 → Fin 1604 → EReal) (co si : Fin 16 → EReal)

/-- The sparse attention's queries: head `a` in lanes `64 (a / 2) … + 63` of its 128, times 1/8 (its pattern), zero elsewhere. -/
def aq (e : Fin 512) : EReal :=
  if hl : 64 * (e.val / 256) ≤ e.val % 128 ∧ e.val % 128 < 64 * (e.val / 256) + 64 then
    proj h w ⟨64 * (e.val / 128) + (e.val % 128 - 64 * (e.val / 256)), by omega⟩ * Ideal.ofBits FTy.f32 0x3E000000#32
  else 0

/-- The sparse attention's keys. -/
def ak (e : Fin 128) : EReal := proj h w ⟨256 + e.val, by omega⟩

/-- The sparse attention's values. -/
def av (e : Fin 128) : EReal := proj h w ⟨384 + e.val, by omega⟩

/-- The keys and the values side by side. -/
def kv (e : Fin 256) : EReal := proj h w ⟨256 + e.val, by omega⟩

/-- The indexer's queries: a head in the first 32 of its 128 lanes, times the pattern of `32 ^ (-1/2)`, zero elsewhere. -/
def iq (e : Fin 512) : EReal :=
  if hl : e.val % 128 < 32 then
    proj h w ⟨512 + (32 * (e.val / 128) + e.val % 128), by omega⟩ * Ideal.ofBits FTy.f32 0x3E3504F3#32
  else 0

/-- The indexer's keys in lanes 0 … 31, its head weights times 1/2 in lanes 32 … 35, zero elsewhere. -/
def ik (e : Fin 128) : EReal :=
  if h1 : e.val < 32 then proj h w ⟨644 + e.val, by omega⟩
  else if h2 : e.val < 36 then proj h w ⟨640 + (e.val - 32), by omega⟩ * Ideal.ofBits FTy.f32 0x3F000000#32
  else 0

/-- The latent keys. -/
def ckv (g : Fin 128 → EReal) (e : Fin 128) : EReal :=
  rms (Ideal.ofBits FTy.f32 0x43000000#32) (fun f : Fin 128 => proj h w ⟨932 + f.val, by omega⟩) g e

/-- The rotary keys in lanes 0 … 31, zero elsewhere. -/
def kpe (e : Fin 128) : EReal :=
  if hl : e.val < 32 then rope co si (fun f : Fin 32 => proj h w ⟨1060 + f.val, by omega⟩) ⟨e.val, hl⟩ else 0

/-- The latent keys and the rotary keys side by side. -/
def kmla (g : Fin 128 → EReal) (e : Fin 256) : EReal :=
  if hl : e.val < 128 then ckv h w g ⟨e.val, hl⟩ else kpe h w co si ⟨e.val - 128, by omega⟩

/-- The latent queries. -/
def cq (g : Fin 256 → EReal) (r : Fin 256) : EReal :=
  rms (Ideal.ofBits FTy.f32 0x43800000#32) (fun f : Fin 256 => proj h w ⟨676 + f.val, by omega⟩) g r

/-- Channel `n` of head `a`'s query. -/
def query (c : Fin 256 → EReal) (u : Fin 256 → Fin 4 → Fin 96 → EReal) (a : Fin 4) (n : Fin 96) : EReal := ∑ r, c r * u r a n

/-- The latent attention's queries: of each head 128 latent channels, then the rotary part in 128 lanes, of which 32 are used. -/
def qmla (c : Fin 256 → EReal) (u : Fin 256 → Fin 4 → Fin 96 → EReal) (k : Fin 128 → Fin 4 → Fin 64 → EReal) (e : Fin 1024) : EReal :=
  if h1 : e.val % 256 < 128 then
    ∑ n : Fin 64, query c u ⟨e.val / 256, by omega⟩ ⟨n.val, by omega⟩ * k ⟨e.val % 256, h1⟩ ⟨e.val / 256, by omega⟩ n
  else if h2 : e.val % 256 < 160 then
    rope co si (fun f : Fin 32 => query c u ⟨e.val / 256, by omega⟩ ⟨64 + f.val, by omega⟩) ⟨e.val % 256 - 128, by omega⟩
  else 0

/-- The state space branch's input. -/
def cu (e : Fin 512) : EReal := proj h w ⟨1092 + e.val, by omega⟩

/-- A sum against negated factors is the sum negated, where every term is real. -/
theorem sum_neg {ι : Type} [Fintype ι] (f g : ι → EReal) (hr : ∀ d, IsReal (f d * g d)) : (∑ d, f d * -g d) = -∑ d, f d * g d := by
  classical
  have key : ∀ s : Finset ι, (∑ d ∈ s, f d * -g d) = -∑ d ∈ s, f d * g d := by
    intro s
    induction s using Finset.induction_on with
    | empty => simp
    | insert a s ha ih =>
      rw [Finset.sum_insert ha, Finset.sum_insert ha, ih, mul_neg,
        EReal.neg_add (Or.inl (hr a).2) (Or.inl (hr a).1), sub_eq_add_neg]
  exact key Finset.univ

/-- A sum against a column that is zero is zero. -/
theorem sum_zero_col {n : ℕ} (f : Fin n → EReal) : (∑ d, f d * (0 : EReal)) = 0 := by simp

theorem IsReal.add {x y : EReal} (hx : IsReal x) (hy : IsReal y) : IsReal (x + y) := by
  rw [hx.coe, hy.coe, ← EReal.coe_add]
  exact isReal_coe _

theorem ofBits_256 : Ideal.ofBits FTy.f32 0x43800000#32 = ((256 : ℝ) : EReal) := by
  have h : Ideal.ofBits FTy.f32 0x43800000#32 = (((8388608 : ℝ) * (1 / 32768) : ℝ) : EReal) := by
    simp [Ideal.ofBits, Ideal.ieee]
    norm_num
  rw [h]
  norm_num

theorem ofBits_eps : ∃ r : ℝ, 0 < r ∧ Ideal.ofBits FTy.f32 0x358637BD#32 = (r : EReal) := by
  refine ⟨_, ?_, by simp [Ideal.ofBits, Ideal.ieee]; rfl⟩
  norm_num

/-- The norm of a real row with a real factor is real. -/
theorem rms_real (v g : Fin 256 → EReal) (hv : ∀ f, IsReal (v f)) (hg : ∀ f, IsReal (g f)) (e : Fin 256) :
    IsReal (rms (Ideal.ofBits FTy.f32 0x43800000#32) v g e) := by
  obtain ⟨r, hr, er⟩ := ofBits_eps
  have hs : (∑ f, v f * v f) = ((∑ f, (v f).toReal * (v f).toReal : ℝ) : EReal) := by
    rw [coe_sum]
    refine Finset.sum_congr rfl fun f _ => ?_
    rw [EReal.coe_mul, ← (hv f).coe]
  unfold rms
  refine ((hv e).mul ?_).mul (hg e)
  have hp : 0 ≤ ∑ f, (v f).toReal * (v f).toReal := Finset.sum_nonneg fun f _ => mul_self_nonneg _
  rw [hs, ofBits_256, er]
  unfold Ideal.div
  rw [if_neg (by norm_num), ← EReal.coe_inv, ← EReal.coe_mul, ← EReal.coe_add, Ideal.rsqrt_coe]
  have hq : 0 < (∑ f, (v f).toReal * (v f).toReal) * (256 : ℝ)⁻¹ + r := by positivity
  rw [if_neg (not_lt.2 hq.le), if_neg hq.ne']
  exact isReal_coe _

/-- The rotation as the kernel takes it for the first half: the other half's channels with their sign already turned. -/
theorem rope_low (a : Fin 32 → EReal) (l : Fin 32) (hl : l.val < 16) :
    rope co si a l = a l * co ⟨l.val, hl⟩ + -a ⟨l.val + 16, by omega⟩ * si ⟨l.val, hl⟩ := by
  unfold rope
  rw [dif_pos hl, sub_eq_add_neg, neg_mul]

/-- The rotation as the kernel takes it for the second half. -/
theorem rope_high (a : Fin 32 → EReal) (l : Fin 32) (hl : ¬l.val < 16) :
    rope co si a l = a l * co ⟨l.val - 16, by omega⟩ + a ⟨l.val - 16, by omega⟩ * si ⟨l.val - 16, by omega⟩ := by
  unfold rope
  rw [dif_neg hl, add_comm]

end Cert.Mix

end
-- ==== Proof.MixPayload.lean ====
/- The kernel's stored values of the input projections at an index. -/
module

public import proofs.«01_k».proof.Proof.MixMath
public import proofs.«01_k».proof.Proof.Gen.Kernel3Ideal.Value
public import Idealize.ShloMosaic.Lib.Pointwise
public import Idealize.ShloMosaic.Lib.Pipeline.ValueKit

@[expose] public section

noncomputable section

namespace Cert.Kernel3Ideal.Mix

open Cert.Kernel3Ideal Cert.Kernel3Ideal.Gen Idealize.ShloMosaic Idealize.ShloMosaic.TcCoe Idealize.SL.Sem Cert.Layer Cert.Mix

/-- Row `r` of a block, modulated and projected into lane `j`. -/
def lane (x : Vec Ideal S512x1024 .f32) (sc sh : Vec Ideal S1x1x1024 .f32) (w : Vec Ideal S1024x2560 .bf16) (r : Fin 512) (j : Fin 2560) : EReal :=
  ∑ d : Fin 1024, modulated (fun d => x (ix2 r d)) (fun d => sc (ix3 0 0 d)) (fun d => sh (ix3 0 0 d)) d * w (ix2 d j)

variable (x : Vec Ideal S512x1024 .f32) (sc sh : Vec Ideal S1x1x1024 .f32) (w : Vec Ideal S1024x2560 .bf16)

theorem lane_apply (r : Fin 512) (j : Fin 2560) : k0_pay3 x sc sh w (ix2 r j) = lane x sc sh w r j := by
  unfold k0_pay3
  pointwise
  rfl

theorem aq_apply (r : Fin 512) (e : Fin 512) :
    k0_pay4 x sc sh w (ix2 r e) = lane x sc sh w r ⟨e.val, by omega⟩ * Ideal.ofBits FTy.f32 0x3E000000#32 := by
  unfold k0_pay4
  pointwise
  rw [← lane_apply]

theorem ak_apply (r : Fin 512) (e : Fin 128) : k0_pay5 x sc sh w (ix2 r e) = lane x sc sh w r ⟨512 + e.val, by omega⟩ := by
  unfold k0_pay5
  pointwise
  rw [← lane_apply]

theorem av_apply (r : Fin 512) (e : Fin 128) : k0_pay6 x sc sh w (ix2 r e) = lane x sc sh w r ⟨640 + e.val, by omega⟩ := by
  unfold k0_pay6
  pointwise
  rw [← lane_apply]

theorem kv_apply (r : Fin 512) (e : Fin 256) : k0_pay7 x sc sh w (ix2 r e) = lane x sc sh w r ⟨512 + e.val, by omega⟩ := by
  unfold k0_pay7
  pointwise
  rw [← lane_apply]

theorem iq_apply (r : Fin 512) (e : Fin 512) :
    k0_pay8 x sc sh w (ix2 r e) = lane x sc sh w r ⟨768 + e.val, by omega⟩ * Ideal.ofBits FTy.f32 0x3E3504F3#32 := by
  unfold k0_pay8
  pointwise
  rw [← lane_apply]

theorem cu_apply (p : FVec Ideal S512x2560 .f32) (r : Fin 512) (e : Fin 512) : k0_pay2 p (ix2 r e) = p (ix2 r ⟨1664 + e.val, by omega⟩) := by
  unfold k0_pay2
  pointwise

/-- The lanes of the indexer's head weights. -/
theorem head_lanes : ∀ e : Fin 128, IntOp.andi (IntOp.cmpi CmpIPredicate.sge (BitVec.ofNat 32 e.val) 32#32)
    (IntOp.cmpi CmpIPredicate.slt (BitVec.ofNat 32 e.val) 36#32) = if 32 ≤ e.val ∧ e.val < 36 then 1#1 else 0#1 := by
  decide

theorem misc_apply (p : FVec Ideal S512x2560 .f32) (r : Fin 512) (e : Fin 128) :
    k0_pay9 p (ix2 r e) = if 32 ≤ e.val ∧ e.val < 36 then (p (ix2 r ⟨2432 + e.val, by omega⟩) : EReal) * Ideal.ofBits FTy.f32 0x3F000000#32
      else p (ix2 r ⟨2432 + e.val, by omega⟩) := by
  unfold k0_pay9
  pointwise
  rw [head_lanes]
  split_ifs
  · simp [Scalar.select]
  · simp [Scalar.select]

theorem ik_apply (p : FVec Ideal S512x2560 .f32) (r : Fin 512) (e : Fin 128) : k0_pay10 p (ix2 r e) = k0_pay9 p (ix2 r e) := by
  unfold k0_pay10
  pointwise

theorem kpe_apply (p : FVec Ideal S512x2560 .f32) (co si : Vec Ideal S512x128 .f32) (r : Fin 512) (e : Fin 128) :
    k0_pay13 p co si (ix2 r e) = (p (ix2 r ⟨2176 + e.val, by omega⟩) : EReal) * co (ix2 r e) + p (ix2 r ⟨2304 + e.val, by omega⟩) * si (ix2 r e) := by
  unfold k0_pay13 k0_pay11 k0_pay12
  pointwise

theorem ckv_apply (p : FVec Ideal S512x2560 .f32) (g : Vec Ideal S1x128 .f32) (r : Fin 512) (e : Fin 128) :
    k0_pay15 (k0_pay14 p) g (ix2 r e) = rms (Ideal.ofBits FTy.f32 0x43000000#32) (fun f : Fin 128 => p (ix2 r ⟨1536 + f.val, by omega⟩)) (fun f => g (ix2 0 f)) e := by
  unfold k0_pay15 k0_pay14
  pointwise
  rfl

theorem kmla_apply (s q : FVec Ideal S512x128 .f32) (g : Vec Ideal S1x128 .f32) (r : Fin 512) (e : Fin 256) :
    k0_pay16 s q g (ix2 r e) = if h : e.val < 128 then k0_pay15 q g (ix2 r ⟨e.val, h⟩) else s (ix2 r ⟨e.val - 128, by omega⟩) := by
  unfold k0_pay16
  pointwise

/-- A row's queries in lanes, from its projection. -/
def qlane (v : Fin 2560 → EReal) (g : Fin 256 → EReal) (u : Fin 256 → Fin 1280 → EReal) (j : Fin 1280) : EReal :=
  ∑ k : Fin 256, rms (Ideal.ofBits FTy.f32 0x43800000#32) (fun f : Fin 256 => v ⟨1280 + f.val, by omega⟩) g k * u k j

/-- The latent lanes of the queries. -/
def latlane (q : Fin 1280 → EReal) (k : Fin 256 → Fin 512 → EReal) (j : Fin 512) : EReal := ∑ n : Fin 256, q ⟨n.val, by omega⟩ * k n j

/-- The rotated lanes of the queries. -/
def rotlane (q : Fin 1280 → EReal) (co si : Fin 128 → EReal) (a : Fin 4) (l : Fin 128) : EReal :=
  q ⟨256 + (128 * a.val + l.val), by omega⟩ * co l + q ⟨768 + (128 * a.val + l.val), by omega⟩ * si l

variable (p : FVec Ideal S512x2560 .f32) (g : Vec Ideal S1x256 .f32) (u : Vec Ideal S256x1280 .bf16) (k : Vec Ideal S256x512 .bf16) (co si : Vec Ideal S512x128 .f32)

theorem q_apply (r : Fin 512) (j : Fin 1280) :
    k0_pay17 p g u (ix2 r j) = qlane (fun j => p (ix2 r j)) (fun f => g (ix2 0 f)) (fun k j => u (ix2 k j)) j := by
  unfold k0_pay17
  pointwise
  rfl

theorem lat_apply (r : Fin 512) (j : Fin 512) :
    k0_pay18 p g u k (ix2 r j) = latlane (fun j => k0_pay17 p g u (ix2 r j)) (fun n j => k (ix2 n j)) j := by
  unfold k0_pay18
  pointwise
  rfl

theorem rot_eq (q : Fin 1280 → EReal) (a : Fin 4) (l : Fin 128) (f : Fin 128 → EReal) (h : Fin 128 → EReal) (i j : Fin 1280) (l' : Fin 128)
    (h1 : i.val = 256 + (128 * a.val + l.val)) (h2 : j.val = 768 + (128 * a.val + l.val)) (h3 : l'.val = l.val) :
    q i * f l' + q j * h l' = rotlane q f h a l := by
  unfold rotlane
  refine congrArg₂ (fun y z : EReal => y + z) (congrArg₂ (fun y z : EReal => y * z) (congrArg q (Fin.ext h1)) (congrArg f (Fin.ext h3)))
    (congrArg₂ (fun y z : EReal => y * z) (congrArg q (Fin.ext h2)) (congrArg h (Fin.ext h3)))

/-- The stored queries of the latent attention: a head's latent lanes, then its rotated lanes. -/
theorem qmla_apply (r : Fin 512) (e : Fin 1024) :
    k0_pay1 (k0_pay11 co) (k0_pay12 si) (k0_pay17 p g u) (k0_pay18 p g u k) (k0_pay19 p (k0_pay11 co) (k0_pay12 si) g u) (k0_pay20 p g u k)
        (k0_pay21 p (k0_pay11 co) g u) (k0_pay22 p (k0_pay12 si) g u) (ix2 r e)
      = if h : e.val % 256 < 128 then latlane (fun j => k0_pay17 p g u (ix2 r j)) (fun n j => k (ix2 n j)) ⟨128 * (e.val / 256) + e.val % 256, by omega⟩
        else rotlane (fun j => k0_pay17 p g u (ix2 r j)) (fun l => co (ix2 r l)) (fun l => si (ix2 r l)) ⟨e.val / 256, by omega⟩ ⟨e.val % 256 - 128, by omega⟩ := by
  unfold k0_pay1 k0_pay19 k0_pay20 k0_pay21 k0_pay22 k0_pay11 k0_pay12
  pointwise
  simp only [lat_apply]
  by_cases hm : e.val % 256 < 128
  · refine Eq.trans ?_ (dif_pos hm).symm
    split_ifs
    all_goals first
      | omega
      | exact congrArg (latlane (fun j => k0_pay17 p g u (ix2 r j)) (fun n j => k (ix2 n j))) (Fin.ext (by dsimp only; omega))
  · refine Eq.trans ?_ (dif_neg hm).symm
    split_ifs
    all_goals first
      | omega
      | (refine rot_eq (fun j => k0_pay17 p g u (ix2 r j)) ⟨e.val / 256, by omega⟩ ⟨e.val % 256 - 128, by omega⟩ (fun l => co (ix2 r l)) (fun l => si (ix2 r l)) _ _ _ ?_ ?_ ?_ <;> first | omega | (dsimp only; omega))

variable (x0 : Vec Ideal S512x1024 .f32) (x1 x2 : Vec Ideal S1x1x1024 .f32) (x3 : Vec Ideal S1024x2560 .bf16) (x4 : Vec Ideal S1x256 .f32) (x5 : Vec Ideal S1x128 .f32) (x6 : Vec Ideal S256x1280 .bf16) (x7 : Vec Ideal S256x512 .bf16) (x8 x9 : Vec Ideal S512x128 .f32)

theorem out_10 : out0_10 x0 x1 x2 x3 x4 x5 x6 x7 x8 x9 = k0_pay4 x0 x2 x1 x3 := by
  unfold_out out0_10
  rw [View.canon_cons_unit_lit (S := S512x512) _ _ _ (by decide)]
  rw [View.ld_unit_lit (S := S512x1024) _ x0 (by decide)]
  rw [View.ld_unit_lit (S := S1x1x1024) _ x2 (by decide)]
  rw [View.ld_unit_lit (S := S1x1x1024) _ x1 (by decide)]
  rw [View.ld_unit_lit (S := S1024x2560) _ x3 (by decide)]

theorem out_11 : out0_11 x0 x1 x2 x3 x4 x5 x6 x7 x8 x9 = k0_pay5 x0 x2 x1 x3 := by
  unfold_out out0_11
  rw [View.canon_cons_unit_lit (S := S512x128) _ _ _ (by decide)]
  rw [View.ld_unit_lit (S := S512x1024) _ x0 (by decide)]
  rw [View.ld_unit_lit (S := S1x1x1024) _ x2 (by decide)]
  rw [View.ld_unit_lit (S := S1x1x1024) _ x1 (by decide)]
  rw [View.ld_unit_lit (S := S1024x2560) _ x3 (by decide)]

theorem out_12 : out0_12 x0 x1 x2 x3 x4 x5 x6 x7 x8 x9 = k0_pay6 x0 x2 x1 x3 := by
  unfold_out out0_12
  rw [View.canon_cons_unit_lit (S := S512x128) _ _ _ (by decide)]
  rw [View.ld_unit_lit (S := S512x1024) _ x0 (by decide)]
  rw [View.ld_unit_lit (S := S1x1x1024) _ x2 (by decide)]
  rw [View.ld_unit_lit (S := S1x1x1024) _ x1 (by decide)]
  rw [View.ld_unit_lit (S := S1024x2560) _ x3 (by decide)]

theorem out_13 : out0_13 x0 x1 x2 x3 x4 x5 x6 x7 x8 x9 = k0_pay7 x0 x2 x1 x3 := by
  unfold_out out0_13
  rw [View.canon_cons_unit_lit (S := S512x256) _ _ _ (by decide)]
  rw [View.ld_unit_lit (S := S512x1024) _ x0 (by decide)]
  rw [View.ld_unit_lit (S := S1x1x1024) _ x2 (by decide)]
  rw [View.ld_unit_lit (S := S1x1x1024) _ x1 (by decide)]
  rw [View.ld_unit_lit (S := S1024x2560) _ x3 (by decide)]

theorem out_14 : out0_14 x0 x1 x2 x3 x4 x5 x6 x7 x8 x9 = k0_pay8 x0 x2 x1 x3 := by
  unfold_out out0_14
  rw [View.canon_cons_unit_lit (S := S512x512) _ _ _ (by decide)]
  rw [View.ld_unit_lit (S := S512x1024) _ x0 (by decide)]
  rw [View.ld_unit_lit (S := S1x1x1024) _ x2 (by decide)]
  rw [View.ld_unit_lit (S := S1x1x1024) _ x1 (by decide)]
  rw [View.ld_unit_lit (S := S1024x2560) _ x3 (by decide)]

theorem out_15 : out0_15 x0 x1 x2 x3 x4 x5 x6 x7 x8 x9 = k0_pay9 (k0_pay3 x0 x2 x1 x3) := by
  unfold_out out0_15
  rw [View.canon_cons_unit_lit (S := S512x128) _ _ _ (by decide)]
  rw [View.ld_unit_lit (S := S512x1024) _ x0 (by decide)]
  rw [View.ld_unit_lit (S := S1x1x1024) _ x2 (by decide)]
  rw [View.ld_unit_lit (S := S1x1x1024) _ x1 (by decide)]
  rw [View.ld_unit_lit (S := S1024x2560) _ x3 (by decide)]

theorem out_16 : out0_16 x0 x1 x2 x3 x4 x5 x6 x7 x8 x9 = k0_pay10 (k0_pay3 x0 x2 x1 x3) := by
  unfold_out out0_16
  rw [View.canon_cons_unit_lit (S := S512x128) _ _ _ (by decide)]
  rw [View.ld_unit_lit (S := S512x1024) _ x0 (by decide)]
  rw [View.ld_unit_lit (S := S1x1x1024) _ x2 (by decide)]
  rw [View.ld_unit_lit (S := S1x1x1024) _ x1 (by decide)]
  rw [View.ld_unit_lit (S := S1024x2560) _ x3 (by decide)]

theorem out_17 : out0_17 x0 x1 x2 x3 x4 x5 x6 x7 x8 x9 = k0_pay15 (k0_pay14 (k0_pay3 x0 x2 x1 x3)) x5 := by
  unfold_out out0_17
  rw [View.canon_cons_unit_lit (S := S512x128) _ _ _ (by decide)]
  rw [View.ld_unit_lit (S := S512x1024) _ x0 (by decide)]
  rw [View.ld_unit_lit (S := S1x1x1024) _ x2 (by decide)]
  rw [View.ld_unit_lit (S := S1x1x1024) _ x1 (by decide)]
  rw [View.ld_unit_lit (S := S1024x2560) _ x3 (by decide)]
  rw [View.ld_unit_lit (S := S1x128) _ x5 (by decide)]

theorem out_18 : out0_18 x0 x1 x2 x3 x4 x5 x6 x7 x8 x9 = k0_pay13 (k0_pay3 x0 x2 x1 x3) x8 x9 := by
  unfold_out out0_18
  rw [View.canon_cons_unit_lit (S := S512x128) _ _ _ (by decide)]
  rw [View.ld_unit_lit (S := S512x1024) _ x0 (by decide)]
  rw [View.ld_unit_lit (S := S1x1x1024) _ x2 (by decide)]
  rw [View.ld_unit_lit (S := S1x1x1024) _ x1 (by decide)]
  rw [View.ld_unit_lit (S := S1024x2560) _ x3 (by decide)]
  rw [View.ld_unit_lit (S := S512x128) _ x8 (by decide)]
  rw [View.ld_unit_lit (S := S512x128) _ x9 (by decide)]

theorem out_19 : out0_19 x0 x1 x2 x3 x4 x5 x6 x7 x8 x9 = k0_pay16 (k0_pay13 (k0_pay3 x0 x2 x1 x3) x8 x9) (k0_pay14 (k0_pay3 x0 x2 x1 x3)) x5 := by
  unfold_out out0_19
  rw [View.canon_cons_unit_lit (S := S512x256) _ _ _ (by decide)]
  rw [View.ld_unit_lit (S := S512x1024) _ x0 (by decide)]
  rw [View.ld_unit_lit (S := S1x1x1024) _ x2 (by decide)]
  rw [View.ld_unit_lit (S := S1x1x1024) _ x1 (by decide)]
  rw [View.ld_unit_lit (S := S1024x2560) _ x3 (by decide)]
  rw [View.ld_unit_lit (S := S512x128) _ x8 (by decide)]
  rw [View.ld_unit_lit (S := S512x128) _ x9 (by decide)]
  rw [View.ld_unit_lit (S := S1x128) _ x5 (by decide)]

theorem out_20 : out0_20 x0 x1 x2 x3 x4 x5 x6 x7 x8 x9 = k0_pay1 (k0_pay11 x8) (k0_pay12 x9) (k0_pay17 (k0_pay3 x0 x2 x1 x3) x4 x6) (k0_pay18 (k0_pay3 x0 x2 x1 x3) x4 x6 x7) (k0_pay19 (k0_pay3 x0 x2 x1 x3) (k0_pay11 x8) (k0_pay12 x9) x4 x6) (k0_pay20 (k0_pay3 x0 x2 x1 x3) x4 x6 x7) (k0_pay21 (k0_pay3 x0 x2 x1 x3) (k0_pay11 x8) x4 x6) (k0_pay22 (k0_pay3 x0 x2 x1 x3) (k0_pay12 x9) x4 x6) := by
  unfold_out out0_20
  rw [View.canon_cons_unit_lit (S := S512x1024) _ _ _ (by decide)]
  rw [View.ld_unit_lit (S := S512x1024) _ x0 (by decide)]
  rw [View.ld_unit_lit (S := S1x1x1024) _ x2 (by decide)]
  rw [View.ld_unit_lit (S := S1x1x1024) _ x1 (by decide)]
  rw [View.ld_unit_lit (S := S1024x2560) _ x3 (by decide)]
  rw [View.ld_unit_lit (S := S512x128) _ x8 (by decide)]
  rw [View.ld_unit_lit (S := S512x128) _ x9 (by decide)]
  rw [View.ld_unit_lit (S := S1x256) _ x4 (by decide)]
  rw [View.ld_unit_lit (S := S256x1280) _ x6 (by decide)]
  rw [View.ld_unit_lit (S := S256x512) _ x7 (by decide)]

theorem out_21 : out0_21 x0 x1 x2 x3 x4 x5 x6 x7 x8 x9 = k0_pay2 (k0_pay3 x0 x2 x1 x3) := by
  unfold_out out0_21
  rw [View.canon_cons_unit_lit (S := S512x512) _ _ _ (by decide)]
  rw [View.ld_unit_lit (S := S512x1024) _ x0 (by decide)]
  rw [View.ld_unit_lit (S := S1x1x1024) _ x2 (by decide)]
  rw [View.ld_unit_lit (S := S1x1x1024) _ x1 (by decide)]
  rw [View.ld_unit_lit (S := S1024x2560) _ x3 (by decide)]

theorem stored_10 (r : Fin 512) (e : Fin 512) : (out0_10 x0 x1 x2 x3 x4 x5 x6 x7 x8 x9 (ix2 r e) : EReal) =
    lane x0 x2 x1 x3 r ⟨e.val, by omega⟩ * Ideal.ofBits FTy.f32 0x3E000000#32 := by
  rw [out_10, aq_apply]

theorem stored_11 (r : Fin 512) (e : Fin 128) : (out0_11 x0 x1 x2 x3 x4 x5 x6 x7 x8 x9 (ix2 r e) : EReal) =
    lane x0 x2 x1 x3 r ⟨512 + e.val, by omega⟩ := by
  rw [out_11, ak_apply]

theorem stored_12 (r : Fin 512) (e : Fin 128) : (out0_12 x0 x1 x2 x3 x4 x5 x6 x7 x8 x9 (ix2 r e) : EReal) =
    lane x0 x2 x1 x3 r ⟨640 + e.val, by omega⟩ := by
  rw [out_12, av_apply]

theorem stored_13 (r : Fin 512) (e : Fin 256) : (out0_13 x0 x1 x2 x3 x4 x5 x6 x7 x8 x9 (ix2 r e) : EReal) =
    lane x0 x2 x1 x3 r ⟨512 + e.val, by omega⟩ := by
  rw [out_13, kv_apply]

theorem stored_14 (r : Fin 512) (e : Fin 512) : (out0_14 x0 x1 x2 x3 x4 x5 x6 x7 x8 x9 (ix2 r e) : EReal) =
    lane x0 x2 x1 x3 r ⟨768 + e.val, by omega⟩ * Ideal.ofBits FTy.f32 0x3E3504F3#32 := by
  rw [out_14, iq_apply]

theorem stored_15 (r : Fin 512) (e : Fin 128) : (out0_15 x0 x1 x2 x3 x4 x5 x6 x7 x8 x9 (ix2 r e) : EReal) =
    if 32 ≤ e.val ∧ e.val < 36 then lane x0 x2 x1 x3 r ⟨2432 + e.val, by omega⟩ * Ideal.ofBits FTy.f32 0x3F000000#32 else lane x0 x2 x1 x3 r ⟨2432 + e.val, by omega⟩ := by
  rw [out_15, misc_apply, lane_apply]

theorem stored_16 (r : Fin 512) (e : Fin 128) : (out0_16 x0 x1 x2 x3 x4 x5 x6 x7 x8 x9 (ix2 r e) : EReal) =
    if 32 ≤ e.val ∧ e.val < 36 then lane x0 x2 x1 x3 r ⟨2432 + e.val, by omega⟩ * Ideal.ofBits FTy.f32 0x3F000000#32 else lane x0 x2 x1 x3 r ⟨2432 + e.val, by omega⟩ := by
  rw [out_16, ik_apply, misc_apply, lane_apply]

theorem stored_17 (r : Fin 512) (e : Fin 128) : (out0_17 x0 x1 x2 x3 x4 x5 x6 x7 x8 x9 (ix2 r e) : EReal) =
    rms (Ideal.ofBits FTy.f32 0x43000000#32) (fun f : Fin 128 => lane x0 x2 x1 x3 r ⟨1536 + f.val, by omega⟩) (fun f => x5 (ix2 0 f)) e := by
  rw [out_17, ckv_apply]
  simp only [lane_apply]

theorem stored_18 (r : Fin 512) (e : Fin 128) : (out0_18 x0 x1 x2 x3 x4 x5 x6 x7 x8 x9 (ix2 r e) : EReal) =
    lane x0 x2 x1 x3 r ⟨2176 + e.val, by omega⟩ * x8 (ix2 r ⟨e.val, by omega⟩) + lane x0 x2 x1 x3 r ⟨2304 + e.val, by omega⟩ * x9 (ix2 r ⟨e.val, by omega⟩) := by
  rw [out_18, kpe_apply, lane_apply, lane_apply]

theorem stored_19 (r : Fin 512) (e : Fin 256) : (out0_19 x0 x1 x2 x3 x4 x5 x6 x7 x8 x9 (ix2 r e) : EReal) =
    if h : e.val < 128 then rms (Ideal.ofBits FTy.f32 0x43000000#32) (fun f : Fin 128 => lane x0 x2 x1 x3 r ⟨1536 + f.val, by omega⟩) (fun f => x5 (ix2 0 f)) ⟨e.val, h⟩ else lane x0 x2 x1 x3 r ⟨2176 + (e.val - 128), by omega⟩ * x8 (ix2 r ⟨(e.val - 128), by omega⟩) + lane x0 x2 x1 x3 r ⟨2304 + (e.val - 128), by omega⟩ * x9 (ix2 r ⟨(e.val - 128), by omega⟩) := by
  rw [out_19, kmla_apply]
  simp only [ckv_apply, kpe_apply, lane_apply]

theorem stored_20 (r : Fin 512) (e : Fin 1024) : (out0_20 x0 x1 x2 x3 x4 x5 x6 x7 x8 x9 (ix2 r e) : EReal) =
    if h : e.val % 256 < 128 then latlane (qlane (lane x0 x2 x1 x3 r) (fun f => x4 (ix2 0 f)) (fun k j => x6 (ix2 k j))) (fun n j => x7 (ix2 n j)) ⟨128 * (e.val / 256) + e.val % 256, by omega⟩
        else rotlane (qlane (lane x0 x2 x1 x3 r) (fun f => x4 (ix2 0 f)) (fun k j => x6 (ix2 k j))) (fun l => x8 (ix2 r l)) (fun l => x9 (ix2 r l)) ⟨e.val / 256, by omega⟩ ⟨e.val % 256 - 128, by omega⟩ := by
  rw [out_20, qmla_apply]
  simp only [q_apply, lane_apply]

theorem stored_21 (r : Fin 512) (e : Fin 512) : (out0_21 x0 x1 x2 x3 x4 x5 x6 x7 x8 x9 (ix2 r e) : EReal) =
    lane x0 x2 x1 x3 r ⟨1664 + e.val, by omega⟩ := by
  rw [out_21, cu_apply, lane_apply]

end Cert.Kernel3Ideal.Mix

end
-- ==== Proof.MixLanes.lean ====
/- The lanes of a row's projection, read back as the row's own channels. -/
module

public import proofs.«01_k».proof.Proof.MixWeights
public import proofs.«01_k».proof.Proof.MixHeads
public import proofs.«01_k».proof.Proof.MixPayload

@[expose] public section

noncomputable section

namespace Cert.Kernel3Ideal.Mix

open Cert.Kernel3Ideal Cert.Kernel3Ideal.Gen Idealize.ShloMosaic Idealize.ShloMosaic.TcCoe Idealize.SL.Sem Cert.Layer Cert.Mix Cert.Attn

/-- A matrix by row and column. -/
def mat (w : S1024x1604.Idx → EReal) (d : Fin 1024) (e : Fin 1604) : EReal := w (ix2 d e)

/-- Lane `j` of a row's projection. -/
def plane (h : Fin 1024 → EReal) (w : S1024x1604.Idx → EReal) (j : Fin 2560) : EReal := ∑ d, h d * (padded w (ix2 d j) : EReal)

variable (h : Fin 1024 → EReal) (w : S1024x1604.Idx → EReal)

theorem plane_of (j : Fin 2560) (s : Fin 1604) (hc : ∀ d, padded w (ix2 d j) = w (ix2 d s)) : plane h w j = proj h (mat w) s :=
  Finset.sum_congr rfl fun d _ => congrArg (fun y : EReal => h d * y) (hc d)

theorem plane_zero (j : Fin 2560) (hc : ∀ d, padded w (ix2 d j) = (0 : EReal)) : plane h w j = 0 :=
  (Finset.sum_congr rfl fun d _ => congrArg (fun y : EReal => h d * y) (hc d)).trans (sum_zero_col h)

theorem plane_turn (j : Fin 2560) (s : Fin 1604) (hr : ∀ d, IsReal (h d * w (ix2 d s))) (hj : 2304 ≤ j.val ∧ j.val < 2320 ∧ j.val + 1076 = s.val + 2304) :
    plane h w j = -proj h (mat w) s :=
  (Finset.sum_congr rfl fun d _ => congrArg (fun y : EReal => h d * y) (padded_14 w d j s hj)).trans (sum_neg h (fun d => w (ix2 d s)) hr)

theorem aq_lane (e : Fin 512) (j : Fin 2560) (hj : j.val = e.val) : plane h w j * Ideal.ofBits FTy.f32 0x3E000000#32 = aq h (mat w) e := by
  unfold aq
  split_ifs with hl
  · have ha : e.val / 128 = 0 ∨ e.val / 128 = 1 ∨ e.val / 128 = 2 ∨ e.val / 128 = 3 := by omega
    refine congrArg (fun y : EReal => y * _) ?_
    rcases ha with ha | ha | ha | ha
    · exact plane_of h w j _ fun d => padded_0 w d j _ (by dsimp only; omega)
    · exact plane_of h w j _ fun d => padded_1 w d j _ (by dsimp only; omega)
    · exact plane_of h w j _ fun d => padded_2 w d j _ (by dsimp only; omega)
    · exact plane_of h w j _ fun d => padded_3 w d j _ (by dsimp only; omega)
  · have hz : (64 ≤ j.val ∧ j.val < 128) ∨ (192 ≤ j.val ∧ j.val < 320) ∨ (384 ≤ j.val ∧ j.val < 448) := by omega
    have hp : plane h w j = 0 := plane_zero h w j fun d => padded_zero w d j (by
      rcases hz with hz | hz | hz
      · exact Or.inl hz
      · exact Or.inr (Or.inl hz)
      · exact Or.inr (Or.inr (Or.inl hz)))
    rw [hp, zero_mul]

theorem ak_lane (e : Fin 128) (j : Fin 2560) (hj : j.val = 512 + e.val) : plane h w j = ak h (mat w) e :=
  plane_of h w j _ fun d => padded_4 w d j _ (by dsimp only; omega)

theorem av_lane (e : Fin 128) (j : Fin 2560) (hj : j.val = 640 + e.val) : plane h w j = av h (mat w) e :=
  plane_of h w j _ fun d => padded_5 w d j _ (by dsimp only; omega)

theorem kv_lane (e : Fin 256) (j : Fin 2560) (hj : j.val = 512 + e.val) : plane h w j = kv h (mat w) e := by
  by_cases he : e.val < 128
  · exact plane_of h w j _ fun d => padded_4 w d j _ (by dsimp only; omega)
  · exact plane_of h w j _ fun d => padded_5 w d j _ (by dsimp only; omega)

theorem iq_lane (e : Fin 512) (j : Fin 2560) (hj : j.val = 768 + e.val) : plane h w j * Ideal.ofBits FTy.f32 0x3E3504F3#32 = iq h (mat w) e := by
  unfold iq
  split_ifs with hl
  · have ha : e.val / 128 = 0 ∨ e.val / 128 = 1 ∨ e.val / 128 = 2 ∨ e.val / 128 = 3 := by omega
    refine congrArg (fun y : EReal => y * _) ?_
    rcases ha with ha | ha | ha | ha
    · exact plane_of h w j _ fun d => padded_6 w d j _ (by dsimp only; omega)
    · exact plane_of h w j _ fun d => padded_7 w d j _ (by dsimp only; omega)
    · exact plane_of h w j _ fun d => padded_8 w d j _ (by dsimp only; omega)
    · exact plane_of h w j _ fun d => padded_9 w d j _ (by dsimp only; omega)
  · have hz : (800 ≤ j.val ∧ j.val < 896) ∨ (928 ≤ j.val ∧ j.val < 1024) ∨ (1056 ≤ j.val ∧ j.val < 1152) ∨ (1184 ≤ j.val ∧ j.val < 1280) := by omega
    have hp : plane h w j = 0 := plane_zero h w j fun d => padded_zero w d j (by
      rcases hz with hz | hz | hz | hz
      · exact Or.inr (Or.inr (Or.inr (Or.inl hz)))
      · exact Or.inr (Or.inr (Or.inr (Or.inr (Or.inl hz))))
      · exact Or.inr (Or.inr (Or.inr (Or.inr (Or.inr (Or.inl hz)))))
      · exact Or.inr (Or.inr (Or.inr (Or.inr (Or.inr (Or.inr (Or.inl hz)))))))
    rw [hp, zero_mul]

theorem ik_lane (e : Fin 128) (j : Fin 2560) (hj : j.val = 2432 + e.val) :
    (if 32 ≤ e.val ∧ e.val < 36 then plane h w j * Ideal.ofBits FTy.f32 0x3F000000#32 else plane h w j) = ik h (mat w) e := by
  unfold ik
  by_cases h1 : e.val < 32
  · rw [if_neg (by omega), dif_pos h1, plane_of h w j ⟨644 + e.val, by omega⟩ fun d => padded_16 w d j _ (by dsimp only; omega)]
  · rw [dif_neg h1]
    by_cases h2 : e.val < 36
    · rw [if_pos (by omega), dif_pos h2, plane_of h w j ⟨640 + (e.val - 32), by omega⟩ fun d => padded_17 w d j _ (by dsimp only; omega)]
    · rw [if_neg (by omega), dif_neg h2, plane_zero h w j fun d => padded_zero w d j (Or.inr (Or.inr (Or.inr (Or.inr (Or.inr (Or.inr (Or.inr (Or.inr (Or.inr (by omega))))))))))]

theorem cu_lane (e : Fin 512) (j : Fin 2560) (hj : j.val = 1664 + e.val) : plane h w j = cu h (mat w) e :=
  plane_of h w j _ fun d => padded_12 w d j _ (by dsimp only; omega)

theorem ckv_lane (g : Fin 128 → EReal) (e : Fin 128) :
    rms (Ideal.ofBits FTy.f32 0x43000000#32) (fun f : Fin 128 => plane h w ⟨1536 + f.val, by omega⟩) g e = ckv h (mat w) g e := by
  unfold ckv
  have hf : (fun f : Fin 128 => plane h w ⟨1536 + f.val, by omega⟩) = fun f : Fin 128 => proj h (mat w) ⟨932 + f.val, by omega⟩ :=
    funext fun f => plane_of h w _ _ fun d => padded_11 w d _ _ (by dsimp only; omega)
  rw [hf]

theorem kpe_lane (hr : ∀ d s, IsReal (h d * w (ix2 d s))) (co si : Fin 16 → EReal) (cl sl : Fin 128 → EReal)
    (c0 : ∀ (l : Fin 128) (hl : l.val < 16), cl l = co ⟨l.val, hl⟩) (c1 : ∀ (l : Fin 128) (_ : 16 ≤ l.val) (_ : l.val < 32), cl l = co ⟨l.val - 16, by omega⟩)
    (s0 : ∀ (l : Fin 128) (hl : l.val < 16), sl l = si ⟨l.val, hl⟩) (s1 : ∀ (l : Fin 128) (_ : 16 ≤ l.val) (_ : l.val < 32), sl l = si ⟨l.val - 16, by omega⟩)
    (e : Fin 128) :
    plane h w ⟨2176 + e.val, by omega⟩ * cl e + plane h w ⟨2304 + e.val, by omega⟩ * sl e = kpe h (mat w) co si e := by
  unfold kpe
  split_ifs with hl
  · rw [plane_of h w ⟨2176 + e.val, by omega⟩ ⟨1060 + e.val, by omega⟩ fun d => padded_13 w d _ _ (by dsimp only; omega)]
    by_cases h16 : e.val < 16
    · rw [rope_low _ _ _ _ h16, c0 e h16, s0 e h16,
        plane_turn h w ⟨2304 + e.val, by omega⟩ ⟨1060 + (e.val + 16), by omega⟩ (fun d => hr d _) (by dsimp only; omega)]
    · rw [rope_high _ _ _ _ h16, c1 e (by omega) hl, s1 e (by omega) hl,
        plane_of h w ⟨2304 + e.val, by omega⟩ ⟨1060 + (e.val - 16), by omega⟩ fun d => padded_15 w d _ _ (by dsimp only; omega)]
  · rw [plane_zero h w ⟨2176 + e.val, by omega⟩ fun d => padded_zero w d _ (Or.inr (Or.inr (Or.inr (Or.inr (Or.inr (Or.inr (Or.inr (Or.inl (by dsimp only; omega))))))))),
      plane_zero h w ⟨2304 + e.val, by omega⟩ fun d => padded_zero w d _ (Or.inr (Or.inr (Or.inr (Or.inr (Or.inr (Or.inr (Or.inr (Or.inr (Or.inl (by dsimp only; omega)))))))))), zero_mul, zero_mul, add_zero]

/-- The query projection by latent channel, head and channel. -/
def cube (u : S256x4x96.Idx → EReal) (r : Fin 256) (a : Fin 4) (n : Fin 96) : EReal := u (ix3 r a n)

/-- The key projection by latent channel, head and channel. -/
def cubeK (k : S128x4x64.Idx → EReal) (r : Fin 128) (a : Fin 4) (n : Fin 64) : EReal := k (ix3 r a n)

variable (g : Fin 256 → EReal) (u : S256x4x96.Idx → EReal) (k : S128x4x64.Idx → EReal)

/-- Lane `j` of a row's queries. -/
def qplane (j : Fin 1280) : EReal := qlane (plane h w) g (fun r j => heads u (ix2 r j)) j

theorem qplane_sum (j : Fin 1280) : qplane h w g u j = ∑ r, cq h (mat w) g r * (heads u (ix2 r j) : EReal) := by
  unfold qplane qlane cq
  have hf : (fun f : Fin 256 => plane h w ⟨1280 + f.val, by omega⟩) = fun f : Fin 256 => proj h (mat w) ⟨676 + f.val, by omega⟩ :=
    funext fun f => plane_of h w _ _ fun d => padded_10 w d _ _ (by dsimp only; omega)
  rw [hf]

theorem qplane_of (j : Fin 1280) (a : Fin 4) (n : Fin 96) (hc : ∀ r, heads u (ix2 r j) = u (ix3 r a n)) :
    qplane h w g u j = query (cq h (mat w) g) (cube u) a n :=
  (qplane_sum h w g u j).trans (Finset.sum_congr rfl fun r _ => congrArg (fun y : EReal => cq h (mat w) g r * y) (hc r))

theorem qplane_zero (j : Fin 1280) (hj : 256 ≤ j.val ∧ 32 ≤ j.val % 128) : qplane h w g u j = 0 :=
  ((qplane_sum h w g u j).trans (Finset.sum_congr rfl fun r _ => congrArg (fun y : EReal => cq h (mat w) g r * y) (heads_zero u r j hj))).trans
    (sum_zero_col _)

theorem qplane_turn (hq : ∀ r a n, IsReal (cq h (mat w) g r * u (ix3 r a n))) (j : Fin 1280) (a : Fin 4) (n : Fin 96)
    (hj : j.val + 80 = 768 + 128 * a.val + n.val ∧ 80 ≤ n.val) : qplane h w g u j = -query (cq h (mat w) g) (cube u) a n :=
  ((qplane_sum h w g u j).trans (Finset.sum_congr rfl fun r _ => congrArg (fun y : EReal => cq h (mat w) g r * y) (heads_turn u r j a n hj))).trans
    (sum_neg _ (fun r => u (ix3 r a n)) fun r => hq r a n)

/-- A sum over four blocks of 64 that only one block adds to. -/
theorem sum_block (f : Fin 256 → EReal) (a : Fin 4) (hz : ∀ i : Fin 256, i.val / 64 ≠ a.val → f i = 0) :
    (∑ i, f i) = ∑ n : Fin 64, f ⟨64 * a.val + n.val, by omega⟩ := by
  symm
  refine Finset.sum_of_injOn (fun n : Fin 64 => (⟨64 * a.val + n.val, by omega⟩ : Fin 256)) ?_ (fun _ _ => Finset.mem_coe.2 (Finset.mem_univ _)) ?_ (fun _ _ => rfl)
  · intro p _ q _ e
    have := congrArg Fin.val e
    exact Fin.ext (by dsimp only at this; omega)
  · intro i _ hi
    refine hz i fun e => hi ⟨⟨i.val % 64, by omega⟩, Finset.mem_coe.2 (Finset.mem_univ _), Fin.ext ?_⟩
    show 64 * a.val + i.val % 64 = i.val
    omega

theorem lat_lane (a : Fin 4) (l : Fin 128) (j : Fin 512) (hj : j.val = 128 * a.val + l.val) :
    latlane (qplane h w g u) (fun n j => keys k (ix2 n j)) j
      = ∑ n : Fin 64, query (cq h (mat w) g) (cube u) a ⟨n.val, by omega⟩ * cubeK k l a n := by
  unfold latlane
  rw [sum_block _ a fun i hi => by
    dsimp only
    rw [keys_zero k i j (by omega), mul_zero]]
  refine Finset.sum_congr rfl fun n _ => ?_
  dsimp only
  rw [keys_move k ⟨64 * a.val + n.val, by omega⟩ j a n l ⟨rfl, hj⟩,
    qplane_of h w g u ⟨64 * a.val + n.val, by omega⟩ a ⟨n.val, by omega⟩ fun r => heads_nope u r _ a _ (by dsimp only; omega)]
  rfl

theorem rot_lane (hq : ∀ r a n, IsReal (cq h (mat w) g r * u (ix3 r a n))) (co si : Fin 16 → EReal) (cl sl : Fin 128 → EReal)
    (c0 : ∀ (l : Fin 128) (hl : l.val < 16), cl l = co ⟨l.val, hl⟩) (c1 : ∀ (l : Fin 128) (_ : 16 ≤ l.val) (_ : l.val < 32), cl l = co ⟨l.val - 16, by omega⟩)
    (s0 : ∀ (l : Fin 128) (hl : l.val < 16), sl l = si ⟨l.val, hl⟩) (s1 : ∀ (l : Fin 128) (_ : 16 ≤ l.val) (_ : l.val < 32), sl l = si ⟨l.val - 16, by omega⟩)
    (a : Fin 4) (l : Fin 128) :
    rotlane (qplane h w g u) cl sl a l
      = if hl : l.val < 32 then rope co si (fun f : Fin 32 => query (cq h (mat w) g) (cube u) a ⟨64 + f.val, by omega⟩) ⟨l.val, hl⟩ else 0 := by
  unfold rotlane
  split_ifs with hl
  · rw [qplane_of h w g u ⟨256 + (128 * a.val + l.val), by omega⟩ a ⟨64 + l.val, by omega⟩ fun r => heads_rot u r _ a _ (by dsimp only; omega)]
    by_cases h16 : l.val < 16
    · rw [rope_low _ _ _ _ h16, c0 l h16, s0 l h16,
        qplane_turn h w g u hq ⟨768 + (128 * a.val + l.val), by omega⟩ a ⟨64 + (l.val + 16), by omega⟩ (by dsimp only; omega)]
    · rw [rope_high _ _ _ _ h16, c1 l (by omega) hl, s1 l (by omega) hl,
        qplane_of h w g u ⟨768 + (128 * a.val + l.val), by omega⟩ a ⟨64 + (l.val - 16), by omega⟩ fun r => heads_half u r _ a _ (by dsimp only; omega)]
  · rw [qplane_zero h w g u ⟨256 + (128 * a.val + l.val), by omega⟩ (by dsimp only; omega),
      qplane_zero h w g u ⟨768 + (128 * a.val + l.val), by omega⟩ (by dsimp only; omega), zero_mul, zero_mul, add_zero]

theorem qmla_lane (hq : ∀ r a n, IsReal (cq h (mat w) g r * u (ix3 r a n))) (co si : Fin 16 → EReal) (cl sl : Fin 128 → EReal)
    (c0 : ∀ (l : Fin 128) (hl : l.val < 16), cl l = co ⟨l.val, hl⟩) (c1 : ∀ (l : Fin 128) (_ : 16 ≤ l.val) (_ : l.val < 32), cl l = co ⟨l.val - 16, by omega⟩)
    (s0 : ∀ (l : Fin 128) (hl : l.val < 16), sl l = si ⟨l.val, hl⟩) (s1 : ∀ (l : Fin 128) (_ : 16 ≤ l.val) (_ : l.val < 32), sl l = si ⟨l.val - 16, by omega⟩)
    (e : Fin 1024) :
    (if _ : e.val % 256 < 128 then latlane (qplane h w g u) (fun n j => keys k (ix2 n j)) ⟨128 * (e.val / 256) + e.val % 256, by omega⟩
      else rotlane (qplane h w g u) cl sl ⟨e.val / 256, by omega⟩ ⟨e.val % 256 - 128, by omega⟩)
      = qmla co si (cq h (mat w) g) (cube u) (cubeK k) e := by
  unfold qmla
  by_cases h1 : e.val % 256 < 128
  · rw [dif_pos h1, dif_pos h1]
    exact lat_lane h w g u k ⟨e.val / 256, by omega⟩ ⟨e.val % 256, h1⟩ _ rfl
  · rw [dif_neg h1, dif_neg h1, rot_lane h w g u hq co si cl sl c0 c1 s0 s1]
    by_cases h2 : e.val % 256 < 160
    · rw [dif_pos (by dsimp only; omega), dif_pos h2]
    · rw [dif_neg (by dsimp only; omega), dif_neg h2]

end Cert.Kernel3Ideal.Mix

end
-- ==== Proof.MixTables.lean ====
/- The other arrays that the projection is given: the rows flattened, the norms' factors as rows, and the tables of the
   rotary angles' cosines and sines. -/
module

public import proofs.«01_k».proof.Proof.Gen.Kernel3Ideal.Value
public import Idealize.ShloMosaic.Lib.Pointwise

@[expose] public section

noncomputable section

namespace Cert.Kernel3Ideal.Mix

open Cert.Kernel3Ideal Cert.Kernel3Ideal.Gen Idealize.ShloMosaic Idealize.ShloMosaic.TcCoe Idealize.SL.Sem

/-- The rows of both batches, one after the other. -/
def flat (x : Vec Ideal S2x8192x1024 .f32) : Vec Ideal S16384x1024 .f32 := shapeCast S16384x1024 x shapeCasts_S2x8192x1024_S16384x1024

theorem flat_apply (x : Vec Ideal S2x8192x1024 .f32) (b : Fin 2) (t : Fin 8192) (c : Fin 1024) :
    flat x (ix2 ⟨8192 * b.val + t.val, by omega⟩ c) = x (ix3 b t c) := by
  unfold flat
  pointwise

/-- Row `R` of the flattened rows is row `R % 8192` of batch `R / 8192`. -/
theorem flat_row (x : Vec Ideal S2x8192x1024 .f32) (R : Fin 16384) (c : Fin 1024) :
    flat x (ix2 R c) = x (ix3 ⟨R.val / 8192, by omega⟩ ⟨R.val % 8192, by omega⟩ c) := by
  refine Eq.trans ?_ (flat_apply x ⟨R.val / 8192, by omega⟩ ⟨R.val % 8192, by omega⟩ c)
  have e : R = ⟨8192 * (R.val / 8192) + R.val % 8192, by omega⟩ := Fin.ext (by show R.val = 8192 * (R.val / 8192) + R.val % 8192; omega)
  exact congrArg (fun r => flat x (ix2 r c)) e

/-- The queries' factor as one row. -/
def rowQ (g : Vec Ideal S256 .f32) : Vec Ideal S1x256 .f32 := shapeCast S1x256 g shapeCasts_S256_S1x256

theorem rowQ_apply (g : Vec Ideal S256 .f32) (a : Fin 1) (e : Fin 256) : rowQ g (ix2 a e) = g (ix1 e) := by
  unfold rowQ
  pointwise

/-- The keys' factor as one row. -/
def rowK (g : Vec Ideal S128 .f32) : Vec Ideal S1x128 .f32 := shapeCast S1x128 g shapeCasts_S128_S1x128

theorem rowK_apply (g : Vec Ideal S128 .f32) (a : Fin 1) (e : Fin 128) : rowK g (ix2 a e) = g (ix1 e) := by
  unfold rowK
  pointwise

/-- The rotary angles: position times the frequency `10000 ^ (- i / 16)`. -/
def angles : Vec Ideal S8192x16 .f32 :=
  mulf (F := Ideal) (φ := .f32)
    (broadcastInDim S8192x16 ![0, 1] bcast_S8192x1_S8192x16_0_1
      (broadcastInDim S8192x1 ![0] bcast_S8192_S8192x1_0 (sitofp (F := Ideal) .f32 (iotaInDim S8192 32 0) : Vec Ideal S8192 .f32)))
    (broadcastInDim S8192x16 ![0, 1] bcast_S1x16_S8192x16_0_1
      (broadcastInDim S1x16 ![1] bcast_S16_S1x16_1
        (Host.powf (F := Ideal) (φ := .f32) (broadcastInDim S16 ![] bcast_S_S16 (constant (F := Ideal) S_ .f32 0x461C4000#32 : (⟨S_, .f32⟩ : BufTy).Contents (Elt Ideal)))
          (Host.divf (F := Ideal) (φ := .f32) (Host.negf (F := Ideal) (φ := .f32) (sitofp (F := Ideal) .f32 (iotaInDim S16 32 0)))
            (broadcastInDim S16 ![] bcast_S_S16 (constant (F := Ideal) S_ .f32 0x41800000#32 : (⟨S_, .f32⟩ : BufTy).Contents (Elt Ideal)))))))

/-- Zeros for the lanes that are not rotated. -/
def rest : Vec Ideal S8192x96 .f32 := broadcastInDim S8192x96 ![] bcast_S_S8192x96 (constant (F := Ideal) S_ .f32 0x00000000#32 : (⟨S_, .f32⟩ : BufTy).Contents (Elt Ideal))

/-- A table of both halves' angles, once for each batch. -/
def table (f : Vec Ideal S8192x16 .f32) : Vec Ideal S16384x128 .f32 :=
  shapeCast S16384x128 (broadcastInDim S2x8192x1x128 ![0, 1, 2, 3] bcast_S1x8192x1x128_S2x8192x1x128_0_1_2_3
    (shapeCast S1x8192x1x128 (concatenate S8192x128 1 [⟨S8192x16, f⟩, ⟨S8192x16, f⟩, ⟨S8192x96, rest⟩] concatenates_S8192x16_S8192x16_S8192x96_S8192x128_d1)
      shapeCasts_S8192x128_S1x8192x1x128)) shapeCasts_S2x8192x1x128_S16384x128

/-- The first half of a table's lanes. -/
theorem table_low (f : Vec Ideal S8192x16 .f32) (b : Fin 2) (t : Fin 8192) (l : Fin 128) (hl : l.val < 16) :
    table f (ix2 ⟨8192 * b.val + t.val, by omega⟩ l) = f (ix2 t ⟨l.val, hl⟩) := by
  unfold table
  pointwise
  rw [dif_pos hl]

/-- The second half of a table's lanes. -/
theorem table_high (f : Vec Ideal S8192x16 .f32) (b : Fin 2) (t : Fin 8192) (l : Fin 128) (hl : 16 ≤ l.val) (hh : l.val < 32) :
    table f (ix2 ⟨8192 * b.val + t.val, by omega⟩ l) = f (ix2 t ⟨l.val - 16, by omega⟩) := by
  unfold table
  pointwise
  rw [dif_neg (by omega), dif_pos (by omega)]

theorem row_split (R : Fin 16384) : R = ⟨8192 * (R.val / 8192) + R.val % 8192, by omega⟩ :=
  Fin.ext (by show R.val = 8192 * (R.val / 8192) + R.val % 8192; omega)

theorem table_row_low (f : Vec Ideal S8192x16 .f32) (R : Fin 16384) (l : Fin 128) (hl : l.val < 16) :
    table f (ix2 R l) = f (ix2 ⟨R.val % 8192, by omega⟩ ⟨l.val, hl⟩) :=
  (congrArg (fun r => table f (ix2 r l)) (row_split R)).trans (table_low f ⟨R.val / 8192, by omega⟩ ⟨R.val % 8192, by omega⟩ l hl)

theorem table_row_high (f : Vec Ideal S8192x16 .f32) (R : Fin 16384) (l : Fin 128) (hl : 16 ≤ l.val) (hh : l.val < 32) :
    table f (ix2 R l) = f (ix2 ⟨R.val % 8192, by omega⟩ ⟨l.val - 16, by omega⟩) :=
  (congrArg (fun r => table f (ix2 r l)) (row_split R)).trans (table_high f ⟨R.val / 8192, by omega⟩ ⟨R.val % 8192, by omega⟩ l hl hh)

variable (m : (ℓ : Loc nD τ sig) → Buf (Elt Ideal) ℓ)

theorem rows_eq (c : Dev nD) : (V m c main_v177 : S16384x1024.Idx → EReal) = flat (m ((c : Thread nD τ).loc main_arg0)) := by
  unfold_abbrev_sides
  after_results
  rfl

theorem rowQ_eq (c : Dev nD) : (V m c main_v178 : S1x256.Idx → EReal) = rowQ (m ((c : Thread nD τ).loc main_arg4)) := by
  unfold_abbrev_sides
  after_results
  rfl

theorem rowK_eq (c : Dev nD) : (V m c main_v179 : S1x128.Idx → EReal) = rowK (m ((c : Thread nD τ).loc main_arg5)) := by
  unfold_abbrev_sides
  after_results
  rfl

theorem cos_eq (c : Dev nD) : (V m c main_v22 : S16384x128.Idx → EReal) = table (Host.cos (F := Ideal) (φ := .f32) angles) := by
  unfold_abbrev_sides
  after_results
  unfold table rest angles
  rfl

theorem sin_eq (c : Dev nD) : (V m c main_v25 : S16384x128.Idx → EReal) = table (Host.sin (F := Ideal) (φ := .f32) angles) := by
  unfold_abbrev_sides
  after_results
  unfold table rest angles
  rfl

end Cert.Kernel3Ideal.Mix

end
-- ==== Proof.MixArray.lean ====
/- The arrays that the input projections leave: at every row and lane, from the whole arrays the layer is given. -/
module

public import proofs.«01_k».proof.Proof.MixLanes
public import proofs.«01_k».proof.Proof.MixTables

@[expose] public section

noncomputable section

namespace Cert.Kernel3Ideal.Mix

open Cert.Kernel3Ideal Cert.Kernel3Ideal.Gen Idealize.ShloMosaic Idealize.ShloMosaic.TcCoe Idealize.SL.Sem Cert.Layer Cert.Mix Cert.Attn

/-- The modulated row at position `t` of batch `n`. -/
def hrow (x : S2x8192x1024.Idx → EReal) (shift scale : S2x1x1024.Idx → EReal) (n : Fin 2) (t : Fin 8192) : Fin 1024 → EReal :=
  modulated (fun d => x (ix3 n t d)) (fun d => scale (ix3 n 0 d)) (fun d => shift (ix3 n 0 d))

/-- The cosine of rotary angle `i` at position `t`. -/
def cosAt (t : Fin 8192) (i : Fin 16) : EReal := Host.cos (F := Ideal) (φ := .f32) angles (ix2 t i)

/-- The sine of rotary angle `i` at position `t`. -/
def sinAt (t : Fin 8192) (i : Fin 16) : EReal := Host.sin (F := Ideal) (φ := .f32) angles (ix2 t i)

/-- A vector by entry. -/
def vec {n : ℕ} (g : Shape.Idx ⟨1, ![n]⟩ → EReal) (e : Fin n) : EReal := g (ix1 e)

/-- Which block of each array a grid point stages. -/
theorem idx (t : Fin cfg0.N) : win0_0.index t = ![t.val, 0]
    ∧ win0_1.index t = ![t.val / 16, 0, 0]
    ∧ win0_2.index t = ![t.val / 16, 0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![t.val, 0]
    ∧ win0_9.index t = ![t.val, 0]
    ∧ win0_10.index t = ![t.val, 0]
    ∧ win0_11.index t = ![t.val, 0]
    ∧ win0_12.index t = ![t.val, 0]
    ∧ win0_13.index t = ![t.val, 0]
    ∧ win0_14.index t = ![t.val, 0]
    ∧ win0_15.index t = ![t.val, 0]
    ∧ win0_16.index t = ![t.val, 0]
    ∧ win0_17.index t = ![t.val, 0]
    ∧ win0_18.index t = ![t.val, 0]
    ∧ win0_19.index t = ![t.val, 0]
    ∧ win0_20.index t = ![t.val, 0]
    ∧ win0_21.index t = ![t.val, 0] :=
  (by decide +kernel : ∀ t : Fin grid0.N, win0_0.index t = ![t.val, 0]
    ∧ win0_1.index t = ![t.val / 16, 0, 0]
    ∧ win0_2.index t = ![t.val / 16, 0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![t.val, 0]
    ∧ win0_9.index t = ![t.val, 0]
    ∧ win0_10.index t = ![t.val, 0]
    ∧ win0_11.index t = ![t.val, 0]
    ∧ win0_12.index t = ![t.val, 0]
    ∧ win0_13.index t = ![t.val, 0]
    ∧ win0_14.index t = ![t.val, 0]
    ∧ win0_15.index t = ![t.val, 0]
    ∧ win0_16.index t = ![t.val, 0]
    ∧ win0_17.index t = ![t.val, 0]
    ∧ win0_18.index t = ![t.val, 0]
    ∧ win0_19.index t = ![t.val, 0]
    ∧ win0_20.index t = ![t.val, 0]
    ∧ win0_21.index t = ![t.val, 0]) t

/-- The grid has 32 points. -/
theorem points (t : Fin cfg0.N) : t.val < 32 := t.isLt

/-- The batch of a grid point's rows. -/
def batch (t : Fin cfg0.N) : Fin 2 := ⟨t.val / 16, by have := points t; omega⟩

/-- Row `r` of a grid point's block, among the flattened rows. -/
def flatRow (t : Fin cfg0.N) (r : Fin 512) : Fin 16384 := ⟨512 * t.val + r.val, by have := points t; omega⟩

/-- The position in its batch of row `r` of a grid point's block. -/
def pos (t : Fin cfg0.N) (r : Fin 512) : Fin 8192 := ⟨(512 * t.val + r.val) % 8192, by omega⟩

variable (m : (ℓ : Loc nD τ sig) → Buf (Elt Ideal) ℓ)

/-- A grid point's block of the rows. -/
theorem rows_block (c : Dev nD) (t : Fin cfg0.N) (r : Fin 512) (d : Fin 1024) :
    (iblk m c 0 t : S512x1024.Idx → EReal) (ix2 r d) = (m ((c : Thread nD τ).loc main_arg0) : S2x8192x1024.Idx → EReal) (ix3 (batch t) (pos t r) d) := by
  have h : (iblk m c 0 t : S512x1024.Idx → EReal) (ix2 r d) = flat (m ((c : Thread nD τ).loc main_arg0)) (ix2 (flatRow t r) d) := by
    rw [← rows_eq m c]
    show V m c main_v177 ((win0_0.rect t).emb (ix2 r d)) = V m c main_v177 (ix2 (flatRow t r) d)
    congr 1
    funext a
    apply Fin.ext
    rw [Pipeline.Window.rect_emb_val win0_0 t (ix2 r d) a rfl]
    rw [(idx t).1]
    match a with
    | ⟨0, _⟩ => show t.val * 512 + r.val = 512 * t.val + r.val; omega
    | ⟨1, _⟩ => show 0 * 1024 + d.val = d.val; omega
  refine h.trans ?_
  rw [flat_row]
  refine congrArg (fun n => (m ((c : Thread nD τ).loc main_arg0) : S2x8192x1024.Idx → EReal) (ix3 n (pos t r) d)) (Fin.ext ?_)
  show (512 * t.val + r.val) / 8192 = t.val / 16
  omega

/-- A grid point's shift row. -/
theorem shift_block (c : Dev nD) (t : Fin cfg0.N) (d : Fin 1024) :
    (iblk m c 1 t : S1x1x1024.Idx → EReal) (ix3 0 0 d) = (m ((c : Thread nD τ).loc main_arg1) : S2x1x1024.Idx → EReal) (ix3 (batch t) 0 d) := by
  blk_ext! [iblk, V, (idx t).2.1, batch]

/-- A grid point's scale row. -/
theorem scale_block (c : Dev nD) (t : Fin cfg0.N) (d : Fin 1024) :
    (iblk m c 2 t : S1x1x1024.Idx → EReal) (ix3 0 0 d) = (m ((c : Thread nD τ).loc main_arg2) : S2x1x1024.Idx → EReal) (ix3 (batch t) 0 d) := by
  blk_ext! [iblk, V, (idx t).2.2.1, batch]

/-- Every grid point reads the whole array (`padded_eq`). -/
theorem weights_block (c : Dev nD) (t : Fin cfg0.N) : (iblk m c 3 t : S1024x2560.Idx → EReal) = padded (m ((c : Thread nD τ).loc main_arg3)) := by
  rw [← padded_eq m c]
  funext j
  show V m c main_v174 ((win0_3.rect t).emb j) = V m c main_v174 j
  congr 1
  funext a
  apply Fin.ext
  rw [Pipeline.Window.rect_emb_val_of_index_zero]
  rw [(idx t).2.2.2.1]
  fin_cases a <;> rfl

/-- Every grid point reads the whole array (`rowQ_eq`). -/
theorem factorQ_block (c : Dev nD) (t : Fin cfg0.N) : (iblk m c 4 t : S1x256.Idx → EReal) = rowQ (m ((c : Thread nD τ).loc main_arg4)) := by
  rw [← rowQ_eq m c]
  funext j
  show V m c main_v178 ((win0_4.rect t).emb j) = V m c main_v178 j
  congr 1
  funext a
  apply Fin.ext
  rw [Pipeline.Window.rect_emb_val_of_index_zero]
  rw [(idx t).2.2.2.2.1]
  fin_cases a <;> rfl

/-- Every grid point reads the whole array (`rowK_eq`). -/
theorem factorK_block (c : Dev nD) (t : Fin cfg0.N) : (iblk m c 5 t : S1x128.Idx → EReal) = rowK (m ((c : Thread nD τ).loc main_arg5)) := by
  rw [← rowK_eq m c]
  funext j
  show V m c main_v179 ((win0_5.rect t).emb j) = V m c main_v179 j
  congr 1
  funext a
  apply Fin.ext
  rw [Pipeline.Window.rect_emb_val_of_index_zero]
  rw [(idx t).2.2.2.2.2.1]
  fin_cases a <;> rfl

/-- Every grid point reads the whole array (`heads_eq`). -/
theorem heads_block (c : Dev nD) (t : Fin cfg0.N) : (iblk m c 6 t : S256x1280.Idx → EReal) = heads (m ((c : Thread nD τ).loc main_arg6)) := by
  rw [← heads_eq m c]
  funext j
  show V m c main_v175 ((win0_6.rect t).emb j) = V m c main_v175 j
  congr 1
  funext a
  apply Fin.ext
  rw [Pipeline.Window.rect_emb_val_of_index_zero]
  rw [(idx t).2.2.2.2.2.2.1]
  fin_cases a <;> rfl

/-- Every grid point reads the whole array (`keys_eq`). -/
theorem keys_block (c : Dev nD) (t : Fin cfg0.N) : (iblk m c 7 t : S256x512.Idx → EReal) = keys (m ((c : Thread nD τ).loc main_arg7)) := by
  rw [← keys_eq m c]
  funext j
  show V m c main_v176 ((win0_7.rect t).emb j) = V m c main_v176 j
  congr 1
  funext a
  apply Fin.ext
  rw [Pipeline.Window.rect_emb_val_of_index_zero]
  rw [(idx t).2.2.2.2.2.2.2.1]
  fin_cases a <;> rfl

/-- A grid point's block of the cosines' table. -/
theorem cos_block (c : Dev nD) (t : Fin cfg0.N) (r : Fin 512) (l : Fin 128) :
    (iblk m c 8 t : S512x128.Idx → EReal) (ix2 r l) = table (Host.cos (F := Ideal) (φ := .f32) angles) (ix2 (flatRow t r) l) := by
  rw [← cos_eq m c]
  show V m c main_v22 ((win0_8.rect t).emb (ix2 r l)) = V m c main_v22 (ix2 (flatRow t r) l)
  congr 1
  funext a
  apply Fin.ext
  rw [Pipeline.Window.rect_emb_val win0_8 t (ix2 r l) a rfl]
  rw [(idx t).2.2.2.2.2.2.2.2.1]
  match a with
  | ⟨0, _⟩ => show t.val * 512 + r.val = 512 * t.val + r.val; omega
  | ⟨1, _⟩ => show 0 * 128 + l.val = l.val; omega

theorem cos_low (c : Dev nD) (t : Fin cfg0.N) (r : Fin 512) (l : Fin 128) (hl : l.val < 16) :
    (iblk m c 8 t : S512x128.Idx → EReal) (ix2 r l) = cosAt (pos t r) ⟨l.val, hl⟩ :=
  (cos_block m c t r l).trans (table_row_low _ (flatRow t r) l hl)

theorem cos_high (c : Dev nD) (t : Fin cfg0.N) (r : Fin 512) (l : Fin 128) (hl : 16 ≤ l.val) (hh : l.val < 32) :
    (iblk m c 8 t : S512x128.Idx → EReal) (ix2 r l) = cosAt (pos t r) ⟨l.val - 16, by omega⟩ :=
  (cos_block m c t r l).trans (table_row_high _ (flatRow t r) l hl hh)

/-- A grid point's block of the sinines' table. -/
theorem sin_block (c : Dev nD) (t : Fin cfg0.N) (r : Fin 512) (l : Fin 128) :
    (iblk m c 9 t : S512x128.Idx → EReal) (ix2 r l) = table (Host.sin (F := Ideal) (φ := .f32) angles) (ix2 (flatRow t r) l) := by
  rw [← sin_eq m c]
  show V m c main_v25 ((win0_9.rect t).emb (ix2 r l)) = V m c main_v25 (ix2 (flatRow t r) l)
  congr 1
  funext a
  apply Fin.ext
  rw [Pipeline.Window.rect_emb_val win0_9 t (ix2 r l) a rfl]
  rw [(idx t).2.2.2.2.2.2.2.2.2.1]
  match a with
  | ⟨0, _⟩ => show t.val * 512 + r.val = 512 * t.val + r.val; omega
  | ⟨1, _⟩ => show 0 * 128 + l.val = l.val; omega

theorem sin_low (c : Dev nD) (t : Fin cfg0.N) (r : Fin 512) (l : Fin 128) (hl : l.val < 16) :
    (iblk m c 9 t : S512x128.Idx → EReal) (ix2 r l) = sinAt (pos t r) ⟨l.val, hl⟩ :=
  (sin_block m c t r l).trans (table_row_low _ (flatRow t r) l hl)

theorem sin_high (c : Dev nD) (t : Fin cfg0.N) (r : Fin 512) (l : Fin 128) (hl : 16 ≤ l.val) (hh : l.val < 32) :
    (iblk m c 9 t : S512x128.Idx → EReal) (ix2 r l) = sinAt (pos t r) ⟨l.val - 16, by omega⟩ :=
  (sin_block m c t r l).trans (table_row_high _ (flatRow t r) l hl hh)

/-- A grid point's projected row. -/
theorem lane_block (x : S2x8192x1024.Idx → EReal) (shift scale : S2x1x1024.Idx → EReal) (w : S1024x1604.Idx → EReal) (c : Dev nD) (t : Fin cfg0.N) (r : Fin 512) (e0 : m ((c : Thread nD τ).loc main_arg0) = x) (e1 : m ((c : Thread nD τ).loc main_arg1) = shift) (e2 : m ((c : Thread nD τ).loc main_arg2) = scale) (e3 : m ((c : Thread nD τ).loc main_arg3) = w) :
    lane (iblk m c 0 t) (iblk m c 2 t) (iblk m c 1 t) (iblk m c 3 t) r = plane (hrow x shift scale (batch t) (pos t r)) w := by
  funext j
  unfold lane plane hrow
  rw [weights_block, e3]
  have h0 : (fun d => (iblk m c 0 t : S512x1024.Idx → EReal) (ix2 r d)) = fun d => x (ix3 (batch t) (pos t r) d) :=
    funext fun d => (rows_block m c t r d).trans (by rw [e0])
  have h1 : (fun d => (iblk m c 1 t : S1x1x1024.Idx → EReal) (ix3 0 0 d)) = fun d => shift (ix3 (batch t) 0 d) :=
    funext fun d => (shift_block m c t d).trans (by rw [e1])
  have h2 : (fun d => (iblk m c 2 t : S1x1x1024.Idx → EReal) (ix3 0 0 d)) = fun d => scale (ix3 (batch t) 0 d) :=
    funext fun d => (scale_block m c t d).trans (by rw [e2])
  refine Finset.sum_congr rfl fun d _ => ?_
  exact congrArg (fun y : EReal => y * _) (congrFun ((congrArg₂ (fun a b => modulated a b _) h0 h2).trans (congrArg (modulated _ _) h1)) d)

/-- What the body leaves of the sparse attention's queries at a grid point. -/
theorem aq_block_eq (x : S2x8192x1024.Idx → EReal) (shift scale : S2x1x1024.Idx → EReal) (w : S1024x1604.Idx → EReal) (c : Dev nD) (t : Fin cfg0.N) (e0 : m ((c : Thread nD τ).loc main_arg0) = x) (e1 : m ((c : Thread nD τ).loc main_arg1) = shift) (e2 : m ((c : Thread nD τ).loc main_arg2) = scale) (e3 : m ((c : Thread nD τ).loc main_arg3) = w) (r : Fin 512) (e : Fin 512) :
    (out0_10 (iblk m c 0 t) (iblk m c 1 t) (iblk m c 2 t) (iblk m c 3 t) (iblk m c 4 t) (iblk m c 5 t) (iblk m c 6 t) (iblk m c 7 t) (iblk m c 8 t) (iblk m c 9 t) (ix2 r e) : EReal) = aq (hrow x shift scale (batch t) (pos t r)) (mat w) e := by
  rw [stored_10, lane_block m x shift scale w c t r e0 e1 e2 e3]
  exact aq_lane _ w e _ rfl

/-- The whole array of the sparse attention's queries after the run. -/
theorem aq_array (x : S2x8192x1024.Idx → EReal) (shift scale : S2x1x1024.Idx → EReal) (w : S1024x1604.Idx → EReal) (c : Dev nD) (e0 : m ((c : Thread nD τ).loc main_arg0) = x) (e1 : m ((c : Thread nD τ).loc main_arg1) = shift) (e2 : m ((c : Thread nD τ).loc main_arg2) = scale) (e3 : m ((c : Thread nD τ).loc main_arg3) = w) :
    (dats m 0 c).arrAt 10 cfg0.N = fun j : S16384x512.Idx =>
      aq (hrow x shift scale ⟨(j 0).val / 8192, by have : (j 0).val < 16384 := (j 0).isLt; omega⟩ ⟨(j 0).val % 8192, by omega⟩) (mat w) (j 1) := by
  refine (dats m 0 c).arrAt_eq_of_covers 10 _ (by decide +kernel) fun t hf y => ?_
  blk_simp
  rw [after0_10]
  idx_vars y
  refine (aq_block_eq m x shift scale w c t e0 e1 e2 e3 y0 y1).trans ?_
  have hi : win0_10.index t 0 = t.val := by rw [(idx t).2.2.2.2.2.2.2.2.2.2.1]; rfl
  have hv : ∀ a, (((win0_10.rect t).emb (ix2 y0 y1) a : ℕ)) = win0_10.index t a * win0_10.size a + (ix2 y0 y1 a).val :=
    fun a => Pipeline.Window.rect_emb_val win0_10 t (ix2 y0 y1) a rfl
  rw [(idx t).2.2.2.2.2.2.2.2.2.2.1] at hv
  have h1 : ((View.whole main_v180_0).slice (win0_10.rect t)).emb (ix2 y0 y1) 1 = y1 :=
    Fin.ext ((hv 1).trans (show 0 * 512 + y1.val = y1.val by omega))
  rw [h1]
  refine congrArg₂ (fun n p => aq (hrow x shift scale n p) (mat w) y1) (Fin.ext ?_) (Fin.ext ?_)
  · show t.val / 16 = (win0_10.index t 0 * 512 + y0.val) / 8192
    rw [hi]
    omega
  · show (512 * t.val + y0.val) % 8192 = (win0_10.index t 0 * 512 + y0.val) % 8192
    rw [hi, Nat.mul_comm]

/-- What the body leaves of the sparse attention's keys at a grid point. -/
theorem ak_block_eq (x : S2x8192x1024.Idx → EReal) (shift scale : S2x1x1024.Idx → EReal) (w : S1024x1604.Idx → EReal) (c : Dev nD) (t : Fin cfg0.N) (e0 : m ((c : Thread nD τ).loc main_arg0) = x) (e1 : m ((c : Thread nD τ).loc main_arg1) = shift) (e2 : m ((c : Thread nD τ).loc main_arg2) = scale) (e3 : m ((c : Thread nD τ).loc main_arg3) = w) (r : Fin 512) (e : Fin 128) :
    (out0_11 (iblk m c 0 t) (iblk m c 1 t) (iblk m c 2 t) (iblk m c 3 t) (iblk m c 4 t) (iblk m c 5 t) (iblk m c 6 t) (iblk m c 7 t) (iblk m c 8 t) (iblk m c 9 t) (ix2 r e) : EReal) = ak (hrow x shift scale (batch t) (pos t r)) (mat w) e := by
  rw [stored_11, lane_block m x shift scale w c t r e0 e1 e2 e3]
  exact ak_lane _ w e _ rfl

/-- The whole array of the sparse attention's keys after the run. -/
theorem ak_array (x : S2x8192x1024.Idx → EReal) (shift scale : S2x1x1024.Idx → EReal) (w : S1024x1604.Idx → EReal) (c : Dev nD) (e0 : m ((c : Thread nD τ).loc main_arg0) = x) (e1 : m ((c : Thread nD τ).loc main_arg1) = shift) (e2 : m ((c : Thread nD τ).loc main_arg2) = scale) (e3 : m ((c : Thread nD τ).loc main_arg3) = w) :
    (dats m 0 c).arrAt 11 cfg0.N = fun j : S16384x128.Idx =>
      ak (hrow x shift scale ⟨(j 0).val / 8192, by have : (j 0).val < 16384 := (j 0).isLt; omega⟩ ⟨(j 0).val % 8192, by omega⟩) (mat w) (j 1) := by
  refine (dats m 0 c).arrAt_eq_of_covers 11 _ (by decide +kernel) fun t hf y => ?_
  blk_simp
  rw [after0_11]
  idx_vars y
  refine (ak_block_eq m x shift scale w c t e0 e1 e2 e3 y0 y1).trans ?_
  have hi : win0_11.index t 0 = t.val := by rw [(idx t).2.2.2.2.2.2.2.2.2.2.2.1]; rfl
  have hv : ∀ a, (((win0_11.rect t).emb (ix2 y0 y1) a : ℕ)) = win0_11.index t a * win0_11.size a + (ix2 y0 y1 a).val :=
    fun a => Pipeline.Window.rect_emb_val win0_11 t (ix2 y0 y1) a rfl
  rw [(idx t).2.2.2.2.2.2.2.2.2.2.2.1] at hv
  have h1 : ((View.whole main_v180_1).slice (win0_11.rect t)).emb (ix2 y0 y1) 1 = y1 :=
    Fin.ext ((hv 1).trans (show 0 * 128 + y1.val = y1.val by omega))
  rw [h1]
  refine congrArg₂ (fun n p => ak (hrow x shift scale n p) (mat w) y1) (Fin.ext ?_) (Fin.ext ?_)
  · show t.val / 16 = (win0_11.index t 0 * 512 + y0.val) / 8192
    rw [hi]
    omega
  · show (512 * t.val + y0.val) % 8192 = (win0_11.index t 0 * 512 + y0.val) % 8192
    rw [hi, Nat.mul_comm]

/-- What the body leaves of the sparse attention's values at a grid point. -/
theorem av_block_eq (x : S2x8192x1024.Idx → EReal) (shift scale : S2x1x1024.Idx → EReal) (w : S1024x1604.Idx → EReal) (c : Dev nD) (t : Fin cfg0.N) (e0 : m ((c : Thread nD τ).loc main_arg0) = x) (e1 : m ((c : Thread nD τ).loc main_arg1) = shift) (e2 : m ((c : Thread nD τ).loc main_arg2) = scale) (e3 : m ((c : Thread nD τ).loc main_arg3) = w) (r : Fin 512) (e : Fin 128) :
    (out0_12 (iblk m c 0 t) (iblk m c 1 t) (iblk m c 2 t) (iblk m c 3 t) (iblk m c 4 t) (iblk m c 5 t) (iblk m c 6 t) (iblk m c 7 t) (iblk m c 8 t) (iblk m c 9 t) (ix2 r e) : EReal) = av (hrow x shift scale (batch t) (pos t r)) (mat w) e := by
  rw [stored_12, lane_block m x shift scale w c t r e0 e1 e2 e3]
  exact av_lane _ w e _ rfl

/-- The whole array of the sparse attention's values after the run. -/
theorem av_array (x : S2x8192x1024.Idx → EReal) (shift scale : S2x1x1024.Idx → EReal) (w : S1024x1604.Idx → EReal) (c : Dev nD) (e0 : m ((c : Thread nD τ).loc main_arg0) = x) (e1 : m ((c : Thread nD τ).loc main_arg1) = shift) (e2 : m ((c : Thread nD τ).loc main_arg2) = scale) (e3 : m ((c : Thread nD τ).loc main_arg3) = w) :
    (dats m 0 c).arrAt 12 cfg0.N = fun j : S16384x128.Idx =>
      av (hrow x shift scale ⟨(j 0).val / 8192, by have : (j 0).val < 16384 := (j 0).isLt; omega⟩ ⟨(j 0).val % 8192, by omega⟩) (mat w) (j 1) := by
  refine (dats m 0 c).arrAt_eq_of_covers 12 _ (by decide +kernel) fun t hf y => ?_
  blk_simp
  rw [after0_12]
  idx_vars y
  refine (av_block_eq m x shift scale w c t e0 e1 e2 e3 y0 y1).trans ?_
  have hi : win0_12.index t 0 = t.val := by rw [(idx t).2.2.2.2.2.2.2.2.2.2.2.2.1]; rfl
  have hv : ∀ a, (((win0_12.rect t).emb (ix2 y0 y1) a : ℕ)) = win0_12.index t a * win0_12.size a + (ix2 y0 y1 a).val :=
    fun a => Pipeline.Window.rect_emb_val win0_12 t (ix2 y0 y1) a rfl
  rw [(idx t).2.2.2.2.2.2.2.2.2.2.2.2.1] at hv
  have h1 : ((View.whole main_v180_2).slice (win0_12.rect t)).emb (ix2 y0 y1) 1 = y1 :=
    Fin.ext ((hv 1).trans (show 0 * 128 + y1.val = y1.val by omega))
  rw [h1]
  refine congrArg₂ (fun n p => av (hrow x shift scale n p) (mat w) y1) (Fin.ext ?_) (Fin.ext ?_)
  · show t.val / 16 = (win0_12.index t 0 * 512 + y0.val) / 8192
    rw [hi]
    omega
  · show (512 * t.val + y0.val) % 8192 = (win0_12.index t 0 * 512 + y0.val) % 8192
    rw [hi, Nat.mul_comm]

/-- What the body leaves of the keys and values side by side at a grid point. -/
theorem kv_block_eq (x : S2x8192x1024.Idx → EReal) (shift scale : S2x1x1024.Idx → EReal) (w : S1024x1604.Idx → EReal) (c : Dev nD) (t : Fin cfg0.N) (e0 : m ((c : Thread nD τ).loc main_arg0) = x) (e1 : m ((c : Thread nD τ).loc main_arg1) = shift) (e2 : m ((c : Thread nD τ).loc main_arg2) = scale) (e3 : m ((c : Thread nD τ).loc main_arg3) = w) (r : Fin 512) (e : Fin 256) :
    (out0_13 (iblk m c 0 t) (iblk m c 1 t) (iblk m c 2 t) (iblk m c 3 t) (iblk m c 4 t) (iblk m c 5 t) (iblk m c 6 t) (iblk m c 7 t) (iblk m c 8 t) (iblk m c 9 t) (ix2 r e) : EReal) = kv (hrow x shift scale (batch t) (pos t r)) (mat w) e := by
  rw [stored_13, lane_block m x shift scale w c t r e0 e1 e2 e3]
  exact kv_lane _ w e _ rfl

/-- The whole array of the keys and values side by side after the run. -/
theorem kv_array (x : S2x8192x1024.Idx → EReal) (shift scale : S2x1x1024.Idx → EReal) (w : S1024x1604.Idx → EReal) (c : Dev nD) (e0 : m ((c : Thread nD τ).loc main_arg0) = x) (e1 : m ((c : Thread nD τ).loc main_arg1) = shift) (e2 : m ((c : Thread nD τ).loc main_arg2) = scale) (e3 : m ((c : Thread nD τ).loc main_arg3) = w) :
    (dats m 0 c).arrAt 13 cfg0.N = fun j : S16384x256.Idx =>
      kv (hrow x shift scale ⟨(j 0).val / 8192, by have : (j 0).val < 16384 := (j 0).isLt; omega⟩ ⟨(j 0).val % 8192, by omega⟩) (mat w) (j 1) := by
  refine (dats m 0 c).arrAt_eq_of_covers 13 _ (by decide +kernel) fun t hf y => ?_
  blk_simp
  rw [after0_13]
  idx_vars y
  refine (kv_block_eq m x shift scale w c t e0 e1 e2 e3 y0 y1).trans ?_
  have hi : win0_13.index t 0 = t.val := by rw [(idx t).2.2.2.2.2.2.2.2.2.2.2.2.2.1]; rfl
  have hv : ∀ a, (((win0_13.rect t).emb (ix2 y0 y1) a : ℕ)) = win0_13.index t a * win0_13.size a + (ix2 y0 y1 a).val :=
    fun a => Pipeline.Window.rect_emb_val win0_13 t (ix2 y0 y1) a rfl
  rw [(idx t).2.2.2.2.2.2.2.2.2.2.2.2.2.1] at hv
  have h1 : ((View.whole main_v180_3).slice (win0_13.rect t)).emb (ix2 y0 y1) 1 = y1 :=
    Fin.ext ((hv 1).trans (show 0 * 256 + y1.val = y1.val by omega))
  rw [h1]
  refine congrArg₂ (fun n p => kv (hrow x shift scale n p) (mat w) y1) (Fin.ext ?_) (Fin.ext ?_)
  · show t.val / 16 = (win0_13.index t 0 * 512 + y0.val) / 8192
    rw [hi]
    omega
  · show (512 * t.val + y0.val) % 8192 = (win0_13.index t 0 * 512 + y0.val) % 8192
    rw [hi, Nat.mul_comm]

/-- What the body leaves of the indexer's queries at a grid point. -/
theorem iq_block_eq (x : S2x8192x1024.Idx → EReal) (shift scale : S2x1x1024.Idx → EReal) (w : S1024x1604.Idx → EReal) (c : Dev nD) (t : Fin cfg0.N) (e0 : m ((c : Thread nD τ).loc main_arg0) = x) (e1 : m ((c : Thread nD τ).loc main_arg1) = shift) (e2 : m ((c : Thread nD τ).loc main_arg2) = scale) (e3 : m ((c : Thread nD τ).loc main_arg3) = w) (r : Fin 512) (e : Fin 512) :
    (out0_14 (iblk m c 0 t) (iblk m c 1 t) (iblk m c 2 t) (iblk m c 3 t) (iblk m c 4 t) (iblk m c 5 t) (iblk m c 6 t) (iblk m c 7 t) (iblk m c 8 t) (iblk m c 9 t) (ix2 r e) : EReal) = iq (hrow x shift scale (batch t) (pos t r)) (mat w) e := by
  rw [stored_14, lane_block m x shift scale w c t r e0 e1 e2 e3]
  exact iq_lane _ w e _ rfl

/-- The whole array of the indexer's queries after the run. -/
theorem iq_array (x : S2x8192x1024.Idx → EReal) (shift scale : S2x1x1024.Idx → EReal) (w : S1024x1604.Idx → EReal) (c : Dev nD) (e0 : m ((c : Thread nD τ).loc main_arg0) = x) (e1 : m ((c : Thread nD τ).loc main_arg1) = shift) (e2 : m ((c : Thread nD τ).loc main_arg2) = scale) (e3 : m ((c : Thread nD τ).loc main_arg3) = w) :
    (dats m 0 c).arrAt 14 cfg0.N = fun j : S16384x512.Idx =>
      iq (hrow x shift scale ⟨(j 0).val / 8192, by have : (j 0).val < 16384 := (j 0).isLt; omega⟩ ⟨(j 0).val % 8192, by omega⟩) (mat w) (j 1) := by
  refine (dats m 0 c).arrAt_eq_of_covers 14 _ (by decide +kernel) fun t hf y => ?_
  blk_simp
  rw [after0_14]
  idx_vars y
  refine (iq_block_eq m x shift scale w c t e0 e1 e2 e3 y0 y1).trans ?_
  have hi : win0_14.index t 0 = t.val := by rw [(idx t).2.2.2.2.2.2.2.2.2.2.2.2.2.2.1]; rfl
  have hv : ∀ a, (((win0_14.rect t).emb (ix2 y0 y1) a : ℕ)) = win0_14.index t a * win0_14.size a + (ix2 y0 y1 a).val :=
    fun a => Pipeline.Window.rect_emb_val win0_14 t (ix2 y0 y1) a rfl
  rw [(idx t).2.2.2.2.2.2.2.2.2.2.2.2.2.2.1] at hv
  have h1 : ((View.whole main_v180_4).slice (win0_14.rect t)).emb (ix2 y0 y1) 1 = y1 :=
    Fin.ext ((hv 1).trans (show 0 * 512 + y1.val = y1.val by omega))
  rw [h1]
  refine congrArg₂ (fun n p => iq (hrow x shift scale n p) (mat w) y1) (Fin.ext ?_) (Fin.ext ?_)
  · show t.val / 16 = (win0_14.index t 0 * 512 + y0.val) / 8192
    rw [hi]
    omega
  · show (512 * t.val + y0.val) % 8192 = (win0_14.index t 0 * 512 + y0.val) % 8192
    rw [hi, Nat.mul_comm]

/-- What the body leaves of the indexer's keys and head weights at a grid point. -/
theorem misc_block_eq (x : S2x8192x1024.Idx → EReal) (shift scale : S2x1x1024.Idx → EReal) (w : S1024x1604.Idx → EReal) (c : Dev nD) (t : Fin cfg0.N) (e0 : m ((c : Thread nD τ).loc main_arg0) = x) (e1 : m ((c : Thread nD τ).loc main_arg1) = shift) (e2 : m ((c : Thread nD τ).loc main_arg2) = scale) (e3 : m ((c : Thread nD τ).loc main_arg3) = w) (r : Fin 512) (e : Fin 128) :
    (out0_15 (iblk m c 0 t) (iblk m c 1 t) (iblk m c 2 t) (iblk m c 3 t) (iblk m c 4 t) (iblk m c 5 t) (iblk m c 6 t) (iblk m c 7 t) (iblk m c 8 t) (iblk m c 9 t) (ix2 r e) : EReal) = ik (hrow x shift scale (batch t) (pos t r)) (mat w) e := by
  rw [stored_15, lane_block m x shift scale w c t r e0 e1 e2 e3]
  exact ik_lane _ w e _ rfl

/-- The whole array of the indexer's keys and head weights after the run. -/
theorem misc_array (x : S2x8192x1024.Idx → EReal) (shift scale : S2x1x1024.Idx → EReal) (w : S1024x1604.Idx → EReal) (c : Dev nD) (e0 : m ((c : Thread nD τ).loc main_arg0) = x) (e1 : m ((c : Thread nD τ).loc main_arg1) = shift) (e2 : m ((c : Thread nD τ).loc main_arg2) = scale) (e3 : m ((c : Thread nD τ).loc main_arg3) = w) :
    (dats m 0 c).arrAt 15 cfg0.N = fun j : S16384x128.Idx =>
      ik (hrow x shift scale ⟨(j 0).val / 8192, by have : (j 0).val < 16384 := (j 0).isLt; omega⟩ ⟨(j 0).val % 8192, by omega⟩) (mat w) (j 1) := by
  refine (dats m 0 c).arrAt_eq_of_covers 15 _ (by decide +kernel) fun t hf y => ?_
  blk_simp
  rw [after0_15]
  idx_vars y
  refine (misc_block_eq m x shift scale w c t e0 e1 e2 e3 y0 y1).trans ?_
  have hi : win0_15.index t 0 = t.val := by rw [(idx t).2.2.2.2.2.2.2.2.2.2.2.2.2.2.2.1]; rfl
  have hv : ∀ a, (((win0_15.rect t).emb (ix2 y0 y1) a : ℕ)) = win0_15.index t a * win0_15.size a + (ix2 y0 y1 a).val :=
    fun a => Pipeline.Window.rect_emb_val win0_15 t (ix2 y0 y1) a rfl
  rw [(idx t).2.2.2.2.2.2.2.2.2.2.2.2.2.2.2.1] at hv
  have h1 : ((View.whole main_v180_5).slice (win0_15.rect t)).emb (ix2 y0 y1) 1 = y1 :=
    Fin.ext ((hv 1).trans (show 0 * 128 + y1.val = y1.val by omega))
  rw [h1]
  refine congrArg₂ (fun n p => ik (hrow x shift scale n p) (mat w) y1) (Fin.ext ?_) (Fin.ext ?_)
  · show t.val / 16 = (win0_15.index t 0 * 512 + y0.val) / 8192
    rw [hi]
    omega
  · show (512 * t.val + y0.val) % 8192 = (win0_15.index t 0 * 512 + y0.val) % 8192
    rw [hi, Nat.mul_comm]

/-- What the body leaves of the indexer's keys and head weights, stored again at a grid point. -/
theorem ik_block_eq (x : S2x8192x1024.Idx → EReal) (shift scale : S2x1x1024.Idx → EReal) (w : S1024x1604.Idx → EReal) (c : Dev nD) (t : Fin cfg0.N) (e0 : m ((c : Thread nD τ).loc main_arg0) = x) (e1 : m ((c : Thread nD τ).loc main_arg1) = shift) (e2 : m ((c : Thread nD τ).loc main_arg2) = scale) (e3 : m ((c : Thread nD τ).loc main_arg3) = w) (r : Fin 512) (e : Fin 128) :
    (out0_16 (iblk m c 0 t) (iblk m c 1 t) (iblk m c 2 t) (iblk m c 3 t) (iblk m c 4 t) (iblk m c 5 t) (iblk m c 6 t) (iblk m c 7 t) (iblk m c 8 t) (iblk m c 9 t) (ix2 r e) : EReal) = ik (hrow x shift scale (batch t) (pos t r)) (mat w) e := by
  rw [stored_16, lane_block m x shift scale w c t r e0 e1 e2 e3]
  exact ik_lane _ w e _ rfl

/-- The whole array of the indexer's keys and head weights, stored again after the run. -/
theorem ik_array (x : S2x8192x1024.Idx → EReal) (shift scale : S2x1x1024.Idx → EReal) (w : S1024x1604.Idx → EReal) (c : Dev nD) (e0 : m ((c : Thread nD τ).loc main_arg0) = x) (e1 : m ((c : Thread nD τ).loc main_arg1) = shift) (e2 : m ((c : Thread nD τ).loc main_arg2) = scale) (e3 : m ((c : Thread nD τ).loc main_arg3) = w) :
    (dats m 0 c).arrAt 16 cfg0.N = fun j : S16384x128.Idx =>
      ik (hrow x shift scale ⟨(j 0).val / 8192, by have : (j 0).val < 16384 := (j 0).isLt; omega⟩ ⟨(j 0).val % 8192, by omega⟩) (mat w) (j 1) := by
  refine (dats m 0 c).arrAt_eq_of_covers 16 _ (by decide +kernel) fun t hf y => ?_
  blk_simp
  rw [after0_16]
  idx_vars y
  refine (ik_block_eq m x shift scale w c t e0 e1 e2 e3 y0 y1).trans ?_
  have hi : win0_16.index t 0 = t.val := by rw [(idx t).2.2.2.2.2.2.2.2.2.2.2.2.2.2.2.2.1]; rfl
  have hv : ∀ a, (((win0_16.rect t).emb (ix2 y0 y1) a : ℕ)) = win0_16.index t a * win0_16.size a + (ix2 y0 y1 a).val :=
    fun a => Pipeline.Window.rect_emb_val win0_16 t (ix2 y0 y1) a rfl
  rw [(idx t).2.2.2.2.2.2.2.2.2.2.2.2.2.2.2.2.1] at hv
  have h1 : ((View.whole main_v180_6).slice (win0_16.rect t)).emb (ix2 y0 y1) 1 = y1 :=
    Fin.ext ((hv 1).trans (show 0 * 128 + y1.val = y1.val by omega))
  rw [h1]
  refine congrArg₂ (fun n p => ik (hrow x shift scale n p) (mat w) y1) (Fin.ext ?_) (Fin.ext ?_)
  · show t.val / 16 = (win0_16.index t 0 * 512 + y0.val) / 8192
    rw [hi]
    omega
  · show (512 * t.val + y0.val) % 8192 = (win0_16.index t 0 * 512 + y0.val) % 8192
    rw [hi, Nat.mul_comm]

/-- What the body leaves of the latent keys at a grid point. -/
theorem ckv_block_eq (x : S2x8192x1024.Idx → EReal) (shift scale : S2x1x1024.Idx → EReal) (w : S1024x1604.Idx → EReal) (gk : S128.Idx → EReal) (c : Dev nD) (t : Fin cfg0.N) (e0 : m ((c : Thread nD τ).loc main_arg0) = x) (e1 : m ((c : Thread nD τ).loc main_arg1) = shift) (e2 : m ((c : Thread nD τ).loc main_arg2) = scale) (e3 : m ((c : Thread nD τ).loc main_arg3) = w) (e5 : m ((c : Thread nD τ).loc main_arg5) = gk) (r : Fin 512) (e : Fin 128) :
    (out0_17 (iblk m c 0 t) (iblk m c 1 t) (iblk m c 2 t) (iblk m c 3 t) (iblk m c 4 t) (iblk m c 5 t) (iblk m c 6 t) (iblk m c 7 t) (iblk m c 8 t) (iblk m c 9 t) (ix2 r e) : EReal) = ckv (hrow x shift scale (batch t) (pos t r)) (mat w) (vec gk) e := by
  rw [stored_17, lane_block m x shift scale w c t r e0 e1 e2 e3]
  have hg : (fun f : Fin 128 => (iblk m c 5 t : S1x128.Idx → EReal) (ix2 0 f)) = vec gk := by
    rw [factorK_block, e5]
    exact funext fun f => rowK_apply gk 0 f
  rw [hg]
  exact ckv_lane _ w (vec gk) e

/-- The whole array of the latent keys after the run. -/
theorem ckv_array (x : S2x8192x1024.Idx → EReal) (shift scale : S2x1x1024.Idx → EReal) (w : S1024x1604.Idx → EReal) (gk : S128.Idx → EReal) (c : Dev nD) (e0 : m ((c : Thread nD τ).loc main_arg0) = x) (e1 : m ((c : Thread nD τ).loc main_arg1) = shift) (e2 : m ((c : Thread nD τ).loc main_arg2) = scale) (e3 : m ((c : Thread nD τ).loc main_arg3) = w) (e5 : m ((c : Thread nD τ).loc main_arg5) = gk) :
    (dats m 0 c).arrAt 17 cfg0.N = fun j : S16384x128.Idx =>
      ckv (hrow x shift scale ⟨(j 0).val / 8192, by have : (j 0).val < 16384 := (j 0).isLt; omega⟩ ⟨(j 0).val % 8192, by omega⟩) (mat w) (vec gk) (j 1) := by
  refine (dats m 0 c).arrAt_eq_of_covers 17 _ (by decide +kernel) fun t hf y => ?_
  blk_simp
  rw [after0_17]
  idx_vars y
  refine (ckv_block_eq m x shift scale w gk c t e0 e1 e2 e3 e5 y0 y1).trans ?_
  have hi : win0_17.index t 0 = t.val := by rw [(idx t).2.2.2.2.2.2.2.2.2.2.2.2.2.2.2.2.2.1]; rfl
  have hv : ∀ a, (((win0_17.rect t).emb (ix2 y0 y1) a : ℕ)) = win0_17.index t a * win0_17.size a + (ix2 y0 y1 a).val :=
    fun a => Pipeline.Window.rect_emb_val win0_17 t (ix2 y0 y1) a rfl
  rw [(idx t).2.2.2.2.2.2.2.2.2.2.2.2.2.2.2.2.2.1] at hv
  have h1 : ((View.whole main_v180_7).slice (win0_17.rect t)).emb (ix2 y0 y1) 1 = y1 :=
    Fin.ext ((hv 1).trans (show 0 * 128 + y1.val = y1.val by omega))
  rw [h1]
  refine congrArg₂ (fun n p => ckv (hrow x shift scale n p) (mat w) (vec gk) y1) (Fin.ext ?_) (Fin.ext ?_)
  · show t.val / 16 = (win0_17.index t 0 * 512 + y0.val) / 8192
    rw [hi]
    omega
  · show (512 * t.val + y0.val) % 8192 = (win0_17.index t 0 * 512 + y0.val) % 8192
    rw [hi, Nat.mul_comm]

/-- What the body leaves of the rotary keys at a grid point. -/
theorem kpe_block_eq (x : S2x8192x1024.Idx → EReal) (shift scale : S2x1x1024.Idx → EReal) (w : S1024x1604.Idx → EReal) (c : Dev nD) (t : Fin cfg0.N) (e0 : m ((c : Thread nD τ).loc main_arg0) = x) (e1 : m ((c : Thread nD τ).loc main_arg1) = shift) (e2 : m ((c : Thread nD τ).loc main_arg2) = scale) (e3 : m ((c : Thread nD τ).loc main_arg3) = w) (hr : ∀ n t d s, IsReal (hrow x shift scale n t d * w (ix2 d s))) (r : Fin 512) (e : Fin 128) :
    (out0_18 (iblk m c 0 t) (iblk m c 1 t) (iblk m c 2 t) (iblk m c 3 t) (iblk m c 4 t) (iblk m c 5 t) (iblk m c 6 t) (iblk m c 7 t) (iblk m c 8 t) (iblk m c 9 t) (ix2 r e) : EReal) = kpe (hrow x shift scale (batch t) (pos t r)) (mat w) (cosAt (pos t r)) (sinAt (pos t r)) e := by
  rw [stored_18, lane_block m x shift scale w c t r e0 e1 e2 e3]
  exact kpe_lane _ w (fun d s => hr _ _ d s) _ _ (fun l => (iblk m c 8 t : S512x128.Idx → EReal) (ix2 r l)) (fun l => (iblk m c 9 t : S512x128.Idx → EReal) (ix2 r l)) (fun l hl => cos_low m c t r l hl) (fun l hl hh => cos_high m c t r l hl hh) (fun l hl => sin_low m c t r l hl) (fun l hl hh => sin_high m c t r l hl hh) e

/-- The whole array of the rotary keys after the run. -/
theorem kpe_array (x : S2x8192x1024.Idx → EReal) (shift scale : S2x1x1024.Idx → EReal) (w : S1024x1604.Idx → EReal) (c : Dev nD) (e0 : m ((c : Thread nD τ).loc main_arg0) = x) (e1 : m ((c : Thread nD τ).loc main_arg1) = shift) (e2 : m ((c : Thread nD τ).loc main_arg2) = scale) (e3 : m ((c : Thread nD τ).loc main_arg3) = w) (hr : ∀ n t d s, IsReal (hrow x shift scale n t d * w (ix2 d s))) :
    (dats m 0 c).arrAt 18 cfg0.N = fun j : S16384x128.Idx =>
      kpe (hrow x shift scale ⟨(j 0).val / 8192, by have : (j 0).val < 16384 := (j 0).isLt; omega⟩ ⟨(j 0).val % 8192, by omega⟩) (mat w) (cosAt ⟨(j 0).val % 8192, by omega⟩) (sinAt ⟨(j 0).val % 8192, by omega⟩) (j 1) := by
  refine (dats m 0 c).arrAt_eq_of_covers 18 _ (by decide +kernel) fun t hf y => ?_
  blk_simp
  rw [after0_18]
  idx_vars y
  refine (kpe_block_eq m x shift scale w c t e0 e1 e2 e3 hr y0 y1).trans ?_
  have hi : win0_18.index t 0 = t.val := by rw [(idx t).2.2.2.2.2.2.2.2.2.2.2.2.2.2.2.2.2.2.1]; rfl
  have hv : ∀ a, (((win0_18.rect t).emb (ix2 y0 y1) a : ℕ)) = win0_18.index t a * win0_18.size a + (ix2 y0 y1 a).val :=
    fun a => Pipeline.Window.rect_emb_val win0_18 t (ix2 y0 y1) a rfl
  rw [(idx t).2.2.2.2.2.2.2.2.2.2.2.2.2.2.2.2.2.2.1] at hv
  have h1 : ((View.whole main_v180_8).slice (win0_18.rect t)).emb (ix2 y0 y1) 1 = y1 :=
    Fin.ext ((hv 1).trans (show 0 * 128 + y1.val = y1.val by omega))
  rw [h1]
  refine congrArg₂ (fun n p => kpe (hrow x shift scale n p) (mat w) (cosAt p) (sinAt p) y1) (Fin.ext ?_) (Fin.ext ?_)
  · show t.val / 16 = (win0_18.index t 0 * 512 + y0.val) / 8192
    rw [hi]
    omega
  · show (512 * t.val + y0.val) % 8192 = (win0_18.index t 0 * 512 + y0.val) % 8192
    rw [hi, Nat.mul_comm]

/-- What the body leaves of the latent attention's keys at a grid point. -/
theorem kmla_block_eq (x : S2x8192x1024.Idx → EReal) (shift scale : S2x1x1024.Idx → EReal) (w : S1024x1604.Idx → EReal) (gk : S128.Idx → EReal) (c : Dev nD) (t : Fin cfg0.N) (e0 : m ((c : Thread nD τ).loc main_arg0) = x) (e1 : m ((c : Thread nD τ).loc main_arg1) = shift) (e2 : m ((c : Thread nD τ).loc main_arg2) = scale) (e3 : m ((c : Thread nD τ).loc main_arg3) = w) (e5 : m ((c : Thread nD τ).loc main_arg5) = gk) (hr : ∀ n t d s, IsReal (hrow x shift scale n t d * w (ix2 d s))) (r : Fin 512) (e : Fin 256) :
    (out0_19 (iblk m c 0 t) (iblk m c 1 t) (iblk m c 2 t) (iblk m c 3 t) (iblk m c 4 t) (iblk m c 5 t) (iblk m c 6 t) (iblk m c 7 t) (iblk m c 8 t) (iblk m c 9 t) (ix2 r e) : EReal) = kmla (hrow x shift scale (batch t) (pos t r)) (mat w) (cosAt (pos t r)) (sinAt (pos t r)) (vec gk) e := by
  rw [stored_19, lane_block m x shift scale w c t r e0 e1 e2 e3]
  unfold kmla
  by_cases he : e.val < 128
  · rw [dif_pos he, dif_pos he]
    have hg : (fun f : Fin 128 => (iblk m c 5 t : S1x128.Idx → EReal) (ix2 0 f)) = vec gk := by
      rw [factorK_block, e5]
      exact funext fun f => rowK_apply gk 0 f
    rw [hg]
    exact ckv_lane _ w (vec gk) ⟨e.val, he⟩
  · rw [dif_neg he, dif_neg he]
    exact kpe_lane _ w (fun d s => hr _ _ d s) _ _ (fun l => (iblk m c 8 t : S512x128.Idx → EReal) (ix2 r l)) (fun l => (iblk m c 9 t : S512x128.Idx → EReal) (ix2 r l)) (fun l hl => cos_low m c t r l hl) (fun l hl hh => cos_high m c t r l hl hh) (fun l hl => sin_low m c t r l hl) (fun l hl hh => sin_high m c t r l hl hh) ⟨e.val - 128, by omega⟩

/-- The whole array of the latent attention's keys after the run. -/
theorem kmla_array (x : S2x8192x1024.Idx → EReal) (shift scale : S2x1x1024.Idx → EReal) (w : S1024x1604.Idx → EReal) (gk : S128.Idx → EReal) (c : Dev nD) (e0 : m ((c : Thread nD τ).loc main_arg0) = x) (e1 : m ((c : Thread nD τ).loc main_arg1) = shift) (e2 : m ((c : Thread nD τ).loc main_arg2) = scale) (e3 : m ((c : Thread nD τ).loc main_arg3) = w) (e5 : m ((c : Thread nD τ).loc main_arg5) = gk) (hr : ∀ n t d s, IsReal (hrow x shift scale n t d * w (ix2 d s))) :
    (dats m 0 c).arrAt 19 cfg0.N = fun j : S16384x256.Idx =>
      kmla (hrow x shift scale ⟨(j 0).val / 8192, by have : (j 0).val < 16384 := (j 0).isLt; omega⟩ ⟨(j 0).val % 8192, by omega⟩) (mat w) (cosAt ⟨(j 0).val % 8192, by omega⟩) (sinAt ⟨(j 0).val % 8192, by omega⟩) (vec gk) (j 1) := by
  refine (dats m 0 c).arrAt_eq_of_covers 19 _ (by decide +kernel) fun t hf y => ?_
  blk_simp
  rw [after0_19]
  idx_vars y
  refine (kmla_block_eq m x shift scale w gk c t e0 e1 e2 e3 e5 hr y0 y1).trans ?_
  have hi : win0_19.index t 0 = t.val := by rw [(idx t).2.2.2.2.2.2.2.2.2.2.2.2.2.2.2.2.2.2.2.1]; rfl
  have hv : ∀ a, (((win0_19.rect t).emb (ix2 y0 y1) a : ℕ)) = win0_19.index t a * win0_19.size a + (ix2 y0 y1 a).val :=
    fun a => Pipeline.Window.rect_emb_val win0_19 t (ix2 y0 y1) a rfl
  rw [(idx t).2.2.2.2.2.2.2.2.2.2.2.2.2.2.2.2.2.2.2.1] at hv
  have h1 : ((View.whole main_v180_9).slice (win0_19.rect t)).emb (ix2 y0 y1) 1 = y1 :=
    Fin.ext ((hv 1).trans (show 0 * 256 + y1.val = y1.val by omega))
  rw [h1]
  refine congrArg₂ (fun n p => kmla (hrow x shift scale n p) (mat w) (cosAt p) (sinAt p) (vec gk) y1) (Fin.ext ?_) (Fin.ext ?_)
  · show t.val / 16 = (win0_19.index t 0 * 512 + y0.val) / 8192
    rw [hi]
    omega
  · show (512 * t.val + y0.val) % 8192 = (win0_19.index t 0 * 512 + y0.val) % 8192
    rw [hi, Nat.mul_comm]

/-- What the body leaves of the latent attention's queries at a grid point. -/
theorem qmla_block_eq (x : S2x8192x1024.Idx → EReal) (shift scale : S2x1x1024.Idx → EReal) (w : S1024x1604.Idx → EReal) (g : S256.Idx → EReal) (u : S256x4x96.Idx → EReal) (k : S128x4x64.Idx → EReal) (c : Dev nD) (t : Fin cfg0.N) (e0 : m ((c : Thread nD τ).loc main_arg0) = x) (e1 : m ((c : Thread nD τ).loc main_arg1) = shift) (e2 : m ((c : Thread nD τ).loc main_arg2) = scale) (e3 : m ((c : Thread nD τ).loc main_arg3) = w) (e4 : m ((c : Thread nD τ).loc main_arg4) = g) (e6 : m ((c : Thread nD τ).loc main_arg6) = u) (e7 : m ((c : Thread nD τ).loc main_arg7) = k) (hq : ∀ n t r a p, IsReal (cq (hrow x shift scale n t) (mat w) (vec g) r * u (ix3 r a p))) (r : Fin 512) (e : Fin 1024) :
    (out0_20 (iblk m c 0 t) (iblk m c 1 t) (iblk m c 2 t) (iblk m c 3 t) (iblk m c 4 t) (iblk m c 5 t) (iblk m c 6 t) (iblk m c 7 t) (iblk m c 8 t) (iblk m c 9 t) (ix2 r e) : EReal) = qmla (cosAt (pos t r)) (sinAt (pos t r)) (cq (hrow x shift scale (batch t) (pos t r)) (mat w) (vec g)) (cube u) (cubeK k) e := by
  rw [stored_20, lane_block m x shift scale w c t r e0 e1 e2 e3]
  rw [heads_block, keys_block, e6, e7]
  have hg : (fun f : Fin 256 => (iblk m c 4 t : S1x256.Idx → EReal) (ix2 0 f)) = vec g := by
    rw [factorQ_block, e4]
    exact funext fun f => rowQ_apply g 0 f
  rw [hg]
  exact qmla_lane _ w (vec g) u k (fun r' a p => hq _ _ r' a p) _ _ (fun l => (iblk m c 8 t : S512x128.Idx → EReal) (ix2 r l)) (fun l => (iblk m c 9 t : S512x128.Idx → EReal) (ix2 r l)) (fun l hl => cos_low m c t r l hl) (fun l hl hh => cos_high m c t r l hl hh) (fun l hl => sin_low m c t r l hl) (fun l hl hh => sin_high m c t r l hl hh) e

/-- The whole array of the latent attention's queries after the run. -/
theorem qmla_array (x : S2x8192x1024.Idx → EReal) (shift scale : S2x1x1024.Idx → EReal) (w : S1024x1604.Idx → EReal) (g : S256.Idx → EReal) (u : S256x4x96.Idx → EReal) (k : S128x4x64.Idx → EReal) (c : Dev nD) (e0 : m ((c : Thread nD τ).loc main_arg0) = x) (e1 : m ((c : Thread nD τ).loc main_arg1) = shift) (e2 : m ((c : Thread nD τ).loc main_arg2) = scale) (e3 : m ((c : Thread nD τ).loc main_arg3) = w) (e4 : m ((c : Thread nD τ).loc main_arg4) = g) (e6 : m ((c : Thread nD τ).loc main_arg6) = u) (e7 : m ((c : Thread nD τ).loc main_arg7) = k) (hq : ∀ n t r a p, IsReal (cq (hrow x shift scale n t) (mat w) (vec g) r * u (ix3 r a p))) :
    (dats m 0 c).arrAt 20 cfg0.N = fun j : S16384x1024.Idx =>
      qmla (cosAt ⟨(j 0).val % 8192, by omega⟩) (sinAt ⟨(j 0).val % 8192, by omega⟩) (cq (hrow x shift scale ⟨(j 0).val / 8192, by have : (j 0).val < 16384 := (j 0).isLt; omega⟩ ⟨(j 0).val % 8192, by omega⟩) (mat w) (vec g)) (cube u) (cubeK k) (j 1) := by
  refine (dats m 0 c).arrAt_eq_of_covers 20 _ (by decide +kernel) fun t hf y => ?_
  blk_simp
  rw [after0_20]
  idx_vars y
  refine (qmla_block_eq m x shift scale w g u k c t e0 e1 e2 e3 e4 e6 e7 hq y0 y1).trans ?_
  have hi : win0_20.index t 0 = t.val := by rw [(idx t).2.2.2.2.2.2.2.2.2.2.2.2.2.2.2.2.2.2.2.2.1]; rfl
  have hv : ∀ a, (((win0_20.rect t).emb (ix2 y0 y1) a : ℕ)) = win0_20.index t a * win0_20.size a + (ix2 y0 y1 a).val :=
    fun a => Pipeline.Window.rect_emb_val win0_20 t (ix2 y0 y1) a rfl
  rw [(idx t).2.2.2.2.2.2.2.2.2.2.2.2.2.2.2.2.2.2.2.2.1] at hv
  have h1 : ((View.whole main_v180_10).slice (win0_20.rect t)).emb (ix2 y0 y1) 1 = y1 :=
    Fin.ext ((hv 1).trans (show 0 * 1024 + y1.val = y1.val by omega))
  rw [h1]
  refine congrArg₂ (fun n p => qmla (cosAt p) (sinAt p) (cq (hrow x shift scale n p) (mat w) (vec g)) (cube u) (cubeK k) y1) (Fin.ext ?_) (Fin.ext ?_)
  · show t.val / 16 = (win0_20.index t 0 * 512 + y0.val) / 8192
    rw [hi]
    omega
  · show (512 * t.val + y0.val) % 8192 = (win0_20.index t 0 * 512 + y0.val) % 8192
    rw [hi, Nat.mul_comm]

/-- What the body leaves of the state space branch's input at a grid point. -/
theorem cu_block_eq (x : S2x8192x1024.Idx → EReal) (shift scale : S2x1x1024.Idx → EReal) (w : S1024x1604.Idx → EReal) (c : Dev nD) (t : Fin cfg0.N) (e0 : m ((c : Thread nD τ).loc main_arg0) = x) (e1 : m ((c : Thread nD τ).loc main_arg1) = shift) (e2 : m ((c : Thread nD τ).loc main_arg2) = scale) (e3 : m ((c : Thread nD τ).loc main_arg3) = w) (r : Fin 512) (e : Fin 512) :
    (out0_21 (iblk m c 0 t) (iblk m c 1 t) (iblk m c 2 t) (iblk m c 3 t) (iblk m c 4 t) (iblk m c 5 t) (iblk m c 6 t) (iblk m c 7 t) (iblk m c 8 t) (iblk m c 9 t) (ix2 r e) : EReal) = cu (hrow x shift scale (batch t) (pos t r)) (mat w) e := by
  rw [stored_21, lane_block m x shift scale w c t r e0 e1 e2 e3]
  exact cu_lane _ w e _ rfl

/-- The whole array of the state space branch's input after the run. -/
theorem cu_array (x : S2x8192x1024.Idx → EReal) (shift scale : S2x1x1024.Idx → EReal) (w : S1024x1604.Idx → EReal) (c : Dev nD) (e0 : m ((c : Thread nD τ).loc main_arg0) = x) (e1 : m ((c : Thread nD τ).loc main_arg1) = shift) (e2 : m ((c : Thread nD τ).loc main_arg2) = scale) (e3 : m ((c : Thread nD τ).loc main_arg3) = w) :
    (dats m 0 c).arrAt 21 cfg0.N = fun j : S16384x512.Idx =>
      cu (hrow x shift scale ⟨(j 0).val / 8192, by have : (j 0).val < 16384 := (j 0).isLt; omega⟩ ⟨(j 0).val % 8192, by omega⟩) (mat w) (j 1) := by
  refine (dats m 0 c).arrAt_eq_of_covers 21 _ (by decide +kernel) fun t hf y => ?_
  blk_simp
  rw [after0_21]
  idx_vars y
  refine (cu_block_eq m x shift scale w c t e0 e1 e2 e3 y0 y1).trans ?_
  have hi : win0_21.index t 0 = t.val := by rw [(idx t).2.2.2.2.2.2.2.2.2.2.2.2.2.2.2.2.2.2.2.2.2]; rfl
  have hv : ∀ a, (((win0_21.rect t).emb (ix2 y0 y1) a : ℕ)) = win0_21.index t a * win0_21.size a + (ix2 y0 y1 a).val :=
    fun a => Pipeline.Window.rect_emb_val win0_21 t (ix2 y0 y1) a rfl
  rw [(idx t).2.2.2.2.2.2.2.2.2.2.2.2.2.2.2.2.2.2.2.2.2] at hv
  have h1 : ((View.whole main_v180_11).slice (win0_21.rect t)).emb (ix2 y0 y1) 1 = y1 :=
    Fin.ext ((hv 1).trans (show 0 * 512 + y1.val = y1.val by omega))
  rw [h1]
  refine congrArg₂ (fun n p => cu (hrow x shift scale n p) (mat w) y1) (Fin.ext ?_) (Fin.ext ?_)
  · show t.val / 16 = (win0_21.index t 0 * 512 + y0.val) / 8192
    rw [hi]
    omega
  · show (512 * t.val + y0.val) % 8192 = (win0_21.index t 0 * 512 + y0.val) % 8192
    rw [hi, Nat.mul_comm]

end Cert.Kernel3Ideal.Mix

end
-- ==== Proof.MixRows.lean ====
/- What the reference of the input projections computes before its results are laid out: the projected row, its norms and
   its rotary embedding, at an index. -/
module

public import proofs.«01_k».proof.Proof.MixArray
public import proofs.«01_k».proof.Proof.Gen.Reference3Ideal.Read
public import Idealize.ShloMosaic.Lib.Pointwise

@[expose] public section

noncomputable section

namespace Cert.Reference3Ideal.Mix

open Cert.Reference3Ideal Cert.Reference3Ideal.Gen Cert.Reference3Ideal.Read Idealize.ShloMosaic Idealize.ShloMosaic.TcCoe Idealize.SL.Sem Cert.Layer
open Cert.Mix
open Cert.Kernel3Ideal.Mix (hrow cosAt sinAt mat vec cube cubeK)

variable (x : S2x8192x1024.Idx → EReal) (sh sc : S2x1x1024.Idx → EReal) (w : S1024x1604.Idx → EReal) (g : S256.Idx → EReal) (gk : S128.Idx → EReal)
  (u : S256x4x96.Idx → EReal) (k : S128x4x64.Idx → EReal)

/-- The modulated rows. -/
theorem row_eq (n : Fin 2) (t : Fin 8192) (d : Fin 1024) : (val_main_v6 (F := Ideal) x sh sc (ix3 n t d) : EReal) = hrow x sh sc n t d := by
  have e3 : idx_main_v3 (ix3 n t d) = ix3 n 0 d := by funext a; fin_cases a <;> rfl
  have e5 : idx_main_v5 (ix3 n t d) = ix3 n 0 d := by funext a; fin_cases a <;> rfl
  rw [val_main_v6_apply, val_main_v5_apply, e5, val_main_v4_apply, val_main_v3_apply, e3, val_main_v2_apply, val_main_v1_apply, val_main_cst_apply]
  unfold hrow modulated
  rw [← Ideal.ofBits_one_f32]
  rfl

/-- The projected rows. -/
theorem proj_eq (n : Fin 2) (t : Fin 8192) (e : Fin 1604) :
    (val_main_v7 (F := Ideal) x sh sc w (ix3 n t e) : EReal) = proj (hrow x sh sc n t) (mat w) e := by
  rw [val_main_v7_apply]
  refine Finset.sum_congr rfl fun d _ => ?_
  have el : lidx_main_v7 (ix3 n t e) d = ix3 n t d := by funext a; fin_cases a <;> rfl
  have er : ridx_main_v7 (ix3 n t e) d = ix2 d e := by funext a; fin_cases a <;> rfl
  rw [el, er, row_eq]
  rfl

theorem part8 (n : Fin 2) (t : Fin 8192) (e : Fin 256) :
    (val_main_v8 (F := Ideal) x sh sc w (ix3 n t e) : EReal) = proj (hrow x sh sc n t) (mat w) ⟨e.val, by omega⟩ := by
  have ei : idx_main_v8 (ix3 n t e) = ix3 n t ⟨e.val, by omega⟩ := by funext a; fin_cases a <;> rfl
  rw [val_main_v8_apply, ei, proj_eq]

theorem part9 (n : Fin 2) (t : Fin 8192) (e : Fin 128) :
    (val_main_v9 (F := Ideal) x sh sc w (ix3 n t e) : EReal) = proj (hrow x sh sc n t) (mat w) ⟨256 + e.val, by omega⟩ := by
  have ei : idx_main_v9 (ix3 n t e) = ix3 n t ⟨256 + e.val, by omega⟩ := by funext a; fin_cases a <;> rfl
  rw [val_main_v9_apply, ei, proj_eq]

theorem part10 (n : Fin 2) (t : Fin 8192) (e : Fin 128) :
    (val_main_v10 (F := Ideal) x sh sc w (ix3 n t e) : EReal) = proj (hrow x sh sc n t) (mat w) ⟨384 + e.val, by omega⟩ := by
  have ei : idx_main_v10 (ix3 n t e) = ix3 n t ⟨384 + e.val, by omega⟩ := by funext a; fin_cases a <;> rfl
  rw [val_main_v10_apply, ei, proj_eq]

theorem part11 (n : Fin 2) (t : Fin 8192) (e : Fin 128) :
    (val_main_v11 (F := Ideal) x sh sc w (ix3 n t e) : EReal) = proj (hrow x sh sc n t) (mat w) ⟨512 + e.val, by omega⟩ := by
  have ei : idx_main_v11 (ix3 n t e) = ix3 n t ⟨512 + e.val, by omega⟩ := by funext a; fin_cases a <;> rfl
  rw [val_main_v11_apply, ei, proj_eq]

theorem part12 (n : Fin 2) (t : Fin 8192) (e : Fin 4) :
    (val_main_v12 (F := Ideal) x sh sc w (ix3 n t e) : EReal) = proj (hrow x sh sc n t) (mat w) ⟨640 + e.val, by omega⟩ := by
  have ei : idx_main_v12 (ix3 n t e) = ix3 n t ⟨640 + e.val, by omega⟩ := by funext a; fin_cases a <;> rfl
  rw [val_main_v12_apply, ei, proj_eq]

theorem part13 (n : Fin 2) (t : Fin 8192) (e : Fin 32) :
    (val_main_v13 (F := Ideal) x sh sc w (ix3 n t e) : EReal) = proj (hrow x sh sc n t) (mat w) ⟨644 + e.val, by omega⟩ := by
  have ei : idx_main_v13 (ix3 n t e) = ix3 n t ⟨644 + e.val, by omega⟩ := by funext a; fin_cases a <;> rfl
  rw [val_main_v13_apply, ei, proj_eq]

theorem part14 (n : Fin 2) (t : Fin 8192) (e : Fin 256) :
    (val_main_v14 (F := Ideal) x sh sc w (ix3 n t e) : EReal) = proj (hrow x sh sc n t) (mat w) ⟨676 + e.val, by omega⟩ := by
  have ei : idx_main_v14 (ix3 n t e) = ix3 n t ⟨676 + e.val, by omega⟩ := by funext a; fin_cases a <;> rfl
  rw [val_main_v14_apply, ei, proj_eq]

theorem part15 (n : Fin 2) (t : Fin 8192) (e : Fin 128) :
    (val_main_v15 (F := Ideal) x sh sc w (ix3 n t e) : EReal) = proj (hrow x sh sc n t) (mat w) ⟨932 + e.val, by omega⟩ := by
  have ei : idx_main_v15 (ix3 n t e) = ix3 n t ⟨932 + e.val, by omega⟩ := by funext a; fin_cases a <;> rfl
  rw [val_main_v15_apply, ei, proj_eq]

theorem part16 (n : Fin 2) (t : Fin 8192) (e : Fin 32) :
    (val_main_v16 (F := Ideal) x sh sc w (ix3 n t e) : EReal) = proj (hrow x sh sc n t) (mat w) ⟨1060 + e.val, by omega⟩ := by
  have ei : idx_main_v16 (ix3 n t e) = ix3 n t ⟨1060 + e.val, by omega⟩ := by funext a; fin_cases a <;> rfl
  rw [val_main_v16_apply, ei, proj_eq]

theorem part17 (n : Fin 2) (t : Fin 8192) (e : Fin 512) :
    (val_main_v17 (F := Ideal) x sh sc w (ix3 n t e) : EReal) = proj (hrow x sh sc n t) (mat w) ⟨1092 + e.val, by omega⟩ := by
  have ei : idx_main_v17 (ix3 n t e) = ix3 n t ⟨1092 + e.val, by omega⟩ := by funext a; fin_cases a <;> rfl
  rw [val_main_v17_apply, ei, proj_eq]

/-- The latent queries: the sum of squares. -/
theorem latentQ_squares (n : Fin 2) (t : Fin 8192) :
    (val_main_v28 (F := Ideal) x sh sc w (ix3 n t 0) : EReal)
      = ∑ f : Fin 256, proj (hrow x sh sc n t) (mat w) ⟨676 + f.val, by omega⟩ * proj (hrow x sh sc n t) (mat w) ⟨676 + f.val, by omega⟩ := by
  have e1 : idx_main_v28 (ix3 n t 0) = ix2 n t := by funext a; fin_cases a <;> rfl
  have e2 : ∀ f : Fin 256, idx_main_v27 (ix2 n t) f = ix3 n t f := fun f => by funext a; fin_cases a <;> rfl
  rw [val_main_v28_apply, e1, val_main_v27_apply, val_main_cst_3_apply]
  simp only [e2, val_main_v26_apply, part14]
  refine (congrArg (fun y : EReal => y + _) Ideal.ofBits_zero_f32).trans ?_
  exact zero_add _

/-- The latent queries. -/
theorem latentQ_eq (n : Fin 2) (t : Fin 8192) (e : Fin 256) :
    (val_main_v38 (F := Ideal) x sh sc w g (ix3 n t e) : EReal) = cq (hrow x sh sc n t) (mat w) (vec g) e := by
  have e1 : idx_main_v34 (ix3 n t e) = ix3 n t 0 := by funext a; fin_cases a <;> rfl
  have e2 : idx_main_v36 (idx_main_v37 (ix3 n t e)) = ix1 e := by funext a; fin_cases a <;> rfl
  rw [val_main_v38_apply, val_main_v37_apply, val_main_v36_apply, e2, val_main_v35_apply, val_main_v34_apply, e1, val_main_v33_apply,
    val_main_v32_apply, val_main_v31_apply, val_main_v30_apply, val_main_v29_apply, val_main_cst_4_apply, val_main_cst_5_apply, latentQ_squares, part14]
  rfl

/-- The latent keys: the sum of squares. -/
theorem latentK_squares (n : Fin 2) (t : Fin 8192) :
    (val_main_v79 (F := Ideal) x sh sc w (ix3 n t 0) : EReal)
      = ∑ f : Fin 128, proj (hrow x sh sc n t) (mat w) ⟨932 + f.val, by omega⟩ * proj (hrow x sh sc n t) (mat w) ⟨932 + f.val, by omega⟩ := by
  have e1 : idx_main_v79 (ix3 n t 0) = ix2 n t := by funext a; fin_cases a <;> rfl
  have e2 : ∀ f : Fin 128, idx_main_v78 (ix2 n t) f = ix3 n t f := fun f => by funext a; fin_cases a <;> rfl
  rw [val_main_v79_apply, e1, val_main_v78_apply, val_main_cst_8_apply]
  simp only [e2, val_main_v77_apply, part15]
  refine (congrArg (fun y : EReal => y + _) Ideal.ofBits_zero_f32).trans ?_
  exact zero_add _

/-- The latent keys. -/
theorem latentK_eq (n : Fin 2) (t : Fin 8192) (e : Fin 128) :
    (val_main_v89 (F := Ideal) x sh sc w gk (ix3 n t e) : EReal) = ckv (hrow x sh sc n t) (mat w) (vec gk) e := by
  have e1 : idx_main_v85 (ix3 n t e) = ix3 n t 0 := by funext a; fin_cases a <;> rfl
  have e2 : idx_main_v87 (idx_main_v88 (ix3 n t e)) = ix1 e := by funext a; fin_cases a <;> rfl
  rw [val_main_v89_apply, val_main_v88_apply, val_main_v87_apply, e2, val_main_v86_apply, val_main_v85_apply, e1, val_main_v84_apply,
    val_main_v83_apply, val_main_v82_apply, val_main_v81_apply, val_main_v80_apply, val_main_cst_9_apply, val_main_cst_10_apply, latentK_squares, part15]
  rfl

/-- The queries by head. -/
theorem query_eq (n : Fin 2) (t : Fin 8192) (a : Fin 4) (f : Fin 96) :
    (val_main_v39 (F := Ideal) x sh sc w g u (ix4 n t a f) : EReal) = query (cq (hrow x sh sc n t) (mat w) (vec g)) (cube u) a f := by
  rw [val_main_v39_apply]
  refine Finset.sum_congr rfl fun r _ => ?_
  have el : lidx_main_v39 (ix4 n t a f) r = ix3 n t r := by funext a; fin_cases a <;> rfl
  have er : ridx_main_v39 (ix4 n t a f) r = ix3 r a f := by funext a; fin_cases a <;> rfl
  rw [el, er, latentQ_eq]
  rfl

theorem cos_eq : (val_main_v53 (F := Ideal) : S8192x16.Idx → EReal) = fun i => Host.cos (F := Ideal) (φ := .f32) Cert.Kernel3Ideal.Mix.angles i := rfl

theorem sin_eq : (val_main_v55 (F := Ideal) : S8192x16.Idx → EReal) = fun i => Host.sin (F := Ideal) (φ := .f32) Cert.Kernel3Ideal.Mix.angles i := rfl

theorem cosK_eq : (val_main_v103 (F := Ideal) : S8192x16.Idx → EReal) = fun i => Host.cos (F := Ideal) (φ := .f32) Cert.Kernel3Ideal.Mix.angles i := rfl

theorem sinK_eq : (val_main_v105 (F := Ideal) : S8192x16.Idx → EReal) = fun i => Host.sin (F := Ideal) (φ := .f32) Cert.Kernel3Ideal.Mix.angles i := rfl

/-- The rotated queries: the first half. -/
theorem rotQ_first (n : Fin 2) (t : Fin 8192) (a : Fin 4) (i : Fin 16) :
    (val_main_v65 (F := Ideal) x sh sc w g u (ix4 n t a i) : EReal)
      = query (cq (hrow x sh sc n t) (mat w) (vec g)) (cube u) a ⟨64 + (i.val), by omega⟩ * cosAt t i - query (cq (hrow x sh sc n t) (mat w) (vec g)) (cube u) a ⟨64 + (16 + i.val), by omega⟩ * sinAt t i := by
  have e1 : idx_main_v40 (idx_main_v57 (ix4 n t a i)) = ix4 n t a ⟨64 + (i.val), by omega⟩ := by funext a; fin_cases a <;> rfl
  have e2 : idx_main_v40 (idx_main_v58 (ix4 n t a i)) = ix4 n t a ⟨64 + (16 + i.val), by omega⟩ := by funext a; fin_cases a <;> rfl
  have e3 : idx_main_v54 (idx_main_v59 (idx_main_v60 (ix4 n t a i))) = ix2 t i := by funext a; fin_cases a <;> rfl
  have e4 : idx_main_v56 (idx_main_v62 (idx_main_v63 (ix4 n t a i))) = ix2 t i := by funext a; fin_cases a <;> rfl
  rw [val_main_v65_apply, val_main_v64_apply, val_main_v63_apply, val_main_v62_apply, val_main_v56_apply, e4, val_main_v61_apply, val_main_v60_apply, val_main_v59_apply, val_main_v54_apply, e3, val_main_v58_apply, val_main_v57_apply, val_main_v40_apply, val_main_v40_apply, e1, e2, query_eq, query_eq, cos_eq, sin_eq]
  rfl

/-- The rotated queries: the second half. -/
theorem rotQ_second (n : Fin 2) (t : Fin 8192) (a : Fin 4) (i : Fin 16) :
    (val_main_v72 (F := Ideal) x sh sc w g u (ix4 n t a i) : EReal)
      = query (cq (hrow x sh sc n t) (mat w) (vec g)) (cube u) a ⟨64 + (i.val), by omega⟩ * sinAt t i + query (cq (hrow x sh sc n t) (mat w) (vec g)) (cube u) a ⟨64 + (16 + i.val), by omega⟩ * cosAt t i := by
  have e1 : idx_main_v40 (idx_main_v57 (ix4 n t a i)) = ix4 n t a ⟨64 + (i.val), by omega⟩ := by funext a; fin_cases a <;> rfl
  have e2 : idx_main_v40 (idx_main_v58 (ix4 n t a i)) = ix4 n t a ⟨64 + (16 + i.val), by omega⟩ := by funext a; fin_cases a <;> rfl
  have e3 : idx_main_v54 (idx_main_v69 (idx_main_v70 (ix4 n t a i))) = ix2 t i := by funext a; fin_cases a <;> rfl
  have e4 : idx_main_v56 (idx_main_v66 (idx_main_v67 (ix4 n t a i))) = ix2 t i := by funext a; fin_cases a <;> rfl
  rw [val_main_v72_apply, val_main_v71_apply, val_main_v70_apply, val_main_v69_apply, val_main_v54_apply, e3, val_main_v68_apply, val_main_v67_apply, val_main_v66_apply, val_main_v56_apply, e4, val_main_v58_apply, val_main_v57_apply, val_main_v40_apply, val_main_v40_apply, e1, e2, query_eq, query_eq, cos_eq, sin_eq]
  rfl

/-- The rotated queries. -/
theorem rotQ_eq (n : Fin 2) (t : Fin 8192) (a : Fin 4) (l : Fin 32) :
    (val_main_v73 (F := Ideal) x sh sc w g u (ix4 n t a l) : EReal) = rope (cosAt t) (sinAt t) (fun f : Fin 32 => query (cq (hrow x sh sc n t) (mat w) (vec g)) (cube u) a ⟨64 + (f.val), by omega⟩) l := by
  have h : (val_main_v73 (F := Ideal) x sh sc w g u (ix4 n t a l) : EReal)
      = if h : l.val < 16 then (val_main_v65 (F := Ideal) x sh sc w g u (ix4 n t a ⟨l.val, h⟩) : EReal)
        else (val_main_v72 (F := Ideal) x sh sc w g u (ix4 n t a ⟨l.val - 16, by omega⟩) : EReal) := by
    unfold val_main_v73
    generalize val_main_v65 (F := Ideal) x sh sc w g u = y
    generalize val_main_v72 (F := Ideal) x sh sc w g u = z
    pointwise
  rw [h]
  unfold rope
  by_cases hl : l.val < 16
  · rw [dif_pos hl, dif_pos hl, rotQ_first]
    dsimp only
    rw [show (⟨64 + (16 + l.val), by omega⟩ : Fin 96) = ⟨64 + (l.val + 16), by omega⟩ from Fin.ext (by dsimp only; omega)]
  · rw [dif_neg hl, dif_neg hl, rotQ_second]
    dsimp only
    rw [show (⟨64 + (16 + (l.val - 16)), by omega⟩ : Fin 96) = ⟨64 + l.val, by omega⟩ from Fin.ext (by dsimp only; omega)]

/-- The rotated keys: the first half. -/
theorem rotK_first (n : Fin 2) (t : Fin 8192) (i : Fin 16) :
    (val_main_v115 (F := Ideal) x sh sc w (ix4 n t 0 i) : EReal)
      = proj (hrow x sh sc n t) (mat w) ⟨1060 + (i.val), by omega⟩ * cosAt t i - proj (hrow x sh sc n t) (mat w) ⟨1060 + (16 + i.val), by omega⟩ * sinAt t i := by
  have e1 : idx_main_v90 (idx_main_v107 (ix4 n t 0 i)) = ix3 n t ⟨i.val, by omega⟩ := by funext a; fin_cases a <;> rfl
  have e2 : idx_main_v90 (idx_main_v108 (ix4 n t 0 i)) = ix3 n t ⟨16 + i.val, by omega⟩ := by funext a; fin_cases a <;> rfl
  have e3 : idx_main_v104 (idx_main_v109 (idx_main_v110 (ix4 n t 0 i))) = ix2 t i := by funext a; fin_cases a <;> rfl
  have e4 : idx_main_v106 (idx_main_v112 (idx_main_v113 (ix4 n t 0 i))) = ix2 t i := by funext a; fin_cases a <;> rfl
  rw [val_main_v115_apply, val_main_v114_apply, val_main_v113_apply, val_main_v112_apply, val_main_v106_apply, e4, val_main_v111_apply, val_main_v110_apply, val_main_v109_apply, val_main_v104_apply, e3, val_main_v108_apply, val_main_v107_apply, val_main_v90_apply, val_main_v90_apply, e1, e2, part16, part16, cosK_eq, sinK_eq]
  rfl

/-- The rotated keys: the second half. -/
theorem rotK_second (n : Fin 2) (t : Fin 8192) (i : Fin 16) :
    (val_main_v122 (F := Ideal) x sh sc w (ix4 n t 0 i) : EReal)
      = proj (hrow x sh sc n t) (mat w) ⟨1060 + (i.val), by omega⟩ * sinAt t i + proj (hrow x sh sc n t) (mat w) ⟨1060 + (16 + i.val), by omega⟩ * cosAt t i := by
  have e1 : idx_main_v90 (idx_main_v107 (ix4 n t 0 i)) = ix3 n t ⟨i.val, by omega⟩ := by funext a; fin_cases a <;> rfl
  have e2 : idx_main_v90 (idx_main_v108 (ix4 n t 0 i)) = ix3 n t ⟨16 + i.val, by omega⟩ := by funext a; fin_cases a <;> rfl
  have e3 : idx_main_v104 (idx_main_v119 (idx_main_v120 (ix4 n t 0 i))) = ix2 t i := by funext a; fin_cases a <;> rfl
  have e4 : idx_main_v106 (idx_main_v116 (idx_main_v117 (ix4 n t 0 i))) = ix2 t i := by funext a; fin_cases a <;> rfl
  rw [val_main_v122_apply, val_main_v121_apply, val_main_v120_apply, val_main_v119_apply, val_main_v104_apply, e3, val_main_v118_apply, val_main_v117_apply, val_main_v116_apply, val_main_v106_apply, e4, val_main_v108_apply, val_main_v107_apply, val_main_v90_apply, val_main_v90_apply, e1, e2, part16, part16, cosK_eq, sinK_eq]
  rfl

/-- The rotated keys. -/
theorem rotK_eq (n : Fin 2) (t : Fin 8192) (l : Fin 32) :
    (val_main_v123 (F := Ideal) x sh sc w (ix4 n t 0 l) : EReal) = rope (cosAt t) (sinAt t) (fun f : Fin 32 => proj (hrow x sh sc n t) (mat w) ⟨1060 + (f.val), by omega⟩) l := by
  have h : (val_main_v123 (F := Ideal) x sh sc w (ix4 n t 0 l) : EReal)
      = if h : l.val < 16 then (val_main_v115 (F := Ideal) x sh sc w (ix4 n t 0 ⟨l.val, h⟩) : EReal)
        else (val_main_v122 (F := Ideal) x sh sc w (ix4 n t 0 ⟨l.val - 16, by omega⟩) : EReal) := by
    unfold val_main_v123
    generalize val_main_v115 (F := Ideal) x sh sc w = y
    generalize val_main_v122 (F := Ideal) x sh sc w = z
    pointwise
  rw [h]
  unfold rope
  by_cases hl : l.val < 16
  · rw [dif_pos hl, dif_pos hl, rotK_first]
    dsimp only
    rw [show (⟨1060 + (16 + l.val), by omega⟩ : Fin 1604) = ⟨1060 + (l.val + 16), by omega⟩ from Fin.ext (by dsimp only; omega)]
  · rw [dif_neg hl, dif_neg hl, rotK_second]
    dsimp only
    rw [show (⟨1060 + (16 + (l.val - 16)), by omega⟩ : Fin 1604) = ⟨1060 + l.val, by omega⟩ from Fin.ext (by dsimp only; omega)]

/-- The latent channels of the queries. -/
theorem latent_eq (n : Fin 2) (t : Fin 8192) (a : Fin 4) (l : Fin 128) :
    (val_main_v76 (F := Ideal) x sh sc w g u k (ix4 n t a l) : EReal)
      = ∑ f : Fin 64, query (cq (hrow x sh sc n t) (mat w) (vec g)) (cube u) a ⟨f.val, by omega⟩ * cubeK k l a f := by
  have e1 : idx_main_v76 (ix4 n t a l) = ix4 a l n t := by funext a; fin_cases a <;> rfl
  rw [val_main_v76_apply, e1, val_main_v75_apply]
  refine Finset.sum_congr rfl fun f _ => ?_
  have el : lidx_main_v75 (ix4 a l n t) f = ix3 l a f := by funext a; fin_cases a <;> rfl
  have er : idx_main_v74 (ridx_main_v75 (ix4 a l n t) f) = ix4 n t a ⟨f.val, by omega⟩ := by funext a; fin_cases a <;> rfl
  rw [val_main_v74_apply, el, er, query_eq, mul_comm]
  rfl

end Cert.Reference3Ideal.Mix

end
-- ==== Proof.MixRef.lean ====
/- The reference of the input projections: each of its results, at a row and a lane. -/
module

public import proofs.«01_k».proof.Proof.MixRows

@[expose] public section

noncomputable section

namespace Cert.Reference3Ideal.Mix

open Cert.Reference3Ideal Cert.Reference3Ideal.Gen Cert.Reference3Ideal.Read Idealize.ShloMosaic Idealize.ShloMosaic.TcCoe Idealize.SL.Sem Cert.Layer
open Cert.Mix
open Cert.Kernel3Ideal.Mix (hrow cosAt sinAt mat vec cube cubeK)

variable (x : S2x8192x1024.Idx → EReal) (sh sc : S2x1x1024.Idx → EReal) (w : S1024x1604.Idx → EReal) (g : S256.Idx → EReal) (gk : S128.Idx → EReal)
  (u : S256x4x96.Idx → EReal) (k : S128x4x64.Idx → EReal)

/-- The batch of a flattened row. -/
def nOf (R : Fin 16384) : Fin 2 := ⟨R.val / 8192, by omega⟩

/-- The position of a flattened row in its batch. -/
def tOf (R : Fin 16384) : Fin 8192 := ⟨R.val % 8192, by omega⟩

/-- The sparse attention's queries before padding. -/
theorem scaled_eq (n : Fin 2) (t : Fin 8192) (p q : Fin 2) (l : Fin 64) :
    (val_main_v20 (F := Ideal) x sh sc w (ix5 n t p q l) : EReal)
      = proj (hrow x sh sc n t) (mat w) ⟨128 * p.val + 64 * q.val + l.val, by omega⟩ * Ideal.ofBits FTy.f32 0x3E000000#32 := by
  have e : idx_main_v18 (ix5 n t p q l) = ix3 n t ⟨128 * p.val + 64 * q.val + l.val, by omega⟩ := by
    funext a
    apply Fin.ext
    match a with
    | ⟨0, _⟩ => show ((((n.val * 8192 + t.val) * 2 + p.val) * 2 + q.val) * 64 + l.val) / 2097152 = n.val; omega
    | ⟨1, _⟩ => show ((((n.val * 8192 + t.val) * 2 + p.val) * 2 + q.val) * 64 + l.val) / 256 % 8192 = t.val; omega
    | ⟨2, _⟩ => show ((((n.val * 8192 + t.val) * 2 + p.val) * 2 + q.val) * 64 + l.val) % 256 = 128 * p.val + 64 * q.val + l.val; omega
  rw [val_main_v20_apply, val_main_v19_apply, val_main_cst_0_apply, val_main_v18_apply, e, part8]
  rfl

theorem group0 (n : Fin 2) (t : Fin 8192) (q : Fin 2) (l : Fin 64) :
    (val_main_v127 (F := Ideal) x sh sc w (ix4 n t q l) : EReal)
      = proj (hrow x sh sc n t) (mat w) ⟨128 * 0 + 64 * q.val + l.val, by omega⟩ * Ideal.ofBits FTy.f32 0x3E000000#32 := by
  have e : idx_main_v127 (ix4 n t q l) = ix5 n t 0 q l := by
    funext a
    apply Fin.ext
    match a with
    | ⟨0, _⟩ => show (((n.val * 8192 + t.val) * 2 + q.val) * 64 + l.val) / 1048576 = n.val; omega
    | ⟨1, _⟩ => show (((n.val * 8192 + t.val) * 2 + q.val) * 64 + l.val) / 128 % 8192 = t.val; omega
    | ⟨2, _⟩ => rfl
    | ⟨3, _⟩ => show (((n.val * 8192 + t.val) * 2 + q.val) * 64 + l.val) / 64 % 2 = q.val; omega
    | ⟨4, _⟩ => show (((n.val * 8192 + t.val) * 2 + q.val) * 64 + l.val) % 64 = l.val; omega
  have e' : idx_main_v126 (ix5 n t 0 q l) = ix5 n t 0 q l := by funext a; fin_cases a <;> rfl
  rw [val_main_v127_apply, e, val_main_v126_apply, e', scaled_eq]
  rfl

theorem group1 (n : Fin 2) (t : Fin 8192) (q : Fin 2) (l : Fin 64) :
    (val_main_v130 (F := Ideal) x sh sc w (ix4 n t q l) : EReal)
      = proj (hrow x sh sc n t) (mat w) ⟨128 * 1 + 64 * q.val + l.val, by omega⟩ * Ideal.ofBits FTy.f32 0x3E000000#32 := by
  have e : idx_main_v130 (ix4 n t q l) = ix5 n t 0 q l := by
    funext a
    apply Fin.ext
    match a with
    | ⟨0, _⟩ => show (((n.val * 8192 + t.val) * 2 + q.val) * 64 + l.val) / 1048576 = n.val; omega
    | ⟨1, _⟩ => show (((n.val * 8192 + t.val) * 2 + q.val) * 64 + l.val) / 128 % 8192 = t.val; omega
    | ⟨2, _⟩ => rfl
    | ⟨3, _⟩ => show (((n.val * 8192 + t.val) * 2 + q.val) * 64 + l.val) / 64 % 2 = q.val; omega
    | ⟨4, _⟩ => show (((n.val * 8192 + t.val) * 2 + q.val) * 64 + l.val) % 64 = l.val; omega
  have e' : idx_main_v129 (ix5 n t 0 q l) = ix5 n t 1 q l := by funext a; fin_cases a <;> rfl
  rw [val_main_v130_apply, e, val_main_v129_apply, e', scaled_eq]
  rfl

theorem nothing_125 (i : S2x8192x2x64.Idx) : (val_main_v125 (F := Ideal) i : EReal) = 0 := by
  rw [val_main_v125_apply, val_main_cst_13_apply]
  exact Ideal.ofBits_zero_f32

/-- The sparse attention's queries in lanes. -/
theorem lanes_eq (n : Fin 2) (t : Fin 8192) (a : Fin 4) (l : Fin 128) :
    (val_main_v132 (F := Ideal) x sh sc w (ix4 n t a l) : EReal)
      = if h : a.val < 2 then
          (if h' : l.val < 64 then (val_main_v127 (F := Ideal) x sh sc w (ix4 n t ⟨a.val, h⟩ ⟨l.val, h'⟩) : EReal) else 0)
        else (if h' : l.val < 64 then 0 else (val_main_v130 (F := Ideal) x sh sc w (ix4 n t ⟨a.val - 2, by omega⟩ ⟨l.val - 64, by omega⟩) : EReal)) := by
  have h : (val_main_v132 (F := Ideal) x sh sc w (ix4 n t a l) : EReal)
      = if h : a.val < 2 then
          (if h' : l.val < 64 then (val_main_v127 (F := Ideal) x sh sc w (ix4 n t ⟨a.val, h⟩ ⟨l.val, h'⟩) : EReal)
            else (val_main_v125 (F := Ideal) (ix4 n t ⟨a.val, h⟩ ⟨l.val - 64, by omega⟩) : EReal))
        else (if h' : l.val < 64 then (val_main_v125 (F := Ideal) (ix4 n t ⟨a.val - 2, by omega⟩ ⟨l.val, h'⟩) : EReal)
          else (val_main_v130 (F := Ideal) x sh sc w (ix4 n t ⟨a.val - 2, by omega⟩ ⟨l.val - 64, by omega⟩) : EReal)) := by
    unfold val_main_v132 val_main_v128 val_main_v131
    generalize val_main_v127 (F := Ideal) x sh sc w = y
    generalize val_main_v130 (F := Ideal) x sh sc w = z
    generalize val_main_v125 (F := Ideal) = o
    pointwise
  rw [h]
  simp only [nothing_125]

theorem aq_result (R : Fin 16384) (e : Fin 512) :
    (val_main_v139 (F := Ideal) x sh sc w (ix2 R e) : EReal) = aq (hrow x sh sc (nOf R) (tOf R)) (mat w) e := by
  have ei : idx_main_v138 (ix2 R e) = ix4 (nOf R) (tOf R) ⟨e.val / 128, by omega⟩ ⟨e.val % 128, by omega⟩ := by
    funext a
    apply Fin.ext
    match a with
    | ⟨0, _⟩ => show (R.val * 512 + e.val) / 4194304 = R.val / 8192; omega
    | ⟨1, _⟩ => show (R.val * 512 + e.val) / 512 % 8192 = R.val % 8192; omega
    | ⟨2, _⟩ => show (R.val * 512 + e.val) / 128 % 4 = e.val / 128; omega
    | ⟨3, _⟩ => show (R.val * 512 + e.val) % 128 = e.val % 128; omega
  rw [val_main_v139_apply, val_main_v138_apply, ei]
  refine (lanes_eq x sh sc w (nOf R) (tOf R) ⟨e.val / 128, by omega⟩ ⟨e.val % 128, by omega⟩).trans ?_
  unfold aq
  by_cases h1 : e.val / 128 < 2
  · rw [dif_pos h1]
    by_cases h2 : e.val % 128 < 64
    · rw [dif_pos h2, dif_pos (by omega), group0]
      refine congrArg (fun i => proj (hrow x sh sc (nOf R) (tOf R)) (mat w) i * _) (Fin.ext ?_)
      show 128 * 0 + 64 * (e.val / 128) + e.val % 128 = 64 * (e.val / 128) + (e.val % 128 - 64 * (e.val / 256))
      omega
    · rw [dif_neg h2, dif_neg (by omega)]
  · rw [dif_neg h1]
    by_cases h2 : e.val % 128 < 64
    · rw [dif_pos h2, dif_neg (by omega)]
    · rw [dif_neg h2, dif_pos (by omega), group1]
      refine congrArg (fun i => proj (hrow x sh sc (nOf R) (tOf R)) (mat w) i * _) (Fin.ext ?_)
      show 128 * 1 + 64 * (e.val / 128 - 2) + (e.val % 128 - 64) = 64 * (e.val / 128) + (e.val % 128 - 64 * (e.val / 256))
      omega

theorem ak_result (R : Fin 16384) (e : Fin 128) :
    (val_main_v140 (F := Ideal) x sh sc w (ix2 R e) : EReal) = ak (hrow x sh sc (nOf R) (tOf R)) (mat w) e := by
  have ei : idx_main_v140 (ix2 R e) = ix3 (nOf R) (tOf R) e := by
    funext a
    apply Fin.ext
    match a with
    | ⟨0, _⟩ => show (R.val * 128 + e.val) / 1048576 = R.val / 8192; omega
    | ⟨1, _⟩ => show (R.val * 128 + e.val) / 128 % 8192 = R.val % 8192; omega
    | ⟨2, _⟩ => show (R.val * 128 + e.val) % 128 = e.val; omega
  rw [val_main_v140_apply, ei, part9]
  rfl

theorem av_result (R : Fin 16384) (e : Fin 128) :
    (val_main_v141 (F := Ideal) x sh sc w (ix2 R e) : EReal) = av (hrow x sh sc (nOf R) (tOf R)) (mat w) e := by
  have ei : idx_main_v141 (ix2 R e) = ix3 (nOf R) (tOf R) e := by
    funext a
    apply Fin.ext
    match a with
    | ⟨0, _⟩ => show (R.val * 128 + e.val) / 1048576 = R.val / 8192; omega
    | ⟨1, _⟩ => show (R.val * 128 + e.val) / 128 % 8192 = R.val % 8192; omega
    | ⟨2, _⟩ => show (R.val * 128 + e.val) % 128 = e.val; omega
  rw [val_main_v141_apply, ei, part10]
  rfl

theorem cu_result (R : Fin 16384) (e : Fin 512) :
    (val_main_v162 (F := Ideal) x sh sc w (ix2 R e) : EReal) = cu (hrow x sh sc (nOf R) (tOf R)) (mat w) e := by
  have ei : idx_main_v162 (ix2 R e) = ix3 (nOf R) (tOf R) e := by
    funext a
    apply Fin.ext
    match a with
    | ⟨0, _⟩ => show (R.val * 512 + e.val) / 4194304 = R.val / 8192; omega
    | ⟨1, _⟩ => show (R.val * 512 + e.val) / 512 % 8192 = R.val % 8192; omega
    | ⟨2, _⟩ => show (R.val * 512 + e.val) % 512 = e.val; omega
  rw [val_main_v162_apply, ei, part17]
  rfl

theorem join142 (n : Fin 2) (t : Fin 8192) (e : Fin 256) :
    (val_main_v142 (F := Ideal) x sh sc w (ix3 n t e) : EReal)
      = if h : e.val < 128 then (val_main_v9 (F := Ideal) x sh sc w (ix3 n t ⟨e.val, h⟩) : EReal)
        else (val_main_v10 (F := Ideal) x sh sc w (ix3 n t ⟨e.val - 128, by omega⟩) : EReal) := by
  unfold val_main_v142
  generalize val_main_v9 (F := Ideal) x sh sc w = y
  generalize val_main_v10 (F := Ideal) x sh sc w = z
  pointwise

theorem join133 (n : Fin 2) (t : Fin 8192) (e : Fin 36) :
    (val_main_v133 (F := Ideal) x sh sc w (ix3 n t e) : EReal)
      = if h : e.val < 32 then (val_main_v13 (F := Ideal) x sh sc w (ix3 n t ⟨e.val, h⟩) : EReal)
        else (val_main_v25 (F := Ideal) x sh sc w (ix3 n t ⟨e.val - 32, by omega⟩) : EReal) := by
  unfold val_main_v133
  generalize val_main_v13 (F := Ideal) x sh sc w = y
  generalize val_main_v25 (F := Ideal) x sh sc w = z
  pointwise

theorem join135 (n : Fin 2) (t : Fin 8192) (e : Fin 128) :
    (val_main_v135 (F := Ideal) x sh sc w (ix3 n t e) : EReal)
      = if h : e.val < 36 then (val_main_v133 (F := Ideal) x sh sc w (ix3 n t ⟨e.val, h⟩) : EReal)
        else (val_main_v134 (F := Ideal)  (ix3 n t ⟨e.val - 36, by omega⟩) : EReal) := by
  unfold val_main_v135
  generalize val_main_v133 (F := Ideal) x sh sc w = y
  generalize val_main_v134 (F := Ideal)  = z
  pointwise

theorem join137 (n : Fin 2) (t : Fin 8192) (e : Fin 128) :
    (val_main_v137 (F := Ideal) x sh sc w (ix3 n t e) : EReal)
      = if h : e.val < 32 then (val_main_v124 (F := Ideal) x sh sc w (ix3 n t ⟨e.val, h⟩) : EReal)
        else (val_main_v136 (F := Ideal)  (ix3 n t ⟨e.val - 32, by omega⟩) : EReal) := by
  unfold val_main_v137
  generalize val_main_v124 (F := Ideal) x sh sc w = y
  generalize val_main_v136 (F := Ideal)  = z
  pointwise

theorem join154 (n : Fin 2) (t : Fin 8192) (e : Fin 256) :
    (val_main_v154 (F := Ideal) x sh sc w gk (ix3 n t e) : EReal)
      = if h : e.val < 128 then (val_main_v89 (F := Ideal) x sh sc w gk (ix3 n t ⟨e.val, h⟩) : EReal)
        else (val_main_v137 (F := Ideal) x sh sc w (ix3 n t ⟨e.val - 128, by omega⟩) : EReal) := by
  unfold val_main_v154
  generalize val_main_v89 (F := Ideal) x sh sc w gk = y
  generalize val_main_v137 (F := Ideal) x sh sc w = z
  pointwise

theorem kv_result (R : Fin 16384) (e : Fin 256) :
    (val_main_v144 (F := Ideal) x sh sc w (ix2 R e) : EReal) = kv (hrow x sh sc (nOf R) (tOf R)) (mat w) e := by
  have ei : idx_main_v143 (ix2 R e) = ix3 (nOf R) (tOf R) e := by
    funext a
    apply Fin.ext
    match a with
    | ⟨0, _⟩ => show (R.val * 256 + e.val) / 2097152 = R.val / 8192; omega
    | ⟨1, _⟩ => show (R.val * 256 + e.val) / 256 % 8192 = R.val % 8192; omega
    | ⟨2, _⟩ => show (R.val * 256 + e.val) % 256 = e.val; omega
  rw [val_main_v144_apply, val_main_v143_apply, ei]
  refine (join142 x sh sc w (nOf R) (tOf R) e).trans ?_
  unfold kv
  by_cases h : e.val < 128
  · rw [dif_pos h, part9]
  · rw [dif_neg h, part10]
    refine congrArg (proj (hrow x sh sc (nOf R) (tOf R)) (mat w)) (Fin.ext ?_)
    show 384 + (e.val - 128) = 256 + e.val
    omega

/-- The indexer's queries, scaled. -/
theorem indexer_eq (n : Fin 2) (t : Fin 8192) (a : Fin 4) (l : Fin 32) :
    (val_main_v23 (F := Ideal) x sh sc w (ix4 n t a l) : EReal)
      = proj (hrow x sh sc n t) (mat w) ⟨512 + (32 * a.val + l.val), by omega⟩ * Ideal.ofBits FTy.f32 0x3E3504F3#32 := by
  have e : idx_main_v21 (ix4 n t a l) = ix3 n t ⟨32 * a.val + l.val, by omega⟩ := by
    funext b
    apply Fin.ext
    match b with
    | ⟨0, _⟩ => show (((n.val * 8192 + t.val) * 4 + a.val) * 32 + l.val) / 1048576 = n.val; omega
    | ⟨1, _⟩ => show (((n.val * 8192 + t.val) * 4 + a.val) * 32 + l.val) / 128 % 8192 = t.val; omega
    | ⟨2, _⟩ => show (((n.val * 8192 + t.val) * 4 + a.val) * 32 + l.val) % 128 = 32 * a.val + l.val; omega
  rw [val_main_v23_apply, val_main_v22_apply, val_main_cst_1_apply, val_main_v21_apply, e, part11]
  rfl

theorem join146 (n : Fin 2) (t : Fin 8192) (a : Fin 4) (l : Fin 128) :
    (val_main_v146 (F := Ideal) x sh sc w (ix4 n t a l) : EReal)
      = if h : l.val < 32 then (val_main_v23 (F := Ideal) x sh sc w (ix4 n t a ⟨l.val, h⟩) : EReal)
        else (val_main_v145 (F := Ideal) (ix4 n t a ⟨l.val - 32, by omega⟩) : EReal) := by
  unfold val_main_v146
  generalize val_main_v23 (F := Ideal) x sh sc w = y
  generalize val_main_v145 (F := Ideal) = z
  pointwise

theorem nothing_145 (i : S2x8192x4x96.Idx) : (val_main_v145 (F := Ideal) i : EReal) = 0 := by
  rw [val_main_v145_apply, val_main_cst_16_apply]
  exact Ideal.ofBits_zero_f32

theorem iq_result (R : Fin 16384) (e : Fin 512) :
    (val_main_v148 (F := Ideal) x sh sc w (ix2 R e) : EReal) = iq (hrow x sh sc (nOf R) (tOf R)) (mat w) e := by
  have ei : idx_main_v147 (ix2 R e) = ix4 (nOf R) (tOf R) ⟨e.val / 128, by omega⟩ ⟨e.val % 128, by omega⟩ := by
    funext a
    apply Fin.ext
    match a with
    | ⟨0, _⟩ => show (R.val * 512 + e.val) / 4194304 = R.val / 8192; omega
    | ⟨1, _⟩ => show (R.val * 512 + e.val) / 512 % 8192 = R.val % 8192; omega
    | ⟨2, _⟩ => show (R.val * 512 + e.val) / 128 % 4 = e.val / 128; omega
    | ⟨3, _⟩ => show (R.val * 512 + e.val) % 128 = e.val % 128; omega
  rw [val_main_v148_apply, val_main_v147_apply, ei]
  refine (join146 x sh sc w (nOf R) (tOf R) ⟨e.val / 128, by omega⟩ ⟨e.val % 128, by omega⟩).trans ?_
  unfold iq
  by_cases h : e.val % 128 < 32
  · rw [dif_pos h, dif_pos h, indexer_eq]
  · rw [dif_neg h, dif_neg h, nothing_145]

theorem nothing_134 (i : S2x8192x92.Idx) : (val_main_v134 (F := Ideal) i : EReal) = 0 := by
  rw [val_main_v134_apply, val_main_cst_14_apply]
  exact Ideal.ofBits_zero_f32

/-- The indexer's head weights, scaled. -/
theorem weights_eq (n : Fin 2) (t : Fin 8192) (e : Fin 4) :
    (val_main_v25 (F := Ideal) x sh sc w (ix3 n t e) : EReal)
      = proj (hrow x sh sc n t) (mat w) ⟨640 + e.val, by omega⟩ * Ideal.ofBits FTy.f32 0x3F000000#32 := by
  rw [val_main_v25_apply, val_main_v24_apply, val_main_cst_2_apply, part12]
  rfl

/-- The indexer's keys and head weights in lanes. -/
theorem misc_eq (n : Fin 2) (t : Fin 8192) (e : Fin 128) :
    (val_main_v135 (F := Ideal) x sh sc w (ix3 n t e) : EReal) = ik (hrow x sh sc n t) (mat w) e := by
  rw [join135]
  unfold ik
  by_cases h1 : e.val < 32
  · rw [dif_pos (by omega : e.val < 36), join133, dif_pos h1, dif_pos h1, part13]
  · rw [dif_neg h1]
    by_cases h2 : e.val < 36
    · rw [dif_pos h2, dif_pos h2, join133, dif_neg h1, weights_eq]
    · rw [dif_neg h2, dif_neg h2, nothing_134]

theorem misc_result (R : Fin 16384) (e : Fin 128) :
    (val_main_v149 (F := Ideal) x sh sc w (ix2 R e) : EReal) = ik (hrow x sh sc (nOf R) (tOf R)) (mat w) e := by
  have ei : idx_main_v149 (ix2 R e) = ix3 (nOf R) (tOf R) e := by
    funext a
    apply Fin.ext
    match a with
    | ⟨0, _⟩ => show (R.val * 128 + e.val) / 1048576 = R.val / 8192; omega
    | ⟨1, _⟩ => show (R.val * 128 + e.val) / 128 % 8192 = R.val % 8192; omega
    | ⟨2, _⟩ => show (R.val * 128 + e.val) % 128 = e.val; omega
  rw [val_main_v149_apply, ei, misc_eq]

theorem ik_result (R : Fin 16384) (e : Fin 128) :
    (val_main_v151 (F := Ideal) x sh sc w (ix2 R e) : EReal) = ik (hrow x sh sc (nOf R) (tOf R)) (mat w) e := by
  have ei : idx_main_v150 (ix2 R e) = ix3 (nOf R) (tOf R) e := by
    funext a
    apply Fin.ext
    match a with
    | ⟨0, _⟩ => show (R.val * 128 + e.val) / 1048576 = R.val / 8192; omega
    | ⟨1, _⟩ => show (R.val * 128 + e.val) / 128 % 8192 = R.val % 8192; omega
    | ⟨2, _⟩ => show (R.val * 128 + e.val) % 128 = e.val; omega
  rw [val_main_v151_apply, val_main_v150_apply, ei]
  exact misc_eq x sh sc w (nOf R) (tOf R) e

theorem ckv_result (R : Fin 16384) (e : Fin 128) :
    (val_main_v152 (F := Ideal) x sh sc w gk (ix2 R e) : EReal) = ckv (hrow x sh sc (nOf R) (tOf R)) (mat w) (vec gk) e := by
  have ei : idx_main_v152 (ix2 R e) = ix3 (nOf R) (tOf R) e := by
    funext a
    apply Fin.ext
    match a with
    | ⟨0, _⟩ => show (R.val * 128 + e.val) / 1048576 = R.val / 8192; omega
    | ⟨1, _⟩ => show (R.val * 128 + e.val) / 128 % 8192 = R.val % 8192; omega
    | ⟨2, _⟩ => show (R.val * 128 + e.val) % 128 = e.val; omega
  rw [val_main_v152_apply, ei, latentK_eq]

theorem nothing_136 (i : S2x8192x96.Idx) : (val_main_v136 (F := Ideal) i : EReal) = 0 := by
  rw [val_main_v136_apply, val_main_cst_15_apply]
  exact Ideal.ofBits_zero_f32

/-- The rotary keys in lanes. -/
theorem turned_eq (n : Fin 2) (t : Fin 8192) (e : Fin 128) :
    (val_main_v137 (F := Ideal) x sh sc w (ix3 n t e) : EReal) = kpe (hrow x sh sc n t) (mat w) (cosAt t) (sinAt t) e := by
  rw [join137]
  unfold kpe
  by_cases h : e.val < 32
  · have ei : idx_main_v124 (ix3 n t ⟨e.val, h⟩) = ix4 n t 0 ⟨e.val, h⟩ := by
      funext a
      apply Fin.ext
      match a with
      | ⟨0, _⟩ => show ((n.val * 8192 + t.val) * 32 + e.val) / 262144 = n.val; omega
      | ⟨1, _⟩ => show ((n.val * 8192 + t.val) * 32 + e.val) / 32 % 8192 = t.val; omega
      | ⟨2, _⟩ => rfl
      | ⟨3, _⟩ => show ((n.val * 8192 + t.val) * 32 + e.val) % 32 = e.val; omega
    rw [dif_pos h, dif_pos h, val_main_v124_apply, ei, rotK_eq]
  · rw [dif_neg h, dif_neg h, nothing_136]

theorem kpe_result (R : Fin 16384) (e : Fin 128) :
    (val_main_v153 (F := Ideal) x sh sc w (ix2 R e) : EReal) = kpe (hrow x sh sc (nOf R) (tOf R)) (mat w) (cosAt (tOf R)) (sinAt (tOf R)) e := by
  have ei : idx_main_v153 (ix2 R e) = ix3 (nOf R) (tOf R) e := by
    funext a
    apply Fin.ext
    match a with
    | ⟨0, _⟩ => show (R.val * 128 + e.val) / 1048576 = R.val / 8192; omega
    | ⟨1, _⟩ => show (R.val * 128 + e.val) / 128 % 8192 = R.val % 8192; omega
    | ⟨2, _⟩ => show (R.val * 128 + e.val) % 128 = e.val; omega
  rw [val_main_v153_apply, ei, turned_eq]

theorem kmla_result (R : Fin 16384) (e : Fin 256) :
    (val_main_v156 (F := Ideal) x sh sc w gk (ix2 R e) : EReal)
      = kmla (hrow x sh sc (nOf R) (tOf R)) (mat w) (cosAt (tOf R)) (sinAt (tOf R)) (vec gk) e := by
  have ei : idx_main_v155 (ix2 R e) = ix3 (nOf R) (tOf R) e := by
    funext a
    apply Fin.ext
    match a with
    | ⟨0, _⟩ => show (R.val * 256 + e.val) / 2097152 = R.val / 8192; omega
    | ⟨1, _⟩ => show (R.val * 256 + e.val) / 256 % 8192 = R.val % 8192; omega
    | ⟨2, _⟩ => show (R.val * 256 + e.val) % 256 = e.val; omega
  rw [val_main_v156_apply, val_main_v155_apply, ei]
  refine (join154 x sh sc w gk (nOf R) (tOf R) e).trans ?_
  unfold kmla
  by_cases h : e.val < 128
  · rw [dif_pos h, dif_pos h, latentK_eq]
  · rw [dif_neg h, dif_neg h, turned_eq]

theorem join158 (n : Fin 2) (t : Fin 8192) (a : Fin 4) (l : Fin 128) :
    (val_main_v158 (F := Ideal) x sh sc w g u (ix4 n t a l) : EReal)
      = if h : l.val < 32 then (val_main_v73 (F := Ideal) x sh sc w g u (ix4 n t a ⟨l.val, h⟩) : EReal)
        else (val_main_v157 (F := Ideal) (ix4 n t a ⟨l.val - 32, by omega⟩) : EReal) := by
  unfold val_main_v158
  generalize val_main_v73 (F := Ideal) x sh sc w g u = y
  generalize val_main_v157 (F := Ideal) = z
  pointwise

theorem nothing_157 (i : S2x8192x4x96.Idx) : (val_main_v157 (F := Ideal) i : EReal) = 0 := by
  rw [val_main_v157_apply, val_main_cst_17_apply]
  exact Ideal.ofBits_zero_f32

theorem join159 (n : Fin 2) (t : Fin 8192) (a : Fin 4) (l : Fin 256) :
    (val_main_v159 (F := Ideal) x sh sc w g u k (ix4 n t a l) : EReal)
      = if h : l.val < 128 then (val_main_v76 (F := Ideal) x sh sc w g u k (ix4 n t a ⟨l.val, h⟩) : EReal)
        else (val_main_v158 (F := Ideal) x sh sc w g u (ix4 n t a ⟨l.val - 128, by omega⟩) : EReal) := by
  unfold val_main_v159
  generalize val_main_v76 (F := Ideal) x sh sc w g u k = y
  generalize val_main_v158 (F := Ideal) x sh sc w g u = z
  pointwise

theorem qmla_result (R : Fin 16384) (e : Fin 1024) :
    (val_main_v161 (F := Ideal) x sh sc w g u k (ix2 R e) : EReal)
      = qmla (cosAt (tOf R)) (sinAt (tOf R)) (cq (hrow x sh sc (nOf R) (tOf R)) (mat w) (vec g)) (cube u) (cubeK k) e := by
  have ei : idx_main_v160 (ix2 R e) = ix4 (nOf R) (tOf R) ⟨e.val / 256, by omega⟩ ⟨e.val % 256, by omega⟩ := by
    funext a
    apply Fin.ext
    match a with
    | ⟨0, _⟩ => show (R.val * 1024 + e.val) / 8388608 = R.val / 8192; omega
    | ⟨1, _⟩ => show (R.val * 1024 + e.val) / 1024 % 8192 = R.val % 8192; omega
    | ⟨2, _⟩ => show (R.val * 1024 + e.val) / 256 % 4 = e.val / 256; omega
    | ⟨3, _⟩ => show (R.val * 1024 + e.val) % 256 = e.val % 256; omega
  rw [val_main_v161_apply, val_main_v160_apply, ei]
  refine (join159 x sh sc w g u k (nOf R) (tOf R) ⟨e.val / 256, by omega⟩ ⟨e.val % 256, by omega⟩).trans ?_
  unfold qmla
  by_cases h1 : e.val % 256 < 128
  · rw [dif_pos h1, dif_pos h1, latent_eq]
  · rw [dif_neg h1, dif_neg h1, join158]
    by_cases h2 : e.val % 256 < 160
    · rw [dif_pos (by dsimp only; omega), dif_pos h2, rotQ_eq]
    · rw [dif_neg (by dsimp only; omega), dif_neg h2, nothing_157]

end Cert.Reference3Ideal.Mix

end
-- ==== Proof.MixPre.lean ====
/- The input projections' precondition, read: the rows, the modulation, the projection, the queries' factor and the query
   projection are real numbers, and with them the products that the rotary embedding's lanes are made of. -/
module

public import proofs.«01_k».proof.Proof.Pre
public import proofs.«01_k».proof.Proof.MixArray

@[expose] public section

noncomputable section

namespace Cert.Pre_finite3

open Idealize.ShloMosaic Idealize.ShloMosaic.TcCoe Cert.Attn

/-- Where the comparison of an absolute value with infinity holds, the number is real. -/
theorem real_of_bit (y : EReal) (e : BitVec.ofBool (decide (max y (-y) < (⊤ : EReal))) = 1#1) : IsReal y := by
  refine Cert.Pre_finite.real_of_abs _ ?_
  by_contra hn
  exact absurd (e.symm.trans (congrArg BitVec.ofBool (decide_eq_false hn))) (by decide)

variable [Facts] (x : S2x8192x1024.Idx → EReal) (sh sc : S2x1x1024.Idx → EReal) (w : S1024x1604.Idx → EReal) (g : S256.Idx → EReal) (gk : S128.Idx → EReal)
  (u : S256x4x96.Idx → EReal) (k : S128x4x64.Idx → EReal)

theorem x_real (h : (fn (F := Ideal) x sh sc w g gk u k).1 = fun _ => 1#1) (j : S2x8192x1024.Idx) : IsReal (x j) := by
  have e := congrFun h j
  unfold fn at e
  pointwise at e
  rw [Cert.Pre_finite.ofBits_top] at e
  exact real_of_bit _ e

theorem shift_real (h : (fn (F := Ideal) x sh sc w g gk u k).2.1 = fun _ => 1#1) (j : S2x1x1024.Idx) : IsReal (sh j) := by
  have e := congrFun h j
  unfold fn at e
  pointwise at e
  rw [Cert.Pre_finite.ofBits_top] at e
  exact real_of_bit _ e

theorem scale_real (h : (fn (F := Ideal) x sh sc w g gk u k).2.2.1 = fun _ => 1#1) (j : S2x1x1024.Idx) : IsReal (sc j) := by
  have e := congrFun h j
  unfold fn at e
  pointwise at e
  rw [Cert.Pre_finite.ofBits_top] at e
  exact real_of_bit _ e

theorem w_real (h : (fn (F := Ideal) x sh sc w g gk u k).2.2.2.1 = fun _ => 1#1) (j : S1024x1604.Idx) : IsReal (w j) := by
  have e := congrFun h j
  unfold fn at e
  pointwise at e
  rw [Cert.Pre_finite.ofBits_top] at e
  exact real_of_bit _ e

theorem g_real (h : (fn (F := Ideal) x sh sc w g gk u k).2.2.2.2.1 = fun _ => 1#1) (j : S256.Idx) : IsReal (g j) := by
  have e := congrFun h j
  unfold fn at e
  pointwise at e
  rw [Cert.Pre_finite.ofBits_top] at e
  exact real_of_bit _ e

theorem u_real (h : (fn (F := Ideal) x sh sc w g gk u k).2.2.2.2.2 = fun _ => 1#1) (j : S256x4x96.Idx) : IsReal (u j) := by
  have e := congrFun h j
  unfold fn at e
  pointwise at e
  rw [Cert.Pre_finite.ofBits_top] at e
  exact real_of_bit _ e

end Cert.Pre_finite3

namespace Cert.Mix

open Idealize.ShloMosaic Cert.Attn Cert.Layer Cert.Kernel3Ideal Cert.Kernel3Ideal.Mix

variable (x : S2x8192x1024.Idx → EReal) (sh sc : S2x1x1024.Idx → EReal) (w : S1024x1604.Idx → EReal) (g : S256.Idx → EReal) (u : S256x4x96.Idx → EReal)

/-- The modulated rows are real. -/
theorem row_real (hx : ∀ j, IsReal (x j)) (h1 : ∀ j, IsReal (sh j)) (h2 : ∀ j, IsReal (sc j)) (n : Fin 2) (t : Fin 8192) (d : Fin 1024) :
    IsReal (hrow x sh sc n t d) := by
  unfold hrow modulated
  exact IsReal.add ((hx _).mul (IsReal.add (isReal_coe 1) (h2 _))) (h1 _)

/-- The terms of a row's projection are real. -/
theorem term_real (hx : ∀ j, IsReal (x j)) (h1 : ∀ j, IsReal (sh j)) (h2 : ∀ j, IsReal (sc j)) (hw : ∀ j, IsReal (w j))
    (n : Fin 2) (t : Fin 8192) (d : Fin 1024) (s : Fin 1604) : IsReal (hrow x sh sc n t d * w (ix2 d s)) :=
  (row_real x sh sc hx h1 h2 n t d).mul (hw _)

/-- The terms of a head's query are real. -/
theorem query_term_real (hx : ∀ j, IsReal (x j)) (h1 : ∀ j, IsReal (sh j)) (h2 : ∀ j, IsReal (sc j)) (hw : ∀ j, IsReal (w j))
    (hg : ∀ j, IsReal (g j)) (hu : ∀ j, IsReal (u j)) (n : Fin 2) (t : Fin 8192) (r : Fin 256) (a : Fin 4) (p : Fin 96) :
    IsReal (cq (hrow x sh sc n t) (mat w) (vec g) r * u (ix3 r a p)) := by
  refine IsReal.mul ?_ (hu _)
  unfold cq
  refine rms_real _ _ (fun f => ?_) (fun f => hg _) r
  unfold proj
  exact isReal_sum _ _ fun d => term_real x sh sc w hx h1 h2 hw n t d _

end Cert.Mix

end
-- ==== Proof.MixClaims.lean ====
/- The claims about the input projections: their frames, and the equations of the kernel's results with the reference's. -/
module

public import proofs.«01_k».proof.Defs
public import proofs.«01_k».proof.Proof.MixRef
public import proofs.«01_k».proof.Proof.MixPre
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Pre_finite3
public import Idealize.ShloMosaic.Lib.Claim

@[expose] public section

noncomputable section

namespace Cert.Proof.Mix

open Idealize.ShloMosaic Idealize.ShloMosaic.TcCoe Idealize.SL.Sem Cert.Attn
open Cert.Kernel3Ideal (S2x8192x1024 S2x1x1024 S1024x1604 S256 S128 S256x4x96 S128x4x64)
open Cert.Kernel3Ideal.Gen (dats)
open Cert.Kernel3Ideal.Mix (hrow mat vec)
open Cert.Reference3Ideal.Read

/-- The kernel's frame, bit by bit. -/
theorem frame_p : Cert.quiescent_Kernel3 := fun m ρ _ => Cert.Kernel3.Gen.frame m ρ

/-- The idealized kernel's frame. -/
theorem frame_pi : Cert.quiescent_Kernel3Ideal := fun m ρ _ => Cert.Kernel3Ideal.Gen.frame m ρ

/-- The idealized kernel's frame, where the value claim's precondition holds. -/
theorem frame_pi_pre : Cert.quiescent_Kernel3Ideal_pre_finite3 := fun m ρ _ => Cert.Kernel3Ideal.Gen.frame m ρ

/-- The reference's frame: it has no semaphore. -/
theorem frame_ri : Cert.quiescent_Reference3Ideal := fun m ρ _ =>
  (θ_run Cert.Reference3Ideal.defs _ _).mono (fun r h => ⟨fun c => (h c).2.2.2.2.2.2.2.2.2.2.2.2, sem_eq_zero_of_no_sems (by decide) r.2⟩)
    (Cert.Reference3Ideal.Value.run (F := Ideal) m ρ)

/-- The reference's frame, where the value claim's precondition holds. -/
theorem frame_ri_pre : Cert.quiescent_Reference3Ideal_pre_finite3 := fun m ρ _ =>
  (θ_run Cert.Reference3Ideal.defs _ _).mono (fun r h => ⟨fun c => (h c).2.2.2.2.2.2.2.2.2.2.2.2, sem_eq_zero_of_no_sems (by decide) r.2⟩)
    (Cert.Reference3Ideal.Value.run (F := Ideal) m ρ)

variable (m : (ℓ : Loc Cert.Kernel3Ideal.nD Cert.Kernel3Ideal.τ Cert.Kernel3Ideal.sig) → Buf (Elt Ideal) ℓ) (c : Dev Cert.Kernel3Ideal.nD)

/-- The sparse attention's queries. -/
theorem aq_same (x : S2x8192x1024.Idx → EReal) (sh : S2x1x1024.Idx → EReal) (sc : S2x1x1024.Idx → EReal) (w : S1024x1604.Idx → EReal)
    (e0 : m ((c : Thread Cert.Kernel3Ideal.nD Cert.Kernel3Ideal.τ).loc Cert.Kernel3Ideal.main_arg0) = x) (e1 : m ((c : Thread Cert.Kernel3Ideal.nD Cert.Kernel3Ideal.τ).loc Cert.Kernel3Ideal.main_arg1) = sh) (e2 : m ((c : Thread Cert.Kernel3Ideal.nD Cert.Kernel3Ideal.τ).loc Cert.Kernel3Ideal.main_arg2) = sc) (e3 : m ((c : Thread Cert.Kernel3Ideal.nD Cert.Kernel3Ideal.τ).loc Cert.Kernel3Ideal.main_arg3) = w) :
    val_main_v139 (F := Ideal) x sh sc w = (dats m 0 c).arrAt 10 Cert.Kernel3Ideal.cfg0.N := by
  rw [Cert.Kernel3Ideal.Mix.aq_array m x sh sc w c e0 e1 e2 e3]
  funext j
  idx_vars j
  exact Cert.Reference3Ideal.Mix.aq_result x sh sc w j0 j1

/-- The sparse attention's keys. -/
theorem ak_same (x : S2x8192x1024.Idx → EReal) (sh : S2x1x1024.Idx → EReal) (sc : S2x1x1024.Idx → EReal) (w : S1024x1604.Idx → EReal)
    (e0 : m ((c : Thread Cert.Kernel3Ideal.nD Cert.Kernel3Ideal.τ).loc Cert.Kernel3Ideal.main_arg0) = x) (e1 : m ((c : Thread Cert.Kernel3Ideal.nD Cert.Kernel3Ideal.τ).loc Cert.Kernel3Ideal.main_arg1) = sh) (e2 : m ((c : Thread Cert.Kernel3Ideal.nD Cert.Kernel3Ideal.τ).loc Cert.Kernel3Ideal.main_arg2) = sc) (e3 : m ((c : Thread Cert.Kernel3Ideal.nD Cert.Kernel3Ideal.τ).loc Cert.Kernel3Ideal.main_arg3) = w) :
    val_main_v140 (F := Ideal) x sh sc w = (dats m 0 c).arrAt 11 Cert.Kernel3Ideal.cfg0.N := by
  rw [Cert.Kernel3Ideal.Mix.ak_array m x sh sc w c e0 e1 e2 e3]
  funext j
  idx_vars j
  exact Cert.Reference3Ideal.Mix.ak_result x sh sc w j0 j1

/-- The sparse attention's values. -/
theorem av_same (x : S2x8192x1024.Idx → EReal) (sh : S2x1x1024.Idx → EReal) (sc : S2x1x1024.Idx → EReal) (w : S1024x1604.Idx → EReal)
    (e0 : m ((c : Thread Cert.Kernel3Ideal.nD Cert.Kernel3Ideal.τ).loc Cert.Kernel3Ideal.main_arg0) = x) (e1 : m ((c : Thread Cert.Kernel3Ideal.nD Cert.Kernel3Ideal.τ).loc Cert.Kernel3Ideal.main_arg1) = sh) (e2 : m ((c : Thread Cert.Kernel3Ideal.nD Cert.Kernel3Ideal.τ).loc Cert.Kernel3Ideal.main_arg2) = sc) (e3 : m ((c : Thread Cert.Kernel3Ideal.nD Cert.Kernel3Ideal.τ).loc Cert.Kernel3Ideal.main_arg3) = w) :
    val_main_v141 (F := Ideal) x sh sc w = (dats m 0 c).arrAt 12 Cert.Kernel3Ideal.cfg0.N := by
  rw [Cert.Kernel3Ideal.Mix.av_array m x sh sc w c e0 e1 e2 e3]
  funext j
  idx_vars j
  exact Cert.Reference3Ideal.Mix.av_result x sh sc w j0 j1

/-- The keys and values side by side. -/
theorem kv_same (x : S2x8192x1024.Idx → EReal) (sh : S2x1x1024.Idx → EReal) (sc : S2x1x1024.Idx → EReal) (w : S1024x1604.Idx → EReal)
    (e0 : m ((c : Thread Cert.Kernel3Ideal.nD Cert.Kernel3Ideal.τ).loc Cert.Kernel3Ideal.main_arg0) = x) (e1 : m ((c : Thread Cert.Kernel3Ideal.nD Cert.Kernel3Ideal.τ).loc Cert.Kernel3Ideal.main_arg1) = sh) (e2 : m ((c : Thread Cert.Kernel3Ideal.nD Cert.Kernel3Ideal.τ).loc Cert.Kernel3Ideal.main_arg2) = sc) (e3 : m ((c : Thread Cert.Kernel3Ideal.nD Cert.Kernel3Ideal.τ).loc Cert.Kernel3Ideal.main_arg3) = w) :
    val_main_v144 (F := Ideal) x sh sc w = (dats m 0 c).arrAt 13 Cert.Kernel3Ideal.cfg0.N := by
  rw [Cert.Kernel3Ideal.Mix.kv_array m x sh sc w c e0 e1 e2 e3]
  funext j
  idx_vars j
  exact Cert.Reference3Ideal.Mix.kv_result x sh sc w j0 j1

/-- The indexer's queries. -/
theorem iq_same (x : S2x8192x1024.Idx → EReal) (sh : S2x1x1024.Idx → EReal) (sc : S2x1x1024.Idx → EReal) (w : S1024x1604.Idx → EReal)
    (e0 : m ((c : Thread Cert.Kernel3Ideal.nD Cert.Kernel3Ideal.τ).loc Cert.Kernel3Ideal.main_arg0) = x) (e1 : m ((c : Thread Cert.Kernel3Ideal.nD Cert.Kernel3Ideal.τ).loc Cert.Kernel3Ideal.main_arg1) = sh) (e2 : m ((c : Thread Cert.Kernel3Ideal.nD Cert.Kernel3Ideal.τ).loc Cert.Kernel3Ideal.main_arg2) = sc) (e3 : m ((c : Thread Cert.Kernel3Ideal.nD Cert.Kernel3Ideal.τ).loc Cert.Kernel3Ideal.main_arg3) = w) :
    val_main_v148 (F := Ideal) x sh sc w = (dats m 0 c).arrAt 14 Cert.Kernel3Ideal.cfg0.N := by
  rw [Cert.Kernel3Ideal.Mix.iq_array m x sh sc w c e0 e1 e2 e3]
  funext j
  idx_vars j
  exact Cert.Reference3Ideal.Mix.iq_result x sh sc w j0 j1

/-- The indexer's keys and head weights. -/
theorem misc_same (x : S2x8192x1024.Idx → EReal) (sh : S2x1x1024.Idx → EReal) (sc : S2x1x1024.Idx → EReal) (w : S1024x1604.Idx → EReal)
    (e0 : m ((c : Thread Cert.Kernel3Ideal.nD Cert.Kernel3Ideal.τ).loc Cert.Kernel3Ideal.main_arg0) = x) (e1 : m ((c : Thread Cert.Kernel3Ideal.nD Cert.Kernel3Ideal.τ).loc Cert.Kernel3Ideal.main_arg1) = sh) (e2 : m ((c : Thread Cert.Kernel3Ideal.nD Cert.Kernel3Ideal.τ).loc Cert.Kernel3Ideal.main_arg2) = sc) (e3 : m ((c : Thread Cert.Kernel3Ideal.nD Cert.Kernel3Ideal.τ).loc Cert.Kernel3Ideal.main_arg3) = w) :
    val_main_v149 (F := Ideal) x sh sc w = (dats m 0 c).arrAt 15 Cert.Kernel3Ideal.cfg0.N := by
  rw [Cert.Kernel3Ideal.Mix.misc_array m x sh sc w c e0 e1 e2 e3]
  funext j
  idx_vars j
  exact Cert.Reference3Ideal.Mix.misc_result x sh sc w j0 j1

/-- The indexer's keys and head weights, stored again. -/
theorem ik_same (x : S2x8192x1024.Idx → EReal) (sh : S2x1x1024.Idx → EReal) (sc : S2x1x1024.Idx → EReal) (w : S1024x1604.Idx → EReal)
    (e0 : m ((c : Thread Cert.Kernel3Ideal.nD Cert.Kernel3Ideal.τ).loc Cert.Kernel3Ideal.main_arg0) = x) (e1 : m ((c : Thread Cert.Kernel3Ideal.nD Cert.Kernel3Ideal.τ).loc Cert.Kernel3Ideal.main_arg1) = sh) (e2 : m ((c : Thread Cert.Kernel3Ideal.nD Cert.Kernel3Ideal.τ).loc Cert.Kernel3Ideal.main_arg2) = sc) (e3 : m ((c : Thread Cert.Kernel3Ideal.nD Cert.Kernel3Ideal.τ).loc Cert.Kernel3Ideal.main_arg3) = w) :
    val_main_v151 (F := Ideal) x sh sc w = (dats m 0 c).arrAt 16 Cert.Kernel3Ideal.cfg0.N := by
  rw [Cert.Kernel3Ideal.Mix.ik_array m x sh sc w c e0 e1 e2 e3]
  funext j
  idx_vars j
  exact Cert.Reference3Ideal.Mix.ik_result x sh sc w j0 j1

/-- The latent keys. -/
theorem ckv_same (x : S2x8192x1024.Idx → EReal) (sh : S2x1x1024.Idx → EReal) (sc : S2x1x1024.Idx → EReal) (w : S1024x1604.Idx → EReal) (gk : S128.Idx → EReal)
    (e0 : m ((c : Thread Cert.Kernel3Ideal.nD Cert.Kernel3Ideal.τ).loc Cert.Kernel3Ideal.main_arg0) = x) (e1 : m ((c : Thread Cert.Kernel3Ideal.nD Cert.Kernel3Ideal.τ).loc Cert.Kernel3Ideal.main_arg1) = sh) (e2 : m ((c : Thread Cert.Kernel3Ideal.nD Cert.Kernel3Ideal.τ).loc Cert.Kernel3Ideal.main_arg2) = sc) (e3 : m ((c : Thread Cert.Kernel3Ideal.nD Cert.Kernel3Ideal.τ).loc Cert.Kernel3Ideal.main_arg3) = w) (e5 : m ((c : Thread Cert.Kernel3Ideal.nD Cert.Kernel3Ideal.τ).loc Cert.Kernel3Ideal.main_arg5) = gk) :
    val_main_v152 (F := Ideal) x sh sc w gk = (dats m 0 c).arrAt 17 Cert.Kernel3Ideal.cfg0.N := by
  rw [Cert.Kernel3Ideal.Mix.ckv_array m x sh sc w gk c e0 e1 e2 e3 e5]
  funext j
  idx_vars j
  exact Cert.Reference3Ideal.Mix.ckv_result x sh sc w gk j0 j1

/-- The rotary keys. -/
theorem kpe_same (x : S2x8192x1024.Idx → EReal) (sh : S2x1x1024.Idx → EReal) (sc : S2x1x1024.Idx → EReal) (w : S1024x1604.Idx → EReal)
    (e0 : m ((c : Thread Cert.Kernel3Ideal.nD Cert.Kernel3Ideal.τ).loc Cert.Kernel3Ideal.main_arg0) = x) (e1 : m ((c : Thread Cert.Kernel3Ideal.nD Cert.Kernel3Ideal.τ).loc Cert.Kernel3Ideal.main_arg1) = sh) (e2 : m ((c : Thread Cert.Kernel3Ideal.nD Cert.Kernel3Ideal.τ).loc Cert.Kernel3Ideal.main_arg2) = sc) (e3 : m ((c : Thread Cert.Kernel3Ideal.nD Cert.Kernel3Ideal.τ).loc Cert.Kernel3Ideal.main_arg3) = w) (hr : ∀ n t d s, IsReal (hrow x sh sc n t d * w (ix2 d s))) :
    val_main_v153 (F := Ideal) x sh sc w = (dats m 0 c).arrAt 18 Cert.Kernel3Ideal.cfg0.N := by
  rw [Cert.Kernel3Ideal.Mix.kpe_array m x sh sc w c e0 e1 e2 e3 hr]
  funext j
  idx_vars j
  exact Cert.Reference3Ideal.Mix.kpe_result x sh sc w j0 j1

/-- The latent attention's keys. -/
theorem kmla_same (x : S2x8192x1024.Idx → EReal) (sh : S2x1x1024.Idx → EReal) (sc : S2x1x1024.Idx → EReal) (w : S1024x1604.Idx → EReal) (gk : S128.Idx → EReal)
    (e0 : m ((c : Thread Cert.Kernel3Ideal.nD Cert.Kernel3Ideal.τ).loc Cert.Kernel3Ideal.main_arg0) = x) (e1 : m ((c : Thread Cert.Kernel3Ideal.nD Cert.Kernel3Ideal.τ).loc Cert.Kernel3Ideal.main_arg1) = sh) (e2 : m ((c : Thread Cert.Kernel3Ideal.nD Cert.Kernel3Ideal.τ).loc Cert.Kernel3Ideal.main_arg2) = sc) (e3 : m ((c : Thread Cert.Kernel3Ideal.nD Cert.Kernel3Ideal.τ).loc Cert.Kernel3Ideal.main_arg3) = w) (e5 : m ((c : Thread Cert.Kernel3Ideal.nD Cert.Kernel3Ideal.τ).loc Cert.Kernel3Ideal.main_arg5) = gk) (hr : ∀ n t d s, IsReal (hrow x sh sc n t d * w (ix2 d s))) :
    val_main_v156 (F := Ideal) x sh sc w gk = (dats m 0 c).arrAt 19 Cert.Kernel3Ideal.cfg0.N := by
  rw [Cert.Kernel3Ideal.Mix.kmla_array m x sh sc w gk c e0 e1 e2 e3 e5 hr]
  funext j
  idx_vars j
  exact Cert.Reference3Ideal.Mix.kmla_result x sh sc w gk j0 j1

/-- The latent attention's queries. -/
theorem qmla_same (x : S2x8192x1024.Idx → EReal) (sh : S2x1x1024.Idx → EReal) (sc : S2x1x1024.Idx → EReal) (w : S1024x1604.Idx → EReal) (g : S256.Idx → EReal) (u : S256x4x96.Idx → EReal) (k : S128x4x64.Idx → EReal)
    (e0 : m ((c : Thread Cert.Kernel3Ideal.nD Cert.Kernel3Ideal.τ).loc Cert.Kernel3Ideal.main_arg0) = x) (e1 : m ((c : Thread Cert.Kernel3Ideal.nD Cert.Kernel3Ideal.τ).loc Cert.Kernel3Ideal.main_arg1) = sh) (e2 : m ((c : Thread Cert.Kernel3Ideal.nD Cert.Kernel3Ideal.τ).loc Cert.Kernel3Ideal.main_arg2) = sc) (e3 : m ((c : Thread Cert.Kernel3Ideal.nD Cert.Kernel3Ideal.τ).loc Cert.Kernel3Ideal.main_arg3) = w) (e4 : m ((c : Thread Cert.Kernel3Ideal.nD Cert.Kernel3Ideal.τ).loc Cert.Kernel3Ideal.main_arg4) = g) (e6 : m ((c : Thread Cert.Kernel3Ideal.nD Cert.Kernel3Ideal.τ).loc Cert.Kernel3Ideal.main_arg6) = u) (e7 : m ((c : Thread Cert.Kernel3Ideal.nD Cert.Kernel3Ideal.τ).loc Cert.Kernel3Ideal.main_arg7) = k) (hq : ∀ n t r a p, IsReal (Cert.Mix.cq (hrow x sh sc n t) (mat w) (vec g) r * u (ix3 r a p))) :
    val_main_v161 (F := Ideal) x sh sc w g u k = (dats m 0 c).arrAt 20 Cert.Kernel3Ideal.cfg0.N := by
  rw [Cert.Kernel3Ideal.Mix.qmla_array m x sh sc w g u k c e0 e1 e2 e3 e4 e6 e7 hq]
  funext j
  idx_vars j
  exact Cert.Reference3Ideal.Mix.qmla_result x sh sc w g u k j0 j1

/-- The state space branch's input. -/
theorem cu_same (x : S2x8192x1024.Idx → EReal) (sh : S2x1x1024.Idx → EReal) (sc : S2x1x1024.Idx → EReal) (w : S1024x1604.Idx → EReal)
    (e0 : m ((c : Thread Cert.Kernel3Ideal.nD Cert.Kernel3Ideal.τ).loc Cert.Kernel3Ideal.main_arg0) = x) (e1 : m ((c : Thread Cert.Kernel3Ideal.nD Cert.Kernel3Ideal.τ).loc Cert.Kernel3Ideal.main_arg1) = sh) (e2 : m ((c : Thread Cert.Kernel3Ideal.nD Cert.Kernel3Ideal.τ).loc Cert.Kernel3Ideal.main_arg2) = sc) (e3 : m ((c : Thread Cert.Kernel3Ideal.nD Cert.Kernel3Ideal.τ).loc Cert.Kernel3Ideal.main_arg3) = w) :
    val_main_v162 (F := Ideal) x sh sc w = (dats m 0 c).arrAt 21 Cert.Kernel3Ideal.cfg0.N := by
  rw [Cert.Kernel3Ideal.Mix.cu_array m x sh sc w c e0 e1 e2 e3]
  funext j
  idx_vars j
  exact Cert.Reference3Ideal.Mix.cu_result x sh sc w j0 j1

set_option maxHeartbeats 4000000 in
/-- Over the extended reals, for real rows, modulation, projection, queries' factor and query projection, the kernel's results are
    the reference's. -/
theorem algebraic : Cert.algebraic_Kernel3Ideal_Reference3Ideal_pre_finite3 := by
  intro m ρ m' ρ' hpre hagree
  refine ⟨fun c => (dats m 0 c).arrAt 10 Cert.Kernel3Ideal.cfg0.N, fun c => (dats m 0 c).arrAt 11 Cert.Kernel3Ideal.cfg0.N, fun c => (dats m 0 c).arrAt 12 Cert.Kernel3Ideal.cfg0.N, fun c => (dats m 0 c).arrAt 13 Cert.Kernel3Ideal.cfg0.N, fun c => (dats m 0 c).arrAt 14 Cert.Kernel3Ideal.cfg0.N, fun c => (dats m 0 c).arrAt 15 Cert.Kernel3Ideal.cfg0.N, fun c => (dats m 0 c).arrAt 16 Cert.Kernel3Ideal.cfg0.N, fun c => (dats m 0 c).arrAt 17 Cert.Kernel3Ideal.cfg0.N, fun c => (dats m 0 c).arrAt 18 Cert.Kernel3Ideal.cfg0.N, fun c => (dats m 0 c).arrAt 19 Cert.Kernel3Ideal.cfg0.N, fun c => (dats m 0 c).arrAt 20 Cert.Kernel3Ideal.cfg0.N, fun c => (dats m 0 c).arrAt 21 Cert.Kernel3Ideal.cfg0.N,
    Cert.Kernel3Ideal.Value.run_blocks m ρ, ?_⟩
  refine (θ_run Cert.Reference3Ideal.defs _ _).mono (fun r h c => ?_) (Cert.Reference3Ideal.Value.run (F := Ideal) m' ρ')
  obtain ⟨h0, h1, h2, h3, h4, h5, h6, h7, h8, h9, h10, h11, hargs⟩ := h c
  obtain ⟨a0, a1, a2, a3, a4, a5, a6, a7⟩ := hagree c
  have hx := Cert.Pre_finite3.x_real _ _ _ _ _ _ _ _ (hpre c).1
  have hs := Cert.Pre_finite3.shift_real _ _ _ _ _ _ _ _ (hpre c).2.1
  have hc := Cert.Pre_finite3.scale_real _ _ _ _ _ _ _ _ (hpre c).2.2.1
  have hw := Cert.Pre_finite3.w_real _ _ _ _ _ _ _ _ (hpre c).2.2.2.1
  have hg := Cert.Pre_finite3.g_real _ _ _ _ _ _ _ _ (hpre c).2.2.2.2.1
  have hu := Cert.Pre_finite3.u_real _ _ _ _ _ _ _ _ (hpre c).2.2.2.2.2
  rw [← a0] at hx
  rw [← a1] at hs
  rw [← a2] at hc
  rw [← a3] at hw
  rw [← a4] at hg
  rw [← a6] at hu
  have hr := Cert.Mix.term_real _ _ _ _ hx hs hc hw
  have hq := Cert.Mix.query_term_real _ _ _ _ _ _ hx hs hc hw hg hu
  refine ⟨?_, ?_, ?_, ?_, ?_, ?_, ?_, ?_, ?_, ?_, ?_, ?_, hargs⟩
  · exact h0.trans ((val_main_v139_eq (StableHlo.launchContents m' c)).trans (aq_same m c _ _ _ _ a0.symm a1.symm a2.symm a3.symm))
  · exact h1.trans ((val_main_v140_eq (StableHlo.launchContents m' c)).trans (ak_same m c _ _ _ _ a0.symm a1.symm a2.symm a3.symm))
  · exact h2.trans ((val_main_v141_eq (StableHlo.launchContents m' c)).trans (av_same m c _ _ _ _ a0.symm a1.symm a2.symm a3.symm))
  · exact h3.trans ((val_main_v144_eq (StableHlo.launchContents m' c)).trans (kv_same m c _ _ _ _ a0.symm a1.symm a2.symm a3.symm))
  · exact h4.trans ((val_main_v148_eq (StableHlo.launchContents m' c)).trans (iq_same m c _ _ _ _ a0.symm a1.symm a2.symm a3.symm))
  · exact h5.trans ((val_main_v149_eq (StableHlo.launchContents m' c)).trans (misc_same m c _ _ _ _ a0.symm a1.symm a2.symm a3.symm))
  · exact h6.trans ((val_main_v151_eq (StableHlo.launchContents m' c)).trans (ik_same m c _ _ _ _ a0.symm a1.symm a2.symm a3.symm))
  · exact h7.trans ((val_main_v152_eq (StableHlo.launchContents m' c)).trans (ckv_same m c _ _ _ _ _ a0.symm a1.symm a2.symm a3.symm a5.symm))
  · exact h8.trans ((val_main_v153_eq (StableHlo.launchContents m' c)).trans (kpe_same m c _ _ _ _ a0.symm a1.symm a2.symm a3.symm hr))
  · exact h9.trans ((val_main_v156_eq (StableHlo.launchContents m' c)).trans (kmla_same m c _ _ _ _ _ a0.symm a1.symm a2.symm a3.symm a5.symm hr))
  · exact h10.trans ((val_main_v161_eq (StableHlo.launchContents m' c)).trans (qmla_same m c _ _ _ _ _ _ _ a0.symm a1.symm a2.symm a3.symm a4.symm a6.symm a7.symm hq))
  · exact h11.trans ((val_main_v162_eq (StableHlo.launchContents m' c)).trans (cu_same m c _ _ _ _ a0.symm a1.symm a2.symm a3.symm))

end Cert.Proof.Mix

end
-- ==== Proof.SampleTrip.lean ====
/- The sample's feed-forward block's body at its grid point, with its loop over the hidden chunks replaced by an invariant. -/
module

public import proofs.«01_k».proof.Proof.Gen.Kernel5Ideal.Value
public import Idealize.ShloMosaic.Lib.Pointwise
public import Idealize.ShloMosaic.Lib.VecWindow
public import Idealize.ShloMosaic.Lib.Pipeline.ValueKit

@[expose] public section

noncomputable section

namespace Cert.Kernel5Ideal.Ffn

open Cert.Kernel5Ideal Cert.Kernel5Ideal.Gen Idealize.ShloMosaic Idealize.ShloMosaic.TcCoe Idealize.SL.Sem

variable {F : FTy → Type} [FloatOps F]

/-- The up-projection weights (of the gate, or of the value) that trip `k` reads: one chunk of 256 hidden units. -/
def upChunk (w : Vec F S11x1024x256 .bf16) (k : Fin k0_t1_loop.trips) : Vec F S1x1024x256 .bf16 :=
  View.ld w (Rect.unit (s := S11x1024x256) (k0_off1 k) S1x1024x256.size (k0_off1_inb k))

/-- The down-projection weights that trip `k` reads. -/
def downChunk (w : Vec F S11x256x1024 .bf16) (k : Fin k0_t1_loop.trips) : Vec F S1x256x1024 .bf16 :=
  View.ld w (Rect.unit (s := S11x256x1024) (k0_off2 k) S1x256x1024.size (k0_off2_inb k))

/-- One trip on the accumulator: the chunk's gated activation times its down-projection is added. -/
def step (x : Vec F S128x1024 .f32) (scale shift : Vec F S1x128x1024 .f32) (wg wu : Vec F S11x1024x256 .bf16) (wd : Vec F S11x256x1024 .bf16)
    (k : Fin k0_t1_loop.trips) (a : Vec F S128x1024 .f32) : Vec F S128x1024 .f32 :=
  k0_pay4 x scale shift (upChunk wg k) (upChunk wu k) a (downChunk wd k)

/-- What one trip stores in the accumulator, over what it finds there. -/
theorem trip_reads (𝒱 : Variants) (c : Dev nD) (bd : Option 𝒱.V) (i : grid0.Coords) (arg1 : Memref sig .tc .vmem S128x1024 .f32) (harg1 : arg1.IsWhole) (arg2 : Memref sig .tc .vmem S1x128x1024 .f32) (harg2 : arg2.IsWhole) (arg3 : Memref sig .tc .vmem S1x128x1024 .f32) (harg3 : arg3.IsWhole) (arg4 : Memref sig .tc .vmem S1x128x1024 .f32) (harg4 : arg4.IsWhole) (arg5 : Memref sig .tc .vmem S11x1024x256 .bf16) (harg5 : arg5.IsWhole) (arg6 : Memref sig .tc .vmem S11x1024x256 .bf16) (harg6 : arg6.IsWhole) (arg7 : Memref sig .tc .vmem S11x256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S128x1024 .f32) (harg11 : arg11.IsWhole)
    (x : Vec F S128x1024 .f32) (scale shift : Vec F S1x128x1024 .f32) (wg wu : Vec F S11x1024x256 .bf16) (wd : Vec F S11x256x1024 .bf16)
    (k : Fin k0_t1_loop.trips) (f : BufTy.Contents (Elt F) arg11.view.ty) (L : List (View.Piece (Elt F) S128x1024 .f32)) :
    arg11.view.read (Elt F) (arg11.view.writes (Elt F) f
        (tripL_k0_t1 (F := F) 𝒱 c bd i arg1 harg1 arg2 harg2 arg3 harg3 arg4 harg4 arg5 harg5 arg6 harg6 arg7 harg7 arg8 harg8 arg9 harg9 arg10 harg10 arg11 harg11 x scale shift (harg5.unread wg) (harg6.unread wu) (harg7.unread wd) k (arg11.view.writes (Elt F) f L) ++ L))
      = step x scale shift wg wu wd k (arg11.view.read (Elt F) (arg11.view.writes (Elt F) f L)) := by
  unfold tripL_k0_t1 trip_k0_t1
  dsimp only
  rw [List.singleton_append]
  refine (View.read_writes_full _ _ _ _ _).trans ?_
  sl_unfold_words
  simp only [View.readAt_eq_ld, harg5.read_unread, harg6.read_unread, harg7.read_unread]
  exact congrArg (fun a => k0_pay4 x scale shift (upChunk wg k) (upChunk wu k) a (downChunk wd k))
    (View.ld_unit_lit (S := S128x1024) inb_S128x1024_S128x1024_0_0 _ (by decide))

/-- After `n` trips the accumulator has any property that it has at entry and a trip keeps. -/
theorem loop_keeps (𝒱 : Variants) (c : Dev nD) (bd : Option 𝒱.V) (i : grid0.Coords) (arg1 : Memref sig .tc .vmem S128x1024 .f32) (harg1 : arg1.IsWhole) (arg2 : Memref sig .tc .vmem S1x128x1024 .f32) (harg2 : arg2.IsWhole) (arg3 : Memref sig .tc .vmem S1x128x1024 .f32) (harg3 : arg3.IsWhole) (arg4 : Memref sig .tc .vmem S1x128x1024 .f32) (harg4 : arg4.IsWhole) (arg5 : Memref sig .tc .vmem S11x1024x256 .bf16) (harg5 : arg5.IsWhole) (arg6 : Memref sig .tc .vmem S11x1024x256 .bf16) (harg6 : arg6.IsWhole) (arg7 : Memref sig .tc .vmem S11x256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S128x1024 .f32) (harg11 : arg11.IsWhole)
    (x : Vec F S128x1024 .f32) (scale shift : Vec F S1x128x1024 .f32) (wg wu : Vec F S11x1024x256 .bf16) (wd : Vec F S11x256x1024 .bf16)
    (f : BufTy.Contents (Elt F) arg11.view.ty) (Inv : ℕ → Vec F S128x1024 .f32 → Prop) (h0 : Inv 0 (arg11.view.read (Elt F) f))
    (hs : ∀ (k : Fin k0_t1_loop.trips) (a : Vec F S128x1024 .f32), Inv k a → Inv (k + 1) (step x scale shift wg wu wd k a))
    (n : ℕ) (hn : n ≤ k0_t1_loop.trips) :
    Inv n (arg11.view.read (Elt F) (arg11.view.writes (Elt F) f
      (pb_k0_t1 (F := F) 𝒱 c bd i arg1 harg1 arg2 harg2 arg3 harg3 arg4 harg4 arg5 harg5 arg6 harg6 arg7 harg7 arg8 harg8 arg9 harg9 arg10 harg10 arg11 harg11 x scale shift (harg5.unread wg) (harg6.unread wu) (harg7.unread wd) f n))) := by
  induction n with
  | zero => exact h0
  | succ n ih =>
    have h := pb_k0_t1_succ (F := F) 𝒱 c bd i arg1 harg1 arg2 harg2 arg3 harg3 arg4 harg4 arg5 harg5 arg6 harg6 arg7 harg7 arg8 harg8 arg9 harg9 arg10 harg10 arg11 harg11 x scale shift (harg5.unread wg) (harg6.unread wu) (harg7.unread wd) f ⟨n, hn⟩
    dsimp only at h
    rw [h, trip_reads]
    exact hs ⟨n, hn⟩ _ (ih (Nat.le_of_succ_le hn))

/-- A load of a whole block of rows. -/
theorem whole_rows (x : Vec F S128x1024 .f32) :
    View.ld x (Rect.unit (s := S128x1024) ![0, 0] ![128, 1024] inb_S128x1024_S128x1024_0_0) = x :=
  View.ld_unit_lit (S := S128x1024) inb_S128x1024_S128x1024_0_0 x (by decide)

/-- A load of a whole row. -/
theorem whole_row (x : Vec F S1x1024 .f32) : View.ld x (Rect.unit (s := S1x1024) ![0, 0] ![1, 1024] inb_S1x1024_S1x1024_0_0) = x :=
  View.ld_unit_lit (S := S1x1024) inb_S1x1024_S1x1024_0_0 x (by decide)

/-- A load of a whole block of modulation rows. -/
theorem whole_mods (x : Vec F S1x128x1024 .f32) :
    View.ld x (Rect.unit (s := S1x128x1024) ![0, 0, 0] ![1, 128, 1024] inb_S1x128x1024_S1x128x1024_0_0_0) = x :=
  View.ld_unit_lit (S := S1x128x1024) inb_S1x128x1024_S1x128x1024_0_0_0 x (by decide)

variable (m : (ℓ : Loc nD τ sig) → Buf (Elt F) ℓ)

/-- The block that point `t` stores: the residual and the accumulator, normalised, for an accumulator with any property
    that the zero accumulator has and a trip keeps. -/
theorem block_of_invariant (c : Dev nD) (t : Fin cfg0.N) (Inv : ℕ → Vec F S128x1024 .f32 → Prop) (h0 : Inv 0 k0_pay3)
    (hs : ∀ (k : Fin k0_t1_loop.trips) (a : Vec F S128x1024 .f32), Inv k a →
      Inv (k + 1) (step (iblk m c 0 t) (iblk m c 2 t) (iblk m c 1 t) (iblk m c 4 t) (iblk m c 5 t) (iblk m c 6 t) k a)) :
    ∃ a : Vec F S128x1024 .f32, Inv k0_t1_loop.trips a ∧
      outsAt0 m c t = k0_pay1 (k0_pay5 (iblk m c 0 t) (iblk m c 3 t) a) (k0_pay6 (iblk m c 7 t)) (iblk m c 8 t) := by
  unfold outsAt0 out0_A_9
  rw [View.read_writes_eq_canon _ _ _ (cover0_A_9 c _ _ _ _ _ _ _ _ _ _ _ _ _ _ _ _ _ _ _ _ _ _ _ _ _ _ _ _ _ _ _ _)]
  unfold kernelRun0_A
  dsimp only
  rw [View.canon_unit_zero (by decide)]
  sl_unfold_words
  unfold View.readCov
  simp only [View.writes_append]
  simp only [View.readAt_eq_ld, Memref.IsWhole.read_unread, whole_rows, whole_row, whole_mods]
  refine ⟨_, ?_, rfl⟩
  refine loop_keeps Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 2 t) (iblk m c 1 t)
    (iblk m c 4 t) (iblk m c 5 t) (iblk m c 6 t) _ Inv ?_ hs _ le_rfl
  refine Eq.mpr (congrArg (Inv 0) ?_) h0
  exact View.read_writes_full _ _ _ _ _

end Cert.Kernel5Ideal.Ffn

end
-- ==== Proof.SamplePayload.lean ====
/- The stored values of the sample's feed-forward block at an index. -/
module

public import proofs.«01_k».proof.Proof.SampleTrip
public import proofs.«01_k».proof.Proof.LayerMath

@[expose] public section

noncomputable section

namespace Cert.Kernel5Ideal.Ffn

open Cert.Kernel5Ideal Cert.Kernel5Ideal.Gen Idealize.ShloMosaic Idealize.ShloMosaic.TcCoe Idealize.SL.Sem Cert.Layer

/-- Row `r` of a block. -/
def row (x : Vec Ideal S128x1024 .f32) (r : Fin 128) (c : Fin 1024) : EReal := x (ix2 r c)

/-- A staged row of parameters. -/
def param (x : Vec Ideal S1x1024 .f32) (c : Fin 1024) : EReal := x (ix2 0 c)

/-- The staged modulation of row `r`. -/
def modrow (x : Vec Ideal S1x128x1024 .f32) (r : Fin 128) (c : Fin 1024) : EReal := x (ix3 0 r c)

/-- An entry of the up-projection that trip `k` reads. -/
theorem upChunk_apply (w : Vec Ideal S11x1024x256 .bf16) (k : Fin k0_t1_loop.trips) (hk : k.val < 11) (d : Fin 1024) (f : Fin 256) :
    upChunk w k (ix3 0 d f) = w (ix3 ⟨k.val, hk⟩ d f) := by
  unfold upChunk
  refine View.ld_unit_apply_of _ _ _ _ _ _ fun a => ?_
  refine Eq.trans ?_ (congrArg (fun n => n + ((ix3 0 d f : S1x1024x256.Idx) a).val) (congrFun (k0_off1_eq k) a).symm)
  match a with
  | ⟨0, _⟩ => rfl
  | ⟨1, _⟩ => exact (Nat.zero_add _).symm
  | ⟨2, _⟩ => exact (Nat.zero_add _).symm

/-- An entry of the down-projection that trip `k` reads. -/
theorem downChunk_apply (w : Vec Ideal S11x256x1024 .bf16) (k : Fin k0_t1_loop.trips) (hk : k.val < 11) (f : Fin 256) (c : Fin 1024) :
    downChunk w k (ix3 0 f c) = w (ix3 ⟨k.val, hk⟩ f c) := by
  unfold downChunk
  refine View.ld_unit_apply_of _ _ _ _ _ _ fun a => ?_
  refine Eq.trans ?_ (congrArg (fun n => n + ((ix3 0 f c : S1x256x1024.Idx) a).val) (congrFun (k0_off2_eq k) a).symm)
  match a with
  | ⟨0, _⟩ => rfl
  | ⟨1, _⟩ => exact (Nat.zero_add _).symm
  | ⟨2, _⟩ => exact (Nat.zero_add _).symm

/-- One trip at an index: the chunk's 256 units are added. -/
theorem step_apply (x : Vec Ideal S128x1024 .f32) (scale shift : Vec Ideal S1x128x1024 .f32) (wg wu : Vec Ideal S11x1024x256 .bf16)
    (wd : Vec Ideal S11x256x1024 .bf16) (k : Fin k0_t1_loop.trips) (hk : k.val < 11) (a : Vec Ideal S128x1024 .f32) (r : Fin 128) (c : Fin 1024) :
    step x scale shift wg wu wd k a (ix2 r c) = a (ix2 r c) + ∑ f : Fin 256,
      gated (modulated (row x r) (modrow scale r) (modrow shift r)) (fun d => wg (ix3 ⟨k.val, hk⟩ d f)) (fun d => wu (ix3 ⟨k.val, hk⟩ d f))
        * wd (ix3 ⟨k.val, hk⟩ f c) := by
  have key : ∀ (p q : Vec Ideal S1x1024x256 .bf16) (s : Vec Ideal S1x256x1024 .bf16), k0_pay4 x scale shift p q a s (ix2 r c)
      = a (ix2 r c) + ∑ f : Fin 256, gated (modulated (row x r) (modrow scale r) (modrow shift r)) (fun d => p (ix3 0 d f)) (fun d => q (ix3 0 d f))
        * s (ix3 0 f c) := by
    intro p q s
    unfold k0_pay4 k0_pay2
    pointwise
    rfl
  unfold step
  rw [key]
  simp only [upChunk_apply _ k hk, downChunk_apply _ k hk]

/-- The zero accumulator. -/
theorem start_apply (r : Fin 128) (c : Fin 1024) : (k0_pay3 : FVec Ideal S128x1024 .f32) (ix2 r c) = 0 := by
  unfold k0_pay3
  pointwise

/-- What the block stores, at an index: the layer norm of the residual. -/
theorem finish_apply (x : Vec Ideal S128x1024 .f32) (gate : Vec Ideal S1x128x1024 .f32) (a : Vec Ideal S128x1024 .f32)
    (g b : Vec Ideal S1x1024 .f32) (r : Fin 128) (c : Fin 1024) :
    k0_pay1 (k0_pay5 x gate a) (k0_pay6 g) b (ix2 r c) = norm (residual (row x r) (modrow gate r) (row a r)) (param g) (param b) c := by
  have h5 : ∀ y : Fin 1024, k0_pay5 x gate a (ix2 r y) = residual (row x r) (modrow gate r) (row a r) y := by
    intro y
    unfold k0_pay5 k0_pay2
    pointwise
    rfl
  have h1 : ∀ v : Vec Ideal S128x1024 .f32, k0_pay1 v (k0_pay6 g) b (ix2 r c) = norm (row v r) (param g) (param b) c := by
    intro v
    unfold k0_pay1 k0_pay6
    pointwise
    rfl
  rw [h1]
  exact congrArg (fun v => norm v (param g) (param b) c) (funext h5)

end Cert.Kernel5Ideal.Ffn

end
-- ==== Proof.SampleHost.lean ====
/- The arrays that the sample's feed-forward call is given: the rows flattened, the weights cut into chunks of hidden units. -/
module

public import proofs.«01_k».proof.Proof.SamplePayload

@[expose] public section

noncomputable section

namespace Cert.Kernel5Ideal.Ffn

open Cert.Kernel5Ideal Cert.Kernel5Ideal.Gen Idealize.ShloMosaic Idealize.ShloMosaic.TcCoe Idealize.SL.Sem Cert.Layer

/-- The rows of all sequences, one after the other. -/
def flat (x : Vec Ideal S128x1x1024 .f32) : Vec Ideal S128x1024 .f32 := shapeCast S128x1024 x shapeCasts_S128x1x1024_S128x1024

/-- The modulation rows of all sequences, in one block. -/
def mods (x : Vec Ideal S128x1x1024 .f32) : Vec Ideal S1x128x1024 .f32 := shapeCast S1x128x1024 x shapeCasts_S128x1x1024_S1x128x1024

/-- The gate half of the up-projection, cut into chunks. -/
def gates (w : Vec Ideal S1024x5632 .f32) : Vec Ideal S11x1024x256 .f32 :=
  transpose S11x1024x256 [1, 0, 2] (shapeCast S1024x11x256 (extractStridedSlice S1024x2816 ![0, 0] w slices_S1024x5632_S1024x2816_0_0)
    shapeCasts_S1024x2816_S1024x11x256) transposes_S1024x11x256_S11x1024x256_1_0_2

/-- The value half of the up-projection, cut into chunks. -/
def values (w : Vec Ideal S1024x5632 .f32) : Vec Ideal S11x1024x256 .f32 :=
  transpose S11x1024x256 [1, 0, 2] (shapeCast S1024x11x256 (extractStridedSlice S1024x2816 ![0, 2816] w slices_S1024x5632_S1024x2816_0_2816)
    shapeCasts_S1024x2816_S1024x11x256) transposes_S1024x11x256_S11x1024x256_1_0_2

/-- The down-projection, cut into chunks. -/
def downs (w : Vec Ideal S2816x1024 .f32) : Vec Ideal S11x256x1024 .f32 := shapeCast S11x256x1024 w shapeCasts_S2816x1024_S11x256x1024

/-- A vector as one row. -/
def asRow (w : Vec Ideal S1024 .f32) : Vec Ideal S1x1024 .f32 := shapeCast S1x1024 w shapeCasts_S1024_S1x1024

/-- Row `r` of the flattened rows is the one row of sequence `r`. -/
theorem flat_apply (x : Vec Ideal S128x1x1024 .f32) (r : Fin 128) (c : Fin 1024) : flat x (ix2 r c) = x (ix3 r 0 c) := by
  unfold flat
  pointwise

/-- Row `r` of the modulation block is the one row of sequence `r`. -/
theorem mods_apply (x : Vec Ideal S128x1x1024 .f32) (r : Fin 128) (c : Fin 1024) : mods x (ix3 0 r c) = x (ix3 r 0 c) := by
  unfold mods
  pointwise

/-- The gate weights of chunk `k`. -/
theorem gates_apply (w : Vec Ideal S1024x5632 .f32) (k : Fin 11) (d : Fin 1024) (f : Fin 256) :
    gates w (ix3 k d f) = w (ix2 d ⟨256 * k.val + f.val, by omega⟩) := by
  unfold gates
  pointwise
  congr! 3
  omega

/-- The value weights of chunk `k`. -/
theorem values_apply (w : Vec Ideal S1024x5632 .f32) (k : Fin 11) (d : Fin 1024) (f : Fin 256) :
    values w (ix3 k d f) = w (ix2 d ⟨2816 + (256 * k.val + f.val), by omega⟩) := by
  unfold values
  pointwise
  congr! 3
  omega

/-- The down-projection of chunk `k`. -/
theorem downs_apply (w : Vec Ideal S2816x1024 .f32) (k : Fin 11) (f : Fin 256) (c : Fin 1024) :
    downs w (ix3 k f c) = w (ix2 ⟨256 * k.val + f.val, by omega⟩ c) := by
  unfold downs
  pointwise
  congr! 3
  omega

/-- A vector's row, at an index. -/
theorem asRow_apply (w : Vec Ideal S1024 .f32) (c : Fin 1024) : asRow w (ix2 0 c) = w (ix1 c) := by
  unfold asRow
  pointwise

variable (m : (ℓ : Loc nD τ sig) → Buf (Elt Ideal) ℓ)

/-- Narrowing keeps an exact value. -/
theorem trunc_id {s : Shape} (x : FVec Ideal s .f32) : (truncf .bf16 x bitsLt_bf16_f32 : s.Idx → EReal) = x := rfl

/-- The call's shift rows. -/
theorem shiftrows_eq (c : Dev nD) : (V m c main_v0 : S1x128x1024.Idx → EReal) = mods (m ((c : Thread nD τ).loc main_arg1)) := by
  unfold_abbrev_sides
  after_results
  unfold mods
  congr 1

/-- The call's scale rows. -/
theorem scalerows_eq (c : Dev nD) : (V m c main_v1 : S1x128x1024.Idx → EReal) = mods (m ((c : Thread nD τ).loc main_arg2)) := by
  unfold_abbrev_sides
  after_results
  unfold mods
  congr 1

/-- The call's gate rows. -/
theorem gaterows_eq (c : Dev nD) : (V m c main_v2 : S1x128x1024.Idx → EReal) = mods (m ((c : Thread nD τ).loc main_arg3)) := by
  unfold_abbrev_sides
  after_results
  unfold mods
  congr 1

/-- The call's rows. -/
theorem rows_eq (c : Dev nD) : (V m c main_v3 : S128x1024.Idx → EReal) = flat (m ((c : Thread nD τ).loc main_arg0)) := by
  unfold_abbrev_sides
  after_results
  unfold flat
  congr 1

/-- The call's gate weights. -/
theorem gates_eq (c : Dev nD) : (V m c main_v7 : S11x1024x256.Idx → EReal) = gates (m ((c : Thread nD τ).loc main_arg4)) := by
  unfold_abbrev_sides
  after_results
  refine (trunc_id _).trans ?_
  unfold gates
  congr 1

/-- The call's value weights. -/
theorem values_eq (c : Dev nD) : (V m c main_v11 : S11x1024x256.Idx → EReal) = values (m ((c : Thread nD τ).loc main_arg4)) := by
  unfold_abbrev_sides
  after_results
  refine (trunc_id _).trans ?_
  unfold values
  congr 1

/-- The call's down-projection. -/
theorem downs_eq (c : Dev nD) : (V m c main_v13 : S11x256x1024.Idx → EReal) = downs (m ((c : Thread nD τ).loc main_arg5)) := by
  unfold_abbrev_sides
  after_results
  refine (trunc_id _).trans ?_
  unfold downs
  congr 1

/-- The call's layer norm scale. -/
theorem scale_eq (c : Dev nD) : (V m c main_v14 : S1x1024.Idx → EReal) = asRow (m ((c : Thread nD τ).loc main_arg6)) := by
  unfold_abbrev_sides
  after_results
  unfold asRow
  congr 1

/-- The call's layer norm offset. -/
theorem offset_eq (c : Dev nD) : (V m c main_v15 : S1x1024.Idx → EReal) = asRow (m ((c : Thread nD τ).loc main_arg7)) := by
  unfold_abbrev_sides
  after_results
  unfold asRow
  congr 1

end Cert.Kernel5Ideal.Ffn

end
-- ==== Proof.SampleArray.lean ====
/- The array that the sample's feed-forward call leaves: at every row and channel, from the whole arrays it is given. -/
module

public import proofs.«01_k».proof.Proof.SampleHost
public import Idealize.ShloMosaic.Lib.Pipeline.ValueKit

@[expose] public section

noncomputable section

namespace Cert.Kernel5Ideal.Ffn

open Cert.Kernel5Ideal Cert.Kernel5Ideal.Gen Idealize.ShloMosaic Idealize.ShloMosaic.TcCoe Idealize.SL.Sem Cert.Layer

/-- The feed-forward block of sequence `n`, at channel `c`, from the arrays the layer is given. -/
def layer (x shift scale gate : S128x1x1024.Idx → EReal) (win : S1024x5632.Idx → EReal)
    (wout : S2816x1024.Idx → EReal) (g b : S1024.Idx → EReal) (n : Fin 128) (c : Fin 1024) : EReal :=
  block (fun d => x (ix3 n 0 d)) (fun d => scale (ix3 n 0 d)) (fun d => shift (ix3 n 0 d)) (fun d => gate (ix3 n 0 d))
    (fun d f => win (ix2 d f)) (fun f e => wout (ix2 f e)) (fun e => g (ix1 e)) (fun e => b (ix1 e)) c

/-- Which block of each array the grid point stages. -/
theorem idx (t : Fin cfg0.N) : win0_0.index t = ![0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0] ∧ win0_8.index t = ![0, 0] ∧ win0_9.index t = ![0, 0] :=
  (by decide +kernel : ∀ t : Fin grid0.N, win0_0.index t = ![0, 0] ∧ win0_1.index t = ![0, 0, 0]
    ∧ win0_2.index t = ![0, 0, 0] ∧ win0_3.index t = ![0, 0, 0] ∧ win0_4.index t = ![0, 0, 0]
    ∧ win0_5.index t = ![0, 0, 0] ∧ win0_6.index t = ![0, 0, 0] ∧ win0_7.index t = ![0, 0] ∧ win0_8.index t = ![0, 0]
    ∧ win0_9.index t = ![0, 0]) t

variable (m : (ℓ : Loc nD τ sig) → Buf (Elt Ideal) ℓ)

/-- The block of rows. -/
theorem rows_block (c : Dev nD) (t : Fin cfg0.N) : (iblk m c 0 t : S128x1024.Idx → EReal) = flat (m ((c : Thread nD τ).loc main_arg0)) := by
  rw [← rows_eq m c]
  funext j
  show V m c main_v3 ((win0_0.rect t).emb j) = V m c main_v3 j
  congr 1
  funext a
  apply Fin.ext
  rw [Pipeline.Window.rect_emb_val_of_index_zero]
  rw [(idx t).1]
  fin_cases a <;> rfl

/-- The block of shift rows. -/
theorem shift_block (c : Dev nD) (t : Fin cfg0.N) : (iblk m c 1 t : S1x128x1024.Idx → EReal) = mods (m ((c : Thread nD τ).loc main_arg1)) := by
  rw [← shiftrows_eq m c]
  funext j
  show V m c main_v0 ((win0_1.rect t).emb j) = V m c main_v0 j
  congr 1
  funext a
  apply Fin.ext
  rw [Pipeline.Window.rect_emb_val_of_index_zero]
  rw [(idx t).2.1]
  fin_cases a <;> rfl

/-- The block of scale rows. -/
theorem scale_block (c : Dev nD) (t : Fin cfg0.N) : (iblk m c 2 t : S1x128x1024.Idx → EReal) = mods (m ((c : Thread nD τ).loc main_arg2)) := by
  rw [← scalerows_eq m c]
  funext j
  show V m c main_v1 ((win0_2.rect t).emb j) = V m c main_v1 j
  congr 1
  funext a
  apply Fin.ext
  rw [Pipeline.Window.rect_emb_val_of_index_zero]
  rw [(idx t).2.2.1]
  fin_cases a <;> rfl

/-- The block of gate rows. -/
theorem gate_block (c : Dev nD) (t : Fin cfg0.N) : (iblk m c 3 t : S1x128x1024.Idx → EReal) = mods (m ((c : Thread nD τ).loc main_arg3)) := by
  rw [← gaterows_eq m c]
  funext j
  show V m c main_v2 ((win0_3.rect t).emb j) = V m c main_v2 j
  congr 1
  funext a
  apply Fin.ext
  rw [Pipeline.Window.rect_emb_val_of_index_zero]
  rw [(idx t).2.2.2.1]
  fin_cases a <;> rfl

/-- The grid point reads all the gate weights. -/
theorem gates_block (c : Dev nD) (t : Fin cfg0.N) : (iblk m c 4 t : S11x1024x256.Idx → EReal) = gates (m ((c : Thread nD τ).loc main_arg4)) := by
  rw [← gates_eq m c]
  funext j
  show V m c main_v7 ((win0_4.rect t).emb j) = V m c main_v7 j
  congr 1
  funext a
  apply Fin.ext
  rw [Pipeline.Window.rect_emb_val_of_index_zero]
  rw [(idx t).2.2.2.2.1]
  fin_cases a <;> rfl

/-- The grid point reads all the value weights. -/
theorem values_block (c : Dev nD) (t : Fin cfg0.N) : (iblk m c 5 t : S11x1024x256.Idx → EReal) = values (m ((c : Thread nD τ).loc main_arg4)) := by
  rw [← values_eq m c]
  funext j
  show V m c main_v11 ((win0_5.rect t).emb j) = V m c main_v11 j
  congr 1
  funext a
  apply Fin.ext
  rw [Pipeline.Window.rect_emb_val_of_index_zero]
  rw [(idx t).2.2.2.2.2.1]
  fin_cases a <;> rfl

/-- The grid point reads the whole down-projection. -/
theorem downs_block (c : Dev nD) (t : Fin cfg0.N) : (iblk m c 6 t : S11x256x1024.Idx → EReal) = downs (m ((c : Thread nD τ).loc main_arg5)) := by
  rw [← downs_eq m c]
  funext j
  show V m c main_v13 ((win0_6.rect t).emb j) = V m c main_v13 j
  congr 1
  funext a
  apply Fin.ext
  rw [Pipeline.Window.rect_emb_val_of_index_zero]
  rw [(idx t).2.2.2.2.2.2.1]
  fin_cases a <;> rfl

/-- The grid point reads the layer norm's scale. -/
theorem norm_scale_block (c : Dev nD) (t : Fin cfg0.N) : (iblk m c 7 t : S1x1024.Idx → EReal) = asRow (m ((c : Thread nD τ).loc main_arg6)) := by
  rw [← scale_eq m c]
  funext j
  show V m c main_v14 ((win0_7.rect t).emb j) = V m c main_v14 j
  congr 1
  funext a
  apply Fin.ext
  rw [Pipeline.Window.rect_emb_val_of_index_zero]
  rw [(idx t).2.2.2.2.2.2.2.1]
  fin_cases a <;> rfl

/-- The grid point reads the layer norm's offset. -/
theorem norm_offset_block (c : Dev nD) (t : Fin cfg0.N) : (iblk m c 8 t : S1x1024.Idx → EReal) = asRow (m ((c : Thread nD τ).loc main_arg7)) := by
  rw [← offset_eq m c]
  funext j
  show V m c main_v15 ((win0_8.rect t).emb j) = V m c main_v15 j
  congr 1
  funext a
  apply Fin.ext
  rw [Pipeline.Window.rect_emb_val_of_index_zero]
  rw [(idx t).2.2.2.2.2.2.2.2.1]
  fin_cases a <;> rfl

/-- The chunk loop runs eleven times. -/
theorem trips_eq : k0_t1_loop.trips = 11 := by decide +kernel

/-- The block of a row, when each chunk adds its units' terms: the row's feed-forward block. -/
theorem block_apply (c : Dev nD) (t : Fin cfg0.N) (win : S1024x5632.Idx → EReal) (wout : S2816x1024.Idx → EReal)
    (ei : m ((c : Thread nD τ).loc main_arg4) = win) (eo : m ((c : Thread nD τ).loc main_arg5) = wout) (r : Fin 128) (e : Fin 1024) :
    outsAt0 m c t (ix2 r e) = block (row (iblk m c 0 t) r) (modrow (iblk m c 2 t) r) (modrow (iblk m c 1 t) r) (modrow (iblk m c 3 t) r)
      (fun d f => win (ix2 d f)) (fun f e => wout (ix2 f e)) (param (iblk m c 7 t)) (param (iblk m c 8 t)) e := by
  obtain ⟨a, ha, h⟩ := block_of_invariant m c t
    (fun n a => ∀ (r : Fin 128) (e : Fin 1024), a (ix2 r e) = ∑ j ∈ Finset.range (256 * n),
      term (modulated (row (iblk m c 0 t) r) (modrow (iblk m c 2 t) r) (modrow (iblk m c 1 t) r)) (fun d f => win (ix2 d f)) (fun f e => wout (ix2 f e)) e j)
    (fun r e => by rw [start_apply]; simp)
    (fun k a hk r e => by
      have hk11 : k.val < 11 := Nat.lt_of_lt_of_le k.isLt k0_t1_abs.2.1
      rw [step_apply _ _ _ _ _ _ k hk11, hk, chunk_sum]
      congr 1
      refine Finset.sum_congr rfl fun f _ => ?_
      unfold term unit
      rw [dif_pos (by omega), gates_block, values_block, downs_block, ei, eo, downs_apply]
      simp only [gates_apply, values_apply])
  rw [h, finish_apply]
  unfold block
  congr 1
  congr 1
  funext x
  rw [← sum_terms, ← trips_eq]
  exact ha r x

/-- What the body leaves in the output block at a grid point. -/
theorem block_eq (x shift scale gate : S128x1x1024.Idx → EReal) (win : S1024x5632.Idx → EReal)
    (wout : S2816x1024.Idx → EReal) (g b : S1024.Idx → EReal) (c : Dev nD) (t : Fin cfg0.N)
    (e0 : m ((c : Thread nD τ).loc main_arg0) = x) (e1 : m ((c : Thread nD τ).loc main_arg1) = shift)
    (e2 : m ((c : Thread nD τ).loc main_arg2) = scale) (e3 : m ((c : Thread nD τ).loc main_arg3) = gate)
    (e4 : m ((c : Thread nD τ).loc main_arg4) = win) (e5 : m ((c : Thread nD τ).loc main_arg5) = wout)
    (e6 : m ((c : Thread nD τ).loc main_arg6) = g) (e7 : m ((c : Thread nD τ).loc main_arg7) = b) (r : Fin 128) (e : Fin 1024) :
    outsAt0 m c t (ix2 r e) = layer x shift scale gate win wout g b r e := by
  rw [block_apply m c t win wout e4 e5 r e]
  unfold layer
  have h0 : row (iblk m c 0 t) r = fun d => x (ix3 r 0 d) := by
    funext d
    unfold row
    rw [rows_block, e0]
    exact flat_apply x r d
  have h1 : modrow (iblk m c 1 t) r = fun d => shift (ix3 r 0 d) := by
    funext d
    unfold modrow
    rw [shift_block, e1]
    exact mods_apply shift r d
  have h2 : modrow (iblk m c 2 t) r = fun d => scale (ix3 r 0 d) := by
    funext d
    unfold modrow
    rw [scale_block, e2]
    exact mods_apply scale r d
  have h3 : modrow (iblk m c 3 t) r = fun d => gate (ix3 r 0 d) := by
    funext d
    unfold modrow
    rw [gate_block, e3]
    exact mods_apply gate r d
  have h7 : param (iblk m c 7 t) = fun e => g (ix1 e) := by
    funext d
    unfold param
    rw [norm_scale_block, e6]
    exact asRow_apply g d
  have h8 : param (iblk m c 8 t) = fun e => b (ix1 e) := by
    funext d
    unfold param
    rw [norm_offset_block, e7]
    exact asRow_apply b d
  rw [h0, h1, h2, h3, h7, h8]

/-- The whole output array after the run. -/
theorem array_eq (x shift scale gate : S128x1x1024.Idx → EReal) (win : S1024x5632.Idx → EReal)
    (wout : S2816x1024.Idx → EReal) (g b : S1024.Idx → EReal) (c : Dev nD)
    (e0 : m ((c : Thread nD τ).loc main_arg0) = x) (e1 : m ((c : Thread nD τ).loc main_arg1) = shift)
    (e2 : m ((c : Thread nD τ).loc main_arg2) = scale) (e3 : m ((c : Thread nD τ).loc main_arg3) = gate)
    (e4 : m ((c : Thread nD τ).loc main_arg4) = win) (e5 : m ((c : Thread nD τ).loc main_arg5) = wout)
    (e6 : m ((c : Thread nD τ).loc main_arg6) = g) (e7 : m ((c : Thread nD τ).loc main_arg7) = b) :
    (dats m 0 c).arrAt 9 cfg0.N = fun j : S128x1024.Idx => layer x shift scale gate win wout g b (j 0) (j 1) := by
  refine (dats m 0 c).arrAt_eq_of_covers 9 _ (by decide +kernel) fun t hf y => ?_
  blk_simp
  rw [after0_9]
  idx_vars y
  refine (block_eq m x shift scale gate win wout g b c t e0 e1 e2 e3 e4 e5 e6 e7 y0 y1).trans ?_
  have hv : ∀ a, (((win0_9.rect t).emb (ix2 y0 y1) a : ℕ)) = win0_9.index t a * win0_9.size a + (ix2 y0 y1 a).val :=
    fun a => Pipeline.Window.rect_emb_val win0_9 t (ix2 y0 y1) a rfl
  rw [(idx t).2.2.2.2.2.2.2.2.2] at hv
  have h0 : ((View.whole main_v16).slice (win0_9.rect t)).emb (ix2 y0 y1) 0 = y0 :=
    Fin.ext ((hv 0).trans (show 0 * 128 + y0.val = y0.val by omega))
  have h1 : ((View.whole main_v16).slice (win0_9.rect t)).emb (ix2 y0 y1) 1 = y1 :=
    Fin.ext ((hv 1).trans (show 0 * 1024 + y1.val = y1.val by omega))
  rw [h0, h1]

end Cert.Kernel5Ideal.Ffn

end
-- ==== Proof.SampleRef.lean ====
/- What the sample's feed-forward reference computes: its hidden units, its residual and its layer norm, at an index. -/
module

public import proofs.«01_k».proof.Proof.SampleArray
public import proofs.«01_k».proof.Proof.Gen.Reference5Ideal.Read
public import Idealize.ShloMosaic.Lib.Pointwise

@[expose] public section

noncomputable section

namespace Cert.Reference5Ideal.Ffn

open Cert.Reference5Ideal Cert.Reference5Ideal.Gen Cert.Reference5Ideal.Read Idealize.ShloMosaic Idealize.ShloMosaic.TcCoe Idealize.SL.Sem Cert.Layer
open Cert.Kernel5Ideal.Ffn (layer)

variable (x shift scale gate : S128x1x1024.Idx → EReal) (win : S1024x5632.Idx → EReal)
  (wout : S2816x1024.Idx → EReal) (g b : S1024.Idx → EReal)

/-- The modulated row of sequence `n`. -/
def hrow (n : Fin 128) : Fin 1024 → EReal :=
  modulated (fun d => x (ix3 n 0 d)) (fun d => scale (ix3 n 0 d)) (fun d => shift (ix3 n 0 d))

/-- The modulation. -/
theorem hrow_eq (n : Fin 128) (d : Fin 1024) :
    (val_main_v3 (F := Ideal) x shift scale (ix3 n 0 d) : EReal) = hrow x shift scale n d := by
  rw [val_main_v3_apply, val_main_v2_apply, val_main_v1_apply, val_main_v0_apply, val_main_cst_apply]
  unfold hrow modulated
  rw [← Ideal.ofBits_one_f32]
  rfl

/-- The up-projection. -/
theorem up_eq (n : Fin 128) (f : Fin 5632) :
    (val_main_v4 (F := Ideal) x shift scale win (ix3 n 0 f) : EReal) = ∑ d : Fin 1024, hrow x shift scale n d * win (ix2 d f) := by
  rw [val_main_v4_apply]
  refine Finset.sum_congr rfl fun d _ => ?_
  have el : lidx_main_v4 (ix3 n 0 f) d = ix3 n 0 d := by funext a; fin_cases a <;> rfl
  have er : ridx_main_v4 (ix3 n 0 f) d = ix2 d f := by funext a; fin_cases a <;> rfl
  rw [el, er, hrow_eq]

/-- A hidden unit. -/
theorem unit_eq (n : Fin 128) (f : Fin 2816) :
    (val_main_v8 (F := Ideal) x shift scale win (ix3 n 0 f) : EReal) = unit (hrow x shift scale n) (fun d f => win (ix2 d f)) f := by
  have e7 : idx_main_v5 (ix3 n 0 f) = ix3 n 0 ⟨f.val, by omega⟩ := by funext a; fin_cases a <;> rfl
  have e8 : idx_main_v6 (ix3 n 0 f) = ix3 n 0 ⟨2816 + f.val, by omega⟩ := by
    funext a; fin_cases a <;> rfl
  rw [val_main_v8_apply, val_main_v7_apply, val_main_call0_v5_apply, val_main_call0_v3_apply, val_main_call0_v1_apply, val_main_call0_v0_apply,
    val_main_call0_v4_apply, val_main_call0_v2_apply, val_main_call0_cst_apply, val_main_call0_cst_0_apply, val_main_v5_apply, val_main_v6_apply, e7, e8, up_eq, up_eq]
  unfold unit gated Ideal.logistic
  rw [← Ideal.ofBits_one_f32]
  rfl

/-- The feed-forward output. -/
theorem ffn_eq (n : Fin 128) (c : Fin 1024) :
    (val_main_v9 (F := Ideal) x shift scale win wout (ix3 n 0 c) : EReal)
      = ffn (hrow x shift scale n) (fun d f => win (ix2 d f)) (fun f e => wout (ix2 f e)) c := by
  rw [val_main_v9_apply]
  refine Finset.sum_congr rfl fun f _ => ?_
  have el : lidx_main_v9 (ix3 n 0 c) f = ix3 n 0 f := by funext a; fin_cases a <;> rfl
  have er : ridx_main_v9 (ix3 n 0 c) f = ix2 f c := by funext a; fin_cases a <;> rfl
  rw [el, er, unit_eq]

/-- The residual row of sequence `n`. -/
def vrow (n : Fin 128) : Fin 1024 → EReal :=
  Layer.residual (fun d => x (ix3 n 0 d)) (fun d => gate (ix3 n 0 d)) (ffn (hrow x shift scale n) (fun d f => win (ix2 d f)) (fun f e => wout (ix2 f e)))

/-- The residual. -/
theorem vrow_eq (n : Fin 128) (c : Fin 1024) :
    (val_main_v17 (F := Ideal) x shift scale gate win wout (ix3 n 0 c) : EReal) = vrow x shift scale gate win wout n c := by
  rw [val_main_v17_apply, val_main_v16_apply, val_main_v15_apply, val_main_v14_apply, val_main_v13_apply, val_main_v12_apply,
    val_main_v11_apply, val_main_v10_apply, val_main_cst_0_apply, val_main_cst_1_apply, val_main_cst_2_apply, ffn_eq]
  unfold vrow Layer.residual
  rw [← Ideal.ofBits_one_f32]
  rfl

/-- The mean of a residual row. -/
theorem mean_eq (n : Fin 128) :
    (val_main_v21 (F := Ideal) x shift scale gate win wout (ix3 n 0 0) : EReal)
      = Ideal.div (∑ d, vrow x shift scale gate win wout n d) (Ideal.ofBits FTy.f32 1149239296#32) := by
  have e22 : idx_main_v19 (ix3 n 0 0) = ix2 n 0 := by funext a; fin_cases a <;> rfl
  have e21 : ∀ k : Fin 1024, idx_main_v18 (ix2 n 0) k = ix3 n 0 k := fun k => by funext a; fin_cases a <;> rfl
  rw [val_main_v21_apply, val_main_v19_apply, e22, val_main_v18_apply, val_main_v20_apply, val_main_cst_3_apply, val_main_cst_4_apply]
  simp only [e21, vrow_eq]
  refine congrArg (fun s => Ideal.div s _) ?_
  refine (congrArg (fun y : EReal => y + _) Ideal.ofBits_zero_f32).trans ?_
  exact zero_add _

/-- The variance of a residual row. -/
theorem var_eq (n : Fin 128) :
    (val_main_v28 (F := Ideal) x shift scale gate win wout (ix3 n 0 0) : EReal)
      = Ideal.div (∑ d, (vrow x shift scale gate win wout n d - Ideal.div (∑ d, vrow x shift scale gate win wout n d) (Ideal.ofBits FTy.f32 1149239296#32))
          * (vrow x shift scale gate win wout n d - Ideal.div (∑ d, vrow x shift scale gate win wout n d) (Ideal.ofBits FTy.f32 1149239296#32)))
        (Ideal.ofBits FTy.f32 1149239296#32) := by
  have e29 : idx_main_v26 (ix3 n 0 0) = ix2 n 0 := by funext a; fin_cases a <;> rfl
  have e28 : ∀ k : Fin 1024, idx_main_v25 (ix2 n 0) k = ix3 n 0 k := fun k => by funext a; fin_cases a <;> rfl
  have e25 : ∀ k : Fin 1024, idx_main_v22 (ix3 n 0 k) = ix3 n 0 0 := fun k => by funext a; fin_cases a <;> rfl
  rw [val_main_v28_apply, val_main_v26_apply, e29, val_main_v25_apply, val_main_v27_apply, val_main_cst_5_apply, val_main_cst_6_apply]
  simp only [e28, val_main_v24_apply, val_main_v23_apply, val_main_v22_apply, e25, vrow_eq, mean_eq]
  refine congrArg (fun s => Ideal.div s _) ?_
  refine (congrArg (fun y : EReal => y + _) Ideal.ofBits_zero_f32).trans ?_
  exact zero_add _

/-- The reference's result before it is flattened. -/
theorem result (n : Fin 128) (c : Fin 1024) :
    (val_main_v41 (F := Ideal) x shift scale gate win wout g b (ix3 n 0 c) : EReal) = layer x shift scale gate win wout g b n c := by
  have e32 : idx_main_v29 (ix3 n 0 c) = ix3 n 0 0 := by funext a; fin_cases a <;> rfl
  have e37 : idx_main_v34 (ix3 n 0 c) = ix3 n 0 0 := by funext a; fin_cases a <;> rfl
  have e40 : idx_main_v36 (idx_main_v37 (ix3 n 0 c)) = ix1 c := by funext a; fin_cases a <;> rfl
  have e43 : idx_main_v39 (idx_main_v40 (ix3 n 0 c)) = ix1 c := by funext a; fin_cases a <;> rfl
  rw [val_main_v41_apply, val_main_v40_apply, val_main_v39_apply, e43, val_main_v38_apply, val_main_v37_apply, val_main_v36_apply, e40,
    val_main_v35_apply, val_main_v34_apply, e37, val_main_v33_apply, val_main_v32_apply, val_main_v31_apply, val_main_cst_7_apply,
    val_main_v30_apply, val_main_v29_apply, e32, vrow_eq, mean_eq, var_eq]
  rfl

/-- The reference's result: the layer's rows, one after the other. -/
theorem flat_result (j : S128x1024.Idx) :
    (val_main_v42 (F := Ideal) x shift scale gate win wout g b j : EReal) = layer x shift scale gate win wout g b (j 0) (j 1) := by
  idx_vars j
  rw [val_main_v42_apply]
  have e : idx_main_v42 (ix2 j0 j1) = ix3 j0 0 j1 := by
    funext a
    apply Fin.ext
    match a with
    | ⟨0, _⟩ => show (j0.val * 1024 + j1.val) / 1024 = j0.val; omega
    | ⟨1, _⟩ => rfl
    | ⟨2, _⟩ => show (j0.val * 1024 + j1.val) % 1024 = j1.val; omega
  rw [e, result]

end Cert.Reference5Ideal.Ffn

end
-- ==== Proof.SampleClaims.lean ====
/- The claims about the sample's feed-forward call: its frames, and the equation of the kernel's result with the reference's. -/
module

public import proofs.«01_k».proof.Defs
public import proofs.«01_k».proof.Proof.SampleRef
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import Idealize.ShloMosaic.Lib.Claim

@[expose] public section

noncomputable section

namespace Cert.Proof.Sample

open Idealize.ShloMosaic Idealize.ShloMosaic.TcCoe Idealize.SL.Sem

/-- The kernel's frame, bit by bit. -/
theorem frame_p : Cert.quiescent_Kernel5 := fun m ρ _ => Cert.Kernel5.Gen.frame m ρ

/-- The idealized kernel's frame. -/
theorem frame_pi : Cert.quiescent_Kernel5Ideal := fun m ρ _ => Cert.Kernel5Ideal.Gen.frame m ρ

/-- The reference's frame: it has no semaphore. -/
theorem frame_ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Over the extended reals the kernel's result is the reference's, whatever the arguments. -/
theorem algebraic : Cert.algebraic_Kernel5Ideal_Reference5Ideal := by
  pair_intro
  · run_from Cert.Kernel5Ideal.Value.run_blocks m g
  · run_from Cert.Reference5Ideal.Value.run m' g'
    obtain ⟨h0, h1, h2, h3, h4, h5, h6, h7⟩ := hagree c
    rw [Cert.Reference5Ideal.Read.val_main_v42_eq, h0, h1, h2, h3, h4, h5, h6, h7]
    rw [Cert.Kernel5Ideal.Ffn.array_eq m _ _ _ _ _ _ _ _ c rfl rfl rfl rfl rfl rfl rfl rfl]
    funext j
    exact Cert.Reference5Ideal.Ffn.flat_result _ _ _ _ _ _ _ _ j

end Cert.Proof.Sample

end
-- ==== Proof.StepPayload.lean ====
/- The stored values of the sample's projections at an index. -/
module

public import proofs.«01_k».proof.Proof.MixLanes
public import proofs.«01_k».proof.Proof.Gen.Kernel6Ideal.Value
public import Idealize.ShloMosaic.Lib.Pointwise
public import Idealize.ShloMosaic.Lib.Pipeline.ValueKit

@[expose] public section

noncomputable section

namespace Cert.Kernel6Ideal.Step

open Cert.Kernel6Ideal Cert.Kernel6Ideal.Gen Idealize.ShloMosaic Idealize.ShloMosaic.TcCoe Idealize.SL.Sem Cert.Layer Cert.Mix
open Cert.Kernel3Ideal.Mix (head_lanes)

/-- Row `r` of the block, modulated by its own shift and scale and projected into lane `j`. -/
def lane (x : Vec Ideal S128x1024 .f32) (sc sh : Vec Ideal S1x128x1024 .f32) (w : Vec Ideal S1024x2560 .bf16) (r : Fin 128) (j : Fin 2560) : EReal :=
  ∑ d : Fin 1024, modulated (fun d => x (ix2 r d)) (fun d => sc (ix3 0 r d)) (fun d => sh (ix3 0 r d)) d * w (ix2 d j)

variable (x : Vec Ideal S128x1024 .f32) (sc sh : Vec Ideal S1x128x1024 .f32) (w : Vec Ideal S1024x2560 .bf16)

theorem lane_apply (r : Fin 128) (j : Fin 2560) : k0_pay3 x sc sh w (ix2 r j) = lane x sc sh w r j := by
  unfold k0_pay3
  pointwise
  rfl

theorem ak_apply (r : Fin 128) (e : Fin 128) : k0_pay5 x sc sh w (ix2 r e) = lane x sc sh w r ⟨512 + e.val, by omega⟩ := by
  unfold k0_pay5
  pointwise
  rw [← lane_apply]

theorem av_apply (r : Fin 128) (e : Fin 128) : k0_pay6 x sc sh w (ix2 r e) = lane x sc sh w r ⟨640 + e.val, by omega⟩ := by
  unfold k0_pay6
  pointwise
  rw [← lane_apply]

theorem misc_apply (p : FVec Ideal S128x2560 .f32) (r : Fin 128) (e : Fin 128) :
    k0_pay9 p (ix2 r e) = if 32 ≤ e.val ∧ e.val < 36 then (p (ix2 r ⟨2432 + e.val, by omega⟩) : EReal) * Ideal.ofBits FTy.f32 0x3F000000#32
      else p (ix2 r ⟨2432 + e.val, by omega⟩) := by
  unfold k0_pay9
  pointwise
  rw [head_lanes]
  split_ifs
  · simp [Scalar.select]
  · simp [Scalar.select]

theorem ckv_apply (p : FVec Ideal S128x2560 .f32) (g : Vec Ideal S1x128 .f32) (r : Fin 128) (e : Fin 128) :
    k0_pay15 (k0_pay14 p) g (ix2 r e) = rms (Ideal.ofBits FTy.f32 0x43000000#32) (fun f : Fin 128 => p (ix2 r ⟨1536 + f.val, by omega⟩)) (fun f => g (ix2 0 f)) e := by
  unfold k0_pay15 k0_pay14
  pointwise
  rfl

theorem kpe_apply (p : FVec Ideal S128x2560 .f32) (co si : Vec Ideal S128x128 .f32) (r : Fin 128) (e : Fin 128) :
    k0_pay13 p co si (ix2 r e) = (p (ix2 r ⟨2176 + e.val, by omega⟩) : EReal) * co (ix2 r e) + p (ix2 r ⟨2304 + e.val, by omega⟩) * si (ix2 r e) := by
  unfold k0_pay13 k0_pay11 k0_pay12
  pointwise

variable (x0 : Vec Ideal S128x1024 .f32) (x1 x2 : Vec Ideal S1x128x1024 .f32) (x3 : Vec Ideal S1024x2560 .bf16) (x4 : Vec Ideal S1x256 .f32) (x5 : Vec Ideal S1x128 .f32) (x6 : Vec Ideal S256x1280 .bf16) (x7 : Vec Ideal S256x512 .bf16) (x8 x9 : Vec Ideal S128x128 .f32)

theorem out_11 : out0_11 x0 x1 x2 x3 x4 x5 x6 x7 x8 x9 = k0_pay5 x0 x2 x1 x3 := by
  unfold_out out0_11
  rw [View.canon_cons_unit_lit (S := S128x128) _ _ _ (by decide)]
  rw [View.ld_unit_lit (S := S128x1024) _ x0 (by decide)]
  rw [View.ld_unit_lit (S := S1x128x1024) _ x2 (by decide)]
  rw [View.ld_unit_lit (S := S1x128x1024) _ x1 (by decide)]
  rw [View.ld_unit_lit (S := S1024x2560) _ x3 (by decide)]

theorem out_12 : out0_12 x0 x1 x2 x3 x4 x5 x6 x7 x8 x9 = k0_pay6 x0 x2 x1 x3 := by
  unfold_out out0_12
  rw [View.canon_cons_unit_lit (S := S128x128) _ _ _ (by decide)]
  rw [View.ld_unit_lit (S := S128x1024) _ x0 (by decide)]
  rw [View.ld_unit_lit (S := S1x128x1024) _ x2 (by decide)]
  rw [View.ld_unit_lit (S := S1x128x1024) _ x1 (by decide)]
  rw [View.ld_unit_lit (S := S1024x2560) _ x3 (by decide)]

theorem out_15 : out0_15 x0 x1 x2 x3 x4 x5 x6 x7 x8 x9 = k0_pay9 (k0_pay3 x0 x2 x1 x3) := by
  unfold_out out0_15
  rw [View.canon_cons_unit_lit (S := S128x128) _ _ _ (by decide)]
  rw [View.ld_unit_lit (S := S128x1024) _ x0 (by decide)]
  rw [View.ld_unit_lit (S := S1x128x1024) _ x2 (by decide)]
  rw [View.ld_unit_lit (S := S1x128x1024) _ x1 (by decide)]
  rw [View.ld_unit_lit (S := S1024x2560) _ x3 (by decide)]

theorem out_17 : out0_17 x0 x1 x2 x3 x4 x5 x6 x7 x8 x9 = k0_pay15 (k0_pay14 (k0_pay3 x0 x2 x1 x3)) x5 := by
  unfold_out out0_17
  rw [View.canon_cons_unit_lit (S := S128x128) _ _ _ (by decide)]
  rw [View.ld_unit_lit (S := S128x1024) _ x0 (by decide)]
  rw [View.ld_unit_lit (S := S1x128x1024) _ x2 (by decide)]
  rw [View.ld_unit_lit (S := S1x128x1024) _ x1 (by decide)]
  rw [View.ld_unit_lit (S := S1024x2560) _ x3 (by decide)]
  rw [View.ld_unit_lit (S := S1x128) _ x5 (by decide)]

theorem out_18 : out0_18 x0 x1 x2 x3 x4 x5 x6 x7 x8 x9 = k0_pay13 (k0_pay3 x0 x2 x1 x3) x8 x9 := by
  unfold_out out0_18
  rw [View.canon_cons_unit_lit (S := S128x128) _ _ _ (by decide)]
  rw [View.ld_unit_lit (S := S128x1024) _ x0 (by decide)]
  rw [View.ld_unit_lit (S := S1x128x1024) _ x2 (by decide)]
  rw [View.ld_unit_lit (S := S1x128x1024) _ x1 (by decide)]
  rw [View.ld_unit_lit (S := S1024x2560) _ x3 (by decide)]
  rw [View.ld_unit_lit (S := S128x128) _ x8 (by decide)]
  rw [View.ld_unit_lit (S := S128x128) _ x9 (by decide)]

theorem stored_11 (r : Fin 128) (e : Fin 128) : (out0_11 x0 x1 x2 x3 x4 x5 x6 x7 x8 x9 (ix2 r e) : EReal) = lane x0 x2 x1 x3 r ⟨512 + e.val, by omega⟩ := by
  rw [out_11, ak_apply]

theorem stored_12 (r : Fin 128) (e : Fin 128) : (out0_12 x0 x1 x2 x3 x4 x5 x6 x7 x8 x9 (ix2 r e) : EReal) = lane x0 x2 x1 x3 r ⟨640 + e.val, by omega⟩ := by
  rw [out_12, av_apply]

theorem stored_15 (r : Fin 128) (e : Fin 128) : (out0_15 x0 x1 x2 x3 x4 x5 x6 x7 x8 x9 (ix2 r e) : EReal) =
    if 32 ≤ e.val ∧ e.val < 36 then lane x0 x2 x1 x3 r ⟨2432 + e.val, by omega⟩ * Ideal.ofBits FTy.f32 0x3F000000#32 else lane x0 x2 x1 x3 r ⟨2432 + e.val, by omega⟩ := by
  rw [out_15, misc_apply, lane_apply]

theorem stored_17 (r : Fin 128) (e : Fin 128) : (out0_17 x0 x1 x2 x3 x4 x5 x6 x7 x8 x9 (ix2 r e) : EReal) =
    rms (Ideal.ofBits FTy.f32 0x43000000#32) (fun f : Fin 128 => lane x0 x2 x1 x3 r ⟨1536 + f.val, by omega⟩) (fun f => x5 (ix2 0 f)) e := by
  rw [out_17, ckv_apply]
  simp only [lane_apply]

theorem stored_18 (r : Fin 128) (e : Fin 128) : (out0_18 x0 x1 x2 x3 x4 x5 x6 x7 x8 x9 (ix2 r e) : EReal) =
    lane x0 x2 x1 x3 r ⟨2176 + e.val, by omega⟩ * x8 (ix2 r e) + lane x0 x2 x1 x3 r ⟨2304 + e.val, by omega⟩ * x9 (ix2 r e) := by
  rw [out_18, kpe_apply, lane_apply, lane_apply]

end Cert.Kernel6Ideal.Step

end
-- ==== Proof.StepHost.lean ====
/- The arrays that the sample's projections are given: the rows, the padded weights, and the rotary tables at the one position
   that every sequence has. -/
module

public import proofs.«01_k».proof.Proof.MixWeights
public import proofs.«01_k».proof.Proof.Gen.Kernel6Ideal.Value
public import Idealize.ShloMosaic.Lib.Pointwise

@[expose] public section

noncomputable section

namespace Cert.Kernel6Ideal.Step

open Cert.Kernel6Ideal Cert.Kernel6Ideal.Gen Idealize.ShloMosaic Idealize.ShloMosaic.TcCoe Idealize.SL.Sem

/-- The rows of all sequences, one after the other. -/
def flat (x : Vec Ideal S128x1x1024 .f32) : Vec Ideal S128x1024 .f32 := shapeCast S128x1024 x shapeCasts_S128x1x1024_S128x1024

/-- The modulation rows of all sequences, in one block. -/
def mods (x : Vec Ideal S128x1x1024 .f32) : Vec Ideal S1x128x1024 .f32 := shapeCast S1x128x1024 x shapeCasts_S128x1x1024_S1x128x1024

theorem flat_apply (x : Vec Ideal S128x1x1024 .f32) (r : Fin 128) (c : Fin 1024) : flat x (ix2 r c) = x (ix3 r 0 c) := by
  unfold flat
  pointwise

theorem mods_apply (x : Vec Ideal S128x1x1024 .f32) (r : Fin 128) (c : Fin 1024) : mods x (ix3 0 r c) = x (ix3 r 0 c) := by
  unfold mods
  pointwise

/-- The keys' factor as one row. -/
def rowK (g : Vec Ideal S128 .f32) : Vec Ideal S1x128 .f32 := shapeCast S1x128 g shapeCasts_S128_S1x128

theorem rowK_apply (g : Vec Ideal S128 .f32) (a : Fin 1) (e : Fin 128) : rowK g (ix2 a e) = g (ix1 e) := by
  unfold rowK
  pointwise

/-- The rotary angles of every sequence: its position, 16384, times the frequency `10000 ^ (- i / 16)`. -/
def angles : Vec Ideal S128x16 .f32 :=
  mulf (F := Ideal) (φ := .f32)
    (broadcastInDim S128x16 ![0, 1] bcast_S128x1_S128x16_0_1
      (broadcastInDim S128x1 ![0] bcast_S128_S128x1_0 (sitofp (F := Ideal) .f32 (broadcastInDim S128 ![] bcast_S_S128 (constantI S_ 32 16384#32)) : Vec Ideal S128 .f32)))
    (broadcastInDim S128x16 ![0, 1] bcast_S1x16_S128x16_0_1
      (broadcastInDim S1x16 ![1] bcast_S16_S1x16_1
        (Host.powf (F := Ideal) (φ := .f32) (broadcastInDim S16 ![] bcast_S_S16 (constant (F := Ideal) S_ .f32 0x461C4000#32 : (⟨S_, .f32⟩ : BufTy).Contents (Elt Ideal)))
          (Host.divf (F := Ideal) (φ := .f32) (Host.negf (F := Ideal) (φ := .f32) (sitofp (F := Ideal) .f32 (iotaInDim S16 32 0)))
            (broadcastInDim S16 ![] bcast_S_S16 (constant (F := Ideal) S_ .f32 0x41800000#32 : (⟨S_, .f32⟩ : BufTy).Contents (Elt Ideal)))))))

/-- The cosine of rotary angle `i`. -/
def cosAt (i : Fin 16) : EReal := Host.cos (F := Ideal) (φ := .f32) angles (ix2 0 i)

/-- The sine of rotary angle `i`. -/
def sinAt (i : Fin 16) : EReal := Host.sin (F := Ideal) (φ := .f32) angles (ix2 0 i)

/-- Every sequence has the same angles. -/
theorem angles_row (r : Fin 128) (i : Fin 16) : angles (ix2 r i) = angles (ix2 0 i) := by
  unfold angles
  pointwise

theorem cos_row (r : Fin 128) (i : Fin 16) : (Host.cos (F := Ideal) (φ := .f32) angles (ix2 r i) : EReal) = cosAt i :=
  congrArg (fun y => (FloatOps.hostUnary (F := Ideal) (φ := .f32) .cos y : EReal)) (angles_row r i)

theorem sin_row (r : Fin 128) (i : Fin 16) : (Host.sin (F := Ideal) (φ := .f32) angles (ix2 r i) : EReal) = sinAt i :=
  congrArg (fun y => (FloatOps.hostUnary (F := Ideal) (φ := .f32) .sin y : EReal)) (angles_row r i)

/-- Zeros for the lanes that are not rotated. -/
def rest : Vec Ideal S128x96 .f32 := broadcastInDim S128x96 ![] bcast_S_S128x96 (constant (F := Ideal) S_ .f32 0x00000000#32 : (⟨S_, .f32⟩ : BufTy).Contents (Elt Ideal))

/-- A table of both halves' angles. -/
def table (f : Vec Ideal S128x16 .f32) : Vec Ideal S128x128 .f32 :=
  concatenate S128x128 1 [⟨S128x16, f⟩, ⟨S128x16, f⟩, ⟨S128x96, rest⟩] concatenates_S128x16_S128x16_S128x96_S128x128_d1

/-- The first half of a table's lanes. -/
theorem table_low (f : Vec Ideal S128x16 .f32) (r : Fin 128) (l : Fin 128) (hl : l.val < 16) : table f (ix2 r l) = f (ix2 r ⟨l.val, hl⟩) := by
  unfold table
  pointwise
  rw [dif_pos hl]

/-- The second half of a table's lanes. -/
theorem table_high (f : Vec Ideal S128x16 .f32) (r : Fin 128) (l : Fin 128) (hl : 16 ≤ l.val) (hh : l.val < 32) :
    table f (ix2 r l) = f (ix2 r ⟨l.val - 16, by omega⟩) := by
  unfold table
  pointwise
  rw [dif_neg (by omega), dif_pos (by omega)]

variable (m : (ℓ : Loc nD τ sig) → Buf (Elt Ideal) ℓ)

theorem rows_eq (c : Dev nD) : (V m c main_v171 : S128x1024.Idx → EReal) = flat (m ((c : Thread nD τ).loc main_arg0)) := by
  unfold_abbrev_sides
  after_results
  rfl

theorem shiftrows_eq (c : Dev nD) : (V m c main_v172 : S1x128x1024.Idx → EReal) = mods (m ((c : Thread nD τ).loc main_arg1)) := by
  unfold_abbrev_sides
  after_results
  rfl

theorem scalerows_eq (c : Dev nD) : (V m c main_v173 : S1x128x1024.Idx → EReal) = mods (m ((c : Thread nD τ).loc main_arg2)) := by
  unfold_abbrev_sides
  after_results
  rfl

theorem rowK_eq (c : Dev nD) : (V m c main_v175 : S1x128.Idx → EReal) = rowK (m ((c : Thread nD τ).loc main_arg5)) := by
  unfold_abbrev_sides
  after_results
  rfl

theorem cos_eq (c : Dev nD) : (V m c main_v16 : S128x128.Idx → EReal) = table (Host.cos (F := Ideal) (φ := .f32) angles) := by
  unfold_abbrev_sides
  after_results
  unfold table rest angles
  rfl

theorem sin_eq (c : Dev nD) : (V m c main_v19 : S128x128.Idx → EReal) = table (Host.sin (F := Ideal) (φ := .f32) angles) := by
  unfold_abbrev_sides
  after_results
  unfold table rest angles
  rfl

/-- Narrowing keeps an exact value. -/
theorem narrow_id {S : Shape} (x : FVec Ideal S .f32) : (truncf .bf16 x bitsLt_bf16_f32 : S.Idx → EReal) = x := rfl

open Cert.Kernel3Ideal.Mix in
set_option maxRecDepth 20000 in
/-- The window holds the input projection in the same lanes as the sequences' projections have. -/
theorem padded_eq (c : Dev nD) : (V m c main_v168 : S1024x2560.Idx → EReal) = Cert.Kernel3Ideal.Mix.padded (m ((c : Thread nD τ).loc main_arg3)) := by
  unfold_abbrev_sides
  after_results
  refine (Cert.Kernel6Ideal.Step.narrow_id _).trans ?_
  unfold padded put64 put128 put32 put256 put512 put16 put4 blank piece0 piece1 piece2 piece3 piece4 piece5 piece6 piece7 piece8 piece9 piece10 piece11 piece12 piece13 piece14 piece15 piece16 piece17 at1
  rfl

end Cert.Kernel6Ideal.Step

end
-- ==== Proof.StepArray.lean ====
/- The arrays that the sample's projections leave: at every sequence and lane, from the whole arrays the layer is given. -/
module

public import proofs.«01_k».proof.Proof.StepPayload
public import proofs.«01_k».proof.Proof.StepHost
public import proofs.«01_k».proof.Proof.MixArray

@[expose] public section

noncomputable section

namespace Cert.Kernel6Ideal.Step

open Cert.Kernel6Ideal Cert.Kernel6Ideal.Gen Idealize.ShloMosaic Idealize.ShloMosaic.TcCoe Idealize.SL.Sem Cert.Layer Cert.Mix Cert.Attn
open Cert.Kernel3Ideal.Mix (plane mat vec padded ak_lane av_lane ik_lane ckv_lane kpe_lane)

/-- The modulated row of sequence `n`. -/
def srow (x shift scale : S128x1x1024.Idx → EReal) (n : Fin 128) : Fin 1024 → EReal :=
  modulated (fun d => x (ix3 n 0 d)) (fun d => scale (ix3 n 0 d)) (fun d => shift (ix3 n 0 d))

/-- The grid point stages the whole of each array. -/
theorem idx (t : Fin cfg0.N) : win0_0.index t = ![0, 0] ∧ win0_1.index t = ![0, 0, 0] ∧ win0_2.index t = ![0, 0, 0] ∧ win0_3.index t = ![0, 0] ∧ win0_5.index t = ![0, 0] ∧ win0_8.index t = ![0, 0] ∧ win0_9.index t = ![0, 0] ∧ win0_11.index t = ![0, 0] ∧ win0_12.index t = ![0, 0] ∧ win0_15.index t = ![0, 0] ∧ win0_17.index t = ![0, 0] ∧ win0_18.index t = ![0, 0] :=
  (by decide +kernel : ∀ t : Fin grid0.N, win0_0.index t = ![0, 0] ∧ win0_1.index t = ![0, 0, 0] ∧ win0_2.index t = ![0, 0, 0] ∧ win0_3.index t = ![0, 0] ∧ win0_5.index t = ![0, 0] ∧ win0_8.index t = ![0, 0] ∧ win0_9.index t = ![0, 0] ∧ win0_11.index t = ![0, 0] ∧ win0_12.index t = ![0, 0] ∧ win0_15.index t = ![0, 0] ∧ win0_17.index t = ![0, 0] ∧ win0_18.index t = ![0, 0]) t

variable (m : (ℓ : Loc nD τ sig) → Buf (Elt Ideal) ℓ)

/-- The block of rows. -/
theorem rows_block (c : Dev nD) (t : Fin cfg0.N) : (iblk m c 0 t : S128x1024.Idx → EReal) = flat (m ((c : Thread nD τ).loc main_arg0)) := by
  rw [← rows_eq m c]
  funext j
  show V m c main_v171 ((win0_0.rect t).emb j) = V m c main_v171 j
  congr 1
  funext a
  apply Fin.ext
  rw [Pipeline.Window.rect_emb_val_of_index_zero]
  rw [(idx t).1]
  fin_cases a <;> rfl

/-- The block of shift rows. -/
theorem shift_block (c : Dev nD) (t : Fin cfg0.N) : (iblk m c 1 t : S1x128x1024.Idx → EReal) = mods (m ((c : Thread nD τ).loc main_arg1)) := by
  rw [← shiftrows_eq m c]
  funext j
  show V m c main_v172 ((win0_1.rect t).emb j) = V m c main_v172 j
  congr 1
  funext a
  apply Fin.ext
  rw [Pipeline.Window.rect_emb_val_of_index_zero]
  rw [(idx t).2.1]
  fin_cases a <;> rfl

/-- The block of scale rows. -/
theorem scale_block (c : Dev nD) (t : Fin cfg0.N) : (iblk m c 2 t : S1x128x1024.Idx → EReal) = mods (m ((c : Thread nD τ).loc main_arg2)) := by
  rw [← scalerows_eq m c]
  funext j
  show V m c main_v173 ((win0_2.rect t).emb j) = V m c main_v173 j
  congr 1
  funext a
  apply Fin.ext
  rw [Pipeline.Window.rect_emb_val_of_index_zero]
  rw [(idx t).2.2.1]
  fin_cases a <;> rfl

/-- The padded weights. -/
theorem weights_block (c : Dev nD) (t : Fin cfg0.N) : (iblk m c 3 t : S1024x2560.Idx → EReal) = padded (m ((c : Thread nD τ).loc main_arg3)) := by
  rw [← padded_eq m c]
  funext j
  show V m c main_v168 ((win0_3.rect t).emb j) = V m c main_v168 j
  congr 1
  funext a
  apply Fin.ext
  rw [Pipeline.Window.rect_emb_val_of_index_zero]
  rw [(idx t).2.2.2.1]
  fin_cases a <;> rfl

/-- The keys' factor. -/
theorem factorK_block (c : Dev nD) (t : Fin cfg0.N) : (iblk m c 5 t : S1x128.Idx → EReal) = rowK (m ((c : Thread nD τ).loc main_arg5)) := by
  rw [← rowK_eq m c]
  funext j
  show V m c main_v175 ((win0_5.rect t).emb j) = V m c main_v175 j
  congr 1
  funext a
  apply Fin.ext
  rw [Pipeline.Window.rect_emb_val_of_index_zero]
  rw [(idx t).2.2.2.2.1]
  fin_cases a <;> rfl

/-- The cosines' table. -/
theorem cos_block (c : Dev nD) (t : Fin cfg0.N) : (iblk m c 8 t : S128x128.Idx → EReal) = table (Host.cos (F := Ideal) (φ := .f32) angles) := by
  rw [← cos_eq m c]
  funext j
  show V m c main_v16 ((win0_8.rect t).emb j) = V m c main_v16 j
  congr 1
  funext a
  apply Fin.ext
  rw [Pipeline.Window.rect_emb_val_of_index_zero]
  rw [(idx t).2.2.2.2.2.1]
  fin_cases a <;> rfl

/-- The sines' table. -/
theorem sin_block (c : Dev nD) (t : Fin cfg0.N) : (iblk m c 9 t : S128x128.Idx → EReal) = table (Host.sin (F := Ideal) (φ := .f32) angles) := by
  rw [← sin_eq m c]
  funext j
  show V m c main_v19 ((win0_9.rect t).emb j) = V m c main_v19 j
  congr 1
  funext a
  apply Fin.ext
  rw [Pipeline.Window.rect_emb_val_of_index_zero]
  rw [(idx t).2.2.2.2.2.2.1]
  fin_cases a <;> rfl

theorem cos_low (c : Dev nD) (t : Fin cfg0.N) (r : Fin 128) (l : Fin 128) (hl : l.val < 16) :
    (iblk m c 8 t : S128x128.Idx → EReal) (ix2 r l) = cosAt ⟨l.val, hl⟩ :=
  (congrFun (cos_block m c t) (ix2 r l)).trans ((table_low _ r l hl).trans (cos_row r _))

theorem cos_high (c : Dev nD) (t : Fin cfg0.N) (r : Fin 128) (l : Fin 128) (hl : 16 ≤ l.val) (hh : l.val < 32) :
    (iblk m c 8 t : S128x128.Idx → EReal) (ix2 r l) = cosAt ⟨l.val - 16, by omega⟩ :=
  (congrFun (cos_block m c t) (ix2 r l)).trans ((table_high _ r l hl hh).trans (cos_row r _))

theorem sin_low (c : Dev nD) (t : Fin cfg0.N) (r : Fin 128) (l : Fin 128) (hl : l.val < 16) :
    (iblk m c 9 t : S128x128.Idx → EReal) (ix2 r l) = sinAt ⟨l.val, hl⟩ :=
  (congrFun (sin_block m c t) (ix2 r l)).trans ((table_low _ r l hl).trans (sin_row r _))

theorem sin_high (c : Dev nD) (t : Fin cfg0.N) (r : Fin 128) (l : Fin 128) (hl : 16 ≤ l.val) (hh : l.val < 32) :
    (iblk m c 9 t : S128x128.Idx → EReal) (ix2 r l) = sinAt ⟨l.val - 16, by omega⟩ :=
  (congrFun (sin_block m c t) (ix2 r l)).trans ((table_high _ r l hl hh).trans (sin_row r _))

/-- A sequence's projected row. -/
theorem lane_block (x shift scale : S128x1x1024.Idx → EReal) (w : S1024x1604.Idx → EReal) (c : Dev nD) (t : Fin cfg0.N) (r : Fin 128) (e0 : m ((c : Thread nD τ).loc main_arg0) = x) (e1 : m ((c : Thread nD τ).loc main_arg1) = shift) (e2 : m ((c : Thread nD τ).loc main_arg2) = scale) (e3 : m ((c : Thread nD τ).loc main_arg3) = w) :
    lane (iblk m c 0 t) (iblk m c 2 t) (iblk m c 1 t) (iblk m c 3 t) r = plane (srow x shift scale r) w := by
  funext j
  unfold lane plane srow
  rw [weights_block, e3]
  have h0 : (fun d => (iblk m c 0 t : S128x1024.Idx → EReal) (ix2 r d)) = fun d => x (ix3 r 0 d) :=
    funext fun d => by rw [rows_block, e0]; exact flat_apply x r d
  have h1 : (fun d => (iblk m c 1 t : S1x128x1024.Idx → EReal) (ix3 0 r d)) = fun d => shift (ix3 r 0 d) :=
    funext fun d => by rw [shift_block, e1]; exact mods_apply shift r d
  have h2 : (fun d => (iblk m c 2 t : S1x128x1024.Idx → EReal) (ix3 0 r d)) = fun d => scale (ix3 r 0 d) :=
    funext fun d => by rw [scale_block, e2]; exact mods_apply scale r d
  refine Finset.sum_congr rfl fun d _ => ?_
  exact congrArg (fun y : EReal => y * _) (congrFun ((congrArg₂ (fun a b => modulated a b _) h0 h2).trans (congrArg (modulated _ _) h1)) d)

/-- What the body leaves of the sparse attention's keys. -/
theorem ak_block_eq (x shift scale : S128x1x1024.Idx → EReal) (w : S1024x1604.Idx → EReal) (c : Dev nD) (t : Fin cfg0.N) (e0 : m ((c : Thread nD τ).loc main_arg0) = x) (e1 : m ((c : Thread nD τ).loc main_arg1) = shift) (e2 : m ((c : Thread nD τ).loc main_arg2) = scale) (e3 : m ((c : Thread nD τ).loc main_arg3) = w) (r : Fin 128) (e : Fin 128) :
    (out0_11 (iblk m c 0 t) (iblk m c 1 t) (iblk m c 2 t) (iblk m c 3 t) (iblk m c 4 t) (iblk m c 5 t) (iblk m c 6 t) (iblk m c 7 t) (iblk m c 8 t) (iblk m c 9 t) (ix2 r e) : EReal) = ak (srow x shift scale r) (mat w) e := by
  rw [stored_11, lane_block m x shift scale w c t r e0 e1 e2 e3]
  exact ak_lane _ w e _ rfl

/-- The whole array of the sparse attention's keys after the run. -/
theorem ak_array (x shift scale : S128x1x1024.Idx → EReal) (w : S1024x1604.Idx → EReal) (c : Dev nD) (e0 : m ((c : Thread nD τ).loc main_arg0) = x) (e1 : m ((c : Thread nD τ).loc main_arg1) = shift) (e2 : m ((c : Thread nD τ).loc main_arg2) = scale) (e3 : m ((c : Thread nD τ).loc main_arg3) = w) :
    (dats m 0 c).arrAt 11 cfg0.N = fun j : S128x128.Idx => ak (srow x shift scale (j 0)) (mat w) (j 1) := by
  refine (dats m 0 c).arrAt_eq_of_covers 11 _ (by decide +kernel) fun t hf y => ?_
  blk_simp
  rw [after0_11]
  idx_vars y
  refine (ak_block_eq m x shift scale w c t e0 e1 e2 e3 y0 y1).trans ?_
  have hv : ∀ a, (((win0_11.rect t).emb (ix2 y0 y1) a : ℕ)) = win0_11.index t a * win0_11.size a + (ix2 y0 y1 a).val :=
    fun a => Pipeline.Window.rect_emb_val win0_11 t (ix2 y0 y1) a rfl
  rw [(idx t).2.2.2.2.2.2.2.1] at hv
  have h0 : ((View.whole main_v176_1).slice (win0_11.rect t)).emb (ix2 y0 y1) 0 = y0 :=
    Fin.ext ((hv 0).trans (show 0 * 128 + y0.val = y0.val by omega))
  have h1 : ((View.whole main_v176_1).slice (win0_11.rect t)).emb (ix2 y0 y1) 1 = y1 :=
    Fin.ext ((hv 1).trans (show 0 * 128 + y1.val = y1.val by omega))
  rw [h0, h1]

/-- What the body leaves of the sparse attention's values. -/
theorem av_block_eq (x shift scale : S128x1x1024.Idx → EReal) (w : S1024x1604.Idx → EReal) (c : Dev nD) (t : Fin cfg0.N) (e0 : m ((c : Thread nD τ).loc main_arg0) = x) (e1 : m ((c : Thread nD τ).loc main_arg1) = shift) (e2 : m ((c : Thread nD τ).loc main_arg2) = scale) (e3 : m ((c : Thread nD τ).loc main_arg3) = w) (r : Fin 128) (e : Fin 128) :
    (out0_12 (iblk m c 0 t) (iblk m c 1 t) (iblk m c 2 t) (iblk m c 3 t) (iblk m c 4 t) (iblk m c 5 t) (iblk m c 6 t) (iblk m c 7 t) (iblk m c 8 t) (iblk m c 9 t) (ix2 r e) : EReal) = av (srow x shift scale r) (mat w) e := by
  rw [stored_12, lane_block m x shift scale w c t r e0 e1 e2 e3]
  exact av_lane _ w e _ rfl

/-- The whole array of the sparse attention's values after the run. -/
theorem av_array (x shift scale : S128x1x1024.Idx → EReal) (w : S1024x1604.Idx → EReal) (c : Dev nD) (e0 : m ((c : Thread nD τ).loc main_arg0) = x) (e1 : m ((c : Thread nD τ).loc main_arg1) = shift) (e2 : m ((c : Thread nD τ).loc main_arg2) = scale) (e3 : m ((c : Thread nD τ).loc main_arg3) = w) :
    (dats m 0 c).arrAt 12 cfg0.N = fun j : S128x128.Idx => av (srow x shift scale (j 0)) (mat w) (j 1) := by
  refine (dats m 0 c).arrAt_eq_of_covers 12 _ (by decide +kernel) fun t hf y => ?_
  blk_simp
  rw [after0_12]
  idx_vars y
  refine (av_block_eq m x shift scale w c t e0 e1 e2 e3 y0 y1).trans ?_
  have hv : ∀ a, (((win0_12.rect t).emb (ix2 y0 y1) a : ℕ)) = win0_12.index t a * win0_12.size a + (ix2 y0 y1 a).val :=
    fun a => Pipeline.Window.rect_emb_val win0_12 t (ix2 y0 y1) a rfl
  rw [(idx t).2.2.2.2.2.2.2.2.1] at hv
  have h0 : ((View.whole main_v176_2).slice (win0_12.rect t)).emb (ix2 y0 y1) 0 = y0 :=
    Fin.ext ((hv 0).trans (show 0 * 128 + y0.val = y0.val by omega))
  have h1 : ((View.whole main_v176_2).slice (win0_12.rect t)).emb (ix2 y0 y1) 1 = y1 :=
    Fin.ext ((hv 1).trans (show 0 * 128 + y1.val = y1.val by omega))
  rw [h0, h1]

/-- What the body leaves of the indexer's keys and head weights. -/
theorem misc_block_eq (x shift scale : S128x1x1024.Idx → EReal) (w : S1024x1604.Idx → EReal) (c : Dev nD) (t : Fin cfg0.N) (e0 : m ((c : Thread nD τ).loc main_arg0) = x) (e1 : m ((c : Thread nD τ).loc main_arg1) = shift) (e2 : m ((c : Thread nD τ).loc main_arg2) = scale) (e3 : m ((c : Thread nD τ).loc main_arg3) = w) (r : Fin 128) (e : Fin 128) :
    (out0_15 (iblk m c 0 t) (iblk m c 1 t) (iblk m c 2 t) (iblk m c 3 t) (iblk m c 4 t) (iblk m c 5 t) (iblk m c 6 t) (iblk m c 7 t) (iblk m c 8 t) (iblk m c 9 t) (ix2 r e) : EReal) = ik (srow x shift scale r) (mat w) e := by
  rw [stored_15, lane_block m x shift scale w c t r e0 e1 e2 e3]
  exact ik_lane _ w e _ rfl

/-- The whole array of the indexer's keys and head weights after the run. -/
theorem misc_array (x shift scale : S128x1x1024.Idx → EReal) (w : S1024x1604.Idx → EReal) (c : Dev nD) (e0 : m ((c : Thread nD τ).loc main_arg0) = x) (e1 : m ((c : Thread nD τ).loc main_arg1) = shift) (e2 : m ((c : Thread nD τ).loc main_arg2) = scale) (e3 : m ((c : Thread nD τ).loc main_arg3) = w) :
    (dats m 0 c).arrAt 15 cfg0.N = fun j : S128x128.Idx => ik (srow x shift scale (j 0)) (mat w) (j 1) := by
  refine (dats m 0 c).arrAt_eq_of_covers 15 _ (by decide +kernel) fun t hf y => ?_
  blk_simp
  rw [after0_15]
  idx_vars y
  refine (misc_block_eq m x shift scale w c t e0 e1 e2 e3 y0 y1).trans ?_
  have hv : ∀ a, (((win0_15.rect t).emb (ix2 y0 y1) a : ℕ)) = win0_15.index t a * win0_15.size a + (ix2 y0 y1 a).val :=
    fun a => Pipeline.Window.rect_emb_val win0_15 t (ix2 y0 y1) a rfl
  rw [(idx t).2.2.2.2.2.2.2.2.2.1] at hv
  have h0 : ((View.whole main_v176_5).slice (win0_15.rect t)).emb (ix2 y0 y1) 0 = y0 :=
    Fin.ext ((hv 0).trans (show 0 * 128 + y0.val = y0.val by omega))
  have h1 : ((View.whole main_v176_5).slice (win0_15.rect t)).emb (ix2 y0 y1) 1 = y1 :=
    Fin.ext ((hv 1).trans (show 0 * 128 + y1.val = y1.val by omega))
  rw [h0, h1]

/-- What the body leaves of the latent keys. -/
theorem ckv_block_eq (x shift scale : S128x1x1024.Idx → EReal) (w : S1024x1604.Idx → EReal) (gk : S128.Idx → EReal) (c : Dev nD) (t : Fin cfg0.N) (e0 : m ((c : Thread nD τ).loc main_arg0) = x) (e1 : m ((c : Thread nD τ).loc main_arg1) = shift) (e2 : m ((c : Thread nD τ).loc main_arg2) = scale) (e3 : m ((c : Thread nD τ).loc main_arg3) = w) (e5 : m ((c : Thread nD τ).loc main_arg5) = gk) (r : Fin 128) (e : Fin 128) :
    (out0_17 (iblk m c 0 t) (iblk m c 1 t) (iblk m c 2 t) (iblk m c 3 t) (iblk m c 4 t) (iblk m c 5 t) (iblk m c 6 t) (iblk m c 7 t) (iblk m c 8 t) (iblk m c 9 t) (ix2 r e) : EReal) = ckv (srow x shift scale r) (mat w) (vec gk) e := by
  rw [stored_17, lane_block m x shift scale w c t r e0 e1 e2 e3]
  have hg : (fun f : Fin 128 => (iblk m c 5 t : S1x128.Idx → EReal) (ix2 0 f)) = vec gk :=
    funext fun f => by rw [factorK_block, e5]; exact rowK_apply gk 0 f
  refine (congrArg (fun g => rms _ _ g e) hg).trans ?_
  exact ckv_lane _ w (vec gk) e

/-- The whole array of the latent keys after the run. -/
theorem ckv_array (x shift scale : S128x1x1024.Idx → EReal) (w : S1024x1604.Idx → EReal) (gk : S128.Idx → EReal) (c : Dev nD) (e0 : m ((c : Thread nD τ).loc main_arg0) = x) (e1 : m ((c : Thread nD τ).loc main_arg1) = shift) (e2 : m ((c : Thread nD τ).loc main_arg2) = scale) (e3 : m ((c : Thread nD τ).loc main_arg3) = w) (e5 : m ((c : Thread nD τ).loc main_arg5) = gk) :
    (dats m 0 c).arrAt 17 cfg0.N = fun j : S128x128.Idx => ckv (srow x shift scale (j 0)) (mat w) (vec gk) (j 1) := by
  refine (dats m 0 c).arrAt_eq_of_covers 17 _ (by decide +kernel) fun t hf y => ?_
  blk_simp
  rw [after0_17]
  idx_vars y
  refine (ckv_block_eq m x shift scale w gk c t e0 e1 e2 e3 e5 y0 y1).trans ?_
  have hv : ∀ a, (((win0_17.rect t).emb (ix2 y0 y1) a : ℕ)) = win0_17.index t a * win0_17.size a + (ix2 y0 y1 a).val :=
    fun a => Pipeline.Window.rect_emb_val win0_17 t (ix2 y0 y1) a rfl
  rw [(idx t).2.2.2.2.2.2.2.2.2.2.1] at hv
  have h0 : ((View.whole main_v176_7).slice (win0_17.rect t)).emb (ix2 y0 y1) 0 = y0 :=
    Fin.ext ((hv 0).trans (show 0 * 128 + y0.val = y0.val by omega))
  have h1 : ((View.whole main_v176_7).slice (win0_17.rect t)).emb (ix2 y0 y1) 1 = y1 :=
    Fin.ext ((hv 1).trans (show 0 * 128 + y1.val = y1.val by omega))
  rw [h0, h1]

/-- What the body leaves of the rotary keys. -/
theorem kpe_block_eq (x shift scale : S128x1x1024.Idx → EReal) (w : S1024x1604.Idx → EReal) (c : Dev nD) (t : Fin cfg0.N) (e0 : m ((c : Thread nD τ).loc main_arg0) = x) (e1 : m ((c : Thread nD τ).loc main_arg1) = shift) (e2 : m ((c : Thread nD τ).loc main_arg2) = scale) (e3 : m ((c : Thread nD τ).loc main_arg3) = w) (hr : ∀ n d s, IsReal (srow x shift scale n d * w (ix2 d s))) (r : Fin 128) (e : Fin 128) :
    (out0_18 (iblk m c 0 t) (iblk m c 1 t) (iblk m c 2 t) (iblk m c 3 t) (iblk m c 4 t) (iblk m c 5 t) (iblk m c 6 t) (iblk m c 7 t) (iblk m c 8 t) (iblk m c 9 t) (ix2 r e) : EReal) = kpe (srow x shift scale r) (mat w) cosAt sinAt e := by
  rw [stored_18, lane_block m x shift scale w c t r e0 e1 e2 e3]
  exact kpe_lane _ w (fun d s => hr _ d s) _ _ (fun l => (iblk m c 8 t : S128x128.Idx → EReal) (ix2 r l)) (fun l => (iblk m c 9 t : S128x128.Idx → EReal) (ix2 r l)) (fun l hl => cos_low m c t r l hl) (fun l hl hh => cos_high m c t r l hl hh) (fun l hl => sin_low m c t r l hl) (fun l hl hh => sin_high m c t r l hl hh) e

/-- The whole array of the rotary keys after the run. -/
theorem kpe_array (x shift scale : S128x1x1024.Idx → EReal) (w : S1024x1604.Idx → EReal) (c : Dev nD) (e0 : m ((c : Thread nD τ).loc main_arg0) = x) (e1 : m ((c : Thread nD τ).loc main_arg1) = shift) (e2 : m ((c : Thread nD τ).loc main_arg2) = scale) (e3 : m ((c : Thread nD τ).loc main_arg3) = w) (hr : ∀ n d s, IsReal (srow x shift scale n d * w (ix2 d s))) :
    (dats m 0 c).arrAt 18 cfg0.N = fun j : S128x128.Idx => kpe (srow x shift scale (j 0)) (mat w) cosAt sinAt (j 1) := by
  refine (dats m 0 c).arrAt_eq_of_covers 18 _ (by decide +kernel) fun t hf y => ?_
  blk_simp
  rw [after0_18]
  idx_vars y
  refine (kpe_block_eq m x shift scale w c t e0 e1 e2 e3 hr y0 y1).trans ?_
  have hv : ∀ a, (((win0_18.rect t).emb (ix2 y0 y1) a : ℕ)) = win0_18.index t a * win0_18.size a + (ix2 y0 y1 a).val :=
    fun a => Pipeline.Window.rect_emb_val win0_18 t (ix2 y0 y1) a rfl
  rw [(idx t).2.2.2.2.2.2.2.2.2.2.2] at hv
  have h0 : ((View.whole main_v176_8).slice (win0_18.rect t)).emb (ix2 y0 y1) 0 = y0 :=
    Fin.ext ((hv 0).trans (show 0 * 128 + y0.val = y0.val by omega))
  have h1 : ((View.whole main_v176_8).slice (win0_18.rect t)).emb (ix2 y0 y1) 1 = y1 :=
    Fin.ext ((hv 1).trans (show 0 * 128 + y1.val = y1.val by omega))
  rw [h0, h1]

end Cert.Kernel6Ideal.Step

end
-- ==== Proof.StepRef.lean ====
/- The reference of the sample's projections, at a sequence and a lane. -/
module

public import proofs.«01_k».proof.Proof.StepArray
public import proofs.«01_k».proof.Proof.Gen.Reference6Ideal.Read
public import Idealize.ShloMosaic.Lib.Pointwise

@[expose] public section

noncomputable section

namespace Cert.Reference6Ideal.Step

open Cert.Reference6Ideal Cert.Reference6Ideal.Gen Cert.Reference6Ideal.Read Idealize.ShloMosaic Idealize.ShloMosaic.TcCoe Idealize.SL.Sem Cert.Layer
open Cert.Mix
open Cert.Kernel6Ideal.Step (srow cosAt sinAt)
open Cert.Kernel3Ideal.Mix (mat vec)

variable (x sh sc : S128x1x1024.Idx → EReal) (w : S1024x1604.Idx → EReal) (gk : S128.Idx → EReal)

/-- The modulated rows. -/
theorem row_eq (n : Fin 128) (d : Fin 1024) : (val_main_v6 (F := Ideal) x sh sc (ix3 n 0 d) : EReal) = srow x sh sc n d := by
  rw [val_main_v6_apply, val_main_v5_apply, val_main_v4_apply, val_main_v3_apply, val_main_cst_apply]
  unfold srow modulated
  rw [← Ideal.ofBits_one_f32]
  rfl

/-- The projected rows. -/
theorem proj_eq (n : Fin 128) (e : Fin 1604) : (val_main_v7 (F := Ideal) x sh sc w (ix3 n 0 e) : EReal) = proj (srow x sh sc n) (mat w) e := by
  rw [val_main_v7_apply]
  refine Finset.sum_congr rfl fun d _ => ?_
  have el : lidx_main_v7 (ix3 n 0 e) d = ix3 n 0 d := by funext a; fin_cases a <;> rfl
  have er : ridx_main_v7 (ix3 n 0 e) d = ix2 d e := by funext a; fin_cases a <;> rfl
  rw [el, er, row_eq]
  rfl

theorem part9 (n : Fin 128) (e : Fin 128) :
    (val_main_v9 (F := Ideal) x sh sc w (ix3 n 0 e) : EReal) = proj (srow x sh sc n) (mat w) ⟨256 + e.val, by omega⟩ := by
  have ei : idx_main_v9 (ix3 n 0 e) = ix3 n 0 ⟨256 + e.val, by omega⟩ := by funext a; fin_cases a <;> rfl
  rw [val_main_v9_apply, ei, proj_eq]

theorem part10 (n : Fin 128) (e : Fin 128) :
    (val_main_v10 (F := Ideal) x sh sc w (ix3 n 0 e) : EReal) = proj (srow x sh sc n) (mat w) ⟨384 + e.val, by omega⟩ := by
  have ei : idx_main_v10 (ix3 n 0 e) = ix3 n 0 ⟨384 + e.val, by omega⟩ := by funext a; fin_cases a <;> rfl
  rw [val_main_v10_apply, ei, proj_eq]

theorem part12 (n : Fin 128) (e : Fin 4) :
    (val_main_v12 (F := Ideal) x sh sc w (ix3 n 0 e) : EReal) = proj (srow x sh sc n) (mat w) ⟨640 + e.val, by omega⟩ := by
  have ei : idx_main_v12 (ix3 n 0 e) = ix3 n 0 ⟨640 + e.val, by omega⟩ := by funext a; fin_cases a <;> rfl
  rw [val_main_v12_apply, ei, proj_eq]

theorem part13 (n : Fin 128) (e : Fin 32) :
    (val_main_v13 (F := Ideal) x sh sc w (ix3 n 0 e) : EReal) = proj (srow x sh sc n) (mat w) ⟨644 + e.val, by omega⟩ := by
  have ei : idx_main_v13 (ix3 n 0 e) = ix3 n 0 ⟨644 + e.val, by omega⟩ := by funext a; fin_cases a <;> rfl
  rw [val_main_v13_apply, ei, proj_eq]

theorem part15 (n : Fin 128) (e : Fin 128) :
    (val_main_v15 (F := Ideal) x sh sc w (ix3 n 0 e) : EReal) = proj (srow x sh sc n) (mat w) ⟨932 + e.val, by omega⟩ := by
  have ei : idx_main_v15 (ix3 n 0 e) = ix3 n 0 ⟨932 + e.val, by omega⟩ := by funext a; fin_cases a <;> rfl
  rw [val_main_v15_apply, ei, proj_eq]

theorem part16 (n : Fin 128) (e : Fin 32) :
    (val_main_v16 (F := Ideal) x sh sc w (ix3 n 0 e) : EReal) = proj (srow x sh sc n) (mat w) ⟨1060 + e.val, by omega⟩ := by
  have ei : idx_main_v16 (ix3 n 0 e) = ix3 n 0 ⟨1060 + e.val, by omega⟩ := by funext a; fin_cases a <;> rfl
  rw [val_main_v16_apply, ei, proj_eq]

/-- The latent keys: the sum of squares. -/
theorem latent_squares (n : Fin 128) :
    (val_main_v22 (F := Ideal) x sh sc w (ix3 n 0 0) : EReal)
      = ∑ f : Fin 128, proj (srow x sh sc n) (mat w) ⟨932 + f.val, by omega⟩ * proj (srow x sh sc n) (mat w) ⟨932 + f.val, by omega⟩ := by
  have e1 : idx_main_v22 (ix3 n 0 0) = ix2 n 0 := by funext a; fin_cases a <;> rfl
  have e2 : ∀ f : Fin 128, idx_main_v21 (ix2 n 0) f = ix3 n 0 f := fun f => by funext a; fin_cases a <;> rfl
  rw [val_main_v22_apply, e1, val_main_v21_apply, val_main_cst_1_apply]
  simp only [e2, val_main_v20_apply, part15]
  refine (congrArg (fun y : EReal => y + _) Ideal.ofBits_zero_f32).trans ?_
  exact zero_add _

/-- The latent keys. -/
theorem latent_eq (n : Fin 128) (e : Fin 128) :
    (val_main_v32 (F := Ideal) x sh sc w gk (ix3 n 0 e) : EReal) = ckv (srow x sh sc n) (mat w) (vec gk) e := by
  have e1 : idx_main_v28 (ix3 n 0 e) = ix3 n 0 0 := by funext a; fin_cases a <;> rfl
  have e2 : idx_main_v30 (idx_main_v31 (ix3 n 0 e)) = ix1 e := by funext a; fin_cases a <;> rfl
  rw [val_main_v32_apply, val_main_v31_apply, val_main_v30_apply, e2, val_main_v29_apply, val_main_v28_apply, e1, val_main_v27_apply,
    val_main_v26_apply, val_main_v25_apply, val_main_v24_apply, val_main_v23_apply, val_main_cst_2_apply, val_main_cst_3_apply, latent_squares, part15]
  rfl

/-- The cosines at the one position. -/
theorem cos_eq (i : Fin 16) : (val_main_v45 (F := Ideal) (ix2 0 i) : EReal) = cosAt i := rfl

/-- The sines at the one position. -/
theorem sin_eq (i : Fin 16) : (val_main_v47 (F := Ideal) (ix2 0 i) : EReal) = sinAt i := rfl

/-- The rotated keys: the first half. -/
theorem rot_first (n : Fin 128) (i : Fin 16) :
    (val_main_v57 (F := Ideal) x sh sc w (ix4 n 0 0 i) : EReal)
      = proj (srow x sh sc n) (mat w) ⟨1060 + (i.val), by omega⟩ * cosAt i - proj (srow x sh sc n) (mat w) ⟨1060 + (16 + i.val), by omega⟩ * sinAt i := by
  have e1 : idx_main_v33 (idx_main_v49 (ix4 n 0 0 i)) = ix3 n 0 ⟨i.val, by omega⟩ := by funext a; fin_cases a <;> rfl
  have e2 : idx_main_v33 (idx_main_v50 (ix4 n 0 0 i)) = ix3 n 0 ⟨16 + i.val, by omega⟩ := by funext a; fin_cases a <;> rfl
  have e3 : idx_main_v46 (idx_main_v51 (idx_main_v52 (ix4 n 0 0 i))) = ix2 0 i := by funext a; fin_cases a <;> rfl
  have e4 : idx_main_v48 (idx_main_v54 (idx_main_v55 (ix4 n 0 0 i))) = ix2 0 i := by funext a; fin_cases a <;> rfl
  rw [val_main_v57_apply, val_main_v56_apply, val_main_v55_apply, val_main_v54_apply, val_main_v48_apply, e4, val_main_v53_apply, val_main_v52_apply, val_main_v51_apply, val_main_v46_apply, e3, val_main_v50_apply, val_main_v49_apply, val_main_v33_apply, val_main_v33_apply, e1, e2, part16, part16, cos_eq, sin_eq]
  rfl

/-- The rotated keys: the second half. -/
theorem rot_second (n : Fin 128) (i : Fin 16) :
    (val_main_v64 (F := Ideal) x sh sc w (ix4 n 0 0 i) : EReal)
      = proj (srow x sh sc n) (mat w) ⟨1060 + (i.val), by omega⟩ * sinAt i + proj (srow x sh sc n) (mat w) ⟨1060 + (16 + i.val), by omega⟩ * cosAt i := by
  have e1 : idx_main_v33 (idx_main_v49 (ix4 n 0 0 i)) = ix3 n 0 ⟨i.val, by omega⟩ := by funext a; fin_cases a <;> rfl
  have e2 : idx_main_v33 (idx_main_v50 (ix4 n 0 0 i)) = ix3 n 0 ⟨16 + i.val, by omega⟩ := by funext a; fin_cases a <;> rfl
  have e3 : idx_main_v46 (idx_main_v61 (idx_main_v62 (ix4 n 0 0 i))) = ix2 0 i := by funext a; fin_cases a <;> rfl
  have e4 : idx_main_v48 (idx_main_v58 (idx_main_v59 (ix4 n 0 0 i))) = ix2 0 i := by funext a; fin_cases a <;> rfl
  rw [val_main_v64_apply, val_main_v63_apply, val_main_v62_apply, val_main_v61_apply, val_main_v46_apply, e3, val_main_v60_apply, val_main_v59_apply, val_main_v58_apply, val_main_v48_apply, e4, val_main_v50_apply, val_main_v49_apply, val_main_v33_apply, val_main_v33_apply, e1, e2, part16, part16, cos_eq, sin_eq]
  rfl

/-- The rotated keys. -/
theorem rot_eq (n : Fin 128) (l : Fin 32) :
    (val_main_v65 (F := Ideal) x sh sc w (ix4 n 0 0 l) : EReal) = rope cosAt sinAt (fun f : Fin 32 => proj (srow x sh sc n) (mat w) ⟨1060 + (f.val), by omega⟩) l := by
  have h : (val_main_v65 (F := Ideal) x sh sc w (ix4 n 0 0 l) : EReal)
      = if h : l.val < 16 then (val_main_v57 (F := Ideal) x sh sc w (ix4 n 0 0 ⟨l.val, h⟩) : EReal)
        else (val_main_v64 (F := Ideal) x sh sc w (ix4 n 0 0 ⟨l.val - 16, by omega⟩) : EReal) := by
    unfold val_main_v65
    generalize val_main_v57 (F := Ideal) x sh sc w = y
    generalize val_main_v64 (F := Ideal) x sh sc w = z
    pointwise
  rw [h]
  unfold rope
  by_cases hl : l.val < 16
  · rw [dif_pos hl, dif_pos hl, rot_first]
    dsimp only
    rw [show (⟨1060 + (16 + l.val), by omega⟩ : Fin 1604) = ⟨1060 + (l.val + 16), by omega⟩ from Fin.ext (by dsimp only; omega)]
  · rw [dif_neg hl, dif_neg hl, rot_second]
    dsimp only
    rw [show (⟨1060 + (16 + (l.val - 16)), by omega⟩ : Fin 1604) = ⟨1060 + l.val, by omega⟩ from Fin.ext (by dsimp only; omega)]

theorem join69 (n : Fin 128) (e : Fin 36) :
    (val_main_v69 (F := Ideal) x sh sc w (ix3 n 0 e) : EReal)
      = if h : e.val < 32 then (val_main_v13 (F := Ideal) x sh sc w (ix3 n 0 ⟨e.val, h⟩) : EReal)
        else (val_main_v19 (F := Ideal) x sh sc w (ix3 n 0 ⟨e.val - 32, by omega⟩) : EReal) := by
  unfold val_main_v69
  generalize val_main_v13 (F := Ideal) x sh sc w = y
  generalize val_main_v19 (F := Ideal) x sh sc w = z
  pointwise

theorem join71 (n : Fin 128) (e : Fin 128) :
    (val_main_v71 (F := Ideal) x sh sc w (ix3 n 0 e) : EReal)
      = if h : e.val < 36 then (val_main_v69 (F := Ideal) x sh sc w (ix3 n 0 ⟨e.val, h⟩) : EReal)
        else (val_main_v70 (F := Ideal)  (ix3 n 0 ⟨e.val - 36, by omega⟩) : EReal) := by
  unfold val_main_v71
  generalize val_main_v69 (F := Ideal) x sh sc w = y
  generalize val_main_v70 (F := Ideal)  = z
  pointwise

theorem join75 (n : Fin 128) (e : Fin 128) :
    (val_main_v75 (F := Ideal) x sh sc w (ix3 n 0 e) : EReal)
      = if h : e.val < 32 then (val_main_v66 (F := Ideal) x sh sc w (ix3 n 0 ⟨e.val, h⟩) : EReal)
        else (val_main_v74 (F := Ideal)  (ix3 n 0 ⟨e.val - 32, by omega⟩) : EReal) := by
  unfold val_main_v75
  generalize val_main_v66 (F := Ideal) x sh sc w = y
  generalize val_main_v74 (F := Ideal)  = z
  pointwise

theorem nothing_70 (i : S128x1x92.Idx) : (val_main_v70 (F := Ideal) i : EReal) = 0 := by
  rw [val_main_v70_apply, val_main_cst_6_apply]
  exact Ideal.ofBits_zero_f32

theorem nothing_74 (i : S128x1x96.Idx) : (val_main_v74 (F := Ideal) i : EReal) = 0 := by
  rw [val_main_v74_apply, val_main_cst_7_apply]
  exact Ideal.ofBits_zero_f32

/-- The indexer's head weights, scaled. -/
theorem weights_eq (n : Fin 128) (e : Fin 4) :
    (val_main_v19 (F := Ideal) x sh sc w (ix3 n 0 e) : EReal)
      = proj (srow x sh sc n) (mat w) ⟨640 + e.val, by omega⟩ * Ideal.ofBits FTy.f32 0x3F000000#32 := by
  rw [val_main_v19_apply, val_main_v18_apply, val_main_cst_0_apply, part12]
  rfl

/-- The indexer's keys and head weights in lanes. -/
theorem misc_eq (n : Fin 128) (e : Fin 128) : (val_main_v71 (F := Ideal) x sh sc w (ix3 n 0 e) : EReal) = ik (srow x sh sc n) (mat w) e := by
  rw [join71]
  unfold ik
  by_cases h1 : e.val < 32
  · rw [dif_pos (by omega : e.val < 36), join69, dif_pos h1, dif_pos h1, part13]
  · rw [dif_neg h1]
    by_cases h2 : e.val < 36
    · rw [dif_pos h2, dif_pos h2, join69, dif_neg h1, weights_eq]
    · rw [dif_neg h2, dif_neg h2, nothing_70]

/-- The rotary keys in lanes. -/
theorem turned_eq (n : Fin 128) (e : Fin 128) :
    (val_main_v75 (F := Ideal) x sh sc w (ix3 n 0 e) : EReal) = kpe (srow x sh sc n) (mat w) cosAt sinAt e := by
  rw [join75]
  unfold kpe
  by_cases h : e.val < 32
  · have ei : idx_main_v66 (ix3 n 0 ⟨e.val, h⟩) = ix4 n 0 0 ⟨e.val, h⟩ := by
      funext a
      apply Fin.ext
      match a with
      | ⟨0, _⟩ => show ((n.val * 1 + 0) * 32 + e.val) / 32 = n.val; omega
      | ⟨1, _⟩ => rfl
      | ⟨2, _⟩ => rfl
      | ⟨3, _⟩ => show ((n.val * 1 + 0) * 32 + e.val) % 32 = e.val; omega
    rw [dif_pos h, dif_pos h, val_main_v66_apply, ei, rot_eq]
  · rw [dif_neg h, dif_neg h, nothing_74]

theorem ak_result (R : Fin 128) (e : Fin 128) : (val_main_v67 (F := Ideal) x sh sc w (ix2 R e) : EReal) = ak (srow x sh sc R) (mat w) e := by
  have ei : idx_main_v67 (ix2 R e) = ix3 R 0 e := by
    funext a
    apply Fin.ext
    match a with
    | ⟨0, _⟩ => show (R.val * 128 + e.val) / 128 = R.val; omega
    | ⟨1, _⟩ => rfl
    | ⟨2, _⟩ => show (R.val * 128 + e.val) % 128 = e.val; omega
  rw [val_main_v67_apply, ei, part9]
  rfl

theorem av_result (R : Fin 128) (e : Fin 128) : (val_main_v68 (F := Ideal) x sh sc w (ix2 R e) : EReal) = av (srow x sh sc R) (mat w) e := by
  have ei : idx_main_v68 (ix2 R e) = ix3 R 0 e := by
    funext a
    apply Fin.ext
    match a with
    | ⟨0, _⟩ => show (R.val * 128 + e.val) / 128 = R.val; omega
    | ⟨1, _⟩ => rfl
    | ⟨2, _⟩ => show (R.val * 128 + e.val) % 128 = e.val; omega
  rw [val_main_v68_apply, ei, part10]
  rfl

theorem misc_result (R : Fin 128) (e : Fin 128) : (val_main_v72 (F := Ideal) x sh sc w (ix2 R e) : EReal) = ik (srow x sh sc R) (mat w) e := by
  have ei : idx_main_v72 (ix2 R e) = ix3 R 0 e := by
    funext a
    apply Fin.ext
    match a with
    | ⟨0, _⟩ => show (R.val * 128 + e.val) / 128 = R.val; omega
    | ⟨1, _⟩ => rfl
    | ⟨2, _⟩ => show (R.val * 128 + e.val) % 128 = e.val; omega
  rw [val_main_v72_apply, ei, misc_eq]

theorem ckv_result (R : Fin 128) (e : Fin 128) : (val_main_v73 (F := Ideal) x sh sc w gk (ix2 R e) : EReal) = ckv (srow x sh sc R) (mat w) (vec gk) e := by
  have ei : idx_main_v73 (ix2 R e) = ix3 R 0 e := by
    funext a
    apply Fin.ext
    match a with
    | ⟨0, _⟩ => show (R.val * 128 + e.val) / 128 = R.val; omega
    | ⟨1, _⟩ => rfl
    | ⟨2, _⟩ => show (R.val * 128 + e.val) % 128 = e.val; omega
  rw [val_main_v73_apply, ei, latent_eq]

theorem kpe_result (R : Fin 128) (e : Fin 128) : (val_main_v76 (F := Ideal) x sh sc w (ix2 R e) : EReal) = kpe (srow x sh sc R) (mat w) cosAt sinAt e := by
  have ei : idx_main_v76 (ix2 R e) = ix3 R 0 e := by
    funext a
    apply Fin.ext
    match a with
    | ⟨0, _⟩ => show (R.val * 128 + e.val) / 128 = R.val; omega
    | ⟨1, _⟩ => rfl
    | ⟨2, _⟩ => show (R.val * 128 + e.val) % 128 = e.val; omega
  rw [val_main_v76_apply, ei, turned_eq]

end Cert.Reference6Ideal.Step

end
-- ==== Proof.StepPre.lean ====
/- The precondition of the sample's projections, read: the rows, the modulation and the projection are real numbers, and with them
   the products that the rotary keys are made of. -/
module

public import proofs.«01_k».proof.Proof.MixPre
public import proofs.«01_k».proof.Proof.StepArray

@[expose] public section

noncomputable section

namespace Cert.Pre_finite6

open Idealize.ShloMosaic Idealize.ShloMosaic.TcCoe Cert.Attn

variable [Facts] (x sh sc : S128x1x1024.Idx → EReal) (w : S1024x1604.Idx → EReal) (g : S256.Idx → EReal) (gk : S128.Idx → EReal)
  (u : S256x4x96.Idx → EReal) (k : S128x4x64.Idx → EReal)

theorem x_real (h : (fn (F := Ideal) x sh sc w g gk u k).1 = fun _ => 1#1) (j : S128x1x1024.Idx) : IsReal (x j) := by
  have e := congrFun h j
  unfold fn at e
  pointwise at e
  rw [Cert.Pre_finite.ofBits_top] at e
  exact Cert.Pre_finite3.real_of_bit _ e

theorem shift_real (h : (fn (F := Ideal) x sh sc w g gk u k).2.1 = fun _ => 1#1) (j : S128x1x1024.Idx) : IsReal (sh j) := by
  have e := congrFun h j
  unfold fn at e
  pointwise at e
  rw [Cert.Pre_finite.ofBits_top] at e
  exact Cert.Pre_finite3.real_of_bit _ e

theorem scale_real (h : (fn (F := Ideal) x sh sc w g gk u k).2.2.1 = fun _ => 1#1) (j : S128x1x1024.Idx) : IsReal (sc j) := by
  have e := congrFun h j
  unfold fn at e
  pointwise at e
  rw [Cert.Pre_finite.ofBits_top] at e
  exact Cert.Pre_finite3.real_of_bit _ e

theorem w_real (h : (fn (F := Ideal) x sh sc w g gk u k).2.2.2 = fun _ => 1#1) (j : S1024x1604.Idx) : IsReal (w j) := by
  have e := congrFun h j
  unfold fn at e
  pointwise at e
  rw [Cert.Pre_finite.ofBits_top] at e
  exact Cert.Pre_finite3.real_of_bit _ e

end Cert.Pre_finite6

namespace Cert.Kernel6Ideal.Step

open Idealize.ShloMosaic Cert.Attn Cert.Layer Cert.Mix Cert.Kernel6Ideal

/-- The terms of a sequence's projection are real. -/
theorem term_real (x sh sc : S128x1x1024.Idx → EReal) (w : S1024x1604.Idx → EReal) (hx : ∀ j, IsReal (x j)) (h1 : ∀ j, IsReal (sh j))
    (h2 : ∀ j, IsReal (sc j)) (hw : ∀ j, IsReal (w j)) (n : Fin 128) (d : Fin 1024) (s : Fin 1604) : IsReal (srow x sh sc n d * w (ix2 d s)) := by
  refine IsReal.mul ?_ (hw _)
  unfold srow modulated
  exact IsReal.add ((hx _).mul (IsReal.add (isReal_coe 1) (h2 _))) (h1 _)

end Cert.Kernel6Ideal.Step

end
-- ==== Proof.StepClaims.lean ====
/- The claims about the sample's projections: their frames, and the equations of the kernel's results with the reference's. -/
module

public import proofs.«01_k».proof.Defs
public import proofs.«01_k».proof.Proof.StepRef
public import proofs.«01_k».proof.Proof.StepPre
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Pre_finite6
public import Idealize.ShloMosaic.Lib.Claim

@[expose] public section

noncomputable section

namespace Cert.Proof.Step

open Idealize.ShloMosaic Idealize.ShloMosaic.TcCoe Idealize.SL.Sem Cert.Attn
open Cert.Kernel6Ideal (S128x1x1024 S1024x1604 S128)
open Cert.Kernel6Ideal.Gen (dats)
open Cert.Kernel6Ideal.Step (srow)
open Cert.Reference6Ideal.Read

/-- The kernel's frame, bit by bit. -/
theorem frame_p : Cert.quiescent_Kernel6 := fun m ρ _ => Cert.Kernel6.Gen.frame m ρ

/-- The idealized kernel's frame. -/
theorem frame_pi : Cert.quiescent_Kernel6Ideal := fun m ρ _ => Cert.Kernel6Ideal.Gen.frame m ρ

/-- The idealized kernel's frame, where the value claim's precondition holds. -/
theorem frame_pi_pre : Cert.quiescent_Kernel6Ideal_pre_finite6 := fun m ρ _ => Cert.Kernel6Ideal.Gen.frame m ρ

/-- The reference's frame: it has no semaphore. -/
theorem frame_ri : Cert.quiescent_Reference6Ideal := fun m ρ _ =>
  (θ_run Cert.Reference6Ideal.defs _ _).mono (fun r h => ⟨fun c => (h c).2.2.2.2.2, sem_eq_zero_of_no_sems (by decide) r.2⟩)
    (Cert.Reference6Ideal.Value.run (F := Ideal) m ρ)

/-- The reference's frame, where the value claim's precondition holds. -/
theorem frame_ri_pre : Cert.quiescent_Reference6Ideal_pre_finite6 := fun m ρ _ =>
  (θ_run Cert.Reference6Ideal.defs _ _).mono (fun r h => ⟨fun c => (h c).2.2.2.2.2, sem_eq_zero_of_no_sems (by decide) r.2⟩)
    (Cert.Reference6Ideal.Value.run (F := Ideal) m ρ)

variable (m : (ℓ : Loc Cert.Kernel6Ideal.nD Cert.Kernel6Ideal.τ Cert.Kernel6Ideal.sig) → Buf (Elt Ideal) ℓ) (c : Dev Cert.Kernel6Ideal.nD)

/-- The sparse attention's keys. -/
theorem ak_same (x sh sc : S128x1x1024.Idx → EReal) (w : S1024x1604.Idx → EReal)
    (e0 : m ((c : Thread Cert.Kernel6Ideal.nD Cert.Kernel6Ideal.τ).loc Cert.Kernel6Ideal.main_arg0) = x) (e1 : m ((c : Thread Cert.Kernel6Ideal.nD Cert.Kernel6Ideal.τ).loc Cert.Kernel6Ideal.main_arg1) = sh) (e2 : m ((c : Thread Cert.Kernel6Ideal.nD Cert.Kernel6Ideal.τ).loc Cert.Kernel6Ideal.main_arg2) = sc) (e3 : m ((c : Thread Cert.Kernel6Ideal.nD Cert.Kernel6Ideal.τ).loc Cert.Kernel6Ideal.main_arg3) = w) :
    val_main_v67 (F := Ideal) x sh sc w = (dats m 0 c).arrAt 11 Cert.Kernel6Ideal.cfg0.N := by
  rw [Cert.Kernel6Ideal.Step.ak_array m x sh sc w c e0 e1 e2 e3]
  funext j
  idx_vars j
  exact Cert.Reference6Ideal.Step.ak_result x sh sc w j0 j1

/-- The sparse attention's values. -/
theorem av_same (x sh sc : S128x1x1024.Idx → EReal) (w : S1024x1604.Idx → EReal)
    (e0 : m ((c : Thread Cert.Kernel6Ideal.nD Cert.Kernel6Ideal.τ).loc Cert.Kernel6Ideal.main_arg0) = x) (e1 : m ((c : Thread Cert.Kernel6Ideal.nD Cert.Kernel6Ideal.τ).loc Cert.Kernel6Ideal.main_arg1) = sh) (e2 : m ((c : Thread Cert.Kernel6Ideal.nD Cert.Kernel6Ideal.τ).loc Cert.Kernel6Ideal.main_arg2) = sc) (e3 : m ((c : Thread Cert.Kernel6Ideal.nD Cert.Kernel6Ideal.τ).loc Cert.Kernel6Ideal.main_arg3) = w) :
    val_main_v68 (F := Ideal) x sh sc w = (dats m 0 c).arrAt 12 Cert.Kernel6Ideal.cfg0.N := by
  rw [Cert.Kernel6Ideal.Step.av_array m x sh sc w c e0 e1 e2 e3]
  funext j
  idx_vars j
  exact Cert.Reference6Ideal.Step.av_result x sh sc w j0 j1

/-- The indexer's keys and head weights. -/
theorem misc_same (x sh sc : S128x1x1024.Idx → EReal) (w : S1024x1604.Idx → EReal)
    (e0 : m ((c : Thread Cert.Kernel6Ideal.nD Cert.Kernel6Ideal.τ).loc Cert.Kernel6Ideal.main_arg0) = x) (e1 : m ((c : Thread Cert.Kernel6Ideal.nD Cert.Kernel6Ideal.τ).loc Cert.Kernel6Ideal.main_arg1) = sh) (e2 : m ((c : Thread Cert.Kernel6Ideal.nD Cert.Kernel6Ideal.τ).loc Cert.Kernel6Ideal.main_arg2) = sc) (e3 : m ((c : Thread Cert.Kernel6Ideal.nD Cert.Kernel6Ideal.τ).loc Cert.Kernel6Ideal.main_arg3) = w) :
    val_main_v72 (F := Ideal) x sh sc w = (dats m 0 c).arrAt 15 Cert.Kernel6Ideal.cfg0.N := by
  rw [Cert.Kernel6Ideal.Step.misc_array m x sh sc w c e0 e1 e2 e3]
  funext j
  idx_vars j
  exact Cert.Reference6Ideal.Step.misc_result x sh sc w j0 j1

/-- The latent keys. -/
theorem ckv_same (x sh sc : S128x1x1024.Idx → EReal) (w : S1024x1604.Idx → EReal) (gk : S128.Idx → EReal)
    (e0 : m ((c : Thread Cert.Kernel6Ideal.nD Cert.Kernel6Ideal.τ).loc Cert.Kernel6Ideal.main_arg0) = x) (e1 : m ((c : Thread Cert.Kernel6Ideal.nD Cert.Kernel6Ideal.τ).loc Cert.Kernel6Ideal.main_arg1) = sh) (e2 : m ((c : Thread Cert.Kernel6Ideal.nD Cert.Kernel6Ideal.τ).loc Cert.Kernel6Ideal.main_arg2) = sc) (e3 : m ((c : Thread Cert.Kernel6Ideal.nD Cert.Kernel6Ideal.τ).loc Cert.Kernel6Ideal.main_arg3) = w) (e5 : m ((c : Thread Cert.Kernel6Ideal.nD Cert.Kernel6Ideal.τ).loc Cert.Kernel6Ideal.main_arg5) = gk) :
    val_main_v73 (F := Ideal) x sh sc w gk = (dats m 0 c).arrAt 17 Cert.Kernel6Ideal.cfg0.N := by
  rw [Cert.Kernel6Ideal.Step.ckv_array m x sh sc w gk c e0 e1 e2 e3 e5]
  funext j
  idx_vars j
  exact Cert.Reference6Ideal.Step.ckv_result x sh sc w gk j0 j1

/-- The rotary keys. -/
theorem kpe_same (x sh sc : S128x1x1024.Idx → EReal) (w : S1024x1604.Idx → EReal)
    (e0 : m ((c : Thread Cert.Kernel6Ideal.nD Cert.Kernel6Ideal.τ).loc Cert.Kernel6Ideal.main_arg0) = x) (e1 : m ((c : Thread Cert.Kernel6Ideal.nD Cert.Kernel6Ideal.τ).loc Cert.Kernel6Ideal.main_arg1) = sh) (e2 : m ((c : Thread Cert.Kernel6Ideal.nD Cert.Kernel6Ideal.τ).loc Cert.Kernel6Ideal.main_arg2) = sc) (e3 : m ((c : Thread Cert.Kernel6Ideal.nD Cert.Kernel6Ideal.τ).loc Cert.Kernel6Ideal.main_arg3) = w) (hr : ∀ n d s, IsReal (srow x sh sc n d * w (ix2 d s))) :
    val_main_v76 (F := Ideal) x sh sc w = (dats m 0 c).arrAt 18 Cert.Kernel6Ideal.cfg0.N := by
  rw [Cert.Kernel6Ideal.Step.kpe_array m x sh sc w c e0 e1 e2 e3 hr]
  funext j
  idx_vars j
  exact Cert.Reference6Ideal.Step.kpe_result x sh sc w j0 j1

set_option maxHeartbeats 4000000 in
/-- Over the extended reals, for real rows, modulation and projection, the kernel's results are the reference's. -/
theorem algebraic : Cert.algebraic_Kernel6Ideal_Reference6Ideal_pre_finite6 := by
  intro m ρ m' ρ' hpre hagree
  refine ⟨fun c => (dats m 0 c).arrAt 11 Cert.Kernel6Ideal.cfg0.N, fun c => (dats m 0 c).arrAt 12 Cert.Kernel6Ideal.cfg0.N, fun c => (dats m 0 c).arrAt 15 Cert.Kernel6Ideal.cfg0.N, fun c => (dats m 0 c).arrAt 17 Cert.Kernel6Ideal.cfg0.N, fun c => (dats m 0 c).arrAt 18 Cert.Kernel6Ideal.cfg0.N,
    (θ_run Cert.Kernel6Ideal.defs _ _).mono (fun r h c => ?_) (Cert.Kernel6Ideal.Value.run_blocks m ρ), ?_⟩
  · obtain ⟨_, h1, h2, _, _, h5, _, h7, h8, _, _, _, hargs⟩ := h c
    exact ⟨h1, h2, h5, h7, h8, hargs⟩
  refine (θ_run Cert.Reference6Ideal.defs _ _).mono (fun r h c => ?_) (Cert.Reference6Ideal.Value.run (F := Ideal) m' ρ')
  obtain ⟨h0, h1, h2, h3, h4, hargs⟩ := h c
  obtain ⟨a0, a1, a2, a3, a4, a5, a6, a7⟩ := hagree c
  have hx := Cert.Pre_finite6.x_real _ _ _ _ _ _ _ _ (hpre c).1
  have hs := Cert.Pre_finite6.shift_real _ _ _ _ _ _ _ _ (hpre c).2.1
  have hc := Cert.Pre_finite6.scale_real _ _ _ _ _ _ _ _ (hpre c).2.2.1
  have hw := Cert.Pre_finite6.w_real _ _ _ _ _ _ _ _ (hpre c).2.2.2
  rw [← a0] at hx
  rw [← a1] at hs
  rw [← a2] at hc
  rw [← a3] at hw
  have hr := Cert.Kernel6Ideal.Step.term_real _ _ _ _ hx hs hc hw
  refine ⟨?_, ?_, ?_, ?_, ?_, hargs⟩
  · exact h0.trans ((val_main_v67_eq _ _ _ _).trans (ak_same m c _ _ _ _ a0.symm a1.symm a2.symm a3.symm))
  · exact h1.trans ((val_main_v68_eq _ _ _ _).trans (av_same m c _ _ _ _ a0.symm a1.symm a2.symm a3.symm))
  · exact h2.trans ((val_main_v72_eq _ _ _ _).trans (misc_same m c _ _ _ _ a0.symm a1.symm a2.symm a3.symm))
  · exact h3.trans ((val_main_v73_eq _ _ _ _ _).trans (ckv_same m c _ _ _ _ _ a0.symm a1.symm a2.symm a3.symm a5.symm))
  · exact h4.trans ((val_main_v76_eq m' c).trans (kpe_same m c _ _ _ _ a0.symm a1.symm a2.symm a3.symm hr))

end Cert.Proof.Step

end
-- ==== Proof.lean ====
module

public import proofs.«01_k».proof.Defs
public import proofs.«01_k».proof.Proof.Claims
public import proofs.«01_k».proof.Proof.FfnClaims
public import proofs.«01_k».proof.Proof.OutClaims
public import proofs.«01_k».proof.Proof.MixClaims
public import proofs.«01_k».proof.Proof.SampleClaims
public import proofs.«01_k».proof.Proof.StepClaims

@[expose] public section

noncomputable section

namespace Cert.Proof

/-- Everything that is claimed. -/
theorem claim : Cert.Claim :=
  ⟨Cert.Kernel.Gen.facts, Cert.KernelIdeal.Gen.facts, Cert.ReferenceIdeal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel2.Gen.facts, Cert.Kernel2Ideal.Gen.facts, Cert.Reference2Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_finite.Gen.facts, Cert.Pre_finite3.Gen.facts, Cert.Pre_finite6.Gen.facts,
    Attention.frame_p, Attention.frame_pi, Attention.frame_pi_pre, Attention.frame_ri, Attention.frame_ri_pre,
    Mix.frame_p, Mix.frame_pi, Mix.frame_pi_pre, Mix.frame_ri, Mix.frame_ri_pre,
    Out.frame_p, Out.frame_pi, Out.frame_ri,
    Ffn.frame_p, Ffn.frame_pi, Ffn.frame_ri,
    Sample.frame_p, Sample.frame_pi, Sample.frame_ri,
    Step.frame_p, Step.frame_pi, Step.frame_pi_pre, Step.frame_ri, Step.frame_ri_pre,
    trivial, Attention.algebraic, trivial, Mix.algebraic, trivial, Out.algebraic, trivial, Ffn.algebraic,
    trivial, Sample.algebraic, trivial, Step.algebraic⟩

end Cert.Proof

end
